-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32x16 : Shape := ⟨2, ![32, 16]⟩
abbrev S4x8192x1024 : Shape := ⟨3, ![4, 8192, 1024]⟩
abbrev S4x1024x8192 : Shape := ⟨3, ![4, 1024, 8192]⟩
abbrev S4x32x1024 : Shape := ⟨3, ![4, 32, 1024]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  bcast_S_S4x32x1024 : S_.BroadcastsInDim S4x32x1024 (![] : Fin 0 → Fin S4x32x1024.rank)
  reducesTo_S4x32x1024_S_d0_1_2 : S4x32x1024.ReducesTo [0, 1, 2] S_

variable [Facts]

def fn_part1 {F : FTy → Type} [FloatOps F] (main_v15 : IVec S_ 1) (main_v16 : FVec F S4x32x1024 .f32) (main_cst_4 : FVec F S_ .f32) : IVec S_ 1 :=
  let main_v17 : FVec F S4x32x1024 .f32 := broadcastInDim S4x32x1024 ![] bcast_S_S4x32x1024 main_cst_4
  let main_v18 : IVec S4x32x1024 1 := cmpf .olt main_v16 main_v17
  let main_c_5 : IVec S_ 1 := constantI S_ 1 1#1
  let main_v19 : IVec S_ 1 := (fun x v => Host.reduce IntOp.andi x v reducesTo_S4x32x1024_S_d0_1_2 h_S_) main_v18 main_c_5
  let main_v20 : IVec S_ 1 := andi main_v15 main_v19
  main_v20

def fn {F : FTy → Type} [FloatOps F] (main_arg0 : FVec F S32x16 .f32) (main_arg1 : FVec F S4x8192x1024 .bf16) (main_arg2 : FVec F S4x8192x1024 .bf16) (main_arg3 : FVec F S4x1024x8192 .bf16) (main_arg4 : FVec F S4x32x1024 .f32) : IVec S_ 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  let main_v4 : FVec F S4x8192x1024 .f32 := (extf .f32 · bitsLt_bf16_f32) main_arg1
  let main_v5 : FVec F S4x8192x1024 .f32 := Host.absf main_v4
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  let main_c_1 : IVec S_ 1 := constantI S_ 1 1#1
  let main_v8 : IVec S_ 1 := (fun x v => Host.reduce IntOp.andi x v reducesTo_S4x8192x1024_S_d0_1_2 h_S_) main_v7 main_c_1
  let main_v9 : IVec S_ 1 := andi main_v3 main_v8
  let main_v10 : FVec F S4x8192x1024 .f32 := (extf .f32 · bitsLt_bf16_f32) main_arg2
  let main_v11 : FVec F S4x8192x1024 .f32 := Host.absf main_v10
  let main_cst_2 : FVec F S_ .f32 := constant S_ .f32 0x7F800000#32
  let main_v12 : FVec F S4x8192x1024 .f32 := broadcastInDim S4x8192x1024 ![] bcast_S_S4x8192x1024 main_cst_2
  let main_v13 : IVec S4x8192x1024 1 := cmpf .olt main_v11 main_v12
  let main_c_3 : IVec S_ 1 := constantI S_ 1 1#1
  let main_v14 : IVec S_ 1 := (fun x v => Host.reduce IntOp.andi x v reducesTo_S4x8192x1024_S_d0_1_2 h_S_) main_v13 main_c_3
  let main_v15 : IVec S_ 1 := andi main_v9 main_v14
  let main_v16 : FVec F S4x32x1024 .f32 := Host.absf main_arg4
  let main_cst_4 : FVec F S_ .f32 := constant S_ .f32 0x7F800000#32
  fn_part1 (F := F) main_v15 main_v16 main_cst_4
-- ==== Kernel.lean ====
abbrev S32x16 : Shape := ⟨2, ![32, 16]⟩
abbrev S4x8192x1024 : Shape := ⟨3, ![4, 8192, 1024]⟩
abbrev S4x1024x8192 : Shape := ⟨3, ![4, 1024, 8192]⟩
abbrev S4x32x1024 : Shape := ⟨3, ![4, 32, 1024]⟩
abbrev S16x5x256x256 : Shape := ⟨4, ![16, 5, 256, 256]⟩
abbrev S1x5x256x256 : Shape := ⟨4, ![1, 5, 256, 256]⟩
abbrev S256x256 : Shape := ⟨2, ![256, 256]⟩
abbrev S1x1 : Shape := ⟨2, ![1, 1]⟩
abbrev S1x1x256x256 : Shape := ⟨4, ![1, 1, 256, 256]⟩
abbrev S1x16 : Shape := ⟨2, ![1, 16]⟩
abbrev S16 : Shape := ⟨1, ![16]⟩
abbrev S1x256x128 : Shape := ⟨3, ![1, 256, 128]⟩
abbrev S1x8192x128 : Shape := ⟨3, ![1, 8192, 128]⟩
abbrev S1x128x8192 : Shape := ⟨3, ![1, 128, 8192]⟩
abbrev S1x32x128 : Shape := ⟨3, ![1, 32, 128]⟩
abbrev S2x5x256x256 : Shape := ⟨4, ![2, 5, 256, 256]⟩
abbrev S2x2x32x256 : Shape := ⟨4, ![2, 2, 32, 256]⟩
abbrev S256x128 : Shape := ⟨2, ![256, 128]⟩
abbrev S128x256 : Shape := ⟨2, ![128, 256]⟩
abbrev S32x256 : Shape := ⟨2, ![32, 256]⟩
abbrev S32x128 : Shape := ⟨2, ![32, 128]⟩
abbrev S256 : Shape := ⟨1, ![256]⟩
abbrev S1x256 : Shape := ⟨2, ![1, 256]⟩
abbrev S1 : Shape := ⟨1, ![1]⟩
abbrev S1x1x32x256 : Shape := ⟨4, ![1, 1, 32, 256]⟩
abbrev S1x64x256 : Shape := ⟨3, ![1, 64, 256]⟩
abbrev S64x256 : Shape := ⟨2, ![64, 256]⟩
abbrev S1x1x1x256 : Shape := ⟨4, ![1, 1, 1, 256]⟩

abbrev nBuf : Space → Nat
  | .hbm => 9
  | .vmem => 15
  | .smem => 2
  | _ => 0

abbrev bufTy : (tb : Table) → Fin (tcTables nBuf tb) → BufTy
  | .hbm, ⟨0, _⟩ => ⟨S32x16, .f32⟩
  | .hbm, ⟨1, _⟩ => ⟨S4x8192x1024, .bf16⟩
  | .hbm, ⟨2, _⟩ => ⟨S4x8192x1024, .bf16⟩
  | .hbm, ⟨3, _⟩ => ⟨S4x1024x8192, .bf16⟩
  | .hbm, ⟨4, _⟩ => ⟨S4x32x1024, .f32⟩
  | .hbm, ⟨5, _⟩ => ⟨S16x5x256x256, .f32⟩
  | .hbm, ⟨6, _⟩ => ⟨S1x16, .f32⟩
  | .hbm, ⟨7, _⟩ => ⟨S16, .f32⟩
  | .hbm, ⟨8, _⟩ => ⟨S4x8192x1024, .bf16⟩
  | .local _ .vmem, ⟨0, _⟩ => ⟨S1x5x256x256, .f32⟩
  | .local _ .vmem, ⟨1, _⟩ => ⟨S1x5x256x256, .f32⟩
  | .local _ .vmem, ⟨2, _⟩ => ⟨S1x256x128, .bf16⟩
  | .local _ .vmem, ⟨3, _⟩ => ⟨S1x256x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x32x128, .f32⟩
  | .local _ .vmem, ⟨9, _⟩ => ⟨S1x32x128, .f32⟩
  | .local _ .vmem, ⟨10, _⟩ => ⟨S2x5x256x256, .f32⟩
  | .local _ .vmem, ⟨11, _⟩ => ⟨S2x5x256x256, .f32⟩
  | .local _ .vmem, ⟨12, _⟩ => ⟨S1x256x128, .bf16⟩
  | .local _ .vmem, ⟨13, _⟩ => ⟨S1x256x128, .bf16⟩
  | .local _ .vmem, ⟨14, _⟩ => ⟨S2x2x32x256, .f32⟩
  | .local _ .smem, ⟨0, _⟩ => ⟨S32x16, .f32⟩
  | .local _ .smem, ⟨1, _⟩ => ⟨S16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let v28 : Index := Scalar.indexCast arg0
  ![0, v28.toNat]
def k0_off2 (i : grid0.Coords) : Fin 2 → Nat :=
  let c1 : Index := 1#32
  let arg0 : BitVec 32 := BitVec.ofNat 32 (i 0).val
  let v34 : Index := Scalar.indexCast arg0
  ![1, v34.toNat]
def k0_off3 (i : grid0.Coords) : Fin 2 → Nat :=
  let c2 : Index := 2#32
  let arg0 : BitVec 32 := BitVec.ofNat 32 (i 0).val
  let v40 : Index := Scalar.indexCast arg0
  ![2, v40.toNat]
def k0_off4 (i : grid0.Coords) : Fin 2 → Nat :=
  let c3 : Index := 3#32
  let arg0 : BitVec 32 := BitVec.ofNat 32 (i 0).val
  let v46 : Index := Scalar.indexCast arg0
  ![3, v46.toNat]
def k0_off5 (i : grid0.Coords) : Fin 2 → Nat :=
  let c4 : Index := 4#32
  let arg0 : BitVec 32 := BitVec.ofNat 32 (i 0).val
  let v52 : Index := Scalar.indexCast arg0
  ![4, v52.toNat]
def k0_off6 (i : grid0.Coords) : Fin 2 → Nat :=
  let c5 : Index := 5#32
  let arg0 : BitVec 32 := BitVec.ofNat 32 (i 0).val
  let v58 : Index := Scalar.indexCast arg0
  ![5, v58.toNat]
def k0_off7 (i : grid0.Coords) : Fin 2 → Nat :=
  let c6 : Index := 6#32
  let arg0 : BitVec 32 := BitVec.ofNat 32 (i 0).val
  let v64 : Index := Scalar.indexCast arg0
  ![6, v64.toNat]
def k0_off8 (i : grid0.Coords) : Fin 2 → Nat :=
  let c7 : Index := 7#32
  let arg0 : BitVec 32 := BitVec.ofNat 32 (i 0).val
  let v70 : Index := Scalar.indexCast arg0
  ![7, v70.toNat]
def k0_off9 (i : grid0.Coords) : Fin 2 → Nat :=
  let c8 : Index := 8#32
  let arg0 : BitVec 32 := BitVec.ofNat 32 (i 0).val
  let v76 : Index := Scalar.indexCast arg0
  ![8, v76.toNat]
def k0_off10 (i : grid0.Coords) : Fin 2 → Nat :=
  let c9 : Index := 9#32
  let arg0 : BitVec 32 := BitVec.ofNat 32 (i 0).val
  let v82 : Index := Scalar.indexCast arg0
  ![9, v82.toNat]
def k0_off11 (i : grid0.Coords) : Fin 2 → Nat :=
  let c10 : Index := 10#32
  let arg0 : BitVec 32 := BitVec.ofNat 32 (i 0).val
  let v88 : Index := Scalar.indexCast arg0
  ![10, v88.toNat]
def k0_off12 (i : grid0.Coords) : Fin 2 → Nat :=
  let c11 : Index := 11#32
  let arg0 : BitVec 32 := BitVec.ofNat 32 (i 0).val
  let v94 : Index := Scalar.indexCast arg0
  ![11, v94.toNat]
def k0_off13 (i : grid0.Coords) : Fin 2 → Nat :=
  let c12 : Index := 12#32
  let arg0 : BitVec 32 := BitVec.ofNat 32 (i 0).val
  let v100 : Index := Scalar.indexCast arg0
  ![12, v100.toNat]
def k0_off14 (i : grid0.Coords) : Fin 2 → Nat :=
  let c13 : Index := 13#32
  let arg0 : BitVec 32 := BitVec.ofNat 32 (i 0).val
  let v106 : Index := Scalar.indexCast arg0
  ![13, v106.toNat]
def k0_off15 (i : grid0.Coords) : Fin 2 → Nat :=
  let c14 : Index := 14#32
  let arg0 : BitVec 32 := BitVec.ofNat 32 (i 0).val
  let v112 : Index := Scalar.indexCast arg0
  ![14, v112.toNat]
def k0_off16 (i : grid0.Coords) : Fin 2 → Nat :=
  let c15 : Index := 15#32
  let arg0 : BitVec 32 := BitVec.ofNat 32 (i 0).val
  let v118 : Index := Scalar.indexCast arg0
  ![15, v118.toNat]
def k0_off17 (i : grid0.Coords) : Fin 2 → Nat :=
  let c16 : Index := 16#32
  let arg0 : BitVec 32 := BitVec.ofNat 32 (i 0).val
  let v124 : Index := Scalar.indexCast arg0
  ![16, v124.toNat]
def k0_off18 (i : grid0.Coords) : Fin 2 → Nat :=
  let c17 : Index := 17#32
  let arg0 : BitVec 32 := BitVec.ofNat 32 (i 0).val
  let v130 : Index := Scalar.indexCast arg0
  ![17, v130.toNat]
def k0_off19 (i : grid0.Coords) : Fin 2 → Nat :=
  let c18 : Index := 18#32
  let arg0 : BitVec 32 := BitVec.ofNat 32 (i 0).val
  let v136 : Index := Scalar.indexCast arg0
  ![18, v136.toNat]
def k0_off20 (i : grid0.Coords) : Fin 2 → Nat :=
  let c19 : Index := 19#32
  let arg0 : BitVec 32 := BitVec.ofNat 32 (i 0).val
  let v142 : Index := Scalar.indexCast arg0
  ![19, v142.toNat]
def k0_off21 (i : grid0.Coords) : Fin 2 → Nat :=
  let c20 : Index := 20#32
  let arg0 : BitVec 32 := BitVec.ofNat 32 (i 0).val
  let v148 : Index := Scalar.indexCast arg0
  ![20, v148.toNat]
def k0_off22 (i : grid0.Coords) : Fin 2 → Nat :=
  let c21 : Index := 21#32
  let arg0 : BitVec 32 := BitVec.ofNat 32 (i 0).val
  let v154 : Index := Scalar.indexCast arg0
  ![21, v154.toNat]
def k0_off23 (i : grid0.Coords) : Fin 2 → Nat :=
  let c22 : Index := 22#32
  let arg0 : BitVec 32 := BitVec.ofNat 32 (i 0).val
  let v160 : Index := Scalar.indexCast arg0
  ![22, v160.toNat]
def k0_off24 (i : grid0.Coords) : Fin 2 → Nat :=
  let c23 : Index := 23#32
  let arg0 : BitVec 32 := BitVec.ofNat 32 (i 0).val
  let v166 : Index := Scalar.indexCast arg0
  ![23, v166.toNat]
def k0_off25 (i : grid0.Coords) : Fin 2 → Nat :=
  let c24 : Index := 24#32
  let arg0 : BitVec 32 := BitVec.ofNat 32 (i 0).val
  let v172 : Index := Scalar.indexCast arg0
  ![24, v172.toNat]
def k0_off26 (i : grid0.Coords) : Fin 2 → Nat :=
  let c25 : Index := 25#32
  let arg0 : BitVec 32 := BitVec.ofNat 32 (i 0).val
  let v178 : Index := Scalar.indexCast arg0
  ![25, v178.toNat]
def k0_off27 (i : grid0.Coords) : Fin 2 → Nat :=
  let c26 : Index := 26#32
  let arg0 : BitVec 32 := BitVec.ofNat 32 (i 0).val
  let v184 : Index := Scalar.indexCast arg0
  ![26, v184.toNat]
def k0_off28 (i : grid0.Coords) : Fin 2 → Nat :=
  let c27 : Index := 27#32
  let arg0 : BitVec 32 := BitVec.ofNat 32 (i 0).val
  let v190 : Index := Scalar.indexCast arg0
  ![27, v190.toNat]
def k0_off29 (i : grid0.Coords) : Fin 2 → Nat :=
  let c28 : Index := 28#32
  let arg0 : BitVec 32 := BitVec.ofNat 32 (i 0).val
  let v196 : Index := Scalar.indexCast arg0
  ![28, v196.toNat]
def k0_off30 (i : grid0.Coords) : Fin 2 → Nat :=
  let c29 : Index := 29#32
  let arg0 : BitVec 32 := BitVec.ofNat 32 (i 0).val
  let v202 : Index := Scalar.indexCast arg0
  ![29, v202.toNat]
def k0_off31 (i : grid0.Coords) : Fin 2 → Nat :=
  let c30 : Index := 30#32
  let arg0 : BitVec 32 := BitVec.ofNat 32 (i 0).val
  let v208 : Index := Scalar.indexCast arg0
  ![30, v208.toNat]
def k0_off32 (i : grid0.Coords) : Fin 2 → Nat :=
  let c31 : Index := 31#32
  let arg0 : BitVec 32 := BitVec.ofNat 32 (i 0).val
  let v214 : Index := Scalar.indexCast arg0
  ![31, v214.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x5x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 8, 32], ![false, false, false]⟩

def k1_off1 (i : grid1.Coords) (c0_i32_25 : BitVec 32) : Fin 1 → Nat :=
  let arg1 : BitVec 32 := BitVec.ofNat 32 (i 1).val
  let c2_i32 : BitVec 32 := 2#32
  let v76 : BitVec 32 := Scalar.muli arg1 c2_i32
  let v77 : BitVec 32 := Scalar.addi v76 c0_i32_25
  let v78 : Index := Scalar.indexCast v77
  ![v78.toNat]
def k1_mult1 (i : grid1.Coords) : BitVec 32 :=
  let arg2 : BitVec 32 := BitVec.ofNat 32 (i 2).val
  let c256_i32 : BitVec 32 := 256#32
  let v96 : BitVec 32 := Scalar.muli arg2 c256_i32
  v96
def k1_off2 (i : grid1.Coords) : Fin 3 → Nat :=
  let c0_38 : Index := 0#32
  let arg2 : BitVec 32 := BitVec.ofNat 32 (i 2).val
  let c256_i32 : BitVec 32 := 256#32
  let v96 : BitVec 32 := Scalar.muli arg2 c256_i32
  let v97 : BitVec 32 := v96
  let v98 : Index := Scalar.indexCast v97
  let c0_39 : Index := 0#32
  ![0, v98.toNat, 0]
def k1_mult2 (i : grid1.Coords) : BitVec 32 :=
  let arg2 : BitVec 32 := BitVec.ofNat 32 (i 2).val
  let c256_i32_47 : BitVec 32 := 256#32
  let v112 : BitVec 32 := Scalar.muli arg2 c256_i32_47
  v112
def k1_off3 (i : grid1.Coords) : Fin 3 → Nat :=
  let c0_48 : Index := 0#32
  let c0_49 : Index := 0#32
  let arg2 : BitVec 32 := BitVec.ofNat 32 (i 2).val
  let c256_i32_47 : BitVec 32 := 256#32
  let v112 : BitVec 32 := Scalar.muli arg2 c256_i32_47
  let v113 : BitVec 32 := v112
  let v114 : Index := Scalar.indexCast v113
  ![0, 0, v114.toNat]
def k1_off4 (i : grid1.Coords) (c1_i32 : BitVec 32) : Fin 4 → Nat :=
  let c0_53 : Index := 0#32
  let c1_54 : Index := 1#32
  let arg2 : BitVec 32 := BitVec.ofNat 32 (i 2).val
  let v119 : BitVec 32 := Scalar.subi arg2 c1_i32
  let c0_i32_51 : BitVec 32 := 0#32
  let v120 : BitVec 32 := Scalar.maxsi v119 c0_i32_51
  let v122 : Index := Scalar.indexCast v120
  let c0_55 : Index := 0#32
  ![0, 1, v122.toNat, 0]
def k1_mult3 (i : grid1.Coords) : BitVec 32 :=
  let arg2 : BitVec 32 := BitVec.ofNat 32 (i 2).val
  let c1_i32 : BitVec 32 := 1#32
  let v119 : BitVec 32 := Scalar.subi arg2 c1_i32
  let c0_i32_51 : BitVec 32 := 0#32
  let v120 : BitVec 32 := Scalar.maxsi v119 c0_i32_51
  let c256_i32_57 : BitVec 32 := 256#32
  let v127 : BitVec 32 := Scalar.muli v120 c256_i32_57
  v127
def k1_off5 (i : grid1.Coords) (c1_i32 : BitVec 32) : Fin 3 → Nat :=
  let c0_58 : Index := 0#32
  let arg2 : BitVec 32 := BitVec.ofNat 32 (i 2).val
  let v119 : BitVec 32 := Scalar.subi arg2 c1_i32
  let c0_i32_51 : BitVec 32 := 0#32
  let v120 : BitVec 32 := Scalar.maxsi v119 c0_i32_51
  let c256_i32_57 : BitVec 32 := 256#32
  let v127 : BitVec 32 := Scalar.muli v120 c256_i32_57
  let v128 : BitVec 32 := v127
  let v129 : Index := Scalar.indexCast v128
  let c0_59 : Index := 0#32
  ![0, v129.toNat, 0]
def k1_mult4 (i : grid1.Coords) : BitVec 32 :=
  let arg2 : BitVec 32 := BitVec.ofNat 32 (i 2).val
  let c1_i32 : BitVec 32 := 1#32
  let v119 : BitVec 32 := Scalar.subi arg2 c1_i32
  let c0_i32_51 : BitVec 32 := 0#32
  let v120 : BitVec 32 := Scalar.maxsi v119 c0_i32_51
  let c256_i32_65 : BitVec 32 := 256#32
  let v138 : BitVec 32 := Scalar.muli v120 c256_i32_65
  v138
def k1_off6 (i : grid1.Coords) (c1_i32 : BitVec 32) : Fin 3 → Nat :=
  let c0_66 : Index := 0#32
  let c0_67 : Index := 0#32
  let arg2 : BitVec 32 := BitVec.ofNat 32 (i 2).val
  let v119 : BitVec 32 := Scalar.subi arg2 c1_i32
  let c0_i32_51 : BitVec 32 := 0#32
  let v120 : BitVec 32 := Scalar.maxsi v119 c0_i32_51
  let c256_i32_65 : BitVec 32 := 256#32
  let v138 : BitVec 32 := Scalar.muli v120 c256_i32_65
  let v139 : BitVec 32 := v138
  let v140 : Index := Scalar.indexCast v139
  ![0, 0, v140.toNat]
def k1_mult5 (i : grid1.Coords) : BitVec 32 :=
  let arg2 : BitVec 32 := BitVec.ofNat 32 (i 2).val
  let c2_i32_71 : BitVec 32 := 2#32
  let v160 : BitVec 32 := Scalar.subi arg2 c2_i32_71
  let c0_i32_72 : BitVec 32 := 0#32
  let v161 : BitVec 32 := Scalar.maxsi v160 c0_i32_72
  let c256_i32_78 : BitVec 32 := 256#32
  let v168 : BitVec 32 := Scalar.muli v161 c256_i32_78
  v168
def k1_mult6 (i : grid1.Coords) : BitVec 32 :=
  let arg2 : BitVec 32 := BitVec.ofNat 32 (i 2).val
  let c2_i32_71 : BitVec 32 := 2#32
  let v160 : BitVec 32 := Scalar.subi arg2 c2_i32_71
  let c0_i32_72 : BitVec 32 := 0#32
  let v161 : BitVec 32 := Scalar.maxsi v160 c0_i32_72
  let c256_i32_85 : BitVec 32 := 256#32
  let v179 : BitVec 32 := Scalar.muli v161 c256_i32_85
  v179
def k1_mult7 (i : grid1.Coords) : BitVec 32 :=
  let arg2 : BitVec 32 := BitVec.ofNat 32 (i 2).val
  let c3_i32 : BitVec 32 := 3#32
  let v201 : BitVec 32 := Scalar.subi arg2 c3_i32
  let c0_i32_91 : BitVec 32 := 0#32
  let v202 : BitVec 32 := Scalar.maxsi v201 c0_i32_91
  let c256_i32_97 : BitVec 32 := 256#32
  let v209 : BitVec 32 := Scalar.muli v202 c256_i32_97
  v209
def k1_mult8 (i : grid1.Coords) : BitVec 32 :=
  let arg2 : BitVec 32 := BitVec.ofNat 32 (i 2).val
  let c3_i32 : BitVec 32 := 3#32
  let v201 : BitVec 32 := Scalar.subi arg2 c3_i32
  let c0_i32_91 : BitVec 32 := 0#32
  let v202 : BitVec 32 := Scalar.maxsi v201 c0_i32_91
  let c256_i32_104 : BitVec 32 := 256#32
  let v220 : BitVec 32 := Scalar.muli v202 c256_i32_104
  v220
def k1_mult9 (i : grid1.Coords) : BitVec 32 :=
  let arg2 : BitVec 32 := BitVec.ofNat 32 (i 2).val
  let c4_i32 : BitVec 32 := 4#32
  let v242 : BitVec 32 := Scalar.subi arg2 c4_i32
  let c0_i32_110 : BitVec 32 := 0#32
  let v243 : BitVec 32 := Scalar.maxsi v242 c0_i32_110
  let c256_i32_116 : BitVec 32 := 256#32
  let v250 : BitVec 32 := Scalar.muli v243 c256_i32_116
  v250
def k1_mult10 (i : grid1.Coords) : BitVec 32 :=
  let arg2 : BitVec 32 := BitVec.ofNat 32 (i 2).val
  let c4_i32 : BitVec 32 := 4#32
  let v242 : BitVec 32 := Scalar.subi arg2 c4_i32
  let c0_i32_110 : BitVec 32 := 0#32
  let v243 : BitVec 32 := Scalar.maxsi v242 c0_i32_110
  let c256_i32_123 : BitVec 32 := 256#32
  let v261 : BitVec 32 := Scalar.muli v243 c256_i32_123
  v261
def k1_mult11 (i : grid1.Coords) : BitVec 32 :=
  let arg2 : BitVec 32 := BitVec.ofNat 32 (i 2).val
  let c256_i32_166 : BitVec 32 := 256#32
  let v369 : BitVec 32 := Scalar.muli arg2 c256_i32_166
  v369
def k1_mult12 (i : grid1.Coords) : BitVec 32 :=
  let arg2 : BitVec 32 := BitVec.ofNat 32 (i 2).val
  let c256_i32_176 : BitVec 32 := 256#32
  let v385 : BitVec 32 := Scalar.muli arg2 c256_i32_176
  v385
def k1_off7 (i : grid1.Coords) : Fin 3 → Nat :=
  let c0_177 : Index := 0#32
  let c64 : Index := 64#32
  let arg2 : BitVec 32 := BitVec.ofNat 32 (i 2).val
  let c256_i32_176 : BitVec 32 := 256#32
  let v385 : BitVec 32 := Scalar.muli arg2 c256_i32_176
  let v386 : BitVec 32 := v385
  let v387 : Index := Scalar.indexCast v386
  ![0, 64, v387.toNat]
def k1_off8 (i : grid1.Coords) (c1_i32_179 : BitVec 32) : Fin 4 → Nat :=
  let c1_182 : Index := 1#32
  let c1_183 : Index := 1#32
  let arg2 : BitVec 32 := BitVec.ofNat 32 (i 2).val
  let v392 : BitVec 32 := Scalar.subi arg2 c1_i32_179
  let c0_i32_180 : BitVec 32 := 0#32
  let v393 : BitVec 32 := Scalar.maxsi v392 c0_i32_180
  let v395 : Index := Scalar.indexCast v393
  let c0_184 : Index := 0#32
  ![1, 1, v395.toNat, 0]
def k1_mult13 (i : grid1.Coords) : BitVec 32 :=
  let arg2 : BitVec 32 := BitVec.ofNat 32 (i 2).val
  let c1_i32_179 : BitVec 32 := 1#32
  let v392 : BitVec 32 := Scalar.subi arg2 c1_i32_179
  let c0_i32_180 : BitVec 32 := 0#32
  let v393 : BitVec 32 := Scalar.maxsi v392 c0_i32_180
  let c256_i32_186 : BitVec 32 := 256#32
  let v400 : BitVec 32 := Scalar.muli v393 c256_i32_186
  v400
def k1_mult14 (i : grid1.Coords) : BitVec 32 :=
  let arg2 : BitVec 32 := BitVec.ofNat 32 (i 2).val
  let c1_i32_179 : BitVec 32 := 1#32
  let v392 : BitVec 32 := Scalar.subi arg2 c1_i32_179
  let c0_i32_180 : BitVec 32 := 0#32
  let v393 : BitVec 32 := Scalar.maxsi v392 c0_i32_180
  let c256_i32_194 : BitVec 32 := 256#32
  let v411 : BitVec 32 := Scalar.muli v393 c256_i32_194
  v411
def k1_off9 (i : grid1.Coords) (c1_i32_179 : BitVec 32) : Fin 3 → Nat :=
  let c0_195 : Index := 0#32
  let c64_196 : Index := 64#32
  let arg2 : BitVec 32 := BitVec.ofNat 32 (i 2).val
  let v392 : BitVec 32 := Scalar.subi arg2 c1_i32_179
  let c0_i32_180 : BitVec 32 := 0#32
  let v393 : BitVec 32 := Scalar.maxsi v392 c0_i32_180
  let c256_i32_194 : BitVec 32 := 256#32
  let v411 : BitVec 32 := Scalar.muli v393 c256_i32_194
  let v412 : BitVec 32 := v411
  let v413 : Index := Scalar.indexCast v412
  ![0, 64, v413.toNat]
def k1_mult15 (i : grid1.Coords) : BitVec 32 :=
  let arg2 : BitVec 32 := BitVec.ofNat 32 (i 2).val
  let c2_i32_200 : BitVec 32 := 2#32
  let v433 : BitVec 32 := Scalar.subi arg2 c2_i32_200
  let c0_i32_201 : BitVec 32 := 0#32
  let v434 : BitVec 32 := Scalar.maxsi v433 c0_i32_201
  let c256_i32_207 : BitVec 32 := 256#32
  let v441 : BitVec 32 := Scalar.muli v434 c256_i32_207
  v441
def k1_mult16 (i : grid1.Coords) : BitVec 32 :=
  let arg2 : BitVec 32 := BitVec.ofNat 32 (i 2).val
  let c2_i32_200 : BitVec 32 := 2#32
  let v433 : BitVec 32 := Scalar.subi arg2 c2_i32_200
  let c0_i32_201 : BitVec 32 := 0#32
  let v434 : BitVec 32 := Scalar.maxsi v433 c0_i32_201
  let c256_i32_215 : BitVec 32 := 256#32
  let v452 : BitVec 32 := Scalar.muli v434 c256_i32_215
  v452
def k1_mult17 (i : grid1.Coords) : BitVec 32 :=
  let arg2 : BitVec 32 := BitVec.ofNat 32 (i 2).val
  let c3_i32_221 : BitVec 32 := 3#32
  let v474 : BitVec 32 := Scalar.subi arg2 c3_i32_221
  let c0_i32_222 : BitVec 32 := 0#32
  let v475 : BitVec 32 := Scalar.maxsi v474 c0_i32_222
  let c256_i32_228 : BitVec 32 := 256#32
  let v482 : BitVec 32 := Scalar.muli v475 c256_i32_228
  v482
def k1_mult18 (i : grid1.Coords) : BitVec 32 :=
  let arg2 : BitVec 32 := BitVec.ofNat 32 (i 2).val
  let c3_i32_221 : BitVec 32 := 3#32
  let v474 : BitVec 32 := Scalar.subi arg2 c3_i32_221
  let c0_i32_222 : BitVec 32 := 0#32
  let v475 : BitVec 32 := Scalar.maxsi v474 c0_i32_222
  let c256_i32_236 : BitVec 32 := 256#32
  let v493 : BitVec 32 := Scalar.muli v475 c256_i32_236
  v493
def k1_mult19 (i : grid1.Coords) : BitVec 32 :=
  let arg2 : BitVec 32 := BitVec.ofNat 32 (i 2).val
  let c4_i32_242 : BitVec 32 := 4#32
  let v515 : BitVec 32 := Scalar.subi arg2 c4_i32_242
  let c0_i32_243 : BitVec 32 := 0#32
  let v516 : BitVec 32 := Scalar.maxsi v515 c0_i32_243
  let c256_i32_249 : BitVec 32 := 256#32
  let v523 : BitVec 32 := Scalar.muli v516 c256_i32_249
  v523
def k1_mult20 (i : grid1.Coords) : BitVec 32 :=
  let arg2 : BitVec 32 := BitVec.ofNat 32 (i 2).val
  let c4_i32_242 : BitVec 32 := 4#32
  let v515 : BitVec 32 := Scalar.subi arg2 c4_i32_242
  let c0_i32_243 : BitVec 32 := 0#32
  let v516 : BitVec 32 := Scalar.maxsi v515 c0_i32_243
  let c256_i32_257 : BitVec 32 := 256#32
  let v534 : BitVec 32 := Scalar.muli v516 c256_i32_257
  v534
@[reducible] def k1_t1_loop (i : grid1.Coords) : Scf.Loop 32 :=
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_267 : BitVec 32 := 1#32
  ⟨c0_i32_265, v562, c1_i32_267⟩
def k1_mult21 (i : grid1.Coords) (k1_t1 : Fin (k1_t1_loop i).trips) : BitVec 32 :=
  let c0_i32_265 : BitVec 32 := 0#32
  let c1_i32_267 : BitVec 32 := 1#32
  let arg11 : BitVec 32 := Scf.iv c0_i32_265 c1_i32_267 k1_t1
  let c256_i32_274 : BitVec 32 := 256#32
  let v579 : BitVec 32 := Scalar.muli arg11 c256_i32_274
  v579
def k1_off10 (i : grid1.Coords) (k1_t1 : Fin (k1_t1_loop i).trips) : Fin 3 → Nat :=
  let c0_275 : Index := 0#32
  let c0_i32_265 : BitVec 32 := 0#32
  let c1_i32_267 : BitVec 32 := 1#32
  let arg11 : BitVec 32 := Scf.iv c0_i32_265 c1_i32_267 k1_t1
  let c256_i32_274 : BitVec 32 := 256#32
  let v579 : BitVec 32 := Scalar.muli arg11 c256_i32_274
  let v580 : BitVec 32 := v579
  let v581 : Index := Scalar.indexCast v580
  let c0_276 : Index := 0#32
  ![0, v581.toNat, 0]
def k1_off11 (i : grid1.Coords) (k1_t1 : Fin (k1_t1_loop i).trips) : Fin 4 → Nat :=
  let c0_278 : Index := 0#32
  let c0_279 : Index := 0#32
  let c0_i32_265 : BitVec 32 := 0#32
  let c1_i32_267 : BitVec 32 := 1#32
  let arg11 : BitVec 32 := Scf.iv c0_i32_265 c1_i32_267 k1_t1
  let v585 : Index := Scalar.indexCast arg11
  let c0_280 : Index := 0#32
  ![0, 0, v585.toNat, 0]
def k1_mult22 (i : grid1.Coords) (k1_t1 : Fin (k1_t1_loop i).trips) : BitVec 32 :=
  let c0_i32_265 : BitVec 32 := 0#32
  let c1_i32_267 : BitVec 32 := 1#32
  let arg11 : BitVec 32 := Scf.iv c0_i32_265 c1_i32_267 k1_t1
  let c256_i32_281 : BitVec 32 := 256#32
  let v590 : BitVec 32 := Scalar.muli arg11 c256_i32_281
  v590
def k1_off12 (i : grid1.Coords) (k1_t1 : Fin (k1_t1_loop i).trips) : Fin 3 → Nat :=
  let c0_282 : Index := 0#32
  let c0_283 : Index := 0#32
  let c0_i32_265 : BitVec 32 := 0#32
  let c1_i32_267 : BitVec 32 := 1#32
  let arg11 : BitVec 32 := Scf.iv c0_i32_265 c1_i32_267 k1_t1
  let c256_i32_281 : BitVec 32 := 256#32
  let v590 : BitVec 32 := Scalar.muli arg11 c256_i32_281
  let v591 : BitVec 32 := v590
  let v592 : Index := Scalar.indexCast v591
  ![0, 0, v592.toNat]
def k1_off13 (i : grid1.Coords) (k1_t1 : Fin (k1_t1_loop i).trips) : Fin 4 → Nat :=
  let c1_288 : Index := 1#32
  let c0_289 : Index := 0#32
  let c0_i32_265 : BitVec 32 := 0#32
  let c1_i32_267 : BitVec 32 := 1#32
  let arg11 : BitVec 32 := Scf.iv c0_i32_265 c1_i32_267 k1_t1
  let v613 : Index := Scalar.indexCast arg11
  let c0_290 : Index := 0#32
  ![1, 0, v613.toNat, 0]
def k1_mult23 (i : grid1.Coords) (k1_t1 : Fin (k1_t1_loop i).trips) : BitVec 32 :=
  let c0_i32_265 : BitVec 32 := 0#32
  let c1_i32_267 : BitVec 32 := 1#32
  let arg11 : BitVec 32 := Scf.iv c0_i32_265 c1_i32_267 k1_t1
  let c256_i32_291 : BitVec 32 := 256#32
  let v618 : BitVec 32 := Scalar.muli arg11 c256_i32_291
  v618
def k1_off14 (i : grid1.Coords) (k1_t1 : Fin (k1_t1_loop i).trips) : Fin 3 → Nat :=
  let c0_292 : Index := 0#32
  let c64_293 : Index := 64#32
  let c0_i32_265 : BitVec 32 := 0#32
  let c1_i32_267 : BitVec 32 := 1#32
  let arg11 : BitVec 32 := Scf.iv c0_i32_265 c1_i32_267 k1_t1
  let c256_i32_291 : BitVec 32 := 256#32
  let v618 : BitVec 32 := Scalar.muli arg11 c256_i32_291
  let v619 : BitVec 32 := v618
  let v620 : Index := Scalar.indexCast v619
  ![0, 64, v620.toNat]
@[reducible] def k1_t2_loop (i : grid1.Coords) : Scf.Loop 32 :=
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let v559 : BitVec 32 := Scalar.addi c0_i32_265 v558
  let c1_i32_268 : BitVec 32 := 1#32
  ⟨v562, v559, c1_i32_268⟩
def k1_mult24 (i : grid1.Coords) (k1_t2 : Fin (k1_t2_loop i).trips) : BitVec 32 :=
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_274 : BitVec 32 := 256#32
  let v579 : BitVec 32 := Scalar.muli arg11 c256_i32_274
  v579
def k1_off15 (i : grid1.Coords) (k1_t2 : Fin (k1_t2_loop i).trips) : Fin 3 → Nat :=
  let c0_275 : Index := 0#32
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_274 : BitVec 32 := 256#32
  let v579 : BitVec 32 := Scalar.muli arg11 c256_i32_274
  let v580 : BitVec 32 := v579
  let v581 : Index := Scalar.indexCast v580
  let c0_276 : Index := 0#32
  ![0, v581.toNat, 0]
def k1_off16 (i : grid1.Coords) (k1_t2 : Fin (k1_t2_loop i).trips) : Fin 4 → Nat :=
  let c0_278 : Index := 0#32
  let c0_279 : Index := 0#32
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let v585 : Index := Scalar.indexCast arg11
  let c0_280 : Index := 0#32
  ![0, 0, v585.toNat, 0]
def k1_mult25 (i : grid1.Coords) (k1_t2 : Fin (k1_t2_loop i).trips) : BitVec 32 :=
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_281 : BitVec 32 := 256#32
  let v590 : BitVec 32 := Scalar.muli arg11 c256_i32_281
  v590
def k1_off17 (i : grid1.Coords) (k1_t2 : Fin (k1_t2_loop i).trips) : Fin 3 → Nat :=
  let c0_282 : Index := 0#32
  let c0_283 : Index := 0#32
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_281 : BitVec 32 := 256#32
  let v590 : BitVec 32 := Scalar.muli arg11 c256_i32_281
  let v591 : BitVec 32 := v590
  let v592 : Index := Scalar.indexCast v591
  ![0, 0, v592.toNat]
def k1_off18 (i : grid1.Coords) (k1_t2 : Fin (k1_t2_loop i).trips) : Fin 4 → Nat :=
  let c1_288 : Index := 1#32
  let c0_289 : Index := 0#32
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let v613 : Index := Scalar.indexCast arg11
  let c0_290 : Index := 0#32
  ![1, 0, v613.toNat, 0]
def k1_mult26 (i : grid1.Coords) (k1_t2 : Fin (k1_t2_loop i).trips) : BitVec 32 :=
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_291 : BitVec 32 := 256#32
  let v618 : BitVec 32 := Scalar.muli arg11 c256_i32_291
  v618
def k1_off19 (i : grid1.Coords) (k1_t2 : Fin (k1_t2_loop i).trips) : Fin 3 → Nat :=
  let c0_292 : Index := 0#32
  let c64_293 : Index := 64#32
  let c0_i32_265 : BitVec 32 := 0#32
  let arg2 : BitVec 32 := BitVec.ofNat 32 (i 2).val
  let c4_i32_263 : BitVec 32 := 4#32
  let v556 : BitVec 32 := Scalar.subi arg2 c4_i32_263
  let c0_i32_264 : BitVec 32 := 0#32
  let v557 : BitVec 32 := Scalar.maxsi v556 c0_i32_264
  let v558 : BitVec 32 := Scalar.subi v557 c0_i32_265
  let c1_i32_266 : BitVec 32 := 1#32
  let v560 : BitVec 32 := Scalar.divsi v558 c1_i32_266
  let v561 : BitVec 32 := Scalar.muli v560 c1_i32_266
  let v562 : BitVec 32 := Scalar.addi c0_i32_265 v561
  let c1_i32_268 : BitVec 32 := 1#32
  let arg11 : BitVec 32 := Scf.iv v562 c1_i32_268 k1_t2
  let c256_i32_291 : BitVec 32 := 256#32
  let v618 : BitVec 32 := Scalar.muli arg11 c256_i32_291
  let v619 : BitVec 32 := v618
  let v620 : Index := Scalar.indexCast v619
  ![0, 64, v620.toNat]
def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x128x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S2x5x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== ReferenceIdeal.lean ====
abbrev S32x16 : Shape := ⟨2, ![32, 16]⟩
abbrev S4x8192x1024 : Shape := ⟨3, ![4, 8192, 1024]⟩
abbrev S4x1024x8192 : Shape := ⟨3, ![4, 1024, 8192]⟩
abbrev S4x32x1024 : Shape := ⟨3, ![4, 32, 1024]⟩
abbrev S4x32x256x16x64 : Shape := ⟨5, ![4, 32, 256, 16, 64]⟩
abbrev S4x16x32x256x64 : Shape := ⟨5, ![4, 16, 32, 256, 64]⟩
abbrev S4x16x64x32x256 : Shape := ⟨5, ![4, 16, 64, 32, 256]⟩
abbrev S4x32x16x64 : Shape := ⟨4, ![4, 32, 16, 64]⟩
abbrev S4x16x32x64 : Shape := ⟨4, ![4, 16, 32, 64]⟩
abbrev S32 : Shape := ⟨1, ![32]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x256x1 : Shape := ⟨3, ![256, 256, 1]⟩
abbrev S256x256x16 : Shape := ⟨3, ![256, 256, 16]⟩
abbrev S16x256x256 : Shape := ⟨3, ![16, 256, 256]⟩
abbrev S4x16x32x256x256 : Shape := ⟨5, ![4, 16, 32, 256, 256]⟩
abbrev S1x16x1x256x256 : Shape := ⟨5, ![1, 16, 1, 256, 256]⟩
abbrev S4x16x32x256x32 : Shape := ⟨5, ![4, 16, 32, 256, 32]⟩
abbrev S1x32 : Shape := ⟨2, ![1, 32]⟩
abbrev S32x1 : Shape := ⟨2, ![32, 1]⟩
abbrev S32x32 : Shape := ⟨2, ![32, 32]⟩
abbrev S32x1x32 : Shape := ⟨3, ![32, 1, 32]⟩
abbrev S4x16x32x256x3 : Shape := ⟨5, ![4, 16, 32, 256, 3]⟩
abbrev S4 : Shape := ⟨1, ![4]⟩
abbrev S4x1x1x1x1 : Shape := ⟨5, ![4, 1, 1, 1, 1]⟩
abbrev S16 : Shape := ⟨1, ![16]⟩
abbrev S1x16x1x1x1 : Shape := ⟨5, ![1, 16, 1, 1, 1]⟩
abbrev S4x16x32x256x3x1 : Shape := ⟨6, ![4, 16, 32, 256, 3, 1]⟩
abbrev S4x16x32x256x3x3 : Shape := ⟨6, ![4, 16, 32, 256, 3, 3]⟩
abbrev S4x16x32x256x3x256x64 : Shape := ⟨7, ![4, 16, 32, 256, 3, 256, 64]⟩
abbrev S1x1x1x1x1x256 : Shape := ⟨6, ![1, 1, 1, 1, 1, 256]⟩
abbrev S4x16x32x256x3x256 : Shape := ⟨6, ![4, 16, 32, 256, 3, 256]⟩
abbrev S32x256 : Shape := ⟨2, ![32, 256]⟩
abbrev S32x256x1x1 : Shape := ⟨4, ![32, 256, 1, 1]⟩
abbrev S1x1x32x256x1x1 : Shape := ⟨6, ![1, 1, 32, 256, 1, 1]⟩
abbrev S1x16x1x1x1x1 : Shape := ⟨6, ![1, 16, 1, 1, 1, 1]⟩
abbrev S4x16x32x256x3x256x1 : Shape := ⟨7, ![4, 16, 32, 256, 3, 256, 1]⟩
abbrev S4x16x32x256x3x256x2 : Shape := ⟨7, ![4, 16, 32, 256, 3, 256, 2]⟩
abbrev S32x1x1 : Shape := ⟨3, ![32, 1, 1]⟩
abbrev S1x1x32x1x1 : Shape := ⟨5, ![1, 1, 32, 1, 1]⟩
abbrev S4x16x32x256x1x256 : Shape := ⟨6, ![4, 16, 32, 256, 1, 256]⟩
abbrev S4x16x32x256x4x256 : Shape := ⟨6, ![4, 16, 32, 256, 4, 256]⟩
abbrev S4x16x32x256 : Shape := ⟨4, ![4, 16, 32, 256]⟩
abbrev S4x16x32x256x1x1 : Shape := ⟨6, ![4, 16, 32, 256, 1, 1]⟩

abbrev nBuf : Space → Nat
  | .hbm => 252
  | .vmem => 0
  | .smem => 0
  | _ => 0

abbrev hbmTy0_0 (i : Nat) : BufTy := match i % 128 with
  | 0 => ⟨S32x16, .f32⟩
  | 1 => ⟨S4x8192x1024, .bf16⟩
  | 2 => ⟨S4x8192x1024, .bf16⟩
  | 3 => ⟨S4x1024x8192, .bf16⟩
  | 4 => ⟨S4x32x1024, .f32⟩
  | 5 => ⟨S4x8192x1024, .f32⟩
  | 6 => ⟨S4x32x256x16x64, .f32⟩
  | 7 => ⟨S4x16x32x256x64, .f32⟩
  | 8 => ⟨S4x8192x1024, .f32⟩
  | 9 => ⟨S4x32x256x16x64, .f32⟩
  | 10 => ⟨S4x16x32x256x64, .f32⟩
  | 11 => ⟨S4x1024x8192, .f32⟩
  | 12 => ⟨S4x16x64x32x256, .f32⟩
  | 13 => ⟨S4x16x32x256x64, .f32⟩
  | 14 => ⟨S4x32x16x64, .f32⟩
  | 15 => ⟨S4x16x32x64, .f32⟩
  | 16 => ⟨S32, .i32⟩
  | 17 => ⟨S256, .i32⟩
  | 18 => ⟨S256x1, .i32⟩
  | 19 => ⟨S1x256, .i32⟩
  | 20 => ⟨S256x256, .i32⟩
  | 21 => ⟨S256x256, .i32⟩
  | 22 => ⟨S256x256, .i32⟩
  | 23 => ⟨S_, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S256x256, .f32⟩
  | 30 => ⟨S_, .f32⟩
  | 31 => ⟨S256x256, .f32⟩
  | 32 => ⟨S256x256, .f32⟩
  | 33 => ⟨S256x256, .f32⟩
  | 34 => ⟨S_, .f32⟩
  | 35 => ⟨S256x256, .f32⟩
  | 36 => ⟨S256x256, .f32⟩
  | 37 => ⟨S_, .f32⟩
  | 38 => ⟨S256x256, .f32⟩
  | 39 => ⟨S256x256, .f32⟩
  | 40 => ⟨S256x256, .i32⟩
  | 41 => ⟨S_, .i32⟩
  | 42 => ⟨S256x256, .i32⟩
  | 43 => ⟨S256x256, .i32⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i1⟩
  | 50 => ⟨S256x256, .i32⟩
  | 51 => ⟨S_, .i32⟩
  | 52 => ⟨S256x256, .i32⟩
  | 53 => ⟨S256x256, .i1⟩
  | 54 => ⟨S_, .i32⟩
  | 55 => ⟨S256x256, .i32⟩
  | 56 => ⟨S256x256, .i32⟩
  | 57 => ⟨S256x256, .i32⟩
  | 58 => ⟨S256x256x1, .i32⟩
  | 59 => ⟨S256x256x16, .f32⟩
  | 60 => ⟨S16x256x256, .f32⟩
  | 61 => ⟨S4x16x32x256x256, .f32⟩
  | 62 => ⟨S1x16x1x256x256, .f32⟩
  | 63 => ⟨S4x16x32x256x256, .f32⟩
  | 64 => ⟨S4x16x32x256x256, .f32⟩
  | 65 => ⟨S_, .i32⟩
  | 66 => ⟨S256x256, .i32⟩
  | 67 => ⟨S256x256, .i1⟩
  | 68 => ⟨S_, .f32⟩
  | 69 => ⟨S_, .f32⟩
  | 70 => ⟨S4x16x32x256x256, .i1⟩
  | 71 => ⟨S4x16x32x256x256, .f32⟩
  | 72 => ⟨S4x16x32x256x256, .f32⟩
  | 73 => ⟨S4x16x32x256x32, .f32⟩
  | 74 => ⟨S1x32, .i32⟩
  | 75 => ⟨S32x1, .i32⟩
  | 76 => ⟨S32x32, .i32⟩
  | 77 => ⟨S32x32, .i32⟩
  | 78 => ⟨S32x32, .i1⟩
  | 79 => ⟨S32x1x32, .i1⟩
  | 80 => ⟨S_, .f32⟩
  | 81 => ⟨S_, .f32⟩
  | 82 => ⟨S4x16x32x256x32, .i1⟩
  | 83 => ⟨S4x16x32x256x32, .f32⟩
  | 84 => ⟨S4x16x32x256x32, .f32⟩
  | 85 => ⟨S4x16x32x256x3, .f32⟩
  | 86 => ⟨S4x16x32x256x3, .i32⟩
  | 87 => ⟨S4, .i32⟩
  | 88 => ⟨S4x1x1x1x1, .i32⟩
  | 89 => ⟨S16, .i32⟩
  | 90 => ⟨S1x16x1x1x1, .i32⟩
  | 91 => ⟨S_, .i32⟩
  | 92 => ⟨S4x1x1x1x1, .i32⟩
  | 93 => ⟨S4x1x1x1x1, .i1⟩
  | 94 => ⟨S_, .i32⟩
  | 95 => ⟨S4x1x1x1x1, .i32⟩
  | 96 => ⟨S4x1x1x1x1, .i32⟩
  | 97 => ⟨S4x1x1x1x1, .i32⟩
  | 98 => ⟨S_, .i32⟩
  | 99 => ⟨S1x16x1x1x1, .i32⟩
  | 100 => ⟨S1x16x1x1x1, .i1⟩
  | 101 => ⟨S_, .i32⟩
  | 102 => ⟨S1x16x1x1x1, .i32⟩
  | 103 => ⟨S1x16x1x1x1, .i32⟩
  | 104 => ⟨S1x16x1x1x1, .i32⟩
  | 105 => ⟨S_, .i32⟩
  | 106 => ⟨S4x16x32x256x3, .i32⟩
  | 107 => ⟨S4x16x32x256x3, .i1⟩
  | 108 => ⟨S_, .i32⟩
  | 109 => ⟨S4x16x32x256x3, .i32⟩
  | 110 => ⟨S4x16x32x256x3, .i32⟩
  | 111 => ⟨S4x16x32x256x3, .i32⟩
  | 112 => ⟨S4x16x32x256x3, .i32⟩
  | 113 => ⟨S4x16x32x256x3, .i32⟩
  | 114 => ⟨S4x16x32x256x3x1, .i32⟩
  | 115 => ⟨S4x16x32x256x3x1, .i32⟩
  | 116 => ⟨S4x16x32x256x3x1, .i32⟩
  | 117 => ⟨S4x16x32x256x3x3, .i32⟩
  | 118 => ⟨S4x16x32x256x3x256x64, .f32⟩
  | 119 => ⟨S_, .i32⟩
  | 120 => ⟨S4x1x1x1x1, .i32⟩
  | 121 => ⟨S4x1x1x1x1, .i1⟩
  | 122 => ⟨S_, .i32⟩
  | 123 => ⟨S4x1x1x1x1, .i32⟩
  | 124 => ⟨S4x1x1x1x1, .i32⟩
  | 125 => ⟨S4x1x1x1x1, .i32⟩
  | 126 => ⟨S_, .i32⟩
  | 127 => ⟨S1x16x1x1x1, .i32⟩
  | _ => ⟨S32x16, .f32⟩

abbrev hbmTy0_1 (i : Nat) : BufTy := match i % 128 with
  | 0 => ⟨S1x16x1x1x1, .i1⟩
  | 1 => ⟨S_, .i32⟩
  | 2 => ⟨S1x16x1x1x1, .i32⟩
  | 3 => ⟨S1x16x1x1x1, .i32⟩
  | 4 => ⟨S1x16x1x1x1, .i32⟩
  | 5 => ⟨S_, .i32⟩
  | 6 => ⟨S4x16x32x256x3, .i32⟩
  | 7 => ⟨S4x16x32x256x3, .i1⟩
  | 8 => ⟨S_, .i32⟩
  | 9 => ⟨S4x16x32x256x3, .i32⟩
  | 10 => ⟨S4x16x32x256x3, .i32⟩
  | 11 => ⟨S4x16x32x256x3, .i32⟩
  | 12 => ⟨S4x16x32x256x3, .i32⟩
  | 13 => ⟨S4x16x32x256x3, .i32⟩
  | 14 => ⟨S4x16x32x256x3x1, .i32⟩
  | 15 => ⟨S4x16x32x256x3x1, .i32⟩
  | 16 => ⟨S4x16x32x256x3x1, .i32⟩
  | 17 => ⟨S4x16x32x256x3x3, .i32⟩
  | 18 => ⟨S4x16x32x256x3x256x64, .f32⟩
  | 19 => ⟨S4x16x32x256x3x1, .i32⟩
  | 20 => ⟨S_, .i32⟩
  | 21 => ⟨S4x16x32x256x3x1, .i32⟩
  | 22 => ⟨S4x16x32x256x3x1, .i32⟩
  | 23 => ⟨S1x1x1x1x1x256, .i32⟩
  | 24 => ⟨S4x16x32x256x3x256, .i32⟩
  | 25 => ⟨S4x16x32x256x3x256, .i32⟩
  | 26 => ⟨S4x16x32x256x3x256, .i32⟩
  | 27 => ⟨S32x1, .i32⟩
  | 28 => ⟨S_, .i32⟩
  | 29 => ⟨S32x1, .i32⟩
  | 30 => ⟨S32x1, .i32⟩
  | 31 => ⟨S1x256, .i32⟩
  | 32 => ⟨S32x256, .i32⟩
  | 33 => ⟨S32x256, .i32⟩
  | 34 => ⟨S32x256, .i32⟩
  | 35 => ⟨S32x256x1x1, .i32⟩
  | 36 => ⟨S1x1x32x256x1x1, .i32⟩
  | 37 => ⟨S4x16x32x256x3x256, .i32⟩
  | 38 => ⟨S4x16x32x256x3x256, .i32⟩
  | 39 => ⟨S_, .i32⟩
  | 40 => ⟨S4x16x32x256x3x256, .i32⟩
  | 41 => ⟨S4x16x32x256x3x256, .i32⟩
  | 42 => ⟨S_, .i32⟩
  | 43 => ⟨S4x16x32x256x3x256, .i32⟩
  | 44 => ⟨S4x16x32x256x3x256, .i32⟩
  | 45 => ⟨S4x16x32x256x3x256, .f32⟩
  | 46 => ⟨S_, .f32⟩
  | 47 => ⟨S4x16x32x256x3x256, .f32⟩
  | 48 => ⟨S4x16x32x256x3x256, .f32⟩
  | 49 => ⟨S4x16x32x256x3x256, .f32⟩
  | 50 => ⟨S_, .f32⟩
  | 51 => ⟨S4x16x32x256x3x256, .f32⟩
  | 52 => ⟨S4x16x32x256x3x256, .f32⟩
  | 53 => ⟨S_, .f32⟩
  | 54 => ⟨S4x16x32x256x3x256, .f32⟩
  | 55 => ⟨S4x16x32x256x3x256, .f32⟩
  | 56 => ⟨S4x16x32x256x3x256, .i32⟩
  | 57 => ⟨S_, .i32⟩
  | 58 => ⟨S4x16x32x256x3x256, .i32⟩
  | 59 => ⟨S4x16x32x256x3x256, .i32⟩
  | 60 => ⟨S_, .i32⟩
  | 61 => ⟨S4x16x32x256x3x256, .i32⟩
  | 62 => ⟨S4x16x32x256x3x256, .i32⟩
  | 63 => ⟨S_, .i32⟩
  | 64 => ⟨S4x16x32x256x3x256, .i32⟩
  | 65 => ⟨S4x16x32x256x3x256, .i1⟩
  | 66 => ⟨S4x16x32x256x3x256, .i32⟩
  | 67 => ⟨S1x16x1x1x1x1, .i32⟩
  | 68 => ⟨S_, .i32⟩
  | 69 => ⟨S4x16x32x256x3x256, .i32⟩
  | 70 => ⟨S4x16x32x256x3x256, .i1⟩
  | 71 => ⟨S_, .i32⟩
  | 72 => ⟨S4x16x32x256x3x256, .i32⟩
  | 73 => ⟨S4x16x32x256x3x256, .i32⟩
  | 74 => ⟨S4x16x32x256x3x256, .i32⟩
  | 75 => ⟨S_, .i32⟩
  | 76 => ⟨S1x16x1x1x1x1, .i32⟩
  | 77 => ⟨S1x16x1x1x1x1, .i1⟩
  | 78 => ⟨S_, .i32⟩
  | 79 => ⟨S1x16x1x1x1x1, .i32⟩
  | 80 => ⟨S1x16x1x1x1x1, .i32⟩
  | 81 => ⟨S1x16x1x1x1x1, .i32⟩
  | 82 => ⟨S4x16x32x256x3x256, .i32⟩
  | 83 => ⟨S4x16x32x256x3x256x1, .i32⟩
  | 84 => ⟨S4x16x32x256x3x256x1, .i32⟩
  | 85 => ⟨S4x16x32x256x3x256x2, .i32⟩
  | 86 => ⟨S4x16x32x256x3x256, .f32⟩
  | 87 => ⟨S4x16x32x256x3x256, .f32⟩
  | 88 => ⟨S4x16x32x256x3x256, .f32⟩
  | 89 => ⟨S32x1x1, .i32⟩
  | 90 => ⟨S1x1x32x1x1, .i32⟩
  | 91 => ⟨S4x16x32x256x3, .i32⟩
  | 92 => ⟨S4x16x32x256x3, .i1⟩
  | 93 => ⟨S4x16x32x256x3x1, .i1⟩
  | 94 => ⟨S_, .f32⟩
  | 95 => ⟨S_, .f32⟩
  | 96 => ⟨S4x16x32x256x3x256, .i1⟩
  | 97 => ⟨S4x16x32x256x3x256, .f32⟩
  | 98 => ⟨S4x16x32x256x3x256, .f32⟩
  | 99 => ⟨S4x16x32x256x1x256, .f32⟩
  | 100 => ⟨S4x16x32x256x4x256, .f32⟩
  | 101 => ⟨S_, .f32⟩
  | 102 => ⟨S4x16x32x256, .f32⟩
  | 103 => ⟨S_, .f32⟩
  | 104 => ⟨S4x16x32x256, .f32⟩
  | 105 => ⟨S4x16x32x256, .f32⟩
  | 106 => ⟨S4x16x32x256x1x1, .f32⟩
  | 107 => ⟨S4x16x32x256x4x256, .f32⟩
  | 108 => ⟨S4x16x32x256x4x256, .f32⟩
  | 109 => ⟨S4x16x32x256x4x256, .f32⟩
  | 110 => ⟨S_, .f32⟩
  | 111 => ⟨S4x16x32x256, .f32⟩
  | 112 => ⟨S4x16x32x256x1x1, .f32⟩
  | 113 => ⟨S4x16x32x256x4x256, .f32⟩
  | 114 => ⟨S4x16x32x256x4x256, .f32⟩
  | 115 => ⟨S4x16x32x256x1x256, .f32⟩
  | 116 => ⟨S4x16x32x256x256, .f32⟩
  | 117 => ⟨S4x16x32x256x64, .f32⟩
  | 118 => ⟨S4x16x32x256x3x256, .f32⟩
  | 119 => ⟨S4x16x32x256x64, .f32⟩
  | 120 => ⟨S4x16x32x256x64, .f32⟩
  | 121 => ⟨S4x32x256x16x64, .f32⟩
  | 122 => ⟨S4x8192x1024, .f32⟩
  | 123 => ⟨S4x8192x1024, .bf16⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v60 : Ref sig .tc := ⟨.hbm, 84, rfl⟩
abbrev main_values : Ref sig .tc := ⟨.hbm, 85, rfl⟩
abbrev main_indices : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_19 : Ref sig .tc := ⟨.hbm, 126, rfl⟩
abbrev main_v92 : Ref sig .tc := ⟨.hbm, 127, rfl⟩
abbrev main_v93 : Ref sig .tc := ⟨.hbm, 128, rfl⟩
abbrev main_c_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_c_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_24 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_25 : Ref sig .tc := ⟨.hbm, 167, rfl⟩
abbrev main_v127 : Ref sig .tc := ⟨.hbm, 168, rfl⟩
abbrev main_v128 : Ref sig .tc := ⟨.hbm, 169, rfl⟩
abbrev main_c_26 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_27 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_28 : Ref sig .tc := ⟨.hbm, 178, rfl⟩
abbrev main_v135 : Ref sig .tc := ⟨.hbm, 179, rfl⟩
abbrev main_v136 : Ref sig .tc := ⟨.hbm, 180, rfl⟩
abbrev main_cst_29 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_30 : Ref sig .tc := ⟨.hbm, 185, rfl⟩
abbrev main_v140 : Ref sig .tc := ⟨.hbm, 186, rfl⟩
abbrev main_v141 : Ref sig .tc := ⟨.hbm, 187, rfl⟩
abbrev main_c_31 : Ref sig .tc := ⟨.hbm, 188, rfl⟩
abbrev main_v142 : Ref sig .tc := ⟨.hbm, 189, rfl⟩
abbrev main_v143 : Ref sig .tc := ⟨.hbm, 190, rfl⟩
abbrev main_c_32 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_33 : Ref sig .tc := ⟨.hbm, 196, rfl⟩
abbrev main_v148 : Ref sig .tc := ⟨.hbm, 197, rfl⟩
abbrev main_v149 : Ref sig .tc := ⟨.hbm, 198, rfl⟩
abbrev main_c_34 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_35 : Ref sig .tc := ⟨.hbm, 203, rfl⟩
abbrev main_v153 : Ref sig .tc := ⟨.hbm, 204, rfl⟩
abbrev main_v154 : Ref sig .tc := ⟨.hbm, 205, rfl⟩
abbrev main_c_36 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_37 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_38 : Ref sig .tc := ⟨.hbm, 229, rfl⟩
abbrev main_v173 : Ref sig .tc := ⟨.hbm, 230, rfl⟩
abbrev main_cst_39 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_40 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v34 : BitVec 32 := Scalar.addi c0_i32 c8_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v58 : BitVec 32 := Scalar.muli arg13 c512_i32
  v58
def k0_off1 (k0_t1 : Fin k0_t1_loop.trips) : Fin 2 → Nat :=
  let c0_34 : Index := 0#32
  let c0_i32 : BitVec 32 := 0#32
  let c1_i32 : BitVec 32 := 1#32
  let arg13 : BitVec 32 := Scf.iv c0_i32 c1_i32 k0_t1
  let c512_i32 : BitVec 32 := 512#32
  let v58 : BitVec 32 := Scalar.muli arg13 c512_i32
  let v59 : BitVec 32 := v58
  let v61 : Index := Scalar.indexCast v59
  ![0, v61.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v58 : BitVec 32 := Scalar.muli arg13 c512_i32
  let v59 : BitVec 32 := v58
  let v70 : Index := Scalar.indexCast v59
  let c0_39 : Index := 0#32
  ![v70.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x1x1024, .f32⟩
  | .hbm, ⟨34, _⟩ => ⟨S4x8192x4096, .f32⟩
  | .hbm, ⟨35, _⟩ => ⟨S_, .f32⟩
  | .hbm, ⟨36, _⟩ => ⟨S4x8192x4096, .f32⟩
  | .hbm, ⟨37, _⟩ => ⟨S4x8192x4096, .f32⟩
  | .hbm, ⟨38, _⟩ => ⟨S4x8192x4096, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v34 : BitVec 32 := Scalar.addi c0_i32 c8_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v44 : BitVec 32 := Scalar.muli arg13 c512_i32
  v44
def k0_off1 (k0_t1 : Fin k0_t1_loop.trips) : Fin 2 → Nat :=
  let c0_29 : Index := 0#32
  let c0_i32 : BitVec 32 := 0#32
  let c1_i32 : BitVec 32 := 1#32
  let arg13 : BitVec 32 := Scf.iv c0_i32 c1_i32 k0_t1
  let c512_i32 : BitVec 32 := 512#32
  let v44 : BitVec 32 := Scalar.muli arg13 c512_i32
  let v45 : BitVec 32 := v44
  let v47 : Index := Scalar.indexCast v45
  ![0, v47.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v44 : BitVec 32 := Scalar.muli arg13 c512_i32
  let v45 : BitVec 32 := v44
  let v56 : Index := Scalar.indexCast v45
  let c0_34 : Index := 0#32
  ![v56.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x8192x1024 : Shape := ⟨3, ![4, 8192, 1024]⟩
abbrev S1024 : Shape := ⟨1, ![1024]⟩
abbrev S4x1024 : Shape := ⟨2, ![4, 1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x1x1024, .f32⟩
  | .hbm, ⟨34, _⟩ => ⟨S4x8192x4096, .f32⟩
  | .hbm, ⟨35, _⟩ => ⟨S_, .f32⟩
  | .hbm, ⟨36, _⟩ => ⟨S4x8192x4096, .f32⟩
  | .hbm, ⟨37, _⟩ => ⟨S4x8192x4096, .f32⟩
  | .hbm, ⟨38, _⟩ => ⟨S4x8192x4096, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x1024 : Shape := ⟨2, ![1024, 1024]⟩
abbrev S4x1024 : Shape := ⟨2, ![4, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S1024x1024, .f32⟩
  | .hbm, ⟨3, _⟩ => ⟨S4x1024, .f32⟩
  | .hbm, ⟨4, _⟩ => ⟨S1024x1024, .bf16⟩
  | .hbm, ⟨5, _⟩ => ⟨S4x1x1024, .f32⟩
  | .hbm, ⟨6, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x8192x1024 : Shape := ⟨3, ![4, 8192, 1024]⟩
abbrev S1024x1024 : Shape := ⟨2, ![1024, 1024]⟩
abbrev S4x1024 : Shape := ⟨2, ![4, 1024]⟩
abbrev S4x1x1024 : Shape := ⟨3, ![4, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S1024x1024, .f32⟩
  | .hbm, ⟨3, _⟩ => ⟨S4x1024, .f32⟩
  | .hbm, ⟨4, _⟩ => ⟨S4x1x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Mlp.Run.lean ====
/-
  The feed-forward body's run: the block it leaves is the last payload over the accumulator after eight chunks.
-/
module

public import proofs.«01_k».proof.Proof.Gen.Kernel2Ideal.Frame
public import Idealize.ShloMosaic.Lib.Pipeline.Value
public import Idealize.ShloMosaic.Lib.WholeRead
public import Idealize.ShloMosaic.Lib.VecWindow
public import Idealize.ShloMosaic.Lib.ValueIdx

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.ShloMosaic.ValueIdx (ix1 ix2 ix3 ix4)

variable {F : FTy → Type} [FloatOps F]

/-- Columns of chunk `k` of the first weight matrix. -/
def upTile (w : Vec F S1024x4096 .bf16) (k : ℕ) : Vec F S1024x512 .bf16 := fun y =>
  w (ix2 (y 0) (⟨(k % 8) * 512 + (y 1).val, by have : (y 1).val < 512 := (y 1).isLt; omega⟩ : Fin 4096))

/-- Rows of chunk `k` of the second weight matrix. -/
def dnTile (w : Vec F S4096x1024 .bf16) (k : ℕ) : Vec F S512x1024 .bf16 := fun y =>
  w (ix2 (⟨(k % 8) * 512 + (y 0).val, by have : (y 0).val < 512 := (y 0).isLt; omega⟩ : Fin 4096) (y 1))

/-- The accumulator before chunk `k`. -/
def accN (h : FVec F S512x1024 .bf16) (x5 : Vec F S1024x4096 .bf16) (x6 : Vec F S4096x1024 .bf16) : ℕ → FVec F S512x1024 .f32
  | 0 => k0_pay5
  | k + 1 => k0_pay1 h (upTile x5 k) (accN h x5 x6 k) (dnTile x6 k)

theorem hz2 : (![0, 0] : Fin 2 → ℕ) = fun _ => 0 := funext fun a => by fin_cases a <;> rfl
theorem hz3 : (![0, 0, 0] : Fin 3 → ℕ) = fun _ => 0 := funext fun a => by fin_cases a <;> rfl

theorem off1_eq : ∀ k : Fin k0_t1_loop.trips, k0_off1 k = ![0, k.val * 512] := by decide +kernel
theorem off2_eq : ∀ k : Fin k0_t1_loop.trips, k0_off2 k = ![k.val * 512, 0] := by decide +kernel
theorem trips_eq : k0_t1_loop.trips = 8 := by decide +kernel

theorem read_up (m : Memref sig .tc .vmem S1024x4096 .bf16) (hm : m.IsWhole) (x : Vec F S1024x4096 .bf16) (off : Fin 2 → ℕ)
    (inb : ∀ a, off a + S1024x512.size a ≤ S1024x4096.size a) (n : ℕ) (hn : n < 8) (hoff : off = ![0, n * 512]) :
    View.readAt (Elt F) m.view (Rect.unit (s := S1024x4096) off S1024x512.size inb).toLoadRect (hm.unread x) = upTile x n := by
  subst hoff
  funext y
  rw [hm.readAt_unread]
  unfold upTile
  congr 1
  funext a
  match a with
  | ⟨0, _⟩ => refine Fin.ext ?_; show 0 + 1 * (y 0).val = (y 0).val; omega
  | ⟨1, _⟩ => refine Fin.ext ?_; show n * 512 + 1 * (y 1).val = n % 8 * 512 + (y 1).val; rw [Nat.mod_eq_of_lt hn]; omega

theorem read_dn (m : Memref sig .tc .vmem S4096x1024 .bf16) (hm : m.IsWhole) (x : Vec F S4096x1024 .bf16) (off : Fin 2 → ℕ)
    (inb : ∀ a, off a + S512x1024.size a ≤ S4096x1024.size a) (n : ℕ) (hn : n < 8) (hoff : off = ![n * 512, 0]) :
    View.readAt (Elt F) m.view (Rect.unit (s := S4096x1024) off S512x1024.size inb).toLoadRect (hm.unread x) = dnTile x n := by
  subst hoff
  funext y
  rw [hm.readAt_unread]
  unfold dnTile
  congr 1
  funext a
  match a with
  | ⟨0, _⟩ => refine Fin.ext ?_; show n * 512 + 1 * (y 0).val = n % 8 * 512 + (y 0).val; rw [Nat.mod_eq_of_lt hn]; omega
  | ⟨1, _⟩ => refine Fin.ext ?_; show 0 + 1 * (y 1).val = (y 1).val; omega

section
variable (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole)
    (arg5 : Memref sig .tc .vmem S1x1x1024 .f32) (harg5 : arg5.IsWhole) (arg6 : Memref sig .tc .vmem S1x1x1024 .f32) (harg6 : arg6.IsWhole) (arg7 : Memref sig .tc .vmem S1024x4096 .bf16) (harg7 : arg7.IsWhole)
    (arg8 : Memref sig .tc .vmem S4096x1024 .bf16) (harg8 : arg8.IsWhole) (arg9 : Memref sig .tc .vmem S1x1024 .f32) (harg9 : arg9.IsWhole) (arg10 : Memref sig .tc .vmem S1x512x1024 .f32) (harg10 : arg10.IsWhole)
    (arg11 : Memref sig .tc .vmem S512x1024 .bf16) (harg11 : arg11.IsWhole) (arg12 : Memref sig .tc .vmem S512x1024 .f32) (harg12 : arg12.IsWhole)

/-- The accumulator's buffer before trip `k` holds the model's accumulator. -/
theorem acc_eq (h : FVec F S512x1024 .bf16) (x5 : Vec F S1024x4096 .bf16) (x6 : Vec F S4096x1024 .bf16) (X : arg11.view.ty.Contents (Elt F))
    (G : arg12.view.ty.Contents (Elt F)) (hX : arg11.view.read (Elt F) X = h) (hG : arg12.view.read (Elt F) G = k0_pay5) (k : ℕ) (hk : k ≤ 8) :
    arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 (harg7.unread x5) (harg8.unread x6) X G k))
      = accN h x5 x6 k := by
  induction k with
  | zero => exact hG
  | succ k ih =>
    have hk' : k < k0_t1_loop.trips := trips_eq ▸ hk
    have e := pb_k0_t1_succ (F := F) 𝒱 c bd i arg2 harg2 arg3 harg3 arg4 harg4 arg5 harg5 arg6 harg6 arg7 harg7 arg8 harg8 arg9 harg9 arg10 harg10 arg11 harg11 arg12 harg12 (harg7.unread x5) (harg8.unread x6) X G ⟨k, hk'⟩
    dsimp only at e
    rw [e]
    unfold tripL_k0_t1 trip_k0_t1
    dsimp only
    refine (View.read_writes_full arg12.view _ _ _ _).trans ?_
    rw [read_up _ _ _ _ _ k hk (off1_eq ⟨k, hk'⟩), read_dn _ _ _ _ _ k hk (off2_eq ⟨k, hk'⟩)]
    simp only [View.readAt_eq_ld, View.ld_unit_zero (S := S512x1024) hz2]
    rw [hX, ih (Nat.le_of_succ_le hk)]
    rfl
end

/-- The block of results as the body's payloads make it. -/
def mlpModel (x0 : Vec F S1x512x1024 .f32) (x1 : Vec F S1x1024 .f32) (x2 x3 x4 : Vec F S1x1x1024 .f32) (x5 : Vec F S1024x4096 .bf16)
    (x6 : Vec F S4096x1024 .bf16) (x7 : Vec F S1x1024 .f32) : FVec F S1x512x1024 .f32 :=
  k0_pay2 (k0_pay3 x0) x4 (accN (k0_pay4 x0 x1 x2 x3) x5 x6 8) x7

theorem out_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole)
    (arg5 : Memref sig .tc .vmem S1x1x1024 .f32) (harg5 : arg5.IsWhole) (arg6 : Memref sig .tc .vmem S1x1x1024 .f32) (harg6 : arg6.IsWhole) (arg7 : Memref sig .tc .vmem S1024x4096 .bf16) (harg7 : arg7.IsWhole)
    (arg8 : Memref sig .tc .vmem S4096x1024 .bf16) (harg8 : arg8.IsWhole) (arg9 : Memref sig .tc .vmem S1x1024 .f32) (harg9 : arg9.IsWhole) (arg10 : Memref sig .tc .vmem S1x512x1024 .f32) (harg10 : arg10.IsWhole)
    (arg11 : Memref sig .tc .vmem S512x1024 .bf16) (harg11 : arg11.IsWhole) (arg12 : Memref sig .tc .vmem S512x1024 .f32) (harg12 : arg12.IsWhole)
    (x0 : Vec F S1x512x1024 .f32) (x1 : Vec F S1x1024 .f32) (x2 x3 x4 : Vec F S1x1x1024 .f32) (x5 : Vec F S1024x4096 .bf16)
    (x6 : Vec F S4096x1024 .bf16) (x7 : Vec F S1x1024 .f32) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 = mlpModel x0 x1 x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg9.read_unread,
    View.ld_unit_zero (S := S1x512x1024) hz3, View.ld_unit_zero (S := S1x1024) hz2, View.ld_unit_zero (S := S1x1x1024) hz3]
  unfold mlpModel
  congr 1
  unfold View.readCov
  rw [View.writes_append, View.readAt_eq_ld, View.ld_unit_zero (S := S512x1024) hz2]
  exact acc_eq Variants.none c none i arg2 harg2 arg3 harg3 arg4 harg4 arg5 harg5 arg6 harg6 arg7 harg7 arg8 harg8 arg9 harg9 arg10 harg10 arg11 harg11 arg12 harg12 _ x5 x6 _ _ (View.read_writes_full arg11.view _ _ _ []) (View.read_writes_full arg12.view _ _ _ []) 8 le_rfl

end Cert.Mlp

end
-- ==== Proof.Mlp.Spec.lean ====
/-
  The feed-forward sublayer of one token, over the extended reals.
-/
module

public import Idealize.ShloMosaic.PureOps.Ideal.Laws
public import Mathlib.Algebra.BigOperators.Fin

@[expose] public section

noncomputable section

namespace Cert.Mlp

open Idealize.ShloMosaic
open scoped BigOperators

/-- A row divided by the root of its mean square (with the small constant added). -/
def rms (v : Fin 1024 → EReal) (d : Fin 1024) : EReal :=
  v d * Ideal.rsqrt (Ideal.div (∑ e, v e * v e) (Ideal.ofBits .f32 0x44800000#32) + Ideal.ofBits .f32 0x358637BD#32)

/-- The row normalised, scaled by its gain, modulated and shifted. -/
def hRow (v gain shift scale : Fin 1024 → EReal) (d : Fin 1024) : EReal :=
  rms v d * gain d * (Ideal.ofBits .f32 0x3F800000#32 + scale d) + shift d

/-- The squared positive part of unit `f`. -/
def act (h : Fin 1024 → EReal) (wu : Fin 1024 → Fin 4096 → EReal) (f : Fin 4096) : EReal :=
  max (∑ e, h e * wu e f) 0 * max (∑ e, h e * wu e f) 0

/-- The two products of the sublayer. -/
def ffRow (h : Fin 1024 → EReal) (wu : Fin 1024 → Fin 4096 → EReal) (wd : Fin 4096 → Fin 1024 → EReal) (d : Fin 1024) : EReal :=
  ∑ f, act h wu f * wd f d

/-- The row with the gated sublayer added. -/
def residRow (v gain shift scale gate : Fin 1024 → EReal) (wu : Fin 1024 → Fin 4096 → EReal) (wd : Fin 4096 → Fin 1024 → EReal) (e : Fin 1024) : EReal :=
  v e + gate e * ffRow (hRow v gain shift scale) wu wd e

/-- That row normalised once more. -/
def outRow (v gain shift scale gate fin : Fin 1024 → EReal) (wu : Fin 1024 → Fin 4096 → EReal) (wd : Fin 4096 → Fin 1024 → EReal) (d : Fin 1024) : EReal :=
  rms (residRow v gain shift scale gate wu wd) d * fin d

/-- Unit `j` of chunk `k`. -/
def unit (k : Fin 8) (j : Fin 512) : Fin 4096 := ⟨k.val * 512 + j.val, by omega⟩

/-- A sum over all units is the sum over the chunks of the sums over their units. -/
theorem sum_units (g : Fin 4096 → EReal) : ∑ k : Fin 8, ∑ j : Fin 512, g (unit k j) = ∑ f, g f := by
  rw [← Fintype.sum_prod_type' (fun k j => g (unit k j))]
  refine Fintype.sum_equiv (finProdFinEquiv (m := 8) (n := 512)) _ _ fun p => congrArg g (Fin.ext ?_)
  show p.1.val * 512 + p.2.val = p.2.val + 512 * p.1.val
  omega

end Cert.Mlp

end
-- ==== Proof.Mlp.Val.lean ====
/-
  The feed-forward body's block of results at an index.
-/
module

public import proofs.«01_k».proof.Proof.Mlp.Run
public import proofs.«01_k».proof.Proof.Mlp.Spec
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.Mlp

open Cert.Kernel2Ideal Cert.Kernel2Ideal.Gen
open Idealize.ShloMosaic Idealize.ShloMosaic.TcCoe
open Idealize.ShloMosaic.ValueIdx

theorem mm_up (l : FVec Ideal S512x1024 .bf16) (r : FVec Ideal S1024x512 .bf16) (a b : Fin 512) :
    matmul dot_S512x1024_S1024x512_S512x512_1_0_0_1_n_n none l r (constant S512x512 .f32 0x00000000#32) (ix2 a b)
      = ∑ e : Fin 1024, l (ix2 a e) * r (ix2 e b) := by
  refine (Ideal.matmul_plain_apply (M := 512) (K := 1024) (N := 512) none l r (constant S512x512 .f32 0x00000000#32) a b).trans ?_
  show Ideal.ofBits .f32 0x00000000#32 + _ = _
  rw [Ideal.ofBits_zero_f32, zero_add]

theorem mm_dn (l : FVec Ideal S512x512 .bf16) (r : FVec Ideal S512x1024 .bf16) (a : Fin 512) (d : Fin 1024) :
    matmul dot_S512x512_S512x1024_S512x1024_1_0_0_1_n_n none l r (constant S512x1024 .f32 0x00000000#32) (ix2 a d)
      = ∑ j : Fin 512, l (ix2 a j) * r (ix2 j d) := by
  refine (Ideal.matmul_plain_apply (M := 512) (K := 512) (N := 1024) none l r (constant S512x1024 .f32 0x00000000#32) a d).trans ?_
  show Ideal.ofBits .f32 0x00000000#32 + _ = _
  rw [Ideal.ofBits_zero_f32, zero_add]

theorem lift_row (a : Fin 512) (e : Fin 1024) : reduces_S512x1024_S512.lift (ix1 a) e = ix2 a e := by
  funext x
  fin_cases x <;> rfl

theorem row_bcast (v : FVec Ideal S512x1 .f32) (a : Fin 512) (d : Fin 1024) :
    broadcastTo S512x1024 v broadcasts_S512x1_S512x1024 (ix2 a d) = v (ix2 a 0) :=
  broadcastTo_apply v broadcasts_S512x1_S512x1024 (ix2 a d) (ix2 a (0 : Fin 1)) fun x => by
    fin_cases x
    · rfl
    · rfl

/-- The block normalised row by row, as the body computes it. -/
def normed (z : FVec Ideal S512x1024 .f32) : FVec Ideal S512x1024 .f32 :=
  mulf z (broadcastTo S512x1024 (rsqrt (addf (divf (shapeCast S512x1 (multiReduction .add [1] S512 (mulf z z) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

theorem normed_apply (z : FVec Ideal S512x1024 .f32) (a : Fin 512) (d : Fin 1024) : normed z (ix2 a d) = rms (fun e => z (ix2 a e)) d := by
  unfold normed rms
  rw [mulf_apply, row_bcast]
  refine congrArg (fun s : EReal => z (ix2 a d) * Ideal.rsqrt (Ideal.div s (Ideal.ofBits .f32 0x44800000#32) + Ideal.ofBits .f32 0x358637BD#32)) ?_
  refine (shapeCast_a_a1_apply _ shapeCasts_S512_S512x1 a 0).trans ?_
  refine (Ideal.multiReduction_add_single (mulf z z) _ reduces_S512x1024_S512 _ _ (ix1 a)).trans ?_
  exact Finset.sum_congr rfl fun e _ => congrArg (mulf z z) (lift_row a e)

theorem chunk_apply (h : FVec Ideal S512x1024 .bf16) (u : Vec Ideal S1024x512 .bf16) (acc : Vec Ideal S512x1024 .f32) (w : Vec Ideal S512x1024 .bf16) (a : Fin 512) (d : Fin 1024) :
    k0_pay1 h u acc w (ix2 a d) = acc (ix2 a d) + ∑ j : Fin 512,
      max (∑ e : Fin 1024, h (ix2 a e) * u (ix2 e j)) 0 * max (∑ e : Fin 1024, h (ix2 a e) * u (ix2 e j)) 0 * w (ix2 j d) := by
  unfold k0_pay1
  simp only [shapeCast_self]
  rw [addf_apply, mm_dn]
  refine congrArg (acc (ix2 a d) + ·) (Finset.sum_congr rfl fun j _ => ?_)
  refine congrArg (fun s : EReal => s * s * w (ix2 j d)) ?_
  refine congrArg₂ max (mm_up h u a j) Ideal.ofBits_zero_f32

/-- The accumulator before chunk `k` sums the chunks before. -/
theorem accN_apply (h : FVec Ideal S512x1024 .bf16) (x5 : Vec Ideal S1024x4096 .bf16) (x6 : Vec Ideal S4096x1024 .bf16) (a : Fin 512) (d : Fin 1024) (k : ℕ) (hk : k ≤ 8) :
    accN h x5 x6 k (ix2 a d) = ∑ n : Fin k, ∑ j : Fin 512,
      act (fun e => h (ix2 a e)) (fun e f => x5 (ix2 e f)) (unit (n.castLE hk) j) * x6 (ix2 (unit (n.castLE hk) j) d) := by
  induction k with
  | zero =>
    unfold accN k0_pay5
    simp only [shapeCast_self, Finset.univ_eq_empty, Finset.sum_empty]
    exact Ideal.ofBits_zero_f32
  | succ k ih =>
    rw [accN, chunk_apply, ih (Nat.le_of_succ_le hk), Fin.sum_univ_castSucc (n := k)]
    have e : ∀ j : Fin 512, (⟨k % 8 * 512 + j.val, by omega⟩ : Fin 4096) = unit ((Fin.last k).castLE hk) j := fun j => Fin.ext (by
      show k % 8 * 512 + j.val = k * 512 + j.val
      rw [Nat.mod_eq_of_lt hk])
    refine congrArg₂ (fun p q : EReal => p + q) rfl (Finset.sum_congr rfl fun j _ => ?_)
    unfold act
    rw [← e j]
    rfl

theorem pay3_apply (x0 : Vec Ideal S1x512x1024 .f32) (a : Fin 512) (e : Fin 1024) : k0_pay3 x0 (ix2 a e) = x0 (ix3 0 a e) := by
  unfold k0_pay3
  exact shapeCast_1ab_ab_apply _ _ a e

theorem vec_apply (x : Vec Ideal S1x1x1024 .f32) (a : Fin 512) (d : Fin 1024) :
    broadcastTo S512x1024 (shapeCast S1x1024 x shapeCasts_S1x1x1024_S1x1024) broadcasts_S1x1024_S512x1024 (ix2 a d) = x (ix3 0 0 d) :=
  (broadcastTo_1b_ab_apply _ _ a d).trans (shapeCast_1ab_ab_apply _ _ 0 d)

theorem pay4_apply (x0 : Vec Ideal S1x512x1024 .f32) (x1 : Vec Ideal S1x1024 .f32) (x2 x3 : Vec Ideal S1x1x1024 .f32) (a : Fin 512) (d : Fin 1024) :
    k0_pay4 x0 x1 x2 x3 (ix2 a d) = hRow (fun e => x0 (ix3 0 a e)) (fun e => x1 (ix2 0 e)) (fun e => x2 (ix3 0 0 e)) (fun e => x3 (ix3 0 0 e)) d := by
  have e : k0_pay4 x0 x1 x2 x3 = truncf .bf16 (addf (mulf (mulf (normed (k0_pay3 x0)) (broadcastTo S512x1024 x1 broadcasts_S1x1024_S512x1024))
      (broadcastTo S512x1024 (addf (broadcast S1x1024 (Scalar.ofBits .f32 0x3F800000#32)) (shapeCast S1x1024 x3 shapeCasts_S1x1x1024_S1x1024)) broadcasts_S1x1024_S512x1024))
      (broadcastTo S512x1024 (shapeCast S1x1024 x2 shapeCasts_S1x1x1024_S1x1024) broadcasts_S1x1024_S512x1024)) bitsLt_bf16_f32 := by
    unfold k0_pay4 normed
    simp only [shapeCast_self]
  rw [e, truncf_apply, addf_apply, mulf_apply, mulf_apply, vec_apply, normed_apply,
    show broadcastTo S512x1024 x1 broadcasts_S1x1024_S512x1024 (ix2 a d) = _ from broadcastTo_1b_ab_apply _ _ a d,
    show broadcastTo S512x1024 (addf _ _) broadcasts_S1x1024_S512x1024 (ix2 a d) = _ from broadcastTo_1b_ab_apply _ _ a d, addf_apply,
    show shapeCast S1x1024 x3 shapeCasts_S1x1x1024_S1x1024 (ix2 0 d) = _ from shapeCast_1ab_ab_apply _ _ 0 d]
  simp only [pay3_apply]
  rfl

theorem pay2_apply (v : FVec Ideal S512x1024 .f32) (x4 : Vec Ideal S1x1x1024 .f32) (acc : FVec Ideal S512x1024 .f32) (x7 : Vec Ideal S1x1024 .f32) (a : Fin 512) (d : Fin 1024) :
    k0_pay2 v x4 acc x7 (ix3 0 a d) = rms (fun e => v (ix2 a e) + x4 (ix3 0 0 e) * acc (ix2 a e)) d * x7 (ix2 0 d) := by
  have e : k0_pay2 v x4 acc x7 = shapeCast S1x512x1024 (mulf (normed (addf v (mulf (broadcastTo S512x1024 (shapeCast S1x1024 x4 shapeCasts_S1x1x1024_S1x1024) broadcasts_S1x1024_S512x1024) acc)))
      (broadcastTo S512x1024 x7 broadcasts_S1x1024_S512x1024)) shapeCasts_S512x1024_S1x512x1024 := by
    unfold k0_pay2 normed
    simp only [shapeCast_self]
  rw [e, show shapeCast S1x512x1024 _ shapeCasts_S512x1024_S1x512x1024 (ix3 0 a d) = _ from shapeCast_ab_1ab_apply _ _ 0 a d, mulf_apply, normed_apply,
    show broadcastTo S512x1024 x7 broadcasts_S1x1024_S512x1024 (ix2 a d) = _ from broadcastTo_1b_ab_apply _ _ a d]
  refine congrArg (fun g => rms g d * x7 (ix2 0 d)) (funext fun e => ?_)
  rw [addf_apply, mulf_apply, vec_apply]

/-- The block of results at row `a`, feature `d`: the sublayer of that row. -/
theorem mlpModel_apply (x0 : Vec Ideal S1x512x1024 .f32) (x1 : Vec Ideal S1x1024 .f32) (x2 x3 x4 : Vec Ideal S1x1x1024 .f32) (x5 : Vec Ideal S1024x4096 .bf16)
    (x6 : Vec Ideal S4096x1024 .bf16) (x7 : Vec Ideal S1x1024 .f32) (a : Fin 512) (d : Fin 1024) :
    mlpModel x0 x1 x2 x3 x4 x5 x6 x7 (ix3 0 a d) = outRow (fun e => x0 (ix3 0 a e)) (fun e => x1 (ix2 0 e)) (fun e => x2 (ix3 0 0 e)) (fun e => x3 (ix3 0 0 e))
      (fun e => x4 (ix3 0 0 e)) (fun e => x7 (ix2 0 e)) (fun e f => x5 (ix2 e f)) (fun f e => x6 (ix2 f e)) d := by
  unfold mlpModel outRow
  rw [pay2_apply]
  refine congrArg (fun g => rms g d * x7 (ix2 0 d)) (funext fun e => ?_)
  rw [pay3_apply, accN_apply _ _ _ _ _ 8 le_rfl]
  unfold residRow ffRow
  rw [← sum_units]
  simp only [pay4_apply]
  rfl

end Cert.Mlp

end
-- ==== Proof.Mlp.Arr.lean ====
/-
  The feed-forward call's result array from the blocks its grid points leave.
-/
module

public import proofs.«01_k».proof.Proof.Mlp.Val
public import proofs.«01_k».proof.Proof.Gen.Kernel2Ideal.Value
public import Idealize.ShloMosaic.Lib.Pipeline.ValueKit
public import Idealize.ShloMosaic.Lib.StableHlo.Run

@[expose] public section

set_option maxRecDepth 16384

noncomputable section

namespace Cert.Mlp

open Cert.Kernel2Ideal Cert.Kernel2Ideal.Gen
open Idealize.ShloMosaic hiding ix1 ix2 ix3 ix4
open Idealize.ShloMosaic.TcCoe
open Idealize.ShloMosaic.ValueIdx
open Idealize.ShloMosaic.Pipeline (Dat Window)

/-- The call's arguments as device `c` holds them at the launch, and the result from them. -/
def arrOf (x : S4x8192x1024.Idx → EReal) (gain : S1024.Idx → EReal) (shift scale gate : S4x1024.Idx → EReal) (wu : S1024x4096.Idx → EReal)
    (wd : S4096x1024.Idx → EReal) (fin : S1024.Idx → EReal) : S4x8192x1024.Idx → EReal := fun y =>
  outRow (fun e => x (ix3 (y 0) (y 1) e)) (fun e => gain (ix1 e)) (fun e => shift (ix2 (y 0) e)) (fun e => scale (ix2 (y 0) e))
    (fun e => gate (ix2 (y 0) e)) (fun e => fin (ix1 e)) (fun e f => wu (ix2 e f)) (fun f e => wd (ix2 f e)) (y 2)

variable (m : (ℓ : Loc nD τ sig) → Buf (Elt Ideal) ℓ) (c : Dev nD)

theorem V_v0 : V m c main_v0 = shapeCast S1x1024 (m ((c.tc : Thread nD τ).loc main_arg1)) shapeCasts_S1024_S1x1024 := by
  unfold V hostOps0
  after_results_simp
  rfl
theorem V_v1 : V m c main_v1 = shapeCast S4x1x1024 (m ((c.tc : Thread nD τ).loc main_arg2)) shapeCasts_S4x1024_S4x1x1024 := by
  unfold V hostOps0
  after_results_simp
  rfl
theorem V_v2 : V m c main_v2 = shapeCast S4x1x1024 (m ((c.tc : Thread nD τ).loc main_arg3)) shapeCasts_S4x1024_S4x1x1024 := by
  unfold V hostOps0
  after_results_simp
  rfl
theorem V_v3 : V m c main_v3 = shapeCast S4x1x1024 (m ((c.tc : Thread nD τ).loc main_arg4)) shapeCasts_S4x1024_S4x1x1024 := by
  unfold V hostOps0
  after_results_simp
  rfl
theorem V_v4 : V m c main_v4 = m ((c.tc : Thread nD τ).loc main_arg5) := by
  unfold V hostOps0
  after_results_simp
  rfl
theorem V_v5 : V m c main_v5 = m ((c.tc : Thread nD τ).loc main_arg6) := by
  unfold V hostOps0
  after_results_simp
  rfl
theorem V_v6 : V m c main_v6 = shapeCast S1x1024 (m ((c.tc : Thread nD τ).loc main_arg7)) shapeCasts_S1024_S1x1024 := by
  unfold V hostOps0
  after_results_simp
  rfl

theorem mid_cast (x : S4x1024.Idx → EReal) (b : Fin 4) (d : Fin 1024) : shapeCast S4x1x1024 x shapeCasts_S4x1024_S4x1x1024 (ix3 b 0 d) = x (ix2 b d) :=
  shapeCast_apply x shapeCasts_S4x1024_S4x1x1024 _ _ (by
    rw [Shape.rowMajor_val_three, Shape.rowMajor_val_two]
    show b.val * 1024 + d.val = (b.val * 1 + 0) * 1024 + d.val
    omega)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(grid0.coords t 0).val, (grid0.coords t 1).val, 0] := (by decide +kernel : ∀ t : Fin grid0.N, _)

section
variable (t : Fin cfg0.N)

/-- The batch and the row block of a point. -/
abbrev pb : Fin 4 := grid0.coords t 0
abbrev ps : Fin 16 := grid0.coords t 1

/-- Row `a` of row block `s`. -/
def row (s : Fin 16) (a : Fin 512) : Fin 8192 := ⟨s.val * 512 + a.val, by omega⟩

theorem blk_0 (a : Fin 512) (e : Fin 1024) : iblk m c 0 t (ix3 0 a e) = m ((c.tc : Thread nD τ).loc main_arg0) (ix3 (pb t) (row (ps t) a) e) := by
  have E : (win0_0.blk t).view.emb (ix3 0 a e) = ix3 (pb t) (row (ps t) a) e := by blk_ext [idx0, row]
  blk_simp [iblk]
  rw [E, V_main_arg0]
theorem blk_1 (e : Fin 1024) : iblk m c 1 t (ix2 0 e) = m ((c.tc : Thread nD τ).loc main_arg1) (ix1 e) := by
  have E : (win0_1.blk t).view.emb (ix2 0 e) = ix2 0 e := by blk_ext [idx1]
  blk_simp [iblk]
  rw [E, V_v0]
  exact shapeCast_a_1a_apply _ _ 0 e
theorem blk_2 (e : Fin 1024) : iblk m c 2 t (ix3 0 0 e) = m ((c.tc : Thread nD τ).loc main_arg2) (ix2 (pb t) e) := by
  have E : (win0_2.blk t).view.emb (ix3 0 0 e) = ix3 (pb t) 0 e := by blk_ext [idx2]
  blk_simp [iblk]
  rw [E, V_v1]
  exact mid_cast _ _ e
theorem blk_3 (e : Fin 1024) : iblk m c 3 t (ix3 0 0 e) = m ((c.tc : Thread nD τ).loc main_arg3) (ix2 (pb t) e) := by
  have E : (win0_3.blk t).view.emb (ix3 0 0 e) = ix3 (pb t) 0 e := by blk_ext [idx3]
  blk_simp [iblk]
  rw [E, V_v2]
  exact mid_cast _ _ e
theorem blk_4 (e : Fin 1024) : iblk m c 4 t (ix3 0 0 e) = m ((c.tc : Thread nD τ).loc main_arg4) (ix2 (pb t) e) := by
  have E : (win0_4.blk t).view.emb (ix3 0 0 e) = ix3 (pb t) 0 e := by blk_ext [idx4]
  blk_simp [iblk]
  rw [E, V_v3]
  exact mid_cast _ _ e
theorem blk_5 (e : Fin 1024) (f : Fin 4096) : iblk m c 5 t (ix2 e f) = m ((c.tc : Thread nD τ).loc main_arg5) (ix2 e f) := by
  have E : (win0_5.blk t).view.emb (ix2 e f) = ix2 e f := by blk_ext [idx5]
  blk_simp [iblk]
  rw [E, V_v4]
theorem blk_6 (f : Fin 4096) (e : Fin 1024) : iblk m c 6 t (ix2 f e) = m ((c.tc : Thread nD τ).loc main_arg6) (ix2 f e) := by
  have E : (win0_6.blk t).view.emb (ix2 f e) = ix2 f e := by blk_ext [idx6]
  blk_simp [iblk]
  rw [E, V_v5]
theorem blk_7 (e : Fin 1024) : iblk m c 7 t (ix2 0 e) = m ((c.tc : Thread nD τ).loc main_arg7) (ix1 e) := by
  have E : (win0_7.blk t).view.emb (ix2 0 e) = ix2 0 e := by blk_ext [idx7]
  blk_simp [iblk]
  rw [E, V_v6]
  exact shapeCast_a_1a_apply _ _ 0 e

end

/-- The result array from the launch's arguments. -/
def mlpArr : S4x8192x1024.Idx → EReal :=
  arrOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem mlp_arr : (dats m 0 c).arrAt 8 cfg0.N = mlpArr m c := by
  refine (dats m 0 c).arrAt_eq_of_covers 8 _ (by decide +kernel) fun t hf y => ?_
  have E : (win0_8.blk t).view.emb y = ix3 (pb t) (row (ps t) (y 1)) (y 2) := by blk_ext [idx8, row]
  have hy : y = ix3 (0 : Fin 1) (y 1 : Fin 512) (y 2 : Fin 1024) := by
    funext a
    fin_cases a
    · exact Subsingleton.elim (α := Fin 1) _ _
    · rfl
    · rfl
  have ha : (dats m 0 c).after 8 t = mlpModel (iblk m c 0 t) (iblk m c 1 t) (iblk m c 2 t) (iblk m c 3 t) (iblk m c 4 t) (iblk m c 5 t) (iblk m c 6 t) (iblk m c 7 t) := by
    rw [after0_8]
    unfold outsAt0
    exact out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _) scM0_1 (Memref.isWhole_whole _) _ _ _ _ _ _ _ _
  blk_simp
  rw [ha, E]
  refine (congrArg _ hy).trans ((mlpModel_apply _ _ _ _ _ _ _ _ (y 1) (y 2)).trans ?_)
  have h0 : ∀ e : Fin 1024, iblk m c 0 t (ix3 0 (y 1) e) = m ((c.tc : Thread nD τ).loc main_arg0) (ix3 (pb t) (row (ps t) (y 1)) e) := fun e => blk_0 m c t (y 1) e
  simp only [h0, blk_1, blk_2, blk_3, blk_4, blk_5, blk_6, blk_7]
  rfl

end Cert.Mlp

end
-- ==== Proof.Mlp.FirstRun.lean ====
/-
  The feed-forward body's run without the final norm: the block it leaves is the last payload over the accumulator after eight chunks.
-/
module

public import proofs.«01_k».proof.Proof.Mlp.Val
public import proofs.«01_k».proof.Proof.Gen.Kernel3Ideal.Frame
public import Idealize.ShloMosaic.Lib.Pipeline.Value
public import Idealize.ShloMosaic.Lib.WholeRead
public import Idealize.ShloMosaic.Lib.VecWindow
public import Idealize.ShloMosaic.Lib.ValueIdx

@[expose] public section

set_option maxRecDepth 16384

noncomputable section

namespace Cert.Mlp3

open Cert.Kernel3Ideal Cert.Kernel3Ideal.Gen
open Cert.Mlp (upTile dnTile accN hz2 hz3)
open Idealize.ShloMosaic Idealize.ShloMosaic.TcCoe Idealize.ShloMosaic.Tactic
open Idealize.ShloMosaic.ValueIdx (ix1 ix2 ix3 ix4)

variable {F : FTy → Type} [FloatOps F]

theorem off1_eq : ∀ k : Fin k0_t1_loop.trips, k0_off1 k = ![0, k.val * 512] := by decide +kernel
theorem off2_eq : ∀ k : Fin k0_t1_loop.trips, k0_off2 k = ![k.val * 512, 0] := by decide +kernel
theorem trips_eq : k0_t1_loop.trips = 8 := by decide +kernel

theorem read_up (m : Memref sig .tc .vmem S1024x4096 .bf16) (hm : m.IsWhole) (x : Vec F S1024x4096 .bf16) (off : Fin 2 → ℕ)
    (inb : ∀ a, off a + S1024x512.size a ≤ S1024x4096.size a) (n : ℕ) (hn : n < 8) (hoff : off = ![0, n * 512]) :
    View.readAt (Elt F) m.view (Rect.unit (s := S1024x4096) off S1024x512.size inb).toLoadRect (hm.unread x) = upTile x n := by
  subst hoff
  funext y
  rw [hm.readAt_unread]
  unfold upTile
  congr 1
  funext a
  match a with
  | ⟨0, _⟩ => refine Fin.ext ?_; show 0 + 1 * (y 0).val = (y 0).val; omega
  | ⟨1, _⟩ => refine Fin.ext ?_; show n * 512 + 1 * (y 1).val = n % 8 * 512 + (y 1).val; rw [Nat.mod_eq_of_lt hn]; omega

theorem read_dn (m : Memref sig .tc .vmem S4096x1024 .bf16) (hm : m.IsWhole) (x : Vec F S4096x1024 .bf16) (off : Fin 2 → ℕ)
    (inb : ∀ a, off a + S512x1024.size a ≤ S4096x1024.size a) (n : ℕ) (hn : n < 8) (hoff : off = ![n * 512, 0]) :
    View.readAt (Elt F) m.view (Rect.unit (s := S4096x1024) off S512x1024.size inb).toLoadRect (hm.unread x) = dnTile x n := by
  subst hoff
  funext y
  rw [hm.readAt_unread]
  unfold dnTile
  congr 1
  funext a
  match a with
  | ⟨0, _⟩ => refine Fin.ext ?_; show n * 512 + 1 * (y 0).val = n % 8 * 512 + (y 0).val; rw [Nat.mod_eq_of_lt hn]; omega
  | ⟨1, _⟩ => refine Fin.ext ?_; show 0 + 1 * (y 1).val = (y 1).val; omega

section
variable (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole)
    (arg5 : Memref sig .tc .vmem S1x1x1024 .f32) (harg5 : arg5.IsWhole) (arg6 : Memref sig .tc .vmem S1x1x1024 .f32) (harg6 : arg6.IsWhole) (arg7 : Memref sig .tc .vmem S1024x4096 .bf16) (harg7 : arg7.IsWhole)
    (arg8 : Memref sig .tc .vmem S4096x1024 .bf16) (harg8 : arg8.IsWhole) (arg9 : Memref sig .tc .vmem S1x1024 .f32) (harg9 : arg9.IsWhole) (arg10 : Memref sig .tc .vmem S1x512x1024 .f32) (harg10 : arg10.IsWhole)
    (arg11 : Memref sig .tc .vmem S512x1024 .bf16) (harg11 : arg11.IsWhole) (arg12 : Memref sig .tc .vmem S512x1024 .f32) (harg12 : arg12.IsWhole)

/-- The accumulator's buffer before trip `k` holds the model's accumulator. -/
theorem acc_eq (h : FVec F S512x1024 .bf16) (x5 : Vec F S1024x4096 .bf16) (x6 : Vec F S4096x1024 .bf16) (X : arg11.view.ty.Contents (Elt F))
    (G : arg12.view.ty.Contents (Elt F)) (hX : arg11.view.read (Elt F) X = h) (hG : arg12.view.read (Elt F) G = k0_pay5) (k : ℕ) (hk : k ≤ 8) :
    arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 (harg7.unread x5) (harg8.unread x6) X G k))
      = accN h x5 x6 k := by
  induction k with
  | zero => exact hG
  | succ k ih =>
    have hk' : k < k0_t1_loop.trips := trips_eq ▸ hk
    have e := pb_k0_t1_succ (F := F) 𝒱 c bd i arg2 harg2 arg3 harg3 arg4 harg4 arg5 harg5 arg6 harg6 arg7 harg7 arg8 harg8 arg9 harg9 arg10 harg10 arg11 harg11 arg12 harg12 (harg7.unread x5) (harg8.unread x6) X G ⟨k, hk'⟩
    dsimp only at e
    rw [e]
    unfold tripL_k0_t1 trip_k0_t1
    dsimp only
    refine (View.read_writes_full arg12.view _ _ _ _).trans ?_
    rw [read_up _ _ _ _ _ k hk (off1_eq ⟨k, hk'⟩), read_dn _ _ _ _ _ k hk (off2_eq ⟨k, hk'⟩)]
    simp only [View.readAt_eq_ld, View.ld_unit_zero (S := S512x1024) hz2]
    rw [hX, ih (Nat.le_of_succ_le hk)]
    rfl
end

/-- The block of results as the body's payloads make it. -/
def mlpModel (x0 : Vec F S1x512x1024 .f32) (x1 : Vec F S1x1024 .f32) (x2 x3 x4 : Vec F S1x1x1024 .f32) (x5 : Vec F S1024x4096 .bf16)
    (x6 : Vec F S4096x1024 .bf16) : FVec F S1x512x1024 .f32 :=
  k0_pay2 (k0_pay3 x0) x4 (accN (k0_pay4 x0 x1 x2 x3) x5 x6 8)

theorem out_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole)
    (arg5 : Memref sig .tc .vmem S1x1x1024 .f32) (harg5 : arg5.IsWhole) (arg6 : Memref sig .tc .vmem S1x1x1024 .f32) (harg6 : arg6.IsWhole) (arg7 : Memref sig .tc .vmem S1024x4096 .bf16) (harg7 : arg7.IsWhole)
    (arg8 : Memref sig .tc .vmem S4096x1024 .bf16) (harg8 : arg8.IsWhole) (arg9 : Memref sig .tc .vmem S1x1024 .f32) (harg9 : arg9.IsWhole) (arg10 : Memref sig .tc .vmem S1x512x1024 .f32) (harg10 : arg10.IsWhole)
    (arg11 : Memref sig .tc .vmem S512x1024 .bf16) (harg11 : arg11.IsWhole) (arg12 : Memref sig .tc .vmem S512x1024 .f32) (harg12 : arg12.IsWhole)
    (x0 : Vec F S1x512x1024 .f32) (x1 : Vec F S1x1024 .f32) (x2 x3 x4 : Vec F S1x1x1024 .f32) (x5 : Vec F S1024x4096 .bf16)
    (x6 : Vec F S4096x1024 .bf16) (x7 : Vec F S1x1024 .f32) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 = mlpModel x0 x1 x2 x3 x4 x5 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x512x1024) hz3, View.ld_unit_zero (S := S1x1024) hz2, View.ld_unit_zero (S := S1x1x1024) hz3]
  unfold mlpModel
  congr 1
  unfold View.readCov
  rw [View.writes_append, View.readAt_eq_ld, View.ld_unit_zero (S := S512x1024) hz2]
  exact acc_eq Variants.none c none i arg2 harg2 arg3 harg3 arg4 harg4 arg5 harg5 arg6 harg6 arg7 harg7 arg8 harg8 arg9 harg9 arg10 harg10 arg11 harg11 arg12 harg12 _ x5 x6 _ _ (View.read_writes_full arg11.view _ _ _ []) (View.read_writes_full arg12.view _ _ _ []) 8 le_rfl

end Cert.Mlp3

end
-- ==== Proof.Mlp.FirstArr.lean ====
/-
  The first feed-forward call's result array from the blocks its grid points leave.
-/
module

public import proofs.«01_k».proof.Proof.Mlp.Arr
public import proofs.«01_k».proof.Proof.Mlp.FirstRun
public import proofs.«01_k».proof.Proof.Gen.Kernel3Ideal.Value
public import Idealize.ShloMosaic.Lib.Pipeline.ValueKit
public import Idealize.ShloMosaic.Lib.StableHlo.Run

@[expose] public section

set_option maxRecDepth 16384

noncomputable section

namespace Cert.Mlp3

open Cert.Kernel3Ideal Cert.Kernel3Ideal.Gen
open Cert.Mlp (hRow ffRow residRow act sum_units accN accN_apply pay3_apply pay4_apply vec_apply mid_cast row)
open Idealize.ShloMosaic hiding ix1 ix2 ix3 ix4
open Idealize.ShloMosaic.TcCoe
open Idealize.ShloMosaic.ValueIdx
open Idealize.ShloMosaic.Pipeline (Dat Window)

/-- The call's result from its arguments. -/
def arrOf (x : S4x8192x1024.Idx → EReal) (gain : S1024.Idx → EReal) (shift scale gate : S4x1024.Idx → EReal) (wu : S1024x4096.Idx → EReal)
    (wd : S4096x1024.Idx → EReal) : S4x8192x1024.Idx → EReal := fun y =>
  residRow (fun e => x (ix3 (y 0) (y 1) e)) (fun e => gain (ix1 e)) (fun e => shift (ix2 (y 0) e)) (fun e => scale (ix2 (y 0) e))
    (fun e => gate (ix2 (y 0) e)) (fun e f => wu (ix2 e f)) (fun f e => wd (ix2 f e)) (y 2)

/-- The block of results at row `a`, feature `d`: the sublayer of that row. -/
theorem mlpModel_apply (x0 : Vec Ideal S1x512x1024 .f32) (x1 : Vec Ideal S1x1024 .f32) (x2 x3 x4 : Vec Ideal S1x1x1024 .f32) (x5 : Vec Ideal S1024x4096 .bf16)
    (x6 : Vec Ideal S4096x1024 .bf16) (a : Fin 512) (d : Fin 1024) :
    mlpModel x0 x1 x2 x3 x4 x5 x6 (ix3 0 a d) = residRow (fun e => x0 (ix3 0 a e)) (fun e => x1 (ix2 0 e)) (fun e => x2 (ix3 0 0 e)) (fun e => x3 (ix3 0 0 e))
      (fun e => x4 (ix3 0 0 e)) (fun e f => x5 (ix2 e f)) (fun f e => x6 (ix2 f e)) d := by
  unfold mlpModel k0_pay2
  rw [show shapeCast S1x512x1024 _ shapeCasts_S512x1024_S1x512x1024 (ix3 0 a d) = _ from shapeCast_ab_1ab_apply _ _ 0 a d, addf_apply, mulf_apply]
  unfold residRow ffRow
  rw [← sum_units]
  refine congrArg₂ (fun p q : EReal => p + q) (pay3_apply x0 a d) (congrArg₂ (fun p q : EReal => p * q) (vec_apply x4 a d) ?_)
  refine (accN_apply _ _ _ _ _ 8 le_rfl).trans ?_
  rw [show (fun e => k0_pay4 x0 x1 x2 x3 (ix2 a e)) = _ from funext fun e => pay4_apply x0 x1 x2 x3 a e]
  rfl

variable (m : (ℓ : Loc nD τ sig) → Buf (Elt Ideal) ℓ) (c : Dev nD)

theorem V_v0 : V m c main_v0 = shapeCast S1x1024 (m ((c.tc : Thread nD τ).loc main_arg1)) shapeCasts_S1024_S1x1024 := by
  unfold V hostOps0
  after_results_simp
  rfl
theorem V_v1 : V m c main_v1 = shapeCast S4x1x1024 (m ((c.tc : Thread nD τ).loc main_arg2)) shapeCasts_S4x1024_S4x1x1024 := by
  unfold V hostOps0
  after_results_simp
  rfl
theorem V_v2 : V m c main_v2 = shapeCast S4x1x1024 (m ((c.tc : Thread nD τ).loc main_arg3)) shapeCasts_S4x1024_S4x1x1024 := by
  unfold V hostOps0
  after_results_simp
  rfl
theorem V_v3 : V m c main_v3 = shapeCast S4x1x1024 (m ((c.tc : Thread nD τ).loc main_arg4)) shapeCasts_S4x1024_S4x1x1024 := by
  unfold V hostOps0
  after_results_simp
  rfl
theorem V_v4 : V m c main_v4 = m ((c.tc : Thread nD τ).loc main_arg5) := by
  unfold V hostOps0
  after_results_simp
  rfl
theorem V_v5 : V m c main_v5 = m ((c.tc : Thread nD τ).loc main_arg6) := by
  unfold V hostOps0
  after_results_simp
  rfl
theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![(grid0.coords t 0).val, (grid0.coords t 1).val, 0] := (by decide +kernel : ∀ t : Fin grid0.N, _)

section
variable (t : Fin cfg0.N)

/-- The batch and the row block of a point. -/
abbrev pb : Fin 4 := grid0.coords t 0
abbrev ps : Fin 16 := grid0.coords t 1

theorem blk_0 (a : Fin 512) (e : Fin 1024) : iblk m c 0 t (ix3 0 a e) = m ((c.tc : Thread nD τ).loc main_arg0) (ix3 (pb t) (row (ps t) a) e) := by
  have E : (win0_0.blk t).view.emb (ix3 0 a e) = ix3 (pb t) (row (ps t) a) e := by blk_ext [idx0, row]
  blk_simp [iblk]
  rw [E, V_main_arg0]
theorem blk_1 (e : Fin 1024) : iblk m c 1 t (ix2 0 e) = m ((c.tc : Thread nD τ).loc main_arg1) (ix1 e) := by
  have E : (win0_1.blk t).view.emb (ix2 0 e) = ix2 0 e := by blk_ext [idx1]
  blk_simp [iblk]
  rw [E, V_v0]
  exact shapeCast_a_1a_apply _ _ 0 e
theorem blk_2 (e : Fin 1024) : iblk m c 2 t (ix3 0 0 e) = m ((c.tc : Thread nD τ).loc main_arg2) (ix2 (pb t) e) := by
  have E : (win0_2.blk t).view.emb (ix3 0 0 e) = ix3 (pb t) 0 e := by blk_ext [idx2]
  blk_simp [iblk]
  rw [E, V_v1]
  exact mid_cast _ _ e
theorem blk_3 (e : Fin 1024) : iblk m c 3 t (ix3 0 0 e) = m ((c.tc : Thread nD τ).loc main_arg3) (ix2 (pb t) e) := by
  have E : (win0_3.blk t).view.emb (ix3 0 0 e) = ix3 (pb t) 0 e := by blk_ext [idx3]
  blk_simp [iblk]
  rw [E, V_v2]
  exact mid_cast _ _ e
theorem blk_4 (e : Fin 1024) : iblk m c 4 t (ix3 0 0 e) = m ((c.tc : Thread nD τ).loc main_arg4) (ix2 (pb t) e) := by
  have E : (win0_4.blk t).view.emb (ix3 0 0 e) = ix3 (pb t) 0 e := by blk_ext [idx4]
  blk_simp [iblk]
  rw [E, V_v3]
  exact mid_cast _ _ e
theorem blk_5 (e : Fin 1024) (f : Fin 4096) : iblk m c 5 t (ix2 e f) = m ((c.tc : Thread nD τ).loc main_arg5) (ix2 e f) := by
  have E : (win0_5.blk t).view.emb (ix2 e f) = ix2 e f := by blk_ext [idx5]
  blk_simp [iblk]
  rw [E, V_v4]
theorem blk_6 (f : Fin 4096) (e : Fin 1024) : iblk m c 6 t (ix2 f e) = m ((c.tc : Thread nD τ).loc main_arg6) (ix2 f e) := by
  have E : (win0_6.blk t).view.emb (ix2 f e) = ix2 f e := by blk_ext [idx6]
  blk_simp [iblk]
  rw [E, V_v5]

end

/-- The result array from the launch's arguments. -/
def mlpArr : S4x8192x1024.Idx → EReal :=
  arrOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem mlp_arr : (dats m 0 c).arrAt 8 cfg0.N = mlpArr m c := by
  refine (dats m 0 c).arrAt_eq_of_covers 8 _ (by decide +kernel) fun t hf y => ?_
  have E : (win0_8.blk t).view.emb y = ix3 (pb t) (row (ps t) (y 1)) (y 2) := by blk_ext [idx8, row]
  have hy : y = ix3 (0 : Fin 1) (y 1 : Fin 512) (y 2 : Fin 1024) := by
    funext a
    fin_cases a
    · exact Subsingleton.elim (α := Fin 1) _ _
    · rfl
    · rfl
  have ha : (dats m 0 c).after 8 t = mlpModel (iblk m c 0 t) (iblk m c 1 t) (iblk m c 2 t) (iblk m c 3 t) (iblk m c 4 t) (iblk m c 5 t) (iblk m c 6 t) := by
    rw [after0_8]
    unfold outsAt0
    exact out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _) scM0_1 (Memref.isWhole_whole _) _ _ _ _ _ _ _ _
  blk_simp
  rw [ha, E]
  refine (congrArg _ hy).trans ((mlpModel_apply _ _ _ _ _ _ _ (y 1) (y 2)).trans ?_)
  have h0 : ∀ e : Fin 1024, iblk m c 0 t (ix3 0 (y 1) e) = m ((c.tc : Thread nD τ).loc main_arg0) (ix3 (pb t) (row (ps t) (y 1)) e) := fun e => blk_0 m c t (y 1) e
  simp only [h0, blk_1, blk_2, blk_3, blk_4, blk_5, blk_6]
  rfl

end Cert.Mlp3

end
-- ==== Proof.Val.RefOps.lean ====
/-
  The reference program as a list of host operations.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v85`, named. It packs its operands into a list of dependent pairs
    whose shapes a later argument's type mentions, so `simp` cannot rewrite an operand where it stands; applied by
    name, the operands are plain arguments, which the window lemmas below rewrite before the name unfolds. -/
def fn_main_v85 : (main_v82 : Ref sig .tc).ty.Contents (Elt F) → (main_v83 : Ref sig .tc).ty.Contents (Elt F) → (main_v84 : Ref sig .tc).ty.Contents (Elt F) → (main_v85 : Ref sig .tc).ty.Contents (Elt F) :=
  (fun u0 u1 u2 => (concatenate S4x16x32x256x3x3 5 [⟨S4x16x32x256x3x1, (u0 : (⟨S4x16x32x256x3x1, .i32⟩ : BufTy).Contents (Elt F))⟩, ⟨S4x16x32x256x3x1, (u1 : (⟨S4x16x32x256x3x1, .i32⟩ : BufTy).Contents (Elt F))⟩, ⟨S4x16x32x256x3x1, (u2 : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F)))

/-- The function of the operation that writes `main_v107`, named. It packs its operands into a list of dependent pairs
    whose shapes a later argument's type mentions, so `simp` cannot rewrite an operand where it stands; applied by
    name, the operands are plain arguments, which the window lemmas below rewrite before the name unfolds. -/
def fn_main_v107 : (main_v104 : Ref sig .tc).ty.Contents (Elt F) → (main_v105 : Ref sig .tc).ty.Contents (Elt F) → (main_v106 : Ref sig .tc).ty.Contents (Elt F) → (main_v107 : Ref sig .tc).ty.Contents (Elt F) :=
  (fun u0 u1 u2 => (concatenate S4x16x32x256x3x3 5 [⟨S4x16x32x256x3x1, (u0 : (⟨S4x16x32x256x3x1, .i32⟩ : BufTy).Contents (Elt F))⟩, ⟨S4x16x32x256x3x1, (u1 : (⟨S4x16x32x256x3x1, .i32⟩ : BufTy).Contents (Elt F))⟩, ⟨S4x16x32x256x3x1, (u2 : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F)))

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (⟨S4x16x32x256x3x256x1, .i32⟩ : BufTy).Contents (Elt F) → (⟨S4x16x32x256x3x256x1, .i32⟩ : BufTy).Contents (Elt F) → (⟨S4x16x32x256x3x256x2, .i32⟩ : BufTy).Contents (Elt F) :=
  (fun a b => concatenate S4x16x32x256x3x256x2 6 [⟨S4x16x32x256x3x256x1, a⟩, ⟨S4x16x32x256x3x256x1, b⟩] concatenates_S4x16x32x256x3x256x1_S4x16x32x256x3x256x1_S4x16x32x256x3x256x2_d6)

/-- The function of the operation that writes `main_v172`, named. It packs its operands into a list of dependent pairs
    whose shapes a later argument's type mentions, so `simp` cannot rewrite an operand where it stands; applied by
    name, the operands are plain arguments, which the window lemmas below rewrite before the name unfolds. -/
def fn_main_v172 : (⟨S4x16x32x256x3x256, .f32⟩ : BufTy).Contents (Elt F) → (⟨S4x16x32x256x1x256, .f32⟩ : BufTy).Contents (Elt F) → (⟨S4x16x32x256x4x256, .f32⟩ : BufTy).Contents (Elt F) :=
  (fun a b => concatenate S4x16x32x256x4x256 4 [⟨S4x16x32x256x3x256, a⟩, ⟨S4x16x32x256x1x256, b⟩] concatenates_S4x16x32x256x3x256_S4x16x32x256x1x256_S4x16x32x256x4x256_d4)

/-- @main's operations 1 … 60 of 247 (window `main_part0`). -/
abbrev ops_part0 : List (HloOp τ sig (Elt F)) :=
  [ unary main_arg1 main_v0 ((extf .f32 · bitsLt_bf16_f32) : (⟨S4x8192x1024, .bf16⟩ : BufTy).Contents (Elt F) → (⟨S4x8192x1024, .f32⟩ : BufTy).Contents (Elt F)),
    reshape main_v0 main_v1 (rfl : (.f32 : EltTy) = .f32) shapeCasts_S4x8192x1024_S4x32x256x16x64,
    unary main_v1 main_v2 ((transpose S4x16x32x256x64 [0, 3, 1, 2, 4] · transposes_S4x32x256x16x64_S4x16x32x256x64_0_3_1_2_4) : (⟨S4x32x256x16x64, .f32⟩ : BufTy).Contents (Elt F) → (⟨S4x16x32x256x64, .f32⟩ : BufTy).Contents (Elt F)),
    unary main_arg2 main_v3 ((extf .f32 · bitsLt_bf16_f32) : (⟨S4x8192x1024, .bf16⟩ : BufTy).Contents (Elt F) → (⟨S4x8192x1024, .f32⟩ : BufTy).Contents (Elt F)),
    reshape main_v3 main_v4 (rfl : (.f32 : EltTy) = .f32) shapeCasts_S4x8192x1024_S4x32x256x16x64,
    unary main_v4 main_v5 ((transpose S4x16x32x256x64 [0, 3, 1, 2, 4] · transposes_S4x32x256x16x64_S4x16x32x256x64_0_3_1_2_4) : (⟨S4x32x256x16x64, .f32⟩ : BufTy).Contents (Elt F) → (⟨S4x16x32x256x64, .f32⟩ : BufTy).Contents (Elt F)),
    unary main_arg3 main_v6 ((extf .f32 · bitsLt_bf16_f32) : (⟨S4x1024x8192, .bf16⟩ : BufTy).Contents (Elt F) → (⟨S4x1024x8192, .f32⟩ : BufTy).Contents (Elt F)),
    reshape main_v6 main_v7 (rfl : (.f32 : EltTy) = .f32) shapeCasts_S4x1024x8192_S4x16x64x32x256,
    unary main_v7 main_v8 ((transpose S4x16x32x256x64 [0, 1, 3, 4, 2] · transposes_S4x16x64x32x256_S4x16x32x256x64_0_1_3_4_2) : (⟨S4x16x64x32x256, .f32⟩ : BufTy).Contents (Elt F) → (⟨S4x16x32x256x64, .f32⟩ : BufTy).Contents (Elt F)),
    reshape main_arg4 main_v9 (rfl : (.f32 : EltTy) = .f32) shapeCasts_S4x32x1024_S4x32x16x64,
    unary main_v9 main_v10 ((transpose S4x16x32x64 [0, 2, 1, 3] · transposes_S4x32x16x64_S4x16x32x64_0_2_1_3) : (⟨S4x32x16x64, .f32⟩ : BufTy).Contents (Elt F) → (⟨S4x16x32x64, .f32⟩ : BufTy).Contents (Elt F)),
    nullary main_v11 (iotaInDim S32 32 0),
    nullary main_v12 (iotaInDim S256 32 0),
    unary main_v12 main_v13 (broadcastInDim S256x1 ![0] bcast_S256_S256x1_0 : (⟨S256, .i32⟩ : BufTy).Contents (Elt F) → (⟨S256x1, .i32⟩ : BufTy).Contents (Elt F)),
    unary main_v12 main_v14 (broadcastInDim S1x256 ![1] bcast_S256_S1x256_1 : (⟨S256, .i32⟩ : BufTy).Contents (Elt F) → (⟨S1x256, .i32⟩ : BufTy).Contents (Elt F)),
    unary main_v13 main_v15 (broadcastInDim S256x256 ![0, 1] bcast_S256x1_S256x256_0_1 : (⟨S256x1, .i32⟩ : BufTy).Contents (Elt F) → (⟨S256x256, .i32⟩ : BufTy).Contents (Elt F)),
    unary main_v14 main_v16 (broadcastInDim S256x256 ![0, 1] bcast_S1x256_S256x256_0_1 : (⟨S1x256, .i32⟩ : BufTy).Contents (Elt F) → (⟨S256x256, .i32⟩ : BufTy).Contents (Elt F)),
    binary main_v15 main_v16 main_v17 (subi : (⟨S256x256, .i32⟩ : BufTy).Contents (Elt F) → (⟨S256x256, .i32⟩ : BufTy).Contents (Elt F) → (⟨S256x256, .i32⟩ : BufTy).Contents (Elt F)),
    nullary main_c (constantI S_ 32 0#32),
    unary main_c main_v18 (broadcastInDim S256x256 ![] bcast_S_S256x256 : (⟨S_, .i32⟩ : BufTy).Contents (Elt F) → (⟨S256x256, .i32⟩ : BufTy).Contents (Elt F)),
    binary main_v17 main_v18 main_v19 (maxsi : (⟨S256x256, .i32⟩ : BufTy).Contents (Elt F) → (⟨S256x256, .i32⟩ : BufTy).Contents (Elt F) → (⟨S256x256, .i32⟩ : BufTy).Contents (Elt F)),
    nullary main_c_0 (constantI S_ 32 1#32),
    unary main_c_0 main_v20 (broadcastInDim S256x256 ![] bcast_S_S256x256 : (⟨S_, .i32⟩ : BufTy).Contents (Elt F) → (⟨S256x256, .i32⟩ : BufTy).Contents (Elt F)),
    binary main_v19 main_v20 main_v21 (maxsi : (⟨S256x256, .i32⟩ : BufTy).Contents (Elt F) → (⟨S256x256, .i32⟩ : BufTy).Contents (Elt F) → (⟨S256x256, .i32⟩ : BufTy).Contents (Elt F)),
    unary main_v21 main_v22 (sitofp .f32 : (⟨S256x256, .i32⟩ : BufTy).Contents (Elt F) → (⟨S256x256, .f32⟩ : BufTy).Contents (Elt F)),
    nullary main_cst (constant S_ .f32 0x41800000#32),
    unary main_cst main_v23 (broadcastInDim S256x256 ![] bcast_S_S256x256 : (⟨S_, .f32⟩ : BufTy).Contents (Elt F) → (⟨S256x256, .f32⟩ : BufTy).Contents (Elt F)),
    binary main_v22 main_v23 main_v24 (Host.divf : (⟨S256x256, .f32⟩ : BufTy).Contents (Elt F) → (⟨S256x256, .f32⟩ : BufTy).Contents (Elt F) → (⟨S256x256, .f32⟩ : BufTy).Contents (Elt F)),
    unary main_v24 main_v25 (Host.log : (⟨S256x256, .f32⟩ : BufTy).Contents (Elt F) → (⟨S256x256, .f32⟩ : BufTy).Contents (Elt F)),
    nullary main_cst_1 (constant S_ .f32 0x40851592#32),
    unary main_cst_1 main_v26 (broadcastInDim S256x256 ![] bcast_S_S256x256 : (⟨S_, .f32⟩ : BufTy).Contents (Elt F) → (⟨S256x256, .f32⟩ : BufTy).Contents (Elt F)),
    binary main_v25 main_v26 main_v27 (Host.divf : (⟨S256x256, .f32⟩ : BufTy).Contents (Elt F) → (⟨S256x256, .f32⟩ : BufTy).Contents (Elt F) → (⟨S256x256, .f32⟩ : BufTy).Contents (Elt F)),
    nullary main_cst_2 (constant S_ .f32 0x41800000#32),
    unary main_cst_2 main_v28 (broadcastInDim S256x256 ![] bcast_S_S256x256 : (⟨S_, .f32⟩ : BufTy).Contents (Elt F) → (⟨S256x256, .f32⟩ : BufTy).Contents (Elt F)),
    binary main_v27 main_v28 main_v29 (mulf : (⟨S256x256, .f32⟩ : BufTy).Contents (Elt F) → (⟨S256x256, .f32⟩ : BufTy).Contents (Elt F) → (⟨S256x256, .f32⟩ : BufTy).Contents (Elt F)),
    unary main_v29 main_v30 (fptosi 32 : (⟨S256x256, .f32⟩ : BufTy).Contents (Elt F) → (⟨S256x256, .i32⟩ : BufTy).Contents (Elt F)),
    nullary main_c_3 (constantI S_ 32 16#32),
    unary main_c_3 main_v31 (broadcastInDim S256x256 ![] bcast_S_S256x256 : (⟨S_, .i32⟩ : BufTy).Contents (Elt F) → (⟨S256x256, .i32⟩ : BufTy).Contents (Elt F)),
    binary main_v31 main_v30 main_v32 (addi : (⟨S256x256, .i32⟩ : BufTy).Contents (Elt F) → (⟨S256x256, .i32⟩ : BufTy).Contents (Elt F) → (⟨S256x256, .i32⟩ : BufTy).Contents (Elt F)),
    nullary main_c_4 (constantI S_ 32 31#32),
    unary main_c_4 main_v33 (broadcastInDim S256x256 ![] bcast_S_S256x256 : (⟨S_, .i32⟩ : BufTy).Contents (Elt F) → (⟨S256x256, .i32⟩ : BufTy).Contents (Elt F)),
    binary main_v32 main_v33 main_v34 (minsi : (⟨S256x256, .i32⟩ : BufTy).Contents (Elt F) → (⟨S256x256, .i32⟩ : BufTy).Contents (Elt F) → (⟨S256x256, .i32⟩ : BufTy).Contents (Elt F)),
    nullary main_c_5 (constantI S_ 32 16#32),
    unary main_c_5 main_v35 (broadcastInDim S256x256 ![] bcast_S_S256x256 : (⟨S_, .i32⟩ : BufTy).Contents (Elt F) → (⟨S256x256, .i32⟩ : BufTy).Contents (Elt F)),
    binary main_v19 main_v35 main_v36 (cmpi .slt : (⟨S256x256, .i32⟩ : BufTy).Contents (Elt F) → (⟨S256x256, .i32⟩ : BufTy).Contents (Elt F) → (⟨S256x256, .i1⟩ : BufTy).Contents (Elt F)),
    TRef.ternary (TRef.of (T := ⟨S256x256, .i1⟩) main_v36) (TRef.of (T := ⟨S256x256, .i32⟩) main_v19) (TRef.of (T := ⟨S256x256, .i32⟩) main_v34) (TRef.of (T := ⟨S256x256, .i32⟩) main_v37) select,
    nullary main_c_6 (constantI S_ 32 0#32),
    unary main_c_6 main_v38 (broadcastInDim S256x256 ![] bcast_S_S256x256 : (⟨S_, .i32⟩ : BufTy).Contents (Elt F) → (⟨S256x256, .i32⟩ : BufTy).Contents (Elt F)),
    binary main_v37 main_v38 main_v39 (cmpi .slt : (⟨S256x256, .i32⟩ : BufTy).Contents (Elt F) → (⟨S256x256, .i32⟩ : BufTy).Contents (Elt F) → (⟨S256x256, .i1⟩ : BufTy).Contents (Elt F)),
    nullary main_c_7 (constantI S_ 32 32#32),
    unary main_c_7 main_v40 (broadcastInDim S256x256 ![] bcast_S_S256x256 : (⟨S_, .i32⟩ : BufTy).Contents (Elt F) → (⟨S256x256, .i32⟩ : BufTy).Contents (Elt F)),
    binary main_v37 main_v40 main_v41 (addi : (⟨S256x256, .i32⟩ : BufTy).Contents (Elt F) → (⟨S256x256, .i32⟩ : BufTy).Contents (Elt F) → (⟨S256x256, .i32⟩ : BufTy).Contents (Elt F)),
    ternary main_v39 main_v41 main_v37 main_v42 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)),
    unary main_v42 main_v43 (broadcastInDim S256x256x1 ![0, 1] bcast_S256x256_S256x256x1_0_1 : (⟨S256x256, .i32⟩ : BufTy).Contents (Elt F) → (⟨S256x256x1, .i32⟩ : BufTy).Contents (Elt F)),
    binary main_arg0 main_v43 main_v44 ((fun x i => Host.gather gather_S32x16_S256x256x1_S256x256x16_2_0_n_n_0_2_116 x i) : (⟨S32x16, .f32⟩ : BufTy).Contents (Elt F) → (⟨S256x256x1, .i32⟩ : BufTy).Contents (Elt F) → (⟨S256x256x16, .f32⟩ : BufTy).Contents (Elt F)),
    unary main_v44 main_v45 ((transpose S16x256x256 [2, 0, 1] · transposes_S256x256x16_S16x256x256_2_0_1) : (⟨S256x256x16, .f32⟩ : BufTy).Contents (Elt F) → (⟨S16x256x256, .f32⟩ : BufTy).Contents (Elt F)),
    binary main_v2 main_v5 main_v46 ((fun l r => Host.dotGeneral dot_S4x16x32x256x64_S4x16x32x256x64_S4x16x32x256x256_4_4_3_3_012_012 none l r) : (⟨S4x16x32x256x64, .f32⟩ : BufTy).Contents (Elt F) → (⟨S4x16x32x256x64, .f32⟩ : BufTy).Contents (Elt F) → (⟨S4x16x32x256x256, .f32⟩ : BufTy).Contents (Elt F)),
    unary main_v45 main_v47 (broadcastInDim S1x16x1x256x256 ![1, 3, 4] bcast_S16x256x256_S1x16x1x256x256_1_3_4 : (⟨S16x256x256, .f32⟩ : BufTy).Contents (Elt F) → (⟨S1x16x1x256x256, .f32⟩ : BufTy).Contents (Elt F)),
    unary main_v47 main_v48 (broadcastInDim S4x16x32x256x256 ![0, 1, 2, 3, 4] bcast_S1x16x1x256x256_S4x16x32x256x256_0_1_2_3_4 : (⟨S1x16x1x256x256, .f32⟩ : BufTy).Contents (Elt F) → (⟨S4x16x32x256x256, .f32⟩ : BufTy).Contents (Elt F)),
    binary main_v46 main_v48 main_v49 (addf : (⟨S4x16x32x256x256, .f32⟩ : BufTy).Contents (Elt F) → (⟨S4x16x32x256x256, .f32⟩ : BufTy).Contents (Elt F) → (⟨S4x16x32x256x256, .f32⟩ : BufTy).Contents (Elt F)) ]

/-- @main's operations 61 … 90 of 247 (window `main_part1`). -/
abbrev ops_part1_0 : List (HloOp τ sig (Elt F)) :=
  [ nullary main_c_8 (constantI S_ 32 0#32),
    unary main_c_8 main_v50 (broadcastInDim S256x256 ![] bcast_S_S256x256 : (⟨S_, .i32⟩ : BufTy).Contents (Elt F) → (⟨S256x256, .i32⟩ : BufTy).Contents (Elt F)),
    binary main_v17 main_v50 main_v51 (cmpi .sge : (⟨S256x256, .i32⟩ : BufTy).Contents (Elt F) → (⟨S256x256, .i32⟩ : BufTy).Contents (Elt F) → (⟨S256x256, .i1⟩ : BufTy).Contents (Elt F)),
    nullary main_cst_9 (constant S_ .f32 0xFF800000#32),
    TRef.unary (TRef.of (T := ⟨S_, .f32⟩) main_cst_9) (TRef.of (T := ⟨S_, .f32⟩) main_call1_v0) id,
    TRef.unary (TRef.of (T := ⟨S256x256, .i1⟩) main_v51) (TRef.of (T := ⟨S4x16x32x256x256, .i1⟩) main_call1_v1) (broadcastInDim S4x16x32x256x256 ![3, 4] bcast_S256x256_S4x16x32x256x256_3_4),
    TRef.unary (TRef.of (T := ⟨S_, .f32⟩) main_call1_v0) (TRef.of (T := ⟨S4x16x32x256x256, .f32⟩) main_call1_v2) (broadcastInDim S4x16x32x256x256 ![] bcast_S_S4x16x32x256x256),
    TRef.ternary (TRef.of (T := ⟨S4x16x32x256x256, .i1⟩) main_call1_v1) (TRef.of (T := ⟨S4x16x32x256x256, .f32⟩) main_v49) (TRef.of (T := ⟨S4x16x32x256x256, .f32⟩) main_call1_v2) (TRef.of (T := ⟨S4x16x32x256x256, .f32⟩) main_v52) select,
    binary main_v2 main_v10 main_v53 ((fun l r => Host.dotGeneral dot_S4x16x32x256x64_S4x16x32x64_S4x16x32x256x32_4_3_23_2_01_01 none l r) : (⟨S4x16x32x256x64, .f32⟩ : BufTy).Contents (Elt F) → (⟨S4x16x32x64, .f32⟩ : BufTy).Contents (Elt F) → (⟨S4x16x32x256x32, .f32⟩ : BufTy).Contents (Elt F)),
    unary main_v11 main_v54 (broadcastInDim S1x32 ![1] bcast_S32_S1x32_1 : (⟨S32, .i32⟩ : BufTy).Contents (Elt F) → (⟨S1x32, .i32⟩ : BufTy).Contents (Elt F)),
    unary main_v11 main_v55 (broadcastInDim S32x1 ![0] bcast_S32_S32x1_0 : (⟨S32, .i32⟩ : BufTy).Contents (Elt F) → (⟨S32x1, .i32⟩ : BufTy).Contents (Elt F)),
    unary main_v54 main_v56 (broadcastInDim S32x32 ![0, 1] bcast_S1x32_S32x32_0_1 : (⟨S1x32, .i32⟩ : BufTy).Contents (Elt F) → (⟨S32x32, .i32⟩ : BufTy).Contents (Elt F)),
    unary main_v55 main_v57 (broadcastInDim S32x32 ![0, 1] bcast_S32x1_S32x32_0_1 : (⟨S32x1, .i32⟩ : BufTy).Contents (Elt F) → (⟨S32x32, .i32⟩ : BufTy).Contents (Elt F)),
    binary main_v56 main_v57 main_v58 (cmpi .slt : (⟨S32x32, .i32⟩ : BufTy).Contents (Elt F) → (⟨S32x32, .i32⟩ : BufTy).Contents (Elt F) → (⟨S32x32, .i1⟩ : BufTy).Contents (Elt F)),
    unary main_v58 main_v59 (broadcastInDim S32x1x32 ![0, 2] bcast_S32x32_S32x1x32_0_2 : (⟨S32x32, .i1⟩ : BufTy).Contents (Elt F) → (⟨S32x1x32, .i1⟩ : BufTy).Contents (Elt F)),
    nullary main_cst_10 (constant S_ .f32 0xFF800000#32),
    TRef.unary (TRef.of (T := ⟨S_, .f32⟩) main_cst_10) (TRef.of (T := ⟨S_, .f32⟩) main_call2_v0) id,
    TRef.unary (TRef.of (T := ⟨S32x1x32, .i1⟩) main_v59) (TRef.of (T := ⟨S4x16x32x256x32, .i1⟩) main_call2_v1) (broadcastInDim S4x16x32x256x32 ![2, 3, 4] bcast_S32x1x32_S4x16x32x256x32_2_3_4),
    TRef.unary (TRef.of (T := ⟨S_, .f32⟩) main_call2_v0) (TRef.of (T := ⟨S4x16x32x256x32, .f32⟩) main_call2_v2) (broadcastInDim S4x16x32x256x32 ![] bcast_S_S4x16x32x256x32),
    TRef.ternary (TRef.of (T := ⟨S4x16x32x256x32, .i1⟩) main_call2_v1) (TRef.of (T := ⟨S4x16x32x256x32, .f32⟩) main_v53) (TRef.of (T := ⟨S4x16x32x256x32, .f32⟩) main_call2_v2) (TRef.of (T := ⟨S4x16x32x256x32, .f32⟩) main_v60) select,
    unary main_v60 main_values ((fun x => (Host.topK S4x16x32x256x3 4 (FloatOps.cmpfTotal .gt) x sliceFits_S4x16x32x256x32_S4x16x32x256x3).1) : (⟨S4x16x32x256x32, .f32⟩ : BufTy).Contents (Elt F) → (⟨S4x16x32x256x3, .f32⟩ : BufTy).Contents (Elt F)),
    unary main_v60 main_indices ((fun x => (Host.topK S4x16x32x256x3 4 (FloatOps.cmpfTotal .gt) x sliceFits_S4x16x32x256x32_S4x16x32x256x3).2) : (⟨S4x16x32x256x32, .f32⟩ : BufTy).Contents (Elt F) → (⟨S4x16x32x256x3, .i32⟩ : BufTy).Contents (Elt F)),
    nullary main_v61 (iotaInDim S4 32 0),
    unary main_v61 main_v62 (broadcastInDim S4x1x1x1x1 ![0] bcast_S4_S4x1x1x1x1_0 : (⟨S4, .i32⟩ : BufTy).Contents (Elt F) → (⟨S4x1x1x1x1, .i32⟩ : BufTy).Contents (Elt F)),
    nullary main_v63 (iotaInDim S16 32 0),
    unary main_v63 main_v64 (broadcastInDim S1x16x1x1x1 ![1] bcast_S16_S1x16x1x1x1_1 : (⟨S16, .i32⟩ : BufTy).Contents (Elt F) → (⟨S1x16x1x1x1, .i32⟩ : BufTy).Contents (Elt F)),
    nullary main_c_11 (constantI S_ 32 0#32),
    unary main_c_11 main_v65 (broadcastInDim S4x1x1x1x1 ![] bcast_S_S4x1x1x1x1 : (⟨S_, .i32⟩ : BufTy).Contents (Elt F) → (⟨S4x1x1x1x1, .i32⟩ : BufTy).Contents (Elt F)),
    binary main_v62 main_v65 main_v66 (cmpi .slt : (⟨S4x1x1x1x1, .i32⟩ : BufTy).Contents (Elt F) → (⟨S4x1x1x1x1, .i32⟩ : BufTy).Contents (Elt F) → (⟨S4x1x1x1x1, .i1⟩ : BufTy).Contents (Elt F)),
    nullary main_c_12 (constantI S_ 32 4#32) ]

/-- @main's operations 91 … 120 of 247 (window `main_part1`). -/
abbrev ops_part1_1 : List (HloOp τ sig (Elt F)) :=
  [ unary main_c_12 main_v67 (broadcastInDim S4x1x1x1x1 ![] bcast_S_S4x1x1x1x1 : (⟨S_, .i32⟩ : BufTy).Contents (Elt F) → (⟨S4x1x1x1x1, .i32⟩ : BufTy).Contents (Elt F)),
    binary main_v62 main_v67 main_v68 (addi : (⟨S4x1x1x1x1, .i32⟩ : BufTy).Contents (Elt F) → (⟨S4x1x1x1x1, .i32⟩ : BufTy).Contents (Elt F) → (⟨S4x1x1x1x1, .i32⟩ : BufTy).Contents (Elt F)),
    ternary main_v66 main_v68 main_v62 main_v69 (select : (⟨S4x1x1x1x1, .i1⟩ : BufTy).Contents (Elt F) → (⟨S4x1x1x1x1, .i32⟩ : BufTy).Contents (Elt F) → (⟨S4x1x1x1x1, .i32⟩ : BufTy).Contents (Elt F) → (⟨S4x1x1x1x1, .i32⟩ : BufTy).Contents (Elt F)),
    nullary main_c_13 (constantI S_ 32 0#32),
    unary main_c_13 main_v70 (broadcastInDim S1x16x1x1x1 ![] bcast_S_S1x16x1x1x1 : (⟨S_, .i32⟩ : BufTy).Contents (Elt F) → (⟨S1x16x1x1x1, .i32⟩ : BufTy).Contents (Elt F)),
    binary main_v64 main_v70 main_v71 (cmpi .slt : (⟨S1x16x1x1x1, .i32⟩ : BufTy).Contents (Elt F) → (⟨S1x16x1x1x1, .i32⟩ : BufTy).Contents (Elt F) → (⟨S1x16x1x1x1, .i1⟩ : BufTy).Contents (Elt F)),
    nullary main_c_14 (constantI S_ 32 16#32),
    unary main_c_14 main_v72 (broadcastInDim S1x16x1x1x1 ![] bcast_S_S1x16x1x1x1 : (⟨S_, .i32⟩ : BufTy).Contents (Elt F) → (⟨S1x16x1x1x1, .i32⟩ : BufTy).Contents (Elt F)),
    binary main_v64 main_v72 main_v73 (addi : (⟨S1x16x1x1x1, .i32⟩ : BufTy).Contents (Elt F) → (⟨S1x16x1x1x1, .i32⟩ : BufTy).Contents (Elt F) → (⟨S1x16x1x1x1, .i32⟩ : BufTy).Contents (Elt F)),
    ternary main_v71 main_v73 main_v64 main_v74 (select : (⟨S1x16x1x1x1, .i1⟩ : BufTy).Contents (Elt F) → (⟨S1x16x1x1x1, .i32⟩ : BufTy).Contents (Elt F) → (⟨S1x16x1x1x1, .i32⟩ : BufTy).Contents (Elt F) → (⟨S1x16x1x1x1, .i32⟩ : BufTy).Contents (Elt F)),
    nullary main_c_15 (constantI S_ 32 0#32),
    unary main_c_15 main_v75 (broadcastInDim S4x16x32x256x3 ![] bcast_S_S4x16x32x256x3 : (⟨S_, .i32⟩ : BufTy).Contents (Elt F) → (⟨S4x16x32x256x3, .i32⟩ : BufTy).Contents (Elt F)),
    binary main_indices main_v75 main_v76 (cmpi .slt : (⟨S4x16x32x256x3, .i32⟩ : BufTy).Contents (Elt F) → (⟨S4x16x32x256x3, .i32⟩ : BufTy).Contents (Elt F) → (⟨S4x16x32x256x3, .i1⟩ : BufTy).Contents (Elt F)),
    nullary main_c_16 (constantI S_ 32 32#32),
    unary main_c_16 main_v77 (broadcastInDim S4x16x32x256x3 ![] bcast_S_S4x16x32x256x3 : (⟨S_, .i32⟩ : BufTy).Contents (Elt F) → (⟨S4x16x32x256x3, .i32⟩ : BufTy).Contents (Elt F)),
    binary main_indices main_v77 main_v78 (addi : (⟨S4x16x32x256x3, .i32⟩ : BufTy).Contents (Elt F) → (⟨S4x16x32x256x3, .i32⟩ : BufTy).Contents (Elt F) → (⟨S4x16x32x256x3, .i32⟩ : BufTy).Contents (Elt F)),
    ternary main_v76 main_v78 main_indices main_v79 (select : (⟨S4x16x32x256x3, .i1⟩ : BufTy).Contents (Elt F) → (⟨S4x16x32x256x3, .i32⟩ : BufTy).Contents (Elt F) → (⟨S4x16x32x256x3, .i32⟩ : BufTy).Contents (Elt F) → (⟨S4x16x32x256x3, .i32⟩ : BufTy).Contents (Elt F)),
    unary main_v69 main_v80 (broadcastInDim S4x16x32x256x3 ![0, 1, 2, 3, 4] bcast_S4x1x1x1x1_S4x16x32x256x3_0_1_2_3_4 : (⟨S4x1x1x1x1, .i32⟩ : BufTy).Contents (Elt F) → (⟨S4x16x32x256x3, .i32⟩ : BufTy).Contents (Elt F)),
    unary main_v74 main_v81 (broadcastInDim S4x16x32x256x3 ![0, 1, 2, 3, 4] bcast_S1x16x1x1x1_S4x16x32x256x3_0_1_2_3_4 : (⟨S1x16x1x1x1, .i32⟩ : BufTy).Contents (Elt F) → (⟨S4x16x32x256x3, .i32⟩ : BufTy).Contents (Elt F)),
    unary main_v80 main_v82 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    unary main_v81 main_v83 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    unary main_v79 main_v84 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    nary ![main_v82, main_v83, main_v84] main_v85 (fun u => fn_main_v85 (F := F) (u 0) (u 1) (u 2)),
    binary main_v5 main_v85 main_v86 ((fun x i => Host.gather gather_S4x16x32x256x64_S4x16x32x256x3x3_S4x16x32x256x3x256x64_56_012_n_n_012_5_11125664 x i) : (⟨S4x16x32x256x64, .f32⟩ : BufTy).Contents (Elt F) → (⟨S4x16x32x256x3x3, .i32⟩ : BufTy).Contents (Elt F) → (⟨S4x16x32x256x3x256x64, .f32⟩ : BufTy).Contents (Elt F)),
    nullary main_c_17 (constantI S_ 32 0#32),
    unary main_c_17 main_v87 (broadcastInDim S4x1x1x1x1 ![] bcast_S_S4x1x1x1x1 : (⟨S_, .i32⟩ : BufTy).Contents (Elt F) → (⟨S4x1x1x1x1, .i32⟩ : BufTy).Contents (Elt F)),
    binary main_v62 main_v87 main_v88 (cmpi .slt : (⟨S4x1x1x1x1, .i32⟩ : BufTy).Contents (Elt F) → (⟨S4x1x1x1x1, .i32⟩ : BufTy).Contents (Elt F) → (⟨S4x1x1x1x1, .i1⟩ : BufTy).Contents (Elt F)),
    nullary main_c_18 (constantI S_ 32 4#32),
    unary main_c_18 main_v89 (broadcastInDim S4x1x1x1x1 ![] bcast_S_S4x1x1x1x1 : (⟨S_, .i32⟩ : BufTy).Contents (Elt F) → (⟨S4x1x1x1x1, .i32⟩ : BufTy).Contents (Elt F)),
    binary main_v62 main_v89 main_v90 (addi : (⟨S4x1x1x1x1, .i32⟩ : BufTy).Contents (Elt F) → (⟨S4x1x1x1x1, .i32⟩ : BufTy).Contents (Elt F) → (⟨S4x1x1x1x1, .i32⟩ : BufTy).Contents (Elt F)) ]

/-- @main's operations 121 … 126 of 247 (window `main_part1`). -/
abbrev ops_part1_2 : List (HloOp τ sig (Elt F)) :=
  [ ternary main_v88 main_v90 main_v62 main_v91 (select : (⟨S4x1x1x1x1, .i1⟩ : BufTy).Contents (Elt F) → (⟨S4x1x1x1x1, .i32⟩ : BufTy).Contents (Elt F) → (⟨S4x1x1x1x1, .i32⟩ : BufTy).Contents (Elt F) → (⟨S4x1x1x1x1, .i32⟩ : BufTy).Contents (Elt F)),
    nullary main_c_19 (constantI S_ 32 0#32),
    unary main_c_19 main_v92 (broadcastInDim S1x16x1x1x1 ![] bcast_S_S1x16x1x1x1 : (⟨S_, .i32⟩ : BufTy).Contents (Elt F) → (⟨S1x16x1x1x1, .i32⟩ : BufTy).Contents (Elt F)),
    binary main_v64 main_v92 main_v93 (cmpi .slt : (⟨S1x16x1x1x1, .i32⟩ : BufTy).Contents (Elt F) → (⟨S1x16x1x1x1, .i32⟩ : BufTy).Contents (Elt F) → (⟨S1x16x1x1x1, .i1⟩ : BufTy).Contents (Elt F)),
    nullary main_c_20 (constantI S_ 32 16#32),
    unary main_c_20 main_v94 (broadcastInDim S1x16x1x1x1 ![] bcast_S_S1x16x1x1x1 : (⟨S_, .i32⟩ : BufTy).Contents (Elt F) → (⟨S1x16x1x1x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 127 … 186 of 247 (window `main_part2`). -/
abbrev ops_part2 : List (HloOp τ sig (Elt F)) :=
  [ binary main_v64 main_v94 main_v95 (addi : (⟨S1x16x1x1x1, .i32⟩ : BufTy).Contents (Elt F) → (⟨S1x16x1x1x1, .i32⟩ : BufTy).Contents (Elt F) → (⟨S1x16x1x1x1, .i32⟩ : BufTy).Contents (Elt F)),
    ternary main_v93 main_v95 main_v64 main_v96 (select : (⟨S1x16x1x1x1, .i1⟩ : BufTy).Contents (Elt F) → (⟨S1x16x1x1x1, .i32⟩ : BufTy).Contents (Elt F) → (⟨S1x16x1x1x1, .i32⟩ : BufTy).Contents (Elt F) → (⟨S1x16x1x1x1, .i32⟩ : BufTy).Contents (Elt F)),
    nullary main_c_21 (constantI S_ 32 0#32),
    unary main_c_21 main_v97 (broadcastInDim S4x16x32x256x3 ![] bcast_S_S4x16x32x256x3 : (⟨S_, .i32⟩ : BufTy).Contents (Elt F) → (⟨S4x16x32x256x3, .i32⟩ : BufTy).Contents (Elt F)),
    binary main_indices main_v97 main_v98 (cmpi .slt : (⟨S4x16x32x256x3, .i32⟩ : BufTy).Contents (Elt F) → (⟨S4x16x32x256x3, .i32⟩ : BufTy).Contents (Elt F) → (⟨S4x16x32x256x3, .i1⟩ : BufTy).Contents (Elt F)),
    nullary main_c_22 (constantI S_ 32 32#32),
    unary main_c_22 main_v99 (broadcastInDim S4x16x32x256x3 ![] bcast_S_S4x16x32x256x3 : (⟨S_, .i32⟩ : BufTy).Contents (Elt F) → (⟨S4x16x32x256x3, .i32⟩ : BufTy).Contents (Elt F)),
    binary main_indices main_v99 main_v100 (addi : (⟨S4x16x32x256x3, .i32⟩ : BufTy).Contents (Elt F) → (⟨S4x16x32x256x3, .i32⟩ : BufTy).Contents (Elt F) → (⟨S4x16x32x256x3, .i32⟩ : BufTy).Contents (Elt F)),
    ternary main_v98 main_v100 main_indices main_v101 (select : (⟨S4x16x32x256x3, .i1⟩ : BufTy).Contents (Elt F) → (⟨S4x16x32x256x3, .i32⟩ : BufTy).Contents (Elt F) → (⟨S4x16x32x256x3, .i32⟩ : BufTy).Contents (Elt F) → (⟨S4x16x32x256x3, .i32⟩ : BufTy).Contents (Elt F)),
    unary main_v91 main_v102 (broadcastInDim S4x16x32x256x3 ![0, 1, 2, 3, 4] bcast_S4x1x1x1x1_S4x16x32x256x3_0_1_2_3_4 : (⟨S4x1x1x1x1, .i32⟩ : BufTy).Contents (Elt F) → (⟨S4x16x32x256x3, .i32⟩ : BufTy).Contents (Elt F)),
    unary main_v96 main_v103 (broadcastInDim S4x16x32x256x3 ![0, 1, 2, 3, 4] bcast_S1x16x1x1x1_S4x16x32x256x3_0_1_2_3_4 : (⟨S1x16x1x1x1, .i32⟩ : BufTy).Contents (Elt F) → (⟨S4x16x32x256x3, .i32⟩ : BufTy).Contents (Elt F)),
    unary main_v102 main_v104 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    unary main_v103 main_v105 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    unary main_v101 main_v106 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    nary ![main_v104, main_v105, main_v106] main_v107 (fun u => fn_main_v107 (F := F) (u 0) (u 1) (u 2)),
    binary main_v8 main_v107 main_v108 ((fun x i => Host.gather gather_S4x16x32x256x64_S4x16x32x256x3x3_S4x16x32x256x3x256x64_56_012_n_n_012_5_11125664 x i) : (⟨S4x16x32x256x64, .f32⟩ : BufTy).Contents (Elt F) → (⟨S4x16x32x256x3x3, .i32⟩ : BufTy).Contents (Elt F) → (⟨S4x16x32x256x3x256x64, .f32⟩ : BufTy).Contents (Elt F)),
    unary main_indices main_v109 (broadcastInDim S4x16x32x256x3x1 ![0, 1, 2, 3, 4] bcast_S4x16x32x256x3_S4x16x32x256x3x1_0_1_2_3_4 : (⟨S4x16x32x256x3, .i32⟩ : BufTy).Contents (Elt F) → (⟨S4x16x32x256x3x1, .i32⟩ : BufTy).Contents (Elt F)),
    nullary main_c_23 (constantI S_ 32 256#32),
    unary main_c_23 main_v110 (broadcastInDim S4x16x32x256x3x1 ![] bcast_S_S4x16x32x256x3x1 : (⟨S_, .i32⟩ : BufTy).Contents (Elt F) → (⟨S4x16x32x256x3x1, .i32⟩ : BufTy).Contents (Elt F)),
    binary main_v109 main_v110 main_v111 (muli : (⟨S4x16x32x256x3x1, .i32⟩ : BufTy).Contents (Elt F) → (⟨S4x16x32x256x3x1, .i32⟩ : BufTy).Contents (Elt F) → (⟨S4x16x32x256x3x1, .i32⟩ : BufTy).Contents (Elt F)),
    unary main_v12 main_v112 (broadcastInDim S1x1x1x1x1x256 ![5] bcast_S256_S1x1x1x1x1x256_5 : (⟨S256, .i32⟩ : BufTy).Contents (Elt F) → (⟨S1x1x1x1x1x256, .i32⟩ : BufTy).Contents (Elt F)),
    unary main_v111 main_v113 (broadcastInDim S4x16x32x256x3x256 ![0, 1, 2, 3, 4, 5] bcast_S4x16x32x256x3x1_S4x16x32x256x3x256_0_1_2_3_4_5 : (⟨S4x16x32x256x3x1, .i32⟩ : BufTy).Contents (Elt F) → (⟨S4x16x32x256x3x256, .i32⟩ : BufTy).Contents (Elt F)),
    unary main_v112 main_v114 (broadcastInDim S4x16x32x256x3x256 ![0, 1, 2, 3, 4, 5] bcast_S1x1x1x1x1x256_S4x16x32x256x3x256_0_1_2_3_4_5 : (⟨S1x1x1x1x1x256, .i32⟩ : BufTy).Contents (Elt F) → (⟨S4x16x32x256x3x256, .i32⟩ : BufTy).Contents (Elt F)),
    binary main_v113 main_v114 main_v115 (addi : (⟨S4x16x32x256x3x256, .i32⟩ : BufTy).Contents (Elt F) → (⟨S4x16x32x256x3x256, .i32⟩ : BufTy).Contents (Elt F) → (⟨S4x16x32x256x3x256, .i32⟩ : BufTy).Contents (Elt F)),
    unary main_v11 main_v116 (broadcastInDim S32x1 ![0] bcast_S32_S32x1_0 : (⟨S32, .i32⟩ : BufTy).Contents (Elt F) → (⟨S32x1, .i32⟩ : BufTy).Contents (Elt F)),
    nullary main_c_24 (constantI S_ 32 256#32),
    unary main_c_24 main_v117 (broadcastInDim S32x1 ![] bcast_S_S32x1 : (⟨S_, .i32⟩ : BufTy).Contents (Elt F) → (⟨S32x1, .i32⟩ : BufTy).Contents (Elt F)),
    binary main_v116 main_v117 main_v118 (muli : (⟨S32x1, .i32⟩ : BufTy).Contents (Elt F) → (⟨S32x1, .i32⟩ : BufTy).Contents (Elt F) → (⟨S32x1, .i32⟩ : BufTy).Contents (Elt F)),
    unary main_v12 main_v119 (broadcastInDim S1x256 ![1] bcast_S256_S1x256_1 : (⟨S256, .i32⟩ : BufTy).Contents (Elt F) → (⟨S1x256, .i32⟩ : BufTy).Contents (Elt F)),
    unary main_v118 main_v120 (broadcastInDim S32x256 ![0, 1] bcast_S32x1_S32x256_0_1 : (⟨S32x1, .i32⟩ : BufTy).Contents (Elt F) → (⟨S32x256, .i32⟩ : BufTy).Contents (Elt F)),
    unary main_v119 main_v121 (broadcastInDim S32x256 ![0, 1] bcast_S1x256_S32x256_0_1 : (⟨S1x256, .i32⟩ : BufTy).Contents (Elt F) → (⟨S32x256, .i32⟩ : BufTy).Contents (Elt F)),
    binary main_v120 main_v121 main_v122 (addi : (⟨S32x256, .i32⟩ : BufTy).Contents (Elt F) → (⟨S32x256, .i32⟩ : BufTy).Contents (Elt F) → (⟨S32x256, .i32⟩ : BufTy).Contents (Elt F)),
    unary main_v122 main_v123 (broadcastInDim S32x256x1x1 ![0, 1] bcast_S32x256_S32x256x1x1_0_1 : (⟨S32x256, .i32⟩ : BufTy).Contents (Elt F) → (⟨S32x256x1x1, .i32⟩ : BufTy).Contents (Elt F)),
    unary main_v123 main_v124 (broadcastInDim S1x1x32x256x1x1 ![2, 3, 4, 5] bcast_S32x256x1x1_S1x1x32x256x1x1_2_3_4_5 : (⟨S32x256x1x1, .i32⟩ : BufTy).Contents (Elt F) → (⟨S1x1x32x256x1x1, .i32⟩ : BufTy).Contents (Elt F)),
    unary main_v124 main_v125 (broadcastInDim S4x16x32x256x3x256 ![0, 1, 2, 3, 4, 5] bcast_S1x1x32x256x1x1_S4x16x32x256x3x256_0_1_2_3_4_5 : (⟨S1x1x32x256x1x1, .i32⟩ : BufTy).Contents (Elt F) → (⟨S4x16x32x256x3x256, .i32⟩ : BufTy).Contents (Elt F)),
    binary main_v125 main_v115 main_v126 (subi : (⟨S4x16x32x256x3x256, .i32⟩ : BufTy).Contents (Elt F) → (⟨S4x16x32x256x3x256, .i32⟩ : BufTy).Contents (Elt F) → (⟨S4x16x32x256x3x256, .i32⟩ : BufTy).Contents (Elt F)),
    nullary main_c_25 (constantI S_ 32 0#32),
    unary main_c_25 main_v127 (broadcastInDim S4x16x32x256x3x256 ![] bcast_S_S4x16x32x256x3x256 : (⟨S_, .i32⟩ : BufTy).Contents (Elt F) → (⟨S4x16x32x256x3x256, .i32⟩ : BufTy).Contents (Elt F)),
    binary main_v126 main_v127 main_v128 (maxsi : (⟨S4x16x32x256x3x256, .i32⟩ : BufTy).Contents (Elt F) → (⟨S4x16x32x256x3x256, .i32⟩ : BufTy).Contents (Elt F) → (⟨S4x16x32x256x3x256, .i32⟩ : BufTy).Contents (Elt F)),
    nullary main_c_26 (constantI S_ 32 1#32),
    unary main_c_26 main_v129 (broadcastInDim S4x16x32x256x3x256 ![] bcast_S_S4x16x32x256x3x256 : (⟨S_, .i32⟩ : BufTy).Contents (Elt F) → (⟨S4x16x32x256x3x256, .i32⟩ : BufTy).Contents (Elt F)),
    binary main_v128 main_v129 main_v130 (maxsi : (⟨S4x16x32x256x3x256, .i32⟩ : BufTy).Contents (Elt F) → (⟨S4x16x32x256x3x256, .i32⟩ : BufTy).Contents (Elt F) → (⟨S4x16x32x256x3x256, .i32⟩ : BufTy).Contents (Elt F)),
    unary main_v130 main_v131 (sitofp .f32 : (⟨S4x16x32x256x3x256, .i32⟩ : BufTy).Contents (Elt F) → (⟨S4x16x32x256x3x256, .f32⟩ : BufTy).Contents (Elt F)),
    nullary main_cst_27 (constant S_ .f32 0x41800000#32),
    unary main_cst_27 main_v132 (broadcastInDim S4x16x32x256x3x256 ![] bcast_S_S4x16x32x256x3x256 : (⟨S_, .f32⟩ : BufTy).Contents (Elt F) → (⟨S4x16x32x256x3x256, .f32⟩ : BufTy).Contents (Elt F)),
    binary main_v131 main_v132 main_v133 (Host.divf : (⟨S4x16x32x256x3x256, .f32⟩ : BufTy).Contents (Elt F) → (⟨S4x16x32x256x3x256, .f32⟩ : BufTy).Contents (Elt F) → (⟨S4x16x32x256x3x256, .f32⟩ : BufTy).Contents (Elt F)),
    unary main_v133 main_v134 (Host.log : (⟨S4x16x32x256x3x256, .f32⟩ : BufTy).Contents (Elt F) → (⟨S4x16x32x256x3x256, .f32⟩ : BufTy).Contents (Elt F)),
    nullary main_cst_28 (constant S_ .f32 0x40851592#32),
    unary main_cst_28 main_v135 (broadcastInDim S4x16x32x256x3x256 ![] bcast_S_S4x16x32x256x3x256 : (⟨S_, .f32⟩ : BufTy).Contents (Elt F) → (⟨S4x16x32x256x3x256, .f32⟩ : BufTy).Contents (Elt F)),
    binary main_v134 main_v135 main_v136 (Host.divf : (⟨S4x16x32x256x3x256, .f32⟩ : BufTy).Contents (Elt F) → (⟨S4x16x32x256x3x256, .f32⟩ : BufTy).Contents (Elt F) → (⟨S4x16x32x256x3x256, .f32⟩ : BufTy).Contents (Elt F)),
    nullary main_cst_29 (constant S_ .f32 0x41800000#32),
    unary main_cst_29 main_v137 (broadcastInDim S4x16x32x256x3x256 ![] bcast_S_S4x16x32x256x3x256 : (⟨S_, .f32⟩ : BufTy).Contents (Elt F) → (⟨S4x16x32x256x3x256, .f32⟩ : BufTy).Contents (Elt F)),
    binary main_v136 main_v137 main_v138 (mulf : (⟨S4x16x32x256x3x256, .f32⟩ : BufTy).Contents (Elt F) → (⟨S4x16x32x256x3x256, .f32⟩ : BufTy).Contents (Elt F) → (⟨S4x16x32x256x3x256, .f32⟩ : BufTy).Contents (Elt F)),
    unary main_v138 main_v139 (fptosi 32 : (⟨S4x16x32x256x3x256, .f32⟩ : BufTy).Contents (Elt F) → (⟨S4x16x32x256x3x256, .i32⟩ : BufTy).Contents (Elt F)),
    nullary main_c_30 (constantI S_ 32 16#32),
    unary main_c_30 main_v140 (broadcastInDim S4x16x32x256x3x256 ![] bcast_S_S4x16x32x256x3x256 : (⟨S_, .i32⟩ : BufTy).Contents (Elt F) → (⟨S4x16x32x256x3x256, .i32⟩ : BufTy).Contents (Elt F)),
    binary main_v140 main_v139 main_v141 (addi : (⟨S4x16x32x256x3x256, .i32⟩ : BufTy).Contents (Elt F) → (⟨S4x16x32x256x3x256, .i32⟩ : BufTy).Contents (Elt F) → (⟨S4x16x32x256x3x256, .i32⟩ : BufTy).Contents (Elt F)),
    nullary main_c_31 (constantI S_ 32 31#32),
    unary main_c_31 main_v142 (broadcastInDim S4x16x32x256x3x256 ![] bcast_S_S4x16x32x256x3x256 : (⟨S_, .i32⟩ : BufTy).Contents (Elt F) → (⟨S4x16x32x256x3x256, .i32⟩ : BufTy).Contents (Elt F)),
    binary main_v141 main_v142 main_v143 (minsi : (⟨S4x16x32x256x3x256, .i32⟩ : BufTy).Contents (Elt F) → (⟨S4x16x32x256x3x256, .i32⟩ : BufTy).Contents (Elt F) → (⟨S4x16x32x256x3x256, .i32⟩ : BufTy).Contents (Elt F)) ]

/-- @main's operations 187 … 216 of 247 (window `main_part3`). -/
abbrev ops_part3_0 : List (HloOp τ sig (Elt F)) :=
  [ nullary main_c_32 (constantI S_ 32 16#32),
    unary main_c_32 main_v144 (broadcastInDim S4x16x32x256x3x256 ![] bcast_S_S4x16x32x256x3x256 : (⟨S_, .i32⟩ : BufTy).Contents (Elt F) → (⟨S4x16x32x256x3x256, .i32⟩ : BufTy).Contents (Elt F)),
    binary main_v128 main_v144 main_v145 (cmpi .slt : (⟨S4x16x32x256x3x256, .i32⟩ : BufTy).Contents (Elt F) → (⟨S4x16x32x256x3x256, .i32⟩ : BufTy).Contents (Elt F) → (⟨S4x16x32x256x3x256, .i1⟩ : BufTy).Contents (Elt F)),
    TRef.ternary (TRef.of (T := ⟨S4x16x32x256x3x256, .i1⟩) main_v145) (TRef.of (T := ⟨S4x16x32x256x3x256, .i32⟩) main_v128) (TRef.of (T := ⟨S4x16x32x256x3x256, .i32⟩) main_v143) (TRef.of (T := ⟨S4x16x32x256x3x256, .i32⟩) main_v146) select,
    unary main_v64 main_v147 (broadcastInDim S1x16x1x1x1x1 ![0, 1, 2, 3, 4] bcast_S1x16x1x1x1_S1x16x1x1x1x1_0_1_2_3_4 : (⟨S1x16x1x1x1, .i32⟩ : BufTy).Contents (Elt F) → (⟨S1x16x1x1x1x1, .i32⟩ : BufTy).Contents (Elt F)),
    nullary main_c_33 (constantI S_ 32 0#32),
    unary main_c_33 main_v148 (broadcastInDim S4x16x32x256x3x256 ![] bcast_S_S4x16x32x256x3x256 : (⟨S_, .i32⟩ : BufTy).Contents (Elt F) → (⟨S4x16x32x256x3x256, .i32⟩ : BufTy).Contents (Elt F)),
    binary main_v146 main_v148 main_v149 (cmpi .slt : (⟨S4x16x32x256x3x256, .i32⟩ : BufTy).Contents (Elt F) → (⟨S4x16x32x256x3x256, .i32⟩ : BufTy).Contents (Elt F) → (⟨S4x16x32x256x3x256, .i1⟩ : BufTy).Contents (Elt F)),
    nullary main_c_34 (constantI S_ 32 32#32),
    unary main_c_34 main_v150 (broadcastInDim S4x16x32x256x3x256 ![] bcast_S_S4x16x32x256x3x256 : (⟨S_, .i32⟩ : BufTy).Contents (Elt F) → (⟨S4x16x32x256x3x256, .i32⟩ : BufTy).Contents (Elt F)),
    binary main_v146 main_v150 main_v151 (addi : (⟨S4x16x32x256x3x256, .i32⟩ : BufTy).Contents (Elt F) → (⟨S4x16x32x256x3x256, .i32⟩ : BufTy).Contents (Elt F) → (⟨S4x16x32x256x3x256, .i32⟩ : BufTy).Contents (Elt F)),
    ternary main_v149 main_v151 main_v146 main_v152 (select : (⟨S4x16x32x256x3x256, .i1⟩ : BufTy).Contents (Elt F) → (⟨S4x16x32x256x3x256, .i32⟩ : BufTy).Contents (Elt F) → (⟨S4x16x32x256x3x256, .i32⟩ : BufTy).Contents (Elt F) → (⟨S4x16x32x256x3x256, .i32⟩ : BufTy).Contents (Elt F)),
    nullary main_c_35 (constantI S_ 32 0#32),
    unary main_c_35 main_v153 (broadcastInDim S1x16x1x1x1x1 ![] bcast_S_S1x16x1x1x1x1 : (⟨S_, .i32⟩ : BufTy).Contents (Elt F) → (⟨S1x16x1x1x1x1, .i32⟩ : BufTy).Contents (Elt F)),
    binary main_v147 main_v153 main_v154 (cmpi .slt : (⟨S1x16x1x1x1x1, .i32⟩ : BufTy).Contents (Elt F) → (⟨S1x16x1x1x1x1, .i32⟩ : BufTy).Contents (Elt F) → (⟨S1x16x1x1x1x1, .i1⟩ : BufTy).Contents (Elt F)),
    nullary main_c_36 (constantI S_ 32 16#32),
    unary main_c_36 main_v155 (broadcastInDim S1x16x1x1x1x1 ![] bcast_S_S1x16x1x1x1x1 : (⟨S_, .i32⟩ : BufTy).Contents (Elt F) → (⟨S1x16x1x1x1x1, .i32⟩ : BufTy).Contents (Elt F)),
    binary main_v147 main_v155 main_v156 (addi : (⟨S1x16x1x1x1x1, .i32⟩ : BufTy).Contents (Elt F) → (⟨S1x16x1x1x1x1, .i32⟩ : BufTy).Contents (Elt F) → (⟨S1x16x1x1x1x1, .i32⟩ : BufTy).Contents (Elt F)),
    ternary main_v154 main_v156 main_v147 main_v157 (select : (⟨S1x16x1x1x1x1, .i1⟩ : BufTy).Contents (Elt F) → (⟨S1x16x1x1x1x1, .i32⟩ : BufTy).Contents (Elt F) → (⟨S1x16x1x1x1x1, .i32⟩ : BufTy).Contents (Elt F) → (⟨S1x16x1x1x1x1, .i32⟩ : BufTy).Contents (Elt F)),
    unary main_v157 main_v158 (broadcastInDim S4x16x32x256x3x256 ![0, 1, 2, 3, 4, 5] bcast_S1x16x1x1x1x1_S4x16x32x256x3x256_0_1_2_3_4_5 : (⟨S1x16x1x1x1x1, .i32⟩ : BufTy).Contents (Elt F) → (⟨S4x16x32x256x3x256, .i32⟩ : BufTy).Contents (Elt F)),
    unary main_v152 main_v159 (broadcastInDim S4x16x32x256x3x256x1 ![0, 1, 2, 3, 4, 5] bcast_S4x16x32x256x3x256_S4x16x32x256x3x256x1_0_1_2_3_4_5 : (⟨S4x16x32x256x3x256, .i32⟩ : BufTy).Contents (Elt F) → (⟨S4x16x32x256x3x256x1, .i32⟩ : BufTy).Contents (Elt F)),
    unary main_v158 main_v160 (broadcastInDim S4x16x32x256x3x256x1 ![0, 1, 2, 3, 4, 5] bcast_S4x16x32x256x3x256_S4x16x32x256x3x256x1_0_1_2_3_4_5 : (⟨S4x16x32x256x3x256, .i32⟩ : BufTy).Contents (Elt F) → (⟨S4x16x32x256x3x256x1, .i32⟩ : BufTy).Contents (Elt F)),
    binary main_v159 main_v160 main_v161 (fn_main_v161 (F := F)),
    binary main_arg0 main_v161 main_v162 ((fun x i => Host.gather gather_S32x16_S4x16x32x256x3x256x2_S4x16x32x256x3x256_n_01_n_n_01_6_11 x i) : (⟨S32x16, .f32⟩ : BufTy).Contents (Elt F) → (⟨S4x16x32x256x3x256x2, .i32⟩ : BufTy).Contents (Elt F) → (⟨S4x16x32x256x3x256, .f32⟩ : BufTy).Contents (Elt F)),
    binary main_v2 main_v86 main_v163 ((fun l r => Host.dotGeneral dot_S4x16x32x256x64_S4x16x32x256x3x256x64_S4x16x32x256x3x256_4_6_n_45_0123_0123 none l r) : (⟨S4x16x32x256x64, .f32⟩ : BufTy).Contents (Elt F) → (⟨S4x16x32x256x3x256x64, .f32⟩ : BufTy).Contents (Elt F) → (⟨S4x16x32x256x3x256, .f32⟩ : BufTy).Contents (Elt F)),
    binary main_v163 main_v162 main_v164 (addf : (⟨S4x16x32x256x3x256, .f32⟩ : BufTy).Contents (Elt F) → (⟨S4x16x32x256x3x256, .f32⟩ : BufTy).Contents (Elt F) → (⟨S4x16x32x256x3x256, .f32⟩ : BufTy).Contents (Elt F)),
    unary main_v11 main_v165 (broadcastInDim S32x1x1 ![0] bcast_S32_S32x1x1_0 : (⟨S32, .i32⟩ : BufTy).Contents (Elt F) → (⟨S32x1x1, .i32⟩ : BufTy).Contents (Elt F)),
    unary main_v165 main_v166 (broadcastInDim S1x1x32x1x1 ![2, 3, 4] bcast_S32x1x1_S1x1x32x1x1_2_3_4 : (⟨S32x1x1, .i32⟩ : BufTy).Contents (Elt F) → (⟨S1x1x32x1x1, .i32⟩ : BufTy).Contents (Elt F)),
    unary main_v166 main_v167 (broadcastInDim S4x16x32x256x3 ![0, 1, 2, 3, 4] bcast_S1x1x32x1x1_S4x16x32x256x3_0_1_2_3_4 : (⟨S1x1x32x1x1, .i32⟩ : BufTy).Contents (Elt F) → (⟨S4x16x32x256x3, .i32⟩ : BufTy).Contents (Elt F)),
    binary main_indices main_v167 main_v168 (cmpi .slt : (⟨S4x16x32x256x3, .i32⟩ : BufTy).Contents (Elt F) → (⟨S4x16x32x256x3, .i32⟩ : BufTy).Contents (Elt F) → (⟨S4x16x32x256x3, .i1⟩ : BufTy).Contents (Elt F)) ]

/-- @main's operations 217 … 246 of 247 (window `main_part3`). -/
abbrev ops_part3_1 : List (HloOp τ sig (Elt F)) :=
  [ unary main_v168 main_v169 (broadcastInDim S4x16x32x256x3x1 ![0, 1, 2, 3, 4] bcast_S4x16x32x256x3_S4x16x32x256x3x1_0_1_2_3_4 : (⟨S4x16x32x256x3, .i1⟩ : BufTy).Contents (Elt F) → (⟨S4x16x32x256x3x1, .i1⟩ : BufTy).Contents (Elt F)),
    nullary main_cst_37 (constant S_ .f32 0xFF800000#32),
    TRef.unary (TRef.of (T := ⟨S_, .f32⟩) main_cst_37) (TRef.of (T := ⟨S_, .f32⟩) main_call4_v0) id,
    TRef.unary (TRef.of (T := ⟨S4x16x32x256x3x1, .i1⟩) main_v169) (TRef.of (T := ⟨S4x16x32x256x3x256, .i1⟩) main_call4_v1) (broadcastInDim S4x16x32x256x3x256 ![0, 1, 2, 3, 4, 5] bcast_S4x16x32x256x3x1_S4x16x32x256x3x256_0_1_2_3_4_5),
    TRef.unary (TRef.of (T := ⟨S_, .f32⟩) main_call4_v0) (TRef.of (T := ⟨S4x16x32x256x3x256, .f32⟩) main_call4_v2) (broadcastInDim S4x16x32x256x3x256 ![] bcast_S_S4x16x32x256x3x256),
    TRef.ternary (TRef.of (T := ⟨S4x16x32x256x3x256, .i1⟩) main_call4_v1) (TRef.of (T := ⟨S4x16x32x256x3x256, .f32⟩) main_v164) (TRef.of (T := ⟨S4x16x32x256x3x256, .f32⟩) main_call4_v2) (TRef.of (T := ⟨S4x16x32x256x3x256, .f32⟩) main_v170) select,
    unary main_v52 main_v171 (broadcastInDim S4x16x32x256x1x256 ![0, 1, 2, 3, 5] bcast_S4x16x32x256x256_S4x16x32x256x1x256_0_1_2_3_5 : (⟨S4x16x32x256x256, .f32⟩ : BufTy).Contents (Elt F) → (⟨S4x16x32x256x1x256, .f32⟩ : BufTy).Contents (Elt F)),
    binary main_v170 main_v171 main_v172 (fn_main_v172 (F := F)),
    nullary main_cst_38 (constant S_ .f32 0xFF800000#32),
    binary main_v172 main_cst_38 main_v173 ((fun x v => Host.reduce FloatOps.maximumf x v reducesTo_S4x16x32x256x4x256_S4x16x32x256_d4_5 h_S_) : (⟨S4x16x32x256x4x256, .f32⟩ : BufTy).Contents (Elt F) → (⟨S_, .f32⟩ : BufTy).Contents (Elt F) → (⟨S4x16x32x256, .f32⟩ : BufTy).Contents (Elt F)),
    nullary main_cst_39 (constant S_ .f32 0xFF800000#32),
    unary main_cst_39 main_v174 (broadcastInDim S4x16x32x256 ![] bcast_S_S4x16x32x256 : (⟨S_, .f32⟩ : BufTy).Contents (Elt F) → (⟨S4x16x32x256, .f32⟩ : BufTy).Contents (Elt F)),
    binary main_v174 main_v173 main_v175 (maximumf : (⟨S4x16x32x256, .f32⟩ : BufTy).Contents (Elt F) → (⟨S4x16x32x256, .f32⟩ : BufTy).Contents (Elt F) → (⟨S4x16x32x256, .f32⟩ : BufTy).Contents (Elt F)),
    unary main_v175 main_v176 (broadcastInDim S4x16x32x256x1x1 ![0, 1, 2, 3] bcast_S4x16x32x256_S4x16x32x256x1x1_0_1_2_3 : (⟨S4x16x32x256, .f32⟩ : BufTy).Contents (Elt F) → (⟨S4x16x32x256x1x1, .f32⟩ : BufTy).Contents (Elt F)),
    unary main_v176 main_v177 (broadcastInDim S4x16x32x256x4x256 ![0, 1, 2, 3, 4, 5] bcast_S4x16x32x256x1x1_S4x16x32x256x4x256_0_1_2_3_4_5 : (⟨S4x16x32x256x1x1, .f32⟩ : BufTy).Contents (Elt F) → (⟨S4x16x32x256x4x256, .f32⟩ : BufTy).Contents (Elt F)),
    binary main_v172 main_v177 main_v178 (subf : (⟨S4x16x32x256x4x256, .f32⟩ : BufTy).Contents (Elt F) → (⟨S4x16x32x256x4x256, .f32⟩ : BufTy).Contents (Elt F) → (⟨S4x16x32x256x4x256, .f32⟩ : BufTy).Contents (Elt F)),
    unary main_v178 main_v179 (Host.exp : (⟨S4x16x32x256x4x256, .f32⟩ : BufTy).Contents (Elt F) → (⟨S4x16x32x256x4x256, .f32⟩ : BufTy).Contents (Elt F)),
    nullary main_cst_40 (constant S_ .f32 0x00000000#32),
    binary main_v179 main_cst_40 main_v180 ((fun x v => Host.reduceAdd x v reducesTo_S4x16x32x256x4x256_S4x16x32x256_d4_5 h_S_) : (⟨S4x16x32x256x4x256, .f32⟩ : BufTy).Contents (Elt F) → (⟨S_, .f32⟩ : BufTy).Contents (Elt F) → (⟨S4x16x32x256, .f32⟩ : BufTy).Contents (Elt F)),
    unary main_v180 main_v181 (broadcastInDim S4x16x32x256x1x1 ![0, 1, 2, 3] bcast_S4x16x32x256_S4x16x32x256x1x1_0_1_2_3 : (⟨S4x16x32x256, .f32⟩ : BufTy).Contents (Elt F) → (⟨S4x16x32x256x1x1, .f32⟩ : BufTy).Contents (Elt F)),
    unary main_v181 main_v182 (broadcastInDim S4x16x32x256x4x256 ![0, 1, 2, 3, 4, 5] bcast_S4x16x32x256x1x1_S4x16x32x256x4x256_0_1_2_3_4_5 : (⟨S4x16x32x256x1x1, .f32⟩ : BufTy).Contents (Elt F) → (⟨S4x16x32x256x4x256, .f32⟩ : BufTy).Contents (Elt F)),
    binary main_v179 main_v182 main_v183 (Host.divf : (⟨S4x16x32x256x4x256, .f32⟩ : BufTy).Contents (Elt F) → (⟨S4x16x32x256x4x256, .f32⟩ : BufTy).Contents (Elt F) → (⟨S4x16x32x256x4x256, .f32⟩ : BufTy).Contents (Elt F)),
    unary main_v183 main_v184 ((extractStridedSlice S4x16x32x256x1x256 ![0, 0, 0, 0, 3, 0] · slices_S4x16x32x256x4x256_S4x16x32x256x1x256_0_0_0_0_3_0) : (⟨S4x16x32x256x4x256, .f32⟩ : BufTy).Contents (Elt F) → (⟨S4x16x32x256x1x256, .f32⟩ : BufTy).Contents (Elt F)),
    reshape main_v184 main_v185 (rfl : (.f32 : EltTy) = .f32) shapeCasts_S4x16x32x256x1x256_S4x16x32x256x256,
    binary main_v185 main_v8 main_v186 ((fun l r => Host.dotGeneral dot_S4x16x32x256x256_S4x16x32x256x64_S4x16x32x256x64_4_3_3_4_012_012 none l r) : (⟨S4x16x32x256x256, .f32⟩ : BufTy).Contents (Elt F) → (⟨S4x16x32x256x64, .f32⟩ : BufTy).Contents (Elt F) → (⟨S4x16x32x256x64, .f32⟩ : BufTy).Contents (Elt F)),
    unary main_v183 main_v187 ((extractStridedSlice S4x16x32x256x3x256 ![0, 0, 0, 0, 0, 0] · slices_S4x16x32x256x4x256_S4x16x32x256x3x256_0_0_0_0_0_0) : (⟨S4x16x32x256x4x256, .f32⟩ : BufTy).Contents (Elt F) → (⟨S4x16x32x256x3x256, .f32⟩ : BufTy).Contents (Elt F)),
    binary main_v187 main_v108 main_v188 ((fun l r => Host.dotGeneral dot_S4x16x32x256x3x256_S4x16x32x256x3x256x64_S4x16x32x256x64_54_54_n_6_0123_0123 none l r) : (⟨S4x16x32x256x3x256, .f32⟩ : BufTy).Contents (Elt F) → (⟨S4x16x32x256x3x256x64, .f32⟩ : BufTy).Contents (Elt F) → (⟨S4x16x32x256x64, .f32⟩ : BufTy).Contents (Elt F)),
    binary main_v186 main_v188 main_v189 (addf : (⟨S4x16x32x256x64, .f32⟩ : BufTy).Contents (Elt F) → (⟨S4x16x32x256x64, .f32⟩ : BufTy).Contents (Elt F) → (⟨S4x16x32x256x64, .f32⟩ : BufTy).Contents (Elt F)),
    unary main_v189 main_v190 ((transpose S4x32x256x16x64 [0, 2, 3, 1, 4] · transposes_S4x16x32x256x64_S4x32x256x16x64_0_2_3_1_4) : (⟨S4x16x32x256x64, .f32⟩ : BufTy).Contents (Elt F) → (⟨S4x32x256x16x64, .f32⟩ : BufTy).Contents (Elt F)),
    reshape main_v190 main_v191 (rfl : (.f32 : EltTy) = .f32) shapeCasts_S4x32x256x16x64_S4x8192x1024 ]

/-- @main's operations 247 … 247 of 247 (window `main_part3`). -/
abbrev ops_part3_2 : List (HloOp τ sig (Elt F)) :=
  [ unary main_v191 main_v192 ((truncf .bf16 · bitsLt_bf16_f32) : (⟨S4x8192x1024, .f32⟩ : BufTy).Contents (Elt F) → (⟨S4x8192x1024, .bf16⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's 247 operations, in order (a called function's operations stand in its call's place, spelt `TRef.…`). -/
abbrev ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., reshape_bufs_sub .., unary_bufs_sub .., reshape_bufs_sub .., unary_bufs_sub .., nullary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., binary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., unary_bufs_sub .., unary_bufs_sub .., nullary_bufs_sub .., unary_bufs_sub .., nullary_bufs_sub .., unary_bufs_sub .., nullary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., nullary_bufs_sub .., unary_bufs_sub .., binary_bufs_sub .., nullary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_0_sub : (ops_part3_0 : List (HloOp τ sig (Elt F))).Forall fun op => op.bufs ⊆ tcRefs τ sig :=
  ⟨nullary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., binary_bufs_sub .., unary_bufs_sub .., unary_bufs_sub .., unary_bufs_sub .., binary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., nullary_bufs_sub .., unary_bufs_sub .., unary_bufs_sub .., unary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., binary_bufs_sub .., unary_bufs_sub .., binary_bufs_sub .., binary_bufs_sub .., unary_bufs_sub .., reshape_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  unary_bufs_sub ..
set_option maxRecDepth 8192 in
theorem ops_part3_2_fresh : (ops_part3_2 : List (HloOp τ sig (Elt F))).Forall fun op => op.fresh = ∅ :=
  rfl
theorem ops_sub : (ops : List (HloOp τ sig (Elt F))).Forall fun op => op.bufs ⊆ tcRefs τ sig :=
  List.forall_iff_forall_mem.mpr fun op h => by
    simp only [ops, ops_part1, ops_part3, List.mem_append, or_assoc] at h
    rcases h with h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_0_sub op h, List.forall_iff_forall_mem.mp ops_part3_1_sub op h, List.forall_iff_forall_mem.mp ops_part3_2_sub op h]
theorem ops_fresh : ∀ op ∈ (ops : List (HloOp τ sig (Elt F))), op.fresh = ∅ := fun op h => by
    simp only [ops, ops_part1, ops_part3, List.mem_append, or_assoc] at h
    rcases h with h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_0_fresh op h, List.forall_iff_forall_mem.mp ops_part3_1_fresh op h, List.forall_iff_forall_mem.mp ops_part3_2_fresh op h]

end Cert.ReferenceIdeal.Value

end
-- ==== Proof.Val.RefTerms.lean ====
/-
  The reference program's intermediate tensors, as functions of the arguments.
-/
module

public import proofs.«01_k».proof.Proof.Val.RefOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v2`'s composed term of the arguments (named: it is used 3 times). -/
def res_main_v2 (V0 : Valuation τ sig (Elt F)) : (⟨S4x16x32x256x64, .f32⟩ : BufTy).Contents (Elt F) :=
  transpose S4x16x32x256x64 [0, 3, 1, 2, 4] (shapeCast _ (extf .f32 (V0 (Proc.devRef .tc main_arg1)) bitsLt_bf16_f32) shapeCasts_S4x8192x1024_S4x32x256x16x64) transposes_S4x32x256x16x64_S4x16x32x256x64_0_3_1_2_4

set_option maxRecDepth 8192 in
/-- `main_v5`'s composed term of the arguments (named: it is used 2 times). -/
def res_main_v5 (V0 : Valuation τ sig (Elt F)) : (⟨S4x16x32x256x64, .f32⟩ : BufTy).Contents (Elt F) :=
  transpose S4x16x32x256x64 [0, 3, 1, 2, 4] (shapeCast _ (extf .f32 (V0 (Proc.devRef .tc main_arg2)) bitsLt_bf16_f32) shapeCasts_S4x8192x1024_S4x32x256x16x64) transposes_S4x32x256x16x64_S4x16x32x256x64_0_3_1_2_4

set_option maxRecDepth 8192 in
/-- `main_v8`'s composed term of the arguments (named: it is used 2 times). -/
def res_main_v8 (V0 : Valuation τ sig (Elt F)) : (⟨S4x16x32x256x64, .f32⟩ : BufTy).Contents (Elt F) :=
  transpose S4x16x32x256x64 [0, 1, 3, 4, 2] (shapeCast _ (extf .f32 (V0 (Proc.devRef .tc main_arg3)) bitsLt_bf16_f32) shapeCasts_S4x1024x8192_S4x16x64x32x256) transposes_S4x16x64x32x256_S4x16x32x256x64_0_1_3_4_2

set_option maxRecDepth 8192 in
/-- `main_v11`'s composed term of the arguments (named: it is used 4 times). -/
def res_main_v11 (V0 : Valuation τ sig (Elt F)) : (⟨S32, .i32⟩ : BufTy).Contents (Elt F) :=
  iotaInDim S32 32 0

set_option maxRecDepth 8192 in
/-- `main_v12`'s composed term of the arguments (named: it is used 4 times). -/
def res_main_v12 (V0 : Valuation τ sig (Elt F)) : (⟨S256, .i32⟩ : BufTy).Contents (Elt F) :=
  iotaInDim S256 32 0

set_option maxRecDepth 8192 in
/-- `main_v17`'s composed term of the arguments (named: it is used 2 times). -/
def res_main_v17 (V0 : Valuation τ sig (Elt F)) : (⟨S256x256, .i32⟩ : BufTy).Contents (Elt F) :=
  subi (broadcastInDim S256x256 ![0, 1] bcast_S256x1_S256x256_0_1 (broadcastInDim S256x1 ![0] bcast_S256_S256x1_0 (res_main_v12 V0))) (broadcastInDim S256x256 ![0, 1] bcast_S1x256_S256x256_0_1 (broadcastInDim S1x256 ![1] bcast_S256_S1x256_1 (res_main_v12 V0)))

set_option maxRecDepth 8192 in
/-- `main_v19`'s composed term of the arguments (named: it is used 3 times). -/
def res_main_v19 (V0 : Valuation τ sig (Elt F)) : (⟨S256x256, .i32⟩ : BufTy).Contents (Elt F) :=
  maxsi (res_main_v17 V0) (broadcastInDim S256x256 ![] bcast_S_S256x256 (constantI S_ 32 0#32))

set_option maxRecDepth 8192 in
/-- `main_v37`'s composed term of the arguments (named: it is used 3 times). -/
def res_main_v37 (V0 : Valuation τ sig (Elt F)) : (⟨S256x256, .i32⟩ : BufTy).Contents (Elt F) :=
  select (cmpi .slt (res_main_v19 V0) (broadcastInDim S256x256 ![] bcast_S_S256x256 (constantI S_ 32 16#32))) (res_main_v19 V0) (minsi (addi (broadcastInDim S256x256 ![] bcast_S_S256x256 (constantI S_ 32 16#32)) (fptosi 32 (mulf (Host.divf (Host.log (Host.divf (sitofp .f32 (maxsi (res_main_v19 V0) (broadcastInDim S256x256 ![] bcast_S_S256x256 (constantI S_ 32 1#32)))) (broadcastInDim S256x256 ![] bcast_S_S256x256 (constant S_ .f32 0x41800000#32)))) (broadcastInDim S256x256 ![] bcast_S_S256x256 (constant S_ .f32 0x40851592#32))) (broadcastInDim S256x256 ![] bcast_S_S256x256 (constant S_ .f32 0x41800000#32)) : (⟨S256x256, .f32⟩ : BufTy).Contents (Elt F)))) (broadcastInDim S256x256 ![] bcast_S_S256x256 (constantI S_ 32 31#32)))

set_option maxRecDepth 8192 in
/-- `main_v60`'s composed term of the arguments (named: it is used 2 times). -/
def res_main_v60 (V0 : Valuation τ sig (Elt F)) : (⟨S4x16x32x256x32, .f32⟩ : BufTy).Contents (Elt F) :=
  select (broadcastInDim S4x16x32x256x32 ![2, 3, 4] bcast_S32x1x32_S4x16x32x256x32_2_3_4 (broadcastInDim S32x1x32 ![0, 2] bcast_S32x32_S32x1x32_0_2 (cmpi .slt (broadcastInDim S32x32 ![0, 1] bcast_S1x32_S32x32_0_1 (broadcastInDim S1x32 ![1] bcast_S32_S1x32_1 (res_main_v11 V0))) (broadcastInDim S32x32 ![0, 1] bcast_S32x1_S32x32_0_1 (broadcastInDim S32x1 ![0] bcast_S32_S32x1_0 (res_main_v11 V0)))))) (Host.dotGeneral dot_S4x16x32x256x64_S4x16x32x64_S4x16x32x256x32_4_3_23_2_01_01 none (res_main_v2 V0) (transpose S4x16x32x64 [0, 2, 1, 3] (shapeCast _ (V0 (Proc.devRef .tc main_arg4)) shapeCasts_S4x32x1024_S4x32x16x64) transposes_S4x32x16x64_S4x16x32x64_0_2_1_3)) (broadcastInDim S4x16x32x256x32 ![] bcast_S_S4x16x32x256x32 (id (constant S_ .f32 0xFF800000#32)))

set_option maxRecDepth 8192 in
/-- `main_indices`'s composed term of the arguments (named: it is used 8 times). -/
def res_main_indices (V0 : Valuation τ sig (Elt F)) : (⟨S4x16x32x256x3, .i32⟩ : BufTy).Contents (Elt F) :=
  (Host.topK S4x16x32x256x3 4 (FloatOps.cmpfTotal .gt) (res_main_v60 V0) sliceFits_S4x16x32x256x32_S4x16x32x256x3).2

set_option maxRecDepth 8192 in
/-- `main_v62`'s composed term of the arguments (named: it is used 6 times). -/
def res_main_v62 (V0 : Valuation τ sig (Elt F)) : (⟨S4x1x1x1x1, .i32⟩ : BufTy).Contents (Elt F) :=
  broadcastInDim S4x1x1x1x1 ![0] bcast_S4_S4x1x1x1x1_0 (iotaInDim S4 32 0)

set_option maxRecDepth 8192 in
/-- `main_v64`'s composed term of the arguments (named: it is used 7 times). -/
def res_main_v64 (V0 : Valuation τ sig (Elt F)) : (⟨S1x16x1x1x1, .i32⟩ : BufTy).Contents (Elt F) :=
  broadcastInDim S1x16x1x1x1 ![1] bcast_S16_S1x16x1x1x1_1 (iotaInDim S16 32 0)

set_option maxRecDepth 8192 in
/-- `main_v128`'s composed term of the arguments (named: it is used 3 times). -/
def res_main_v128 (V0 : Valuation τ sig (Elt F)) : (⟨S4x16x32x256x3x256, .i32⟩ : BufTy).Contents (Elt F) :=
  maxsi (subi (broadcastInDim S4x16x32x256x3x256 ![0, 1, 2, 3, 4, 5] bcast_S1x1x32x256x1x1_S4x16x32x256x3x256_0_1_2_3_4_5 (broadcastInDim S1x1x32x256x1x1 ![2, 3, 4, 5] bcast_S32x256x1x1_S1x1x32x256x1x1_2_3_4_5 (broadcastInDim S32x256x1x1 ![0, 1] bcast_S32x256_S32x256x1x1_0_1 (addi (broadcastInDim S32x256 ![0, 1] bcast_S32x1_S32x256_0_1 (muli (broadcastInDim S32x1 ![0] bcast_S32_S32x1_0 (res_main_v11 V0)) (broadcastInDim S32x1 ![] bcast_S_S32x1 (constantI S_ 32 256#32)))) (broadcastInDim S32x256 ![0, 1] bcast_S1x256_S32x256_0_1 (broadcastInDim S1x256 ![1] bcast_S256_S1x256_1 (res_main_v12 V0))))))) (addi (broadcastInDim S4x16x32x256x3x256 ![0, 1, 2, 3, 4, 5] bcast_S4x16x32x256x3x1_S4x16x32x256x3x256_0_1_2_3_4_5 (muli (broadcastInDim S4x16x32x256x3x1 ![0, 1, 2, 3, 4] bcast_S4x16x32x256x3_S4x16x32x256x3x1_0_1_2_3_4 (res_main_indices V0)) (broadcastInDim S4x16x32x256x3x1 ![] bcast_S_S4x16x32x256x3x1 (constantI S_ 32 256#32)))) (broadcastInDim S4x16x32x256x3x256 ![0, 1, 2, 3, 4, 5] bcast_S1x1x1x1x1x256_S4x16x32x256x3x256_0_1_2_3_4_5 (broadcastInDim S1x1x1x1x1x256 ![5] bcast_S256_S1x1x1x1x1x256_5 (res_main_v12 V0))))) (broadcastInDim S4x16x32x256x3x256 ![] bcast_S_S4x16x32x256x3x256 (constantI S_ 32 0#32))

set_option maxRecDepth 8192 in
/-- `main_v146`'s composed term of the arguments (named: it is used 3 times). -/
def res_main_v146 (V0 : Valuation τ sig (Elt F)) : (⟨S4x16x32x256x3x256, .i32⟩ : BufTy).Contents (Elt F) :=
  select (cmpi .slt (res_main_v128 V0) (broadcastInDim S4x16x32x256x3x256 ![] bcast_S_S4x16x32x256x3x256 (constantI S_ 32 16#32))) (res_main_v128 V0) (minsi (addi (broadcastInDim S4x16x32x256x3x256 ![] bcast_S_S4x16x32x256x3x256 (constantI S_ 32 16#32)) (fptosi 32 (mulf (Host.divf (Host.log (Host.divf (sitofp .f32 (maxsi (res_main_v128 V0) (broadcastInDim S4x16x32x256x3x256 ![] bcast_S_S4x16x32x256x3x256 (constantI S_ 32 1#32)))) (broadcastInDim S4x16x32x256x3x256 ![] bcast_S_S4x16x32x256x3x256 (constant S_ .f32 0x41800000#32)))) (broadcastInDim S4x16x32x256x3x256 ![] bcast_S_S4x16x32x256x3x256 (constant S_ .f32 0x40851592#32))) (broadcastInDim S4x16x32x256x3x256 ![] bcast_S_S4x16x32x256x3x256 (constant S_ .f32 0x41800000#32)) : (⟨S4x16x32x256x3x256, .f32⟩ : BufTy).Contents (Elt F)))) (broadcastInDim S4x16x32x256x3x256 ![] bcast_S_S4x16x32x256x3x256 (constantI S_ 32 31#32)))

set_option maxRecDepth 8192 in
/-- `main_v147`'s composed term of the arguments (named: it is used 3 times). -/
def res_main_v147 (V0 : Valuation τ sig (Elt F)) : (⟨S1x16x1x1x1x1, .i32⟩ : BufTy).Contents (Elt F) :=
  broadcastInDim S1x16x1x1x1x1 ![0, 1, 2, 3, 4] bcast_S1x16x1x1x1_S1x16x1x1x1x1_0_1_2_3_4 (res_main_v64 V0)

set_option maxRecDepth 8192 in
/-- `main_v172`'s composed term of the arguments (named: it is used 2 times). -/
def res_main_v172 (V0 : Valuation τ sig (Elt F)) : (⟨S4x16x32x256x4x256, .f32⟩ : BufTy).Contents (Elt F) :=
  concatenate S4x16x32x256x4x256 4 [⟨S4x16x32x256x3x256, (select (broadcastInDim S4x16x32x256x3x256 ![0, 1, 2, 3, 4, 5] bcast_S4x16x32x256x3x1_S4x16x32x256x3x256_0_1_2_3_4_5 (broadcastInDim S4x16x32x256x3x1 ![0, 1, 2, 3, 4] bcast_S4x16x32x256x3_S4x16x32x256x3x1_0_1_2_3_4 (cmpi .slt (res_main_indices V0) (broadcastInDim S4x16x32x256x3 ![0, 1, 2, 3, 4] bcast_S1x1x32x1x1_S4x16x32x256x3_0_1_2_3_4 (broadcastInDim S1x1x32x1x1 ![2, 3, 4] bcast_S32x1x1_S1x1x32x1x1_2_3_4 (broadcastInDim S32x1x1 ![0] bcast_S32_S32x1x1_0 (res_main_v11 V0))))))) (addf (Host.dotGeneral dot_S4x16x32x256x64_S4x16x32x256x3x256x64_S4x16x32x256x3x256_4_6_n_45_0123_0123 none (res_main_v2 V0) (Host.gather gather_S4x16x32x256x64_S4x16x32x256x3x3_S4x16x32x256x3x256x64_56_012_n_n_012_5_11125664 (res_main_v5 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))))) (Host.gather gather_S32x16_S4x16x32x256x3x256x2_S4x16x32x256x3x256_n_01_n_n_01_6_11 (V0 (Proc.devRef .tc main_arg0)) (concatenate S4x16x32x256x3x256x2 6 [⟨S4x16x32x256x3x256x1, (broadcastInDim S4x16x32x256x3x256x1 ![0, 1, 2, 3, 4, 5] bcast_S4x16x32x256x3x256_S4x16x32x256x3x256x1_0_1_2_3_4_5 (select (cmpi .slt (res_main_v146 V0) (broadcastInDim S4x16x32x256x3x256 ![] bcast_S_S4x16x32x256x3x256 (constantI S_ 32 0#32))) (addi (res_main_v146 V0) (broadcastInDim S4x16x32x256x3x256 ![] bcast_S_S4x16x32x256x3x256 (constantI S_ 32 32#32))) (res_main_v146 V0)))⟩, ⟨S4x16x32x256x3x256x1, (broadcastInDim S4x16x32x256x3x256x1 ![0, 1, 2, 3, 4, 5] bcast_S4x16x32x256x3x256_S4x16x32x256x3x256x1_0_1_2_3_4_5 (broadcastInDim S4x16x32x256x3x256 ![0, 1, 2, 3, 4, 5] bcast_S1x16x1x1x1x1_S4x16x32x256x3x256_0_1_2_3_4_5 (select (cmpi .slt (res_main_v147 V0) (broadcastInDim S1x16x1x1x1x1 ![] bcast_S_S1x16x1x1x1x1 (constantI S_ 32 0#32))) (addi (res_main_v147 V0) (broadcastInDim S1x16x1x1x1x1 ![] bcast_S_S1x16x1x1x1x1 (constantI S_ 32 16#32))) (res_main_v147 V0))))⟩] concatenates_S4x16x32x256x3x256x1_S4x16x32x256x3x256x1_S4x16x32x256x3x256x2_d6))) (broadcastInDim S4x16x32x256x3x256 ![] bcast_S_S4x16x32x256x3x256 (id (constant S_ .f32 0xFF800000#32))))⟩, ⟨S4x16x32x256x1x256, (broadcastInDim S4x16x32x256x1x256 ![0, 1, 2, 3, 5] bcast_S4x16x32x256x256_S4x16x32x256x1x256_0_1_2_3_5 (select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32)))))⟩] concatenates_S4x16x32x256x3x256_S4x16x32x256x1x256_S4x16x32x256x4x256_d4

set_option maxRecDepth 8192 in
/-- `main_v179`'s composed term of the arguments (named: it is used 2 times). -/
def res_main_v179 (V0 : Valuation τ sig (Elt F)) : (⟨S4x16x32x256x4x256, .f32⟩ : BufTy).Contents (Elt F) :=
  Host.exp (subf (res_main_v172 V0) (broadcastInDim S4x16x32x256x4x256 ![0, 1, 2, 3, 4, 5] bcast_S4x16x32x256x1x1_S4x16x32x256x4x256_0_1_2_3_4_5 (broadcastInDim S4x16x32x256x1x1 ![0, 1, 2, 3] bcast_S4x16x32x256_S4x16x32x256x1x1_0_1_2_3 (maximumf (broadcastInDim S4x16x32x256 ![] bcast_S_S4x16x32x256 (constant S_ .f32 0xFF800000#32)) (Host.reduce FloatOps.maximumf (res_main_v172 V0) (constant S_ .f32 0xFF800000#32) reducesTo_S4x16x32x256x4x256_S4x16x32x256_d4_5 h_S_)))))

set_option maxRecDepth 8192 in
/-- `main_v183`'s composed term of the arguments (named: it is used 2 times). -/
def res_main_v183 (V0 : Valuation τ sig (Elt F)) : (⟨S4x16x32x256x4x256, .f32⟩ : BufTy).Contents (Elt F) :=
  Host.divf (res_main_v179 V0) (broadcastInDim S4x16x32x256x4x256 ![0, 1, 2, 3, 4, 5] bcast_S4x16x32x256x1x1_S4x16x32x256x4x256_0_1_2_3_4_5 (broadcastInDim S4x16x32x256x1x1 ![0, 1, 2, 3] bcast_S4x16x32x256_S4x16x32x256x1x1_0_1_2_3 (Host.reduceAdd (res_main_v179 V0) (constant S_ .f32 0x00000000#32) reducesTo_S4x16x32x256x4x256_S4x16x32x256_d4_5 h_S_)))

end Cert.ReferenceIdeal.Value

end
-- ==== Proof.Attn.Model.lean ====
/-
  What one grid point of the attention kernel computes, as a function of the blocks it is given: the selection of key
  blocks, the scores, and the online softmax over the own block, the four near blocks and the far blocks.
-/
module

public import proofs.«01_k».proof.Proof.Gen.KernelIdeal.Skeleton
public import Idealize.ShloMosaic.Lib.ValueIdxCore

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx (ix1 ix2 ix3 ix4)

variable {F : FTy → Type} [FloatOps F]

/-- The running state of the online softmax of one head: for every query the largest score so far, the sum of the
exponentials, and the weighted sum of the values. -/
abbrev St (F : FTy → Type) := FVec F S1x256 .f32 × FVec F S1x256 .f32 × FVec F S64x256 .f32

/-! ### The tiles a grid point reads -/

/-- Key block `n`. -/
def keyTile (x2 : Vec F S1x8192x128 .bf16) (n : ℕ) : Vec F S1x256x128 .bf16 := fun y =>
  x2 (ix3 (0 : Fin 1) (⟨(n % 32) * 256 + (y 1).val, by have : (y 1).val < 256 := (y 1).isLt; omega⟩ : Fin 8192) (y 2))

/-- Value block `n` of head `h` of the pair, transposed. -/
def valTile (x3 : Vec F S1x128x8192 .bf16) (h : Fin 2) (n : ℕ) : Vec F S1x64x256 .bf16 := fun y =>
  x3 (ix3 (0 : Fin 1) (⟨h.val * 64 + (y 1).val, by have : (y 1).val < 64 := (y 1).isLt; omega⟩ : Fin 128)
    (⟨(n % 32) * 256 + (y 2).val, by have : (y 2).val < 256 := (y 2).isLt; omega⟩ : Fin 8192))

/-- The bias tile of head `h` of the pair for blocks `o` apart. -/
def biasTile (x5 : Vec F S2x5x256x256 .f32) (h : Fin 2) (o : Fin 5) : Vec F S1x1x256x256 .f32 := fun y =>
  x5 (ix4 h o (y 2) (y 3))

/-- Row `n` of a mask. -/
def maskRow (w : Vec F S1x1x32x256 .f32) (n : ℕ) : Vec F S1x1x1x256 .f32 := fun y =>
  w (ix4 (0 : Fin 1) (0 : Fin 1) (⟨n % 32, Nat.mod_lt _ (by decide)⟩ : Fin 32) (y 3))

/-- The far bias of head `h` of the pair. -/
def farBias (i : grid1.Coords) (x0 : Vec F S16 .f32) (h : Fin 2) : Elt F .f32 :=
  x0 (ix1 (⟨(i 1).val * 2 + h.val, by have : (i 1).val < 8 := (i 1).isLt; omega⟩ : Fin 16))

/-! ### The queries, the gate and the selection -/

/-- The queries of one head, transposed; the rows of the other head are zero. -/
def qHead (lo hi : BitVec 32) (x1 : Vec F S1x256x128 .bf16) : FVec F S128x256 .bf16 :=
  truncf .bf16 (select (andi (cmpi .sge (iota .tc S128x256 32 [0] iota_S128x256_d0_w32) (broadcast S128x256 lo))
      (cmpi .slt (iota .tc S128x256 32 [0] iota_S128x256_d0_w32) (broadcast S128x256 hi)))
    (transpose S128x256 [1, 0] (extf .f32 (shapeCast S256x128 x1 shapeCasts_S1x256x128_S256x128) bitsLt_bf16_f32) transposes_S256x128_p1_0_S128x256)
    (broadcast S128x256 (Scalar.ofBits .f32 0x00000000#32))) bitsLt_bf16_f32

/-- The numbers of the blocks, as floats. -/
def blkNo : FVec F S32x256 .f32 := sitofp .f32 (iota .tc S32x256 32 [0] iota_S32x256_d0_w32)

/-- The gate: the product with the mean keys, -∞ at the blocks that are not past. -/
def gateOf (a : BitVec 32) (q : FVec F S128x256 .bf16) (x4 : Vec F S1x32x128 .f32) : FVec F S32x256 .f32 :=
  select (cmpi .slt (iota .tc S32x256 32 [0] iota_S32x256_d0_w32) (broadcast S32x256 a))
    (matmul dot_S32x128_S128x256_S32x256_1_0_0_1_n_n none
      (truncf .bf16 (shapeCast S32x128 x4 shapeCasts_S1x32x128_S32x128) bitsLt_bf16_f32) q (constant S32x256 .f32 0x00000000#32))
    (broadcast S32x256 (Scalar.ofBits .f32 0xFF800000#32))

/-- The largest gate of every query. -/
def gateMax (g : FVec F S32x256 .f32) : FVec F S1x256 .f32 :=
  shapeCast S1x256 (multiReduction .maximumf [0] S256 g 0xFF800000#32 reduces_S32x256_S256 (.inl rfl) rfl) shapeCasts_S256_S1x256

/-- The first block at which the gate is largest. -/
def hitOf (g : FVec F S32x256 .f32) : IVec S32x256 1 :=
  cmpf .oeq (blkNo (F := F)) (broadcastTo S32x256 (shapeCast S1x256 (multiReduction .minimumf [0] S256
    (select (cmpf .oeq g (broadcastTo S32x256 (gateMax g) broadcasts_S1x256_S32x256)) (blkNo (F := F)) (broadcast S32x256 (Scalar.ofBits .f32 0x42000000#32)))
    0x7F800000#32 reduces_S32x256_S256 (.inl rfl) rfl) shapeCasts_S256_S1x256) broadcasts_S1x256_S32x256)

/-- One round: the blocks chosen. -/
def pickC (g ch : FVec F S32x256 .f32) : FVec F S32x256 .f32 :=
  select (andi (hitOf g) (broadcastTo S32x256 (cmpf .ogt (gateMax g) (broadcast S1x256 (Scalar.ofBits .f32 0xFF800000#32))) broadcasts_S1x256_S32x256))
    (broadcast S32x256 (Scalar.ofBits .f32 0x3F800000#32)) ch

/-- One round: the gate left. -/
def pickG (g : FVec F S32x256 .f32) : FVec F S32x256 .f32 :=
  select (hitOf g) (broadcast S32x256 (Scalar.ofBits .f32 0xFF800000#32)) g

/-- The blocks chosen by three rounds: 1 where chosen, 0 elsewhere. -/
def chosenOf (g : FVec F S32x256 .f32) : FVec F S32x256 .f32 :=
  pickC (pickG (pickG g)) (pickC (pickG g) (pickC g (broadcast S32x256 (Scalar.ofBits .f32 0x00000000#32))))

/-- The mask: `b` at the blocks chosen, -∞ elsewhere. -/
def maskOf (ch : FVec F S32x256 .f32) (b : Elt F .f32) : FVec F S1x1x32x256 .f32 :=
  shapeCast S1x1x32x256 (select (cmpf .ogt ch (broadcast S32x256 (Scalar.ofBits .f32 0x00000000#32))) (broadcast S32x256 b)
    (broadcast S32x256 (Scalar.ofBits .f32 0xFF800000#32))) shapeCasts_S32x256_S1x1x32x256

/-! ### Scores -/

/-- The scores of a block of keys against the queries. -/
def rawScore (q : FVec F S128x256 .bf16) (k : Vec F S1x256x128 .bf16) : FVec F S256x256 .f32 :=
  matmul dot_S256x128_S128x256_S256x256_1_0_0_1_n_n none (shapeCast S256x128 k shapeCasts_S1x256x128_S256x128) q (constant S256x256 .f32 0x00000000#32)

/-- The scores of the own block. -/
def ownScore (q : FVec F S128x256 .bf16) (k : Vec F S1x256x128 .bf16) (b : Vec F S1x1x256x256 .f32) : FVec F S256x256 .f32 :=
  addf (rawScore q k) (shapeCast S256x256 b shapeCasts_S1x1x256x256_S256x256)

/-- The scores of the block `o` before. -/
def nearScore (a o : BitVec 32) (q : FVec F S128x256 .bf16) (row : Vec F S1x1x1x256 .f32) (k : Vec F S1x256x128 .bf16)
    (b : Vec F S1x1x256x256 .f32) : FVec F S256x256 .f32 :=
  addf (ownScore q k b) (broadcastTo S256x256 (Scalar.select (Scalar.cmpi .sge a o) (shapeCast S1x256 row shapeCasts_S1x1x1x256_S1x256)
    (broadcast S1x256 (Scalar.ofBits .f32 0xFF800000#32))) broadcasts_S1x256_S256x256)

/-- The scores of a far block. -/
def farScore (q : FVec F S128x256 .bf16) (row : Vec F S1x1x1x256 .f32) (k : Vec F S1x256x128 .bf16) : FVec F S256x256 .f32 :=
  addf (rawScore q k) (broadcastTo S256x256 (shapeCast S1x256 row shapeCasts_S1x1x1x256_S1x256) broadcasts_S1x256_S256x256)

/-! ### The online softmax -/

/-- The largest score of every query. -/
def colMax (s : FVec F S256x256 .f32) : FVec F S1x256 .f32 :=
  shapeCast S1x256 (multiReduction .maximumf [0] S256 s 0xFF800000#32 reduces_S256x256_S256 (.inl rfl) rfl) shapeCasts_S256_S1x256

/-- The sum over the keys. -/
def colSum (p : FVec F S256x256 .f32) : FVec F S1x256 .f32 :=
  shapeCast S1x256 (multiReduction .add [0] S256 p 0x00000000#32 reduces_S256x256_S256 (.inl rfl) rfl) shapeCasts_S256_S1x256

/-- The exponentials of the scores, less the running maximum. -/
def expScore (m : FVec F S1x256 .f32) (s : FVec F S256x256 .f32) : FVec F S256x256 .f32 :=
  exp (subf s (broadcastTo S256x256 m broadcasts_S1x256_S256x256))

/-- The weighted sum of a block's values. -/
def valSum (v : Vec F S1x64x256 .bf16) (p : FVec F S256x256 .f32) : FVec F S64x256 .f32 :=
  matmul dot_S64x256_S256x256_S64x256_1_0_0_1_n_n none (shapeCast S64x256 v shapeCasts_S1x64x256_S64x256)
    (truncf .bf16 p bitsLt_bf16_f32) (constant S64x256 .f32 0x00000000#32)

/-- The maximum after a block. -/
def mNew (m : FVec F S1x256 .f32) (s : FVec F S256x256 .f32) : FVec F S1x256 .f32 := maximumf m (colMax s)

/-- The factor the sums so far are scaled by. -/
def alphaOf (m : FVec F S1x256 .f32) (s : FVec F S256x256 .f32) : FVec F S1x256 .f32 := exp (subf m (mNew m s))

/-- The sum of the exponentials after a block. -/
def lNew (m l : FVec F S1x256 .f32) (s : FVec F S256x256 .f32) : FVec F S1x256 .f32 :=
  addf (mulf (alphaOf m s) l) (colSum (expScore (mNew m s) s))

/-- The weighted sum after a block. -/
def aNew (m : FVec F S1x256 .f32) (acc : FVec F S64x256 .f32) (s : FVec F S256x256 .f32) (v : Vec F S1x64x256 .bf16) : FVec F S64x256 .f32 :=
  addf (mulf (broadcastTo S64x256 (alphaOf m s) broadcasts_S1x256_S64x256) acc) (valSum v (expScore (mNew m s) s))

/-- The state after the own block. -/
def ownSt (s : FVec F S256x256 .f32) (v : Vec F S1x64x256 .bf16) : St F :=
  (colMax s, colSum (expScore (colMax s) s), valSum v (expScore (colMax s) s))

/-- The state after one more block. -/
def upd (st : St F) (s : FVec F S256x256 .f32) (v : Vec F S1x64x256 .bf16) : St F :=
  (mNew st.1 s, lNew st.1 st.2.1 s, aNew st.1 st.2.2 s v)

/-- The block of results from the two heads' last states. -/
def outOf (l0 : FVec F S1x256 .f32) (a0 : FVec F S64x256 .f32) (l1 : FVec F S1x256 .f32) (a1 : FVec F S64x256 .f32) : FVec F S1x256x128 .bf16 :=
  shapeCast S1x256x128 (truncf .bf16 (transpose S256x128 [1, 0] (concatenate S128x256 0
    [⟨S64x256, mulf a0 (broadcastTo S64x256 (divf (broadcast S1x256 (Scalar.ofBits .f32 0x3F800000#32)) l0) broadcasts_S1x256_S64x256)⟩,
     ⟨S64x256, mulf a1 (broadcastTo S64x256 (divf (broadcast S1x256 (Scalar.ofBits .f32 0x3F800000#32)) l1) broadcasts_S1x256_S64x256)⟩]
    concatenates_S64x256_S64x256_S128x256_d0) transposes_S128x256_p1_0_S256x128) bitsLt_bf16_f32) shapeCasts_S256x128_S1x256x128

/-! ### One head -/

section Head

variable (i : grid1.Coords) (h : Fin 2) (q : FVec F S128x256 .bf16) (x0 : Vec F S16 .f32) (x2 : Vec F S1x8192x128 .bf16)
  (x3 : Vec F S1x128x8192 .bf16) (x4 : Vec F S1x32x128 .f32) (x5 : Vec F S2x5x256x256 .f32)

/-- The mask of the near blocks: 0 where chosen. -/
def nearMask : FVec F S1x1x32x256 .f32 := maskOf (chosenOf (gateOf (BitVec.ofNat 32 (i 2).val) q x4)) (Scalar.ofBits .f32 0x00000000#32)

/-- The mask of the far blocks: the far bias where chosen. -/
def farMask : FVec F S1x1x32x256 .f32 := maskOf (chosenOf (gateOf (BitVec.ofNat 32 (i 2).val) q x4)) (farBias i x0 h)

/-- The scores of the own block. -/
def sOwn : FVec F S256x256 .f32 := ownScore q (keyTile x2 (i 2).val) (biasTile x5 h 0)

/-- The scores of the block `n + 1` before. -/
def sNear (n : ℕ) : FVec F S256x256 .f32 :=
  nearScore (BitVec.ofNat 32 (i 2).val) (BitVec.ofNat 32 (n + 1)) q (maskRow (nearMask i q x4) ((i 2).val - (n + 1)))
    (keyTile x2 ((i 2).val - (n + 1))) (biasTile x5 h (Fin.ofNat 5 (n + 1)))

/-- The scores of far block `k`. -/
def sFar (k : ℕ) : FVec F S256x256 .f32 := farScore q (maskRow (farMask i h q x0 x4) k) (keyTile x2 k)

/-- The state after the own block and `n` near blocks. -/
def nearSt : ℕ → St F
  | 0 => ownSt (sOwn i h q x2 x5) (valTile x3 h (i 2).val)
  | n + 1 => upd (nearSt n) (sNear i h q x2 x4 x5 n) (valTile x3 h ((i 2).val - (n + 1)))

/-- The state after `k` far blocks besides. -/
def farSt : ℕ → St F
  | 0 => nearSt i h q x2 x3 x4 x5 4
  | k + 1 => upd (farSt k) (sFar i h q x0 x2 x4 k) (valTile x3 h k)

end Head

/-- The block of results of one grid point. -/
def attnModel (i : grid1.Coords) (x0 : Vec F S16 .f32) (x1 : Vec F S1x256x128 .bf16) (x2 : Vec F S1x8192x128 .bf16)
    (x3 : Vec F S1x128x8192 .bf16) (x4 : Vec F S1x32x128 .f32) (x5 : Vec F S2x5x256x256 .f32) : Vec F S1x256x128 .bf16 :=
  outOf (farSt i 0 (qHead 0#32 64#32 x1) x0 x2 x3 x4 x5 ((i 2).val - 4)).2.1 (farSt i 0 (qHead 0#32 64#32 x1) x0 x2 x3 x4 x5 ((i 2).val - 4)).2.2
    (farSt i 1 (qHead 64#32 128#32 x1) x0 x2 x3 x4 x5 ((i 2).val - 4)).2.1 (farSt i 1 (qHead 64#32 128#32 x1) x0 x2 x3 x4 x5 ((i 2).val - 4)).2.2

end Cert.KernelIdeal.Attn

end
-- ==== Proof.Val.Soft.lean ====
/-
  The softmax taken a block at a time, over the extended reals: what one column's running maximum, running sum and
  running weighted sums are, and what they come to.
-/
module

public import Idealize.ShloMosaic.PureOps.Ideal
public import Idealize.ShloMosaic.PureOps.Ideal.Laws
public import Mathlib.Data.EReal.Operations
public import Mathlib.Data.EReal.Inv

@[expose] public section

noncomputable section

namespace Cert.Val

open Idealize.ShloMosaic

/-- The exponential of a score, as a real: 0 where the score is masked. -/
def wt (s : EReal) : ℝ := (Ideal.exp s).toReal

theorem wt_bot : wt ⊥ = 0 := by simp [wt]
theorem wt_coe (r : ℝ) : wt (r : EReal) = Real.exp r := by simp [wt]
theorem wt_nonneg (s : EReal) : 0 ≤ wt s := by
  induction s using EReal.rec with
  | bot => simp [wt]
  | top => simp [wt]
  | coe r => rw [wt_coe]; exact (Real.exp_pos r).le

theorem exp_sub (s : EReal) (hs : s ≠ ⊤) (μ : ℝ) : Ideal.exp (s - (μ : EReal)) = ((Real.exp (-μ) * wt s : ℝ) : EReal) := by
  induction s using EReal.rec with
  | bot => rw [EReal.bot_sub, wt_bot]; simp
  | top => exact absurd rfl hs
  | coe r =>
    rw [← EReal.coe_sub, Ideal.exp_coe, wt_coe, ← Real.exp_add]; congr 2; ring

/-- A real that is not negative distributes over a sum of extended reals. -/
theorem coe_mul_add (x : ℝ) (hx : 0 ≤ x) (a b : EReal) : (x : EReal) * (a + b) = x * a + x * b :=
  EReal.left_distrib_of_nonneg_of_ne_top (EReal.coe_nonneg.mpr hx) (EReal.coe_ne_top x) a b

theorem coe_mul_sum {ι : Type} (s : Finset ι) (x : ℝ) (hx : 0 ≤ x) (f : ι → EReal) :
    (x : EReal) * ∑ i ∈ s, f i = ∑ i ∈ s, (x : EReal) * f i := by
  classical
  induction s using Finset.induction_on with
  | empty => simp
  | insert a s ha ih => rw [Finset.sum_insert ha, Finset.sum_insert ha, coe_mul_add x hx, ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of a block's exponentials. -/
theorem sum_exp {κ : Type} [Fintype κ] (s : κ → EReal) (hs : ∀ j, s j ≠ ⊤) (μ : ℝ) :
    ∑ j, Ideal.exp (s j - (μ : EReal)) = ((Real.exp (-μ) * ∑ j, wt (s j) : ℝ) : EReal) := by
  rw [Finset.mul_sum, coe_sum]; exact Finset.sum_congr rfl fun j _ => exp_sub _ (hs j) μ

/-- The weighted sum of a block's values. -/
theorem sum_val {κ : Type} [Fintype κ] (s v : κ → EReal) (hs : ∀ j, s j ≠ ⊤) (μ : ℝ) :
    ∑ j, v j * Ideal.exp (s j - (μ : EReal)) = (Real.exp (-μ) : EReal) * ∑ j, v j * (wt (s j) : EReal) := by
  rw [coe_mul_sum _ _ (Real.exp_pos _).le]
  refine Finset.sum_congr rfl fun j _ => ?_
  rw [exp_sub _ (hs j), EReal.coe_mul, ← mul_assoc, ← mul_assoc, mul_comm (v j)]

/-- One column's state: the maximum is real, the sums are the unscaled ones times one factor. -/
def Inv {ι : Type} (m l : EReal) (acc : ι → EReal) (W : ℝ) (A : ι → EReal) : Prop :=
  ∃ μ : ℝ, m = μ ∧ l = ((Real.exp (-μ) * W : ℝ) : EReal) ∧ ∀ d, acc d = (Real.exp (-μ) : EReal) * A d

theorem Inv.first {ι κ : Type} [Fintype κ] (s : κ → EReal) (v : ι → κ → EReal) (hs : ∀ j, s j ≠ ⊤) (m : EReal)
    (hm : m ≠ ⊤) (hm' : m ≠ ⊥) :
    Inv m (∑ j, Ideal.exp (s j - m)) (fun d => ∑ j, v d j * Ideal.exp (s j - m)) (∑ j, wt (s j))
      (fun d => ∑ j, v d j * (wt (s j) : EReal)) := by
  lift m to ℝ using ⟨hm, hm'⟩
  exact ⟨m, rfl, sum_exp s hs m, fun d => sum_val s (v d) hs m⟩

theorem Inv.next {ι κ : Type} [Fintype κ] {m l : EReal} {acc : ι → EReal} {W : ℝ} {A : ι → EReal} (h : Inv m l acc W A)
    (s : κ → EReal) (v : ι → κ → EReal) (hs : ∀ j, s j ≠ ⊤) (x : EReal) (hx : x ≠ ⊤) :
    Inv (max m x) (Ideal.exp (m - max m x) * l + ∑ j, Ideal.exp (s j - max m x))
      (fun d => Ideal.exp (m - max m x) * acc d + ∑ j, v d j * Ideal.exp (s j - max m x)) (W + ∑ j, wt (s j))
      (fun d => A d + ∑ j, v d j * (wt (s j) : EReal)) := by
  obtain ⟨μ, rfl, rfl, ha⟩ := h
  have hn : max (μ : EReal) x ≠ ⊤ := by
    rcases max_choice (μ : EReal) x with h | h <;> rw [h]
    · exact EReal.coe_ne_top _
    · exact hx
  have hb : max (μ : EReal) x ≠ ⊥ := fun h => EReal.coe_ne_bot μ (le_bot_iff.mp (h ▸ le_max_left _ _))
  generalize max (μ : EReal) x = y at *
  lift y to ℝ using ⟨hn, hb⟩
  have hfac : Ideal.exp ((μ : EReal) - y) = ((Real.exp (-y) * Real.exp μ : ℝ) : EReal) := by
    rw [exp_sub _ (EReal.coe_ne_top _), wt_coe]
  have hc : Real.exp μ * Real.exp (-μ) = 1 := by rw [← Real.exp_add]; simp
  refine ⟨y, rfl, ?_, fun d => ?_⟩
  · rw [hfac, sum_exp s hs, ← EReal.coe_mul, ← EReal.coe_add]
    congr 1
    rw [mul_assoc, ← mul_assoc (Real.exp μ), hc, one_mul, mul_add]
  · show Ideal.exp ((μ : EReal) - y) * acc d + ∑ j, v d j * Ideal.exp (s j - (y : EReal)) = _
    rw [hfac, ha, sum_val s (v d) hs, coe_mul_add _ (Real.exp_pos _).le, ← mul_assoc, ← EReal.coe_mul, mul_assoc, hc, mul_one]

/-- What the last state comes to. -/
theorem Inv.out {ι : Type} {m l : EReal} {acc : ι → EReal} {W : ℝ} {A : ι → EReal} (h : Inv m l acc W A) (hW : 0 < W) (d : ι) :
    acc d * Ideal.div 1 l = A d * ((W⁻¹ : ℝ) : EReal) := by
  obtain ⟨μ, rfl, rfl, ha⟩ := h
  have hp : 0 < Real.exp (-μ) * W := mul_pos (Real.exp_pos _) hW
  have hne : ((Real.exp (-μ) * W : ℝ) : EReal) ≠ 0 := by rw [Ne, EReal.coe_eq_zero]; exact hp.ne'
  rw [Ideal.div, if_neg hne, ha, one_mul, ← EReal.coe_inv, mul_comm (Real.exp (-μ) : EReal), mul_assoc, ← EReal.coe_mul]
  congr 2
  have : Real.exp (-μ) ≠ 0 := (Real.exp_pos _).ne'
  field_simp

/-- A softmax's weight, whatever real its scores are taken less. -/
theorem soft_weight (s : EReal) (hs : s ≠ ⊤) (μ W : ℝ) (hW : 0 < W) :
    Ideal.div (Ideal.exp (s - (μ : EReal))) ((Real.exp (-μ) * W : ℝ) : EReal) = ((wt s * W⁻¹ : ℝ) : EReal) := by
  have hp : 0 < Real.exp (-μ) * W := mul_pos (Real.exp_pos _) hW
  have hne : ((Real.exp (-μ) * W : ℝ) : EReal) ≠ 0 := by rw [Ne, EReal.coe_eq_zero]; exact hp.ne'
  rw [Ideal.div, if_neg hne, exp_sub s hs, ← EReal.coe_inv, ← EReal.coe_mul]
  congr 1
  have : Real.exp (-μ) ≠ 0 := (Real.exp_pos _).ne'
  field_simp

/-- The weighted sum with a softmax's weights. -/
theorem soft_sum {κ : Type} (u : Finset κ) (s v : κ → EReal) (W : ℝ) (hW : 0 < W) :
    ∑ j ∈ u, ((wt (s j) * W⁻¹ : ℝ) : EReal) * v j = (∑ j ∈ u, v j * (wt (s j) : EReal)) * ((W⁻¹ : ℝ) : EReal) := by
  rw [mul_comm, coe_mul_sum _ _ (inv_pos.mpr hW).le]
  refine Finset.sum_congr rfl fun j _ => ?_
  rw [EReal.coe_mul, mul_comm (v j), ← mul_assoc, mul_comm ((W⁻¹ : ℝ) : EReal)]

end Cert.Val

end
-- ==== Proof.Val.Select.lean ====
/-
  The choice of three key blocks: three rounds that each take the first block whose gate is largest and mask it choose
  the blocks that a stable sort of the gates, greatest first, puts first, those whose gate is not -∞.
-/
module

public import Idealize.ShloMosaic.Lib.SortFacts
public import Mathlib.Data.EReal.Basic

@[expose] public section

noncomputable section

namespace Cert.Val

open Idealize.ShloMosaic

variable {n : ℕ}

/-- Block `k` has the greater gate. -/
def gtB (g : Fin n → EReal) (k k' : Fin n) : Bool := decide (g k' < g k)

/-- Block `k` comes before block `k'`: the greater gate, or the same one and the smaller number. -/
def Before (g : Fin n → EReal) (k k' : Fin n) : Prop := g k' < g k ∨ (g k = g k' ∧ k < k')

/-- `Before` as a test. -/
def beB (g : Fin n → EReal) (k k' : Fin n) : Bool := decide (g k' < g k ∨ (g k = g k' ∧ k < k'))

theorem stable_eq (g : Fin n → EReal) (l : List (Fin n)) (hl : l.Pairwise (· < ·)) : stableSort (gtB g) l = stableSort (beB g) l := by
  induction l with
  | nil => rfl
  | cons a l ih =>
    rw [List.pairwise_cons] at hl
    unfold stableSort
    rw [ih hl.2]
    refine insertBefore_congr _ _ a _ fun b hb => ?_
    have hb' := hl.1 b ((perm_stableSort (beB g) l).mem_iff.mp hb)
    have h : ¬ b < a := not_lt.mpr hb'.le
    simp [gtB, beB, h]

theorem sorted_before (g : Fin n → EReal) (i j : Fin n) (hij : i < j) : Before g (sortedFrom (gtB g) i) (sortedFrom (gtB g) j) := by
  have he : sortedFrom (gtB g) = sortedFrom (beB g) := by
    funext k
    unfold sortedFrom
    have : sortPositions n (gtB g) = sortPositions n (beB g) := stable_eq g _ (List.pairwise_lt_finRange n)
    rw [List.get_of_eq this]; rfl
  rw [he]
  have h := sortedFrom_noInversion (beB g) (beB g)
    (by
      intro a b h
      simp only [beB, decide_eq_true_eq, decide_eq_false_iff_not] at h ⊢
      rintro (h' | ⟨h1, h2⟩) <;> rcases h with h | ⟨h3, h4⟩
      · exact absurd h (not_lt.mpr h'.le)
      · exact absurd h' (by rw [h3]; exact lt_irrefl _)
      · exact absurd h (by rw [h1]; exact lt_irrefl _)
      · exact absurd h2 (not_lt.mpr h4.le))
    (fun _ _ h => h)
    (by
      intro a b c h1 h2
      simp only [beB, decide_eq_false_iff_not, not_or, not_and, not_lt] at h1 h2 ⊢
      refine ⟨h1.1.trans h2.1, fun he => ?_⟩
      have hab : g a = g b := le_antisymm h1.1 (h2.1.trans he.ge)
      have hbc : g b = g c := hab.symm.trans he
      exact (h2.2 hbc).trans (h1.2 hab)) i j hij
  have hne : sortedFrom (beB g) i ≠ sortedFrom (beB g) j := fun e => hij.ne (sortedFrom_injective _ e)
  simp only [beB, decide_eq_false_iff_not, not_or, not_and, not_lt] at h
  rcases lt_or_eq_of_le h.1 with h1 | h1
  · exact .inl h1
  · exact .inr ⟨h1.symm, lt_of_le_of_ne (h.2 h1) hne⟩

/-- Block `k` is the first whose gate is largest. -/
def First (g : Fin n → EReal) (k : Fin n) : Prop := (∀ k', g k' ≤ g k) ∧ ∀ k', g k' = g k → k ≤ k'

open Classical in
/-- The gate with its first largest block masked. -/
def maskFirst (g : Fin n → EReal) (k : Fin n) : EReal := if First g k then ⊥ else g k

/-- What the three rounds choose. -/
def Chosen (g : Fin n → EReal) (k : Fin n) : Prop :=
  (First g k ∧ ⊥ < g k) ∨ (First (maskFirst g) k ∧ ⊥ < maskFirst g k) ∨
    (First (maskFirst (maskFirst g)) k ∧ ⊥ < maskFirst (maskFirst g) k)

section

variable (g : Fin n → EReal) (σ : Fin n → Fin n) (hs : Function.Surjective σ) (hb : ∀ i j, i < j → Before g (σ i) (σ j))

include hb in
theorem sigma_inj : Function.Injective σ := by
  intro i j h
  rcases lt_trichotomy i j with h1 | h1 | h1
  · have := hb i j h1
    rw [h] at this; rcases this with h | h
    · exact absurd h (lt_irrefl _)
    · exact absurd h.2 (lt_irrefl _)
  · exact h1
  · have := hb j i h1
    rw [h] at this; rcases this with h | h
    · exact absurd h (lt_irrefl _)
    · exact absurd h.2 (lt_irrefl _)

/-- The gate with the first `r` in order masked. -/
def Masked (r : ℕ) (G : Fin n → EReal) : Prop := ∀ j : Fin n, G (σ j) = if j.val < r then ⊥ else g (σ j)

include hs hb in
theorem masked_first (r : ℕ) (hr : r < n) (G : Fin n → EReal) (hG : Masked g σ r G) (k : Fin n) :
    (First G k ∧ ⊥ < G k ↔ k = σ ⟨r, hr⟩ ∧ ⊥ < g k) := by
  obtain ⟨j, rfl⟩ := hs k
  have hGr := hG ⟨r, hr⟩
  simp only [lt_irrefl, if_false] at hGr
  constructor
  · rintro ⟨hf, hp⟩
    have hj := hG j
    have hjr : ¬ j.val < r := fun h => by rw [hj, if_pos h] at hp; exact absurd hp (lt_irrefl _)
    rw [if_neg hjr] at hj
    have hjr' : j = ⟨r, hr⟩ := by
      by_contra hne
      have hlt : (⟨r, hr⟩ : Fin n) < j := lt_of_le_of_ne (Fin.le_def.mpr (not_lt.mp hjr)) (Ne.symm hne)
      rcases hb _ _ hlt with h | ⟨h1, h2⟩
      · have := hf.1 (σ ⟨r, hr⟩)
        rw [hGr, hj] at this
        exact absurd h (not_lt.mpr this)
      · have := hf.2 (σ ⟨r, hr⟩) (by rw [hGr, hj]; exact h1)
        exact absurd h2 (not_lt.mpr this)
    rw [hjr']
    exact ⟨rfl, by rw [hjr', hGr] at hp; exact hp⟩
  · rintro ⟨he, hp⟩
    have hj := sigma_inj g σ hb he
    subst hj
    refine ⟨⟨fun k' => ?_, fun k' h => ?_⟩, by rw [hGr]; exact hp⟩
    · obtain ⟨i, rfl⟩ := hs k'
      rw [hGr, hG i]
      split
      · exact bot_le
      · rename_i hi
        rcases eq_or_lt_of_le (not_lt.mp hi) with h | h
        · rw [show i = ⟨r, hr⟩ from Fin.ext h.symm]
        · rcases hb ⟨r, hr⟩ i h with h | h
          · exact h.le
          · exact h.1.symm.le
    · obtain ⟨i, rfl⟩ := hs k'
      rw [hGr, hG i] at h
      split at h
      · rw [← h] at hp; exact absurd hp (lt_irrefl _)
      · rename_i hi
        rcases eq_or_lt_of_le (not_lt.mp hi) with h' | h'
        · rw [show i = ⟨r, hr⟩ from Fin.ext h'.symm]
        · rcases hb ⟨r, hr⟩ i h' with h2 | h2
          · rw [h] at h2; exact absurd h2 (lt_irrefl _)
          · exact h2.2.le

include hs hb in
theorem masked_next (r : ℕ) (hr : r < n) (G : Fin n → EReal) (hG : Masked g σ r G) : Masked g σ (r + 1) (maskFirst G) := by
  intro j
  have hGj := hG j
  have hGr := hG ⟨r, hr⟩
  simp only [lt_irrefl, if_false] at hGr
  have hm := masked_first g σ hs hb r hr G hG (σ j)
  unfold maskFirst
  rcases lt_trichotomy j.val r with h | h | h
  · rw [if_pos (show j.val < r + 1 by omega), hGj, if_pos h]; simp
  · have hj : j = ⟨r, hr⟩ := Fin.ext h
    rw [if_pos (show j.val < r + 1 by omega)]
    by_cases hp : ⊥ < g (σ j)
    · rw [if_pos (hm.mpr ⟨by rw [hj], hp⟩).1]
    · rw [hGj, if_neg (show ¬ j.val < r by omega)]
      simp only [bot_lt_iff_ne_bot, ne_eq, not_not] at hp
      simp [hp]
  · rw [if_neg (show ¬ j.val < r + 1 by omega), hGj, if_neg (show ¬ j.val < r by omega)]
    split
    · rename_i hf
      by_contra hne
      have hp : ⊥ < G (σ j) := by rw [hGj, if_neg (show ¬ j.val < r by omega)]; exact bot_lt_iff_ne_bot.mpr (Ne.symm hne)
      have := sigma_inj g σ hb (hm.mp ⟨hf, hp⟩).1
      rw [this] at h; exact absurd h (lt_irrefl _)
    · rfl

include hs hb in
theorem chosen_iff (h3 : 2 < n) (k : Fin n) :
    Chosen g k ↔ ⊥ < g k ∧ ∃ r : Fin 3, k = σ ⟨r.val, by omega⟩ := by
  have m0 : Masked g σ 0 g := fun j => by simp
  have m1 := masked_next g σ hs hb 0 (by omega) g m0
  have m2 := masked_next g σ hs hb 1 (by omega) _ m1
  unfold Chosen
  rw [masked_first g σ hs hb 0 (by omega) g m0, masked_first g σ hs hb 1 (by omega) _ m1, masked_first g σ hs hb 2 (by omega) _ m2]
  constructor
  · rintro (h | h | h)
    · exact ⟨h.2, 0, h.1⟩
    · exact ⟨h.2, 1, h.1⟩
    · exact ⟨h.2, 2, h.1⟩
  · rintro ⟨hp, r, hr⟩
    fin_cases r
    · exact .inl ⟨hr, hp⟩
    · exact .inr (.inl ⟨hr, hp⟩)
    · exact .inr (.inr ⟨hr, hp⟩)

end

/-- The blocks chosen, by the stable sort. -/
theorem chosen_sorted (g : Fin n → EReal) (h3 : 2 < n) (k : Fin n) :
    Chosen g k ↔ ⊥ < g k ∧ ∃ r : Fin 3, k = sortedFrom (gtB g) ⟨r.val, by omega⟩ :=
  chosen_iff g _ (sortedFrom_surjective _) (sorted_before g) h3 k

open Classical in
/-- A sum over the three places of the sort is a sum over the blocks chosen. -/
theorem sum_chosen {M : Type} [AddCommMonoid M] (g : Fin n → EReal) (h3 : 2 < n) (f : Fin n → M) (hf : ∀ k, ¬ ⊥ < g k → f k = 0) :
    ∑ r : Fin 3, f (sortedFrom (gtB g) ⟨r.val, by omega⟩) = ∑ k, if Chosen g k then f k else 0 := by
  let e : Fin 3 ↪ Fin n := ⟨fun r => sortedFrom (gtB g) ⟨r.val, by omega⟩, fun a b h => by
    have := congrArg Fin.val (sortedFrom_injective _ h); exact Fin.ext this⟩
  rw [show (∑ r : Fin 3, f (sortedFrom (gtB g) ⟨r.val, by omega⟩)) = ∑ k ∈ Finset.univ.map e, f k from (Finset.sum_map _ e f).symm,
    ← Finset.sum_filter]
  symm
  refine Finset.sum_subset_zero_on_sdiff ?_ ?_ fun _ _ => rfl
  · intro k hk
    rw [Finset.mem_filter, chosen_sorted g h3] at hk
    obtain ⟨_, _, r, hr⟩ := hk
    exact Finset.mem_map.mpr ⟨r, Finset.mem_univ _, hr.symm⟩
  · intro k hk
    rw [Finset.mem_sdiff, Finset.mem_filter, chosen_sorted g h3] at hk
    obtain ⟨h1, h2⟩ := hk
    obtain ⟨r, _, hr⟩ := Finset.mem_map.mp h1
    refine hf k fun hp => h2 ⟨Finset.mem_univ _, hp, r, hr.symm⟩

end Cert.Val

end
-- ==== Proof.Val.Read.lean ====
/-
  The attention body's pieces read at an index, over the extended reals.
-/
module

public import proofs.«01_k».proof.Proof.Attn.Model
public import proofs.«01_k».proof.Proof.Val.Soft
public import proofs.«01_k».proof.Proof.Val.Select
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

namespace Cert.Val

open Cert.KernelIdeal Cert.KernelIdeal.Gen Cert.KernelIdeal.Attn
open Idealize.ShloMosaic Idealize.ShloMosaic.TcCoe
open Idealize.ShloMosaic.ValueIdx

/-! ### Constants -/

theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]
theorem ofBits_one : Ideal.ofBits .f32 0x3F800000#32 = 1 := by
  simp [Ideal.ofBits, Ideal.ieee, Nat.shiftRight_eq_div_pow, BitVec.extractLsb', ↓reduceIte]
  try norm_num
theorem ofBits_32 : Ideal.ofBits .f32 0x42000000#32 = ((32 : ℝ) : EReal) := by
  simp [Ideal.ofBits, Ideal.ieee, Nat.shiftRight_eq_div_pow, BitVec.extractLsb', ↓reduceIte]
  try norm_num
theorem ofBits_16 : Ideal.ofBits .f32 0x41800000#32 = ((16 : ℝ) : EReal) := by
  simp [Ideal.ofBits, Ideal.ieee, Nat.shiftRight_eq_div_pow, BitVec.extractLsb', ↓reduceIte]
  try norm_num

/-! ### Products -/

theorem mm_score (l : FVec Ideal S256x128 .bf16) (r : FVec Ideal S128x256 .bf16) (j t : Fin 256) :
    matmul dot_S256x128_S128x256_S256x256_1_0_0_1_n_n none l r (constant S256x256 .f32 0x00000000#32) (ix2 j t)
      = ∑ c : Fin 128, l (ix2 j c) * r (ix2 c t) := by
  have h := Ideal.matmul_plain_apply (M := 256) (K := 128) (N := 256) none l r (constant S256x256 .f32 0x00000000#32) j t
  refine Eq.trans h ?_
  show Ideal.ofBits .f32 0x00000000#32 + _ = _
  rw [Ideal.ofBits_zero_f32, zero_add]

theorem mm_gate (l : FVec Ideal S32x128 .bf16) (r : FVec Ideal S128x256 .bf16) (n : Fin 32) (t : Fin 256) :
    matmul dot_S32x128_S128x256_S32x256_1_0_0_1_n_n none l r (constant S32x256 .f32 0x00000000#32) (ix2 n t)
      = ∑ c : Fin 128, l (ix2 n c) * r (ix2 c t) := by
  have h := Ideal.matmul_plain_apply (M := 32) (K := 128) (N := 256) none l r (constant S32x256 .f32 0x00000000#32) n t
  refine Eq.trans h ?_
  show Ideal.ofBits .f32 0x00000000#32 + _ = _
  rw [Ideal.ofBits_zero_f32, zero_add]

theorem mm_val (l : FVec Ideal S64x256 .bf16) (r : FVec Ideal S256x256 .bf16) (d : Fin 64) (t : Fin 256) :
    matmul dot_S64x256_S256x256_S64x256_1_0_0_1_n_n none l r (constant S64x256 .f32 0x00000000#32) (ix2 d t)
      = ∑ j : Fin 256, l (ix2 d j) * r (ix2 j t) := by
  have h := Ideal.matmul_plain_apply (M := 64) (K := 256) (N := 256) none l r (constant S64x256 .f32 0x00000000#32) d t
  refine Eq.trans h ?_
  show Ideal.ofBits .f32 0x00000000#32 + _ = _
  rw [Ideal.ofBits_zero_f32, zero_add]

/-! ### The largest and the sum of a column -/

theorem fold_max_sup {κ : Type} [DecidableEq κ] (s : Finset κ) (f : κ → EReal) : s.fold max ⊥ f = s.sup f := by
  induction s using Finset.induction_on with
  | empty => rfl
  | insert a s ha ih => rw [Finset.fold_insert ha, Finset.sup_insert, ih]

theorem fold_min_inf {κ : Type} [DecidableEq κ] (s : Finset κ) (f : κ → EReal) : s.fold min ⊤ f = s.inf f := by
  induction s using Finset.induction_on with
  | empty => rfl
  | insert a s ha ih => rw [Finset.fold_insert ha, Finset.inf_insert, ih]

theorem lift_256 (t k : Fin 256) : reduces_S256x256_S256.lift (ix1 t) k = ix2 k t := by
  funext a; apply Fin.ext
  match a with
  | ⟨0, _⟩ => rfl
  | ⟨1, _⟩ => rfl

theorem lift_32 (t : Fin 256) (k : Fin 32) : reduces_S32x256_S256.lift (ix1 t) k = ix2 k t := by
  funext a; apply Fin.ext
  match a with
  | ⟨0, _⟩ => rfl
  | ⟨1, _⟩ => rfl

theorem colMax_apply (s : FVec Ideal S256x256 .f32) (t : Fin 256) : colMax s (ix2 0 t) = Finset.univ.sup fun j : Fin 256 => s (ix2 j t) := by
  unfold colMax
  rw [show shapeCast S1x256 _ shapeCasts_S256_S1x256 (ix2 0 t) = _ from shapeCast_a_1a_apply _ _ 0 t]
  refine (Ideal.multiReduction_maximumf_single s _ reduces_S256x256_S256 _ _ (ix1 t)).trans ?_
  show Finset.fold max (Ideal.ofBits .f32 0xFF800000#32) _ _ = _
  rw [ofBits_neg_inf, fold_max_sup]
  refine Finset.sup_congr rfl fun k _ => ?_
  exact congrArg s (lift_256 t k)

theorem colSum_apply (s : FVec Ideal S256x256 .f32) (t : Fin 256) : colSum s (ix2 0 t) = ∑ j : Fin 256, s (ix2 j t) := by
  unfold colSum
  rw [show shapeCast S1x256 _ shapeCasts_S256_S1x256 (ix2 0 t) = _ from shapeCast_a_1a_apply _ _ 0 t]
  refine (Ideal.multiReduction_add_single s _ reduces_S256x256_S256 _ _ (ix1 t)).trans ?_
  exact Finset.sum_congr rfl fun k _ => congrArg s (lift_256 t k)

theorem gateMax_apply (g : FVec Ideal S32x256 .f32) (t : Fin 256) : gateMax g (ix2 0 t) = Finset.univ.sup fun n : Fin 32 => g (ix2 n t) := by
  unfold gateMax
  rw [show shapeCast S1x256 _ shapeCasts_S256_S1x256 (ix2 0 t) = _ from shapeCast_a_1a_apply _ _ 0 t]
  refine (Ideal.multiReduction_maximumf_single g _ reduces_S32x256_S256 _ _ (ix1 t)).trans ?_
  show Finset.fold max (Ideal.ofBits .f32 0xFF800000#32) _ _ = _
  rw [ofBits_neg_inf, fold_max_sup]
  refine Finset.sup_congr rfl fun k _ => ?_
  exact congrArg g (lift_32 t k)

/-! ### The selection -/

theorem blkNo_apply (n : Fin 32) (t : Fin 256) : blkNo (F := Ideal) (ix2 n t) = ((n.val : ℝ) : EReal) := by
  have : ∀ n : Fin 32, (BitVec.ofNat 32 n.val).toInt = (n.val : ℤ) := by decide
  have hi : iota .tc S32x256 32 [0] iota_S32x256_d0_w32 (ix2 n t) = BitVec.ofNat 32 n.val := by
    show BitVec.ofNat 32 (0 * 32 + n.val) = _
    rw [Nat.zero_mul, Nat.zero_add]
  show (((iota .tc S32x256 32 [0] iota_S32x256_d0_w32 (ix2 n t)).toInt : ℝ) : EReal) = _
  rw [hi, this n]; simp

/-- The least block number at which the gate is largest. -/
def firstNo (g : Fin 32 → EReal) : EReal :=
  Finset.univ.inf fun n : Fin 32 => if g n = Finset.univ.sup g then ((n.val : ℝ) : EReal) else ((32 : ℝ) : EReal)

theorem select_ofBool {α : Type} (p : Prop) [Decidable p] (a b : α) : Scalar.select (BitVec.ofBool (decide p)) a b = if p then a else b := by
  by_cases h : p <;> simp [h, Scalar.select]

theorem firstNo_iff (g : Fin 32 → EReal) (n : Fin 32) : ((n.val : ℝ) : EReal) = firstNo g ↔ First g n := by
  have hex : ∃ k ∈ (Finset.univ : Finset (Fin 32)), Finset.univ.sup g = g k := Finset.exists_mem_eq_sup _ ⟨0, Finset.mem_univ _⟩ g
  have hle : ∀ k, g k ≤ Finset.univ.sup g := fun k => Finset.le_sup (Finset.mem_univ k)
  have hcast : ∀ a b : Fin 32, ((a.val : ℝ) : EReal) ≤ ((b.val : ℝ) : EReal) ↔ a ≤ b := fun a b => by
    rw [EReal.coe_le_coe_iff, Nat.cast_le, Fin.le_def]
  have h32 : ∀ a : Fin 32, ((a.val : ℝ) : EReal) < ((32 : ℝ) : EReal) := fun a => by
    rw [EReal.coe_lt_coe_iff]; exact_mod_cast a.isLt
  have key : ∀ n : Fin 32, First g n → firstNo g = ((n.val : ℝ) : EReal) := by
    intro n hf
    have hs : Finset.univ.sup g = g n := le_antisymm (Finset.sup_le fun k _ => hf.1 k) (hle n)
    refine le_antisymm ?_ (Finset.le_inf fun k _ => ?_)
    · refine (Finset.inf_le (Finset.mem_univ n)).trans ?_
      rw [if_pos hs.symm]
    · split
      · rename_i h
        exact (hcast _ _).mpr (hf.2 k (h.trans hs))
      · exact (h32 n).le
  have hfirst : ∃ n, First g n := by
    have hne : (Finset.univ.filter fun k => g k = Finset.univ.sup g).Nonempty := by
      obtain ⟨k, _, hk⟩ := hex
      exact ⟨k, by simp [hk]⟩
    refine ⟨Finset.min' _ hne, ?_⟩
    have hm := Finset.min'_mem _ hne
    rw [Finset.mem_filter] at hm
    refine ⟨fun k => hm.2.symm ▸ hle k, fun k hk => Finset.min'_le _ _ ?_⟩
    rw [Finset.mem_filter]; exact ⟨Finset.mem_univ _, hk.trans hm.2⟩
  constructor
  · intro h
    obtain ⟨k, hk⟩ := hfirst
    have := key k hk
    rw [← h, EReal.coe_eq_coe_iff, Nat.cast_inj] at this
    rw [Fin.ext this]; exact hk
  · exact fun h => (key n h).symm

open Classical in
theorem hitOf_apply (g : FVec Ideal S32x256 .f32) (n : Fin 32) (t : Fin 256) :
    hitOf g (ix2 n t) = BitVec.ofBool (decide (First (fun n => g (ix2 n t)) n)) := by
  have hsel : ∀ k : Fin 32, select (cmpf .oeq g (broadcastTo S32x256 (gateMax g) broadcasts_S1x256_S32x256)) (blkNo (F := Ideal))
      (broadcast S32x256 (Scalar.ofBits (F := Ideal) .f32 0x42000000#32)) (ix2 k t)
      = if g (ix2 k t) = Finset.univ.sup (fun n : Fin 32 => g (ix2 n t)) then ((k.val : ℝ) : EReal) else ((32 : ℝ) : EReal) := fun k => by
    rw [select_apply, blkNo_apply, cmpf_apply,
      show broadcastTo S32x256 (gateMax g) broadcasts_S1x256_S32x256 (ix2 k t) = _ from broadcastTo_1b_ab_apply _ _ k t, gateMax_apply,
      show broadcast S32x256 (Scalar.ofBits (F := Ideal) .f32 0x42000000#32) (ix2 k t) = ((32 : ℝ) : EReal) from ofBits_32]
    exact select_ofBool (g (ix2 k t) = _) _ _
  have hmin : (shapeCast S1x256 (multiReduction .minimumf [0] S256
      (select (cmpf .oeq g (broadcastTo S32x256 (gateMax g) broadcasts_S1x256_S32x256)) (blkNo (F := Ideal)) (broadcast S32x256 (Scalar.ofBits .f32 0x42000000#32)))
      0x7F800000#32 reduces_S32x256_S256 (.inl rfl) rfl) shapeCasts_S256_S1x256) (ix2 0 t) = firstNo fun n => g (ix2 n t) := by
    rw [show shapeCast S1x256 _ shapeCasts_S256_S1x256 (ix2 0 t) = _ from shapeCast_a_1a_apply _ _ 0 t]
    refine (multiReduction_minimumf_eq_fold _ _ reduces_S32x256_S256 _ _ (ix1 t)).trans ?_
    refine (reduces_S32x256_S256.fold_filter_drop_single _ _ _ (ix1 t)).trans ?_
    show Finset.fold min (Ideal.ofBits .f32 0x7F800000#32) _ _ = _
    rw [ofBits_pos_inf, fold_min_inf]
    exact Finset.inf_congr rfl fun k _ => (congrArg _ (lift_32 t k)).trans (hsel k)
  unfold hitOf
  rw [cmpf_apply, blkNo_apply, show broadcastTo S32x256 _ broadcasts_S1x256_S32x256 (ix2 n t) = _ from broadcastTo_1b_ab_apply _ _ n t, hmin]
  show BitVec.ofBool (decide _) = _
  congr 1
  exact decide_eq_decide.mpr (firstNo_iff _ n)

open Classical in
theorem pickG_apply (g : FVec Ideal S32x256 .f32) (n : Fin 32) (t : Fin 256) :
    pickG g (ix2 n t) = maskFirst (fun n => g (ix2 n t)) n := by
  unfold pickG maskFirst
  rw [select_apply, hitOf_apply, select_ofBool]
  rw [show broadcast S32x256 (Scalar.ofBits (F := Ideal) .f32 0xFF800000#32) (ix2 n t) = ⊥ from ofBits_neg_inf]

open Classical in
theorem pickC_apply (g ch : FVec Ideal S32x256 .f32) (n : Fin 32) (t : Fin 256) :
    pickC g ch (ix2 n t) = if First (fun n => g (ix2 n t)) n ∧ ⊥ < g (ix2 n t) then 1 else ch (ix2 n t) := by
  unfold pickC
  rw [select_apply, show andi _ _ (ix2 n t) = IntOp.andi (hitOf g (ix2 n t)) (broadcastTo S32x256 _ broadcasts_S1x256_S32x256 (ix2 n t)) from rfl,
    show broadcastTo S32x256 _ broadcasts_S1x256_S32x256 (ix2 n t) = _ from broadcastTo_1b_ab_apply _ _ n t, cmpf_apply, gateMax_apply, hitOf_apply,
    show broadcast S32x256 (Scalar.ofBits (F := Ideal) .f32 0x3F800000#32) (ix2 n t) = 1 from ofBits_one,
    show broadcast S1x256 (Scalar.ofBits (F := Ideal) .f32 0xFF800000#32) (ix2 0 t) = ⊥ from ofBits_neg_inf]
  by_cases hf : First (fun n => g (ix2 n t)) n
  · have hs : (Finset.univ.sup fun n => g (ix2 n t)) = g (ix2 n t) :=
      le_antisymm (Finset.sup_le fun k _ => hf.1 k) (Finset.le_sup (f := fun n => g (ix2 n t)) (Finset.mem_univ n))
    rw [hs]
    simp only [hf, true_and, decide_true]
    show Scalar.select (IntOp.andi (BitVec.ofBool true) (BitVec.ofBool (decide (⊥ < g (ix2 n t))))) _ _ = _
    by_cases hp : ⊥ < g (ix2 n t)
    · simp [hp, Scalar.select, IntOp.andi]
    · simp [hp, Scalar.select, IntOp.andi]
  · simp [hf, Scalar.select, IntOp.andi]

open Classical in
theorem chosenOf_apply (g : FVec Ideal S32x256 .f32) (n : Fin 32) (t : Fin 256) :
    chosenOf g (ix2 n t) = if Chosen (fun n => g (ix2 n t)) n then 1 else 0 := by
  have h1 : (fun n => pickG g (ix2 n t)) = maskFirst (fun n => g (ix2 n t)) := funext fun n => pickG_apply g n t
  have h2 : (fun n => pickG (pickG g) (ix2 n t)) = maskFirst (maskFirst (fun n => g (ix2 n t))) := by
    funext n; rw [pickG_apply, h1]
  unfold chosenOf Chosen
  rw [pickC_apply, pickC_apply, pickC_apply, h2, h1, pickG_apply, pickG_apply, h1,
    show broadcast S32x256 (Scalar.ofBits (F := Ideal) .f32 0x00000000#32) (ix2 n t) = 0 from Ideal.ofBits_zero_f32]
  split_ifs <;> tauto

open Classical in
theorem maskOf_apply (g : FVec Ideal S32x256 .f32) (b : Elt Ideal .f32) (n : Fin 32) (t : Fin 256) :
    maskOf (chosenOf g) b (ix4 0 0 n t) = if Chosen (fun n => g (ix2 n t)) n then b else ⊥ := by
  unfold maskOf
  have hi : shapeCast S1x1x32x256 (select (cmpf .ogt (chosenOf g) (broadcast S32x256 (Scalar.ofBits .f32 0x00000000#32))) (broadcast S32x256 b)
    (broadcast S32x256 (Scalar.ofBits (F := Ideal) .f32 0xFF800000#32))) shapeCasts_S32x256_S1x1x32x256 (ix4 0 0 n t)
      = (select (cmpf .ogt (chosenOf g) (broadcast S32x256 (Scalar.ofBits .f32 0x00000000#32))) (broadcast S32x256 b)
    (broadcast S32x256 (Scalar.ofBits (F := Ideal) .f32 0xFF800000#32))) (ix2 n t) := by
    refine congrArg (select (cmpf .ogt (chosenOf g) (broadcast S32x256 (Scalar.ofBits (F := Ideal) .f32 0x00000000#32))) (broadcast S32x256 b)
      (broadcast S32x256 (Scalar.ofBits (F := Ideal) .f32 0xFF800000#32))) (Shape.reshapeEquiv_eq_of_rowMajor _ ?_)
    rw [Shape.rowMajor_val_four, Shape.rowMajor_val_two]
    show n.val * 256 + t.val = ((0 * 1 + 0) * 32 + n.val) * 256 + t.val
    omega
  rw [hi, select_apply, cmpf_apply, chosenOf_apply,
    show broadcast S32x256 (Scalar.ofBits (F := Ideal) .f32 0x00000000#32) (ix2 n t) = 0 from Ideal.ofBits_zero_f32,
    show broadcast S32x256 (Scalar.ofBits (F := Ideal) .f32 0xFF800000#32) (ix2 n t) = ⊥ from ofBits_neg_inf]
  show Scalar.select (BitVec.ofBool (decide ((0 : EReal) < _))) b ⊥ = _
  split_ifs <;> simp [Scalar.select]

end Cert.Val

end
-- ==== Proof.Val.Column.lean ====
/-
  One query's column of the attention body: its scores and the running state's invariant.
-/
module

public import proofs.«01_k».proof.Proof.Val.Read

@[expose] public section

set_option maxRecDepth 16384

noncomputable section

namespace Cert.Val

open Cert.KernelIdeal Cert.KernelIdeal.Gen Cert.KernelIdeal.Attn
open Idealize.ShloMosaic Idealize.ShloMosaic.TcCoe
open Idealize.ShloMosaic.ValueIdx

/-- Feature `d` of head `h` of the pair. -/
def col (h : Fin 2) (d : Fin 64) : Fin 128 := ⟨h.val * 64 + d.val, by omega⟩

/-! ### The queries -/

theorem iota128 (c : Fin 128) (t : Fin 256) : iota .tc S128x256 32 [0] iota_S128x256_d0_w32 (ix2 c t) = BitVec.ofNat 32 c.val := by
  show BitVec.ofNat 32 (0 * 128 + c.val) = _
  rw [Nat.zero_mul, Nat.zero_add]

theorem range_word : ∀ (h : Fin 2) (c : Fin 128),
    IntOp.andi (IntOp.cmpi .sge (BitVec.ofNat 32 c.val) (BitVec.ofNat 32 (h.val * 64))) (IntOp.cmpi .slt (BitVec.ofNat 32 c.val) (BitVec.ofNat 32 (h.val * 64 + 64)))
      = BitVec.ofBool (decide (h.val * 64 ≤ c.val ∧ c.val < h.val * 64 + 64)) := by decide +kernel

theorem qHead_apply (h : Fin 2) (x1 : Vec Ideal S1x256x128 .bf16) (c : Fin 128) (t : Fin 256) :
    qHead (F := Ideal) (BitVec.ofNat 32 (h.val * 64)) (BitVec.ofNat 32 (h.val * 64 + 64)) x1 (ix2 c t)
      = if h.val * 64 ≤ c.val ∧ c.val < h.val * 64 + 64 then x1 (ix3 0 t c) else 0 := by
  unfold qHead
  rw [truncf_apply, select_apply]
  rw [show andi _ _ (ix2 c t) = IntOp.andi (IntOp.cmpi .sge (iota .tc S128x256 32 [0] iota_S128x256_d0_w32 (ix2 c t)) (BitVec.ofNat 32 (h.val * 64)))
    (IntOp.cmpi .slt (iota .tc S128x256 32 [0] iota_S128x256_d0_w32 (ix2 c t)) (BitVec.ofNat 32 (h.val * 64 + 64))) from rfl, iota128, range_word,
    select_ofBool, show broadcast S128x256 (Scalar.ofBits (F := Ideal) .f32 0x00000000#32) (ix2 c t) = 0 from Ideal.ofBits_zero_f32,
    show transpose S128x256 [1, 0] _ transposes_S256x128_p1_0_S128x256 (ix2 c t) = _ from transpose_ix2_apply _ _ c t, extf_apply,
    show shapeCast S256x128 x1 shapeCasts_S1x256x128_S256x128 (ix2 t c) = _ from shapeCast_1ab_ab_apply _ _ t c]

theorem sum_head (h : Fin 2) (f g : Fin 128 → EReal) :
    ∑ c : Fin 128, f c * (if h.val * 64 ≤ c.val ∧ c.val < h.val * 64 + 64 then g c else 0) = ∑ d : Fin 64, f (col h d) * g (col h d) := by
  rw [show (∑ c : Fin 128, f c * (if h.val * 64 ≤ c.val ∧ c.val < h.val * 64 + 64 then g c else 0)) = _ from
    Fin.sum_univ_add (a := 64) (b := 64) (fun c : Fin (64 + 64) => f c * (if h.val * 64 ≤ c.val ∧ c.val < h.val * 64 + 64 then g c else 0))]
  fin_cases h
  · have h2 : ∑ d : Fin 64, f (Fin.natAdd 64 d) * (if 0 * 64 ≤ (Fin.natAdd 64 d).val ∧ (Fin.natAdd 64 d).val < 0 * 64 + 64 then g (Fin.natAdd 64 d) else 0) = 0 := by
      refine Finset.sum_eq_zero fun d _ => ?_
      rw [if_neg (by simp [Fin.natAdd]), mul_zero]
    refine (congrArg₂ (· + ·) ?_ h2).trans (add_zero _)
    refine Finset.sum_congr rfl fun d _ => ?_
    have hd := d.isLt
    have hc : (Fin.castAdd 64 d : Fin (64 + 64)) = col 0 d := Fin.ext (by simp [col])
    show f (Fin.castAdd 64 d) * (if 0 * 64 ≤ (Fin.castAdd 64 d).val ∧ (Fin.castAdd 64 d).val < 0 * 64 + 64 then g (Fin.castAdd 64 d) else 0) = f (col 0 d) * g (col 0 d)
    rw [if_pos (by simp)]
    exact congrArg (fun c => f c * g c) hc
  · have h2 : ∑ d : Fin 64, f (Fin.castAdd 64 d) * (if 1 * 64 ≤ (Fin.castAdd 64 d).val ∧ (Fin.castAdd 64 d).val < 1 * 64 + 64 then g (Fin.castAdd 64 d) else 0) = 0 := by
      refine Finset.sum_eq_zero fun d _ => ?_
      have hd := d.isLt
      rw [if_neg (by simp), mul_zero]
    refine (congrArg₂ (· + ·) h2 ?_).trans (zero_add _)
    refine Finset.sum_congr rfl fun d _ => ?_
    have hd := d.isLt
    have hc : (Fin.natAdd 64 d : Fin (64 + 64)) = col 1 d := Fin.ext (by show 64 + d.val = 1 * 64 + d.val; omega)
    show f (Fin.natAdd 64 d) * (if 1 * 64 ≤ (Fin.natAdd 64 d).val ∧ (Fin.natAdd 64 d).val < 1 * 64 + 64 then g (Fin.natAdd 64 d) else 0) = f (col 1 d) * g (col 1 d)
    rw [if_pos (show 1 * 64 ≤ (Fin.natAdd 64 d).val ∧ (Fin.natAdd 64 d).val < 1 * 64 + 64 by rw [Fin.val_natAdd]; omega)]
    exact congrArg (fun c => f c * g c) hc

/-- The queries of head `h` of the pair. -/
abbrev qOf (h : Fin 2) (x1 : Vec Ideal S1x256x128 .bf16) : FVec Ideal S128x256 .bf16 :=
  qHead (F := Ideal) (BitVec.ofNat 32 (h.val * 64)) (BitVec.ofNat 32 (h.val * 64 + 64)) x1

/-- A product with the queries of one head is over that head's features. -/
theorem head_product (h : Fin 2) (x1 : Vec Ideal S1x256x128 .bf16) (f : Fin 128 → EReal) (t : Fin 256) :
    ∑ c : Fin 128, f c * qOf h x1 (ix2 c t) = ∑ d : Fin 64, f (col h d) * x1 (ix3 0 t (col h d)) := by
  rw [← sum_head h f fun c => x1 (ix3 0 t c)]
  exact Finset.sum_congr rfl fun c _ => by rw [show qOf h x1 (ix2 c t) = _ from qHead_apply h x1 c t]

/-! ### The gate and the scores -/

theorem word_lt : ∀ (n a : Fin 32), IntOp.cmpi .slt (BitVec.ofNat 32 n.val) (BitVec.ofNat 32 a.val) = BitVec.ofBool (decide (n < a)) := by decide +kernel

/-- One query's gate over the blocks. -/
def gateCol (a : Fin 32) (h : Fin 2) (x1 : Vec Ideal S1x256x128 .bf16) (x4 : Vec Ideal S1x32x128 .f32) (t : Fin 256) (n : Fin 32) : EReal :=
  if n < a then ∑ d : Fin 64, x4 (ix3 0 n (col h d)) * x1 (ix3 0 t (col h d)) else ⊥

theorem gateOf_apply (a : Fin 32) (h : Fin 2) (x1 : Vec Ideal S1x256x128 .bf16) (x4 : Vec Ideal S1x32x128 .f32) (n : Fin 32) (t : Fin 256) :
    gateOf (BitVec.ofNat 32 a.val) (qOf h x1) x4 (ix2 n t) = gateCol a h x1 x4 t n := by
  unfold gateOf gateCol
  have hi : iota .tc S32x256 32 [0] iota_S32x256_d0_w32 (ix2 n t) = BitVec.ofNat 32 n.val := by
    show BitVec.ofNat 32 (0 * 32 + n.val) = _
    rw [Nat.zero_mul, Nat.zero_add]
  rw [select_apply, show cmpi .slt _ _ (ix2 n t) = IntOp.cmpi .slt (iota .tc S32x256 32 [0] iota_S32x256_d0_w32 (ix2 n t)) (BitVec.ofNat 32 a.val) from rfl,
    hi, word_lt, select_ofBool, mm_gate, show broadcast S32x256 (Scalar.ofBits (F := Ideal) .f32 0xFF800000#32) (ix2 n t) = ⊥ from ofBits_neg_inf]
  refine congrArg (fun x => if n < a then x else ⊥) ?_
  rw [← head_product h x1 (fun c => x4 (ix3 0 n c)) t]
  refine Finset.sum_congr rfl fun c _ => ?_
  rw [truncf_apply, show shapeCast S32x128 x4 shapeCasts_S1x32x128_S32x128 (ix2 n c) = _ from shapeCast_1ab_ab_apply _ _ n c]

/-- A key's product with one query. -/
def rawCol (h : Fin 2) (x1 : Vec Ideal S1x256x128 .bf16) (k : Vec Ideal S1x256x128 .bf16) (t j : Fin 256) : EReal :=
  ∑ d : Fin 64, k (ix3 0 j (col h d)) * x1 (ix3 0 t (col h d))

theorem rawScore_apply (h : Fin 2) (x1 k : Vec Ideal S1x256x128 .bf16) (j t : Fin 256) :
    rawScore (qOf h x1) k (ix2 j t) = rawCol h x1 k t j := by
  unfold rawScore rawCol
  rw [mm_score, ← head_product h x1 (fun c => k (ix3 0 j c)) t]
  refine Finset.sum_congr rfl fun c _ => ?_
  rw [show shapeCast S256x128 k shapeCasts_S1x256x128_S256x128 (ix2 j c) = _ from shapeCast_1ab_ab_apply _ _ j c]

theorem ownScore_apply (h : Fin 2) (x1 k : Vec Ideal S1x256x128 .bf16) (b : Vec Ideal S1x1x256x256 .f32) (j t : Fin 256) :
    ownScore (qOf h x1) k b (ix2 j t) = rawCol h x1 k t j + b (ix4 0 0 j t) := by
  unfold ownScore
  rw [addf_apply, rawScore_apply]
  congr 1
  refine congrArg b (Shape.reshapeEquiv_eq_of_rowMajor _ ?_)
  rw [Shape.rowMajor_val_four, Shape.rowMajor_val_two]
  show ((0 * 1 + 0) * 256 + j.val) * 256 + t.val = j.val * 256 + t.val
  omega

theorem row_apply (row : Vec Ideal S1x1x1x256 .f32) (t : Fin 256) :
    shapeCast S1x256 row shapeCasts_S1x1x1x256_S1x256 (ix2 0 t) = row (ix4 0 0 0 t) := by
  refine congrArg row (Shape.reshapeEquiv_eq_of_rowMajor _ ?_)
  rw [Shape.rowMajor_val_four, Shape.rowMajor_val_two]
  show ((0 * 1 + 0) * 1 + 0) * 256 + t.val = 0 * 256 + t.val
  omega

theorem nearScore_apply (a o : BitVec 32) (p : Prop) [Decidable p] (hp : Scalar.cmpi .sge a o = BitVec.ofBool (decide p)) (h : Fin 2)
    (x1 : Vec Ideal S1x256x128 .bf16) (row : Vec Ideal S1x1x1x256 .f32) (k : Vec Ideal S1x256x128 .bf16) (b : Vec Ideal S1x1x256x256 .f32) (j t : Fin 256) :
    nearScore a o (qOf h x1) row k b (ix2 j t) = rawCol h x1 k t j + b (ix4 0 0 j t) + if p then row (ix4 0 0 0 t) else ⊥ := by
  unfold nearScore
  rw [addf_apply, ownScore_apply, show broadcastTo S256x256 _ broadcasts_S1x256_S256x256 (ix2 j t) = _ from broadcastTo_1b_ab_apply _ _ j t, hp, select_ofBool]
  congr 1
  split_ifs
  · exact row_apply row t
  · exact ofBits_neg_inf

theorem farScore_apply (h : Fin 2) (x1 : Vec Ideal S1x256x128 .bf16) (row : Vec Ideal S1x1x1x256 .f32) (k : Vec Ideal S1x256x128 .bf16) (j t : Fin 256) :
    farScore (qOf h x1) row k (ix2 j t) = rawCol h x1 k t j + row (ix4 0 0 0 t) := by
  unfold farScore
  rw [addf_apply, rawScore_apply, show broadcastTo S256x256 _ broadcasts_S1x256_S256x256 (ix2 j t) = _ from broadcastTo_1b_ab_apply _ _ j t, row_apply]

/-! ### The state -/

theorem expScore_apply (m : FVec Ideal S1x256 .f32) (s : FVec Ideal S256x256 .f32) (j t : Fin 256) :
    expScore m s (ix2 j t) = Ideal.exp (s (ix2 j t) - m (ix2 0 t)) := by
  unfold expScore
  rw [show exp (subf s (broadcastTo S256x256 m broadcasts_S1x256_S256x256)) (ix2 j t) = Ideal.exp (s (ix2 j t) - broadcastTo S256x256 m broadcasts_S1x256_S256x256 (ix2 j t)) from rfl,
    show broadcastTo S256x256 m broadcasts_S1x256_S256x256 (ix2 j t) = _ from broadcastTo_1b_ab_apply _ _ j t]

theorem valSum_apply (v : Vec Ideal S1x64x256 .bf16) (p : FVec Ideal S256x256 .f32) (d : Fin 64) (t : Fin 256) :
    valSum v p (ix2 d t) = ∑ j : Fin 256, v (ix3 0 d j) * p (ix2 j t) := by
  unfold valSum
  rw [mm_val]
  refine Finset.sum_congr rfl fun j _ => ?_
  rw [truncf_apply, show shapeCast S64x256 v shapeCasts_S1x64x256_S64x256 (ix2 d j) = _ from shapeCast_1ab_ab_apply _ _ d j]

theorem sup_ne_top (f : Fin 256 → EReal) (h : ∀ j, f j ≠ ⊤) : Finset.univ.sup f ≠ ⊤ := by
  obtain ⟨k, _, hk⟩ := Finset.exists_mem_eq_sup (Finset.univ : Finset (Fin 256)) ⟨0, Finset.mem_univ _⟩ f
  rw [hk]; exact h k

/-- The invariant of column `t`. -/
def ColInv (st : St Ideal) (t : Fin 256) (W : ℝ) (A : Fin 64 → EReal) : Prop :=
  Inv (st.1 (ix2 0 t)) (st.2.1 (ix2 0 t)) (fun d => st.2.2 (ix2 d t)) W A

theorem Inv.congr {ι : Type} {m l l' : EReal} {acc acc' : ι → EReal} {W : ℝ} {A : ι → EReal} (h : Inv m l acc W A) (hl : l' = l)
    (ha : acc' = acc) : Inv m l' acc' W A := by
  subst hl ha; exact h

theorem own_inv (s : FVec Ideal S256x256 .f32) (v : Vec Ideal S1x64x256 .bf16) (t : Fin 256) (hs : ∀ j, s (ix2 j t) ≠ ⊤) (k : Fin 256)
    (hk : s (ix2 k t) ≠ ⊥) :
    ColInv (ownSt s v) t (∑ j : Fin 256, wt (s (ix2 j t))) (fun d => ∑ j : Fin 256, v (ix3 0 d j) * (wt (s (ix2 j t)) : EReal)) := by
  have hm : colMax s (ix2 0 t) = Finset.univ.sup fun j : Fin 256 => s (ix2 j t) := colMax_apply s t
  have h := Inv.first (ι := Fin 64) (fun j : Fin 256 => s (ix2 j t)) (fun d j => v (ix3 0 d j)) hs (colMax s (ix2 0 t))
    (by rw [hm]; exact sup_ne_top _ hs)
    (by
      rw [hm]
      intro hb
      exact hk (le_bot_iff.mp (hb ▸ Finset.le_sup (f := fun j : Fin 256 => s (ix2 j t)) (Finset.mem_univ k))))
  have e1 : colSum (expScore (colMax s) s) (ix2 0 t) = ∑ j : Fin 256, Ideal.exp (s (ix2 j t) - colMax s (ix2 0 t)) := by
    rw [colSum_apply]; exact Finset.sum_congr rfl fun j _ => expScore_apply _ _ _ _
  have e2 : (fun d : Fin 64 => valSum v (expScore (colMax s) s) (ix2 d t)) = fun d => ∑ j : Fin 256, v (ix3 0 d j) * Ideal.exp (s (ix2 j t) - colMax s (ix2 0 t)) := by
    funext d; rw [valSum_apply]; exact Finset.sum_congr rfl fun j _ => by rw [expScore_apply]
  have hf := Inv.congr h e1 e2
  unfold ColInv ownSt
  dsimp only
  exact hf

theorem upd_inv (st : St Ideal) (t : Fin 256) (W : ℝ) (A : Fin 64 → EReal) (h : ColInv st t W A) (s : FVec Ideal S256x256 .f32)
    (v : Vec Ideal S1x64x256 .bf16) (hs : ∀ j, s (ix2 j t) ≠ ⊤) :
    ColInv (upd st s v) t (W + ∑ j : Fin 256, wt (s (ix2 j t))) (fun d => A d + ∑ j : Fin 256, v (ix3 0 d j) * (wt (s (ix2 j t)) : EReal)) := by
  have hn := Inv.next (ι := Fin 64) h (fun j : Fin 256 => s (ix2 j t)) (fun d j => v (ix3 0 d j)) hs (colMax s (ix2 0 t))
    (by rw [colMax_apply]; exact sup_ne_top _ hs)
  have em : mNew st.1 s (ix2 0 t) = max (st.1 (ix2 0 t)) (colMax s (ix2 0 t)) := by unfold mNew; exact maximumf_apply _ _ _
  have ea : alphaOf st.1 s (ix2 0 t) = Ideal.exp (st.1 (ix2 0 t) - mNew st.1 s (ix2 0 t)) := rfl
  have e1 : lNew st.1 st.2.1 s (ix2 0 t) = alphaOf st.1 s (ix2 0 t) * st.2.1 (ix2 0 t) + ∑ j : Fin 256, Ideal.exp (s (ix2 j t) - mNew st.1 s (ix2 0 t)) := by
    unfold lNew
    rw [addf_apply, mulf_apply, colSum_apply]
    congr 1
    exact Finset.sum_congr rfl fun j _ => expScore_apply _ _ _ _
  have e2 : (fun d : Fin 64 => aNew st.1 st.2.2 s v (ix2 d t)) = fun d => alphaOf st.1 s (ix2 0 t) * st.2.2 (ix2 d t)
      + ∑ j : Fin 256, v (ix3 0 d j) * Ideal.exp (s (ix2 j t) - mNew st.1 s (ix2 0 t)) := by
    funext d
    unfold aNew
    rw [addf_apply, mulf_apply, valSum_apply, show broadcastTo S64x256 (alphaOf st.1 s) broadcasts_S1x256_S64x256 (ix2 d t) = _ from broadcastTo_1b_ab_apply _ _ d t]
    congr 1
    exact Finset.sum_congr rfl fun j _ => by rw [expScore_apply]
  have hf : Inv (mNew st.1 s (ix2 0 t)) (lNew st.1 st.2.1 s (ix2 0 t)) (fun d : Fin 64 => aNew st.1 st.2.2 s v (ix2 d t))
      (W + ∑ j : Fin 256, wt (s (ix2 j t))) (fun d => A d + ∑ j : Fin 256, v (ix3 0 d j) * (wt (s (ix2 j t)) : EReal)) := by
    rw [e1, e2, ea, em]; exact hn
  exact hf

end Cert.Val

end
-- ==== Proof.Val.Head.lean ====
/-
  What one head's running state comes to after all its blocks: the sums over the own block and the chosen past blocks.
-/
module

public import proofs.«01_k».proof.Proof.Val.Column

@[expose] public section

set_option maxRecDepth 16384

noncomputable section

namespace Cert.Val

open Cert.KernelIdeal Cert.KernelIdeal.Gen Cert.KernelIdeal.Attn
open Idealize.ShloMosaic Idealize.ShloMosaic.TcCoe
open Idealize.ShloMosaic.ValueIdx

open Classical in
/-- The sum of the weights of one query's scores: its own block's and the chosen blocks'. -/
def denom (g : Fin 32 → EReal) (own : Fin 256 → EReal) (past : Fin 32 → Fin 256 → EReal) : ℝ :=
  ∑ j, wt (own j) + ∑ n, if Chosen g n then ∑ j, wt (past n j) else 0

open Classical in
/-- The weighted sum of one feature of the values. -/
def numer (g : Fin 32 → EReal) (own : Fin 256 → EReal) (past : Fin 32 → Fin 256 → EReal) (vown : Fin 256 → EReal)
    (vpast : Fin 32 → Fin 256 → EReal) : EReal :=
  ∑ j, vown j * (wt (own j) : EReal) + ∑ n, if Chosen g n then ∑ j, vpast n j * (wt (past n j) : EReal) else 0

theorem Chosen.pos {g : Fin 32 → EReal} {n : Fin 32} (h : Chosen g n) : ⊥ < g n := ((chosen_sorted g (by decide) n).mp h).1

/-- The blocks before block `a`, as the body visits them: the four nearest, then the far ones. -/
theorem sum_blocks {M : Type} [AddCommMonoid M] (a : Fin 32) (f : Fin 32 → M) (F : ℕ → M) (hF : ∀ n : Fin 32, F n.val = f n)
    (h0 : ∀ n : Fin 32, ¬ n < a → f n = 0) :
    ∑ n, f n = (∑ o ∈ Finset.range 4, if o + 1 ≤ a.val then F (a.val - (o + 1)) else 0) + ∑ k ∈ Finset.range (a.val - 4), F k := by
  have h1 : ∑ n, f n = ∑ n ∈ Finset.range 32, F n := by
    rw [Finset.sum_range]; exact Finset.sum_congr rfl fun n _ => (hF n).symm
  have h2 : ∑ n ∈ Finset.range 32, F n = ∑ n ∈ Finset.range a.val, F n := by
    symm
    refine Finset.sum_subset (fun n hn => ?_) fun n hn hn' => ?_
    · rw [Finset.mem_range] at hn ⊢; have := a.isLt; omega
    · rw [Finset.mem_range] at hn hn'
      rw [hF ⟨n, hn⟩]
      exact h0 _ fun h => hn' h
  rw [h1, h2]
  obtain ⟨a, ha⟩ := a
  show ∑ n ∈ Finset.range a, F n = (∑ o ∈ Finset.range 4, if o + 1 ≤ a then F (a - (o + 1)) else 0) + ∑ k ∈ Finset.range (a - 4), F k
  by_cases h4 : 4 ≤ a
  · obtain ⟨b, rfl⟩ := Nat.exists_eq_add_of_le h4
    rw [show 4 + b - 4 = b by omega, show 4 + b = b + 1 + 1 + 1 + 1 by omega]
    simp only [Finset.sum_range_succ, Finset.sum_range_zero, zero_add]
    rw [if_pos (by omega), if_pos (by omega), if_pos (by omega), if_pos (by omega),
      show b + 1 + 1 + 1 + 1 - (0 + 1) = b + 1 + 1 + 1 by omega, show b + 1 + 1 + 1 + 1 - (1 + 1) = b + 1 + 1 by omega,
      show b + 1 + 1 + 1 + 1 - (2 + 1) = b + 1 by omega, show b + 1 + 1 + 1 + 1 - (3 + 1) = b by omega]
    abel
  · have h4' : a < 4 := by omega
    interval_cases a <;> simp [Finset.sum_range_succ] <;> abel

section

variable (i : grid1.Coords) (h : Fin 2) (x0 : Vec Ideal S16 .f32) (x1 : Vec Ideal S1x256x128 .bf16) (x2 : Vec Ideal S1x8192x128 .bf16)
  (x3 : Vec Ideal S1x128x8192 .bf16) (x4 : Vec Ideal S1x32x128 .f32) (x5 : Vec Ideal S2x5x256x256 .f32) (t : Fin 256)

/-- The block of queries. -/
abbrev ab : Fin 32 := i 2

/-- One query's scores of its own block. -/
def ownC (j : Fin 256) : EReal := rawCol h x1 (keyTile x2 (i 2).val) t j + x5 (ix4 h 0 j t)

/-- One query's scores of a past block, with the bias `b`. -/
def pastC (b : Fin 32 → Fin 256 → EReal) (n : Fin 32) (j : Fin 256) : EReal := rawCol h x1 (keyTile x2 n.val) t j + b n j

theorem sOwn_apply (j : Fin 256) : sOwn i h (qOf h x1) x2 x5 (ix2 j t) = ownC i h x1 x2 x5 t j := by
  unfold sOwn ownC
  exact ownScore_apply h x1 _ _ j t

theorem gate_fun : (fun n => gateOf (BitVec.ofNat 32 (i 2).val) (qOf h x1) x4 (ix2 n t)) = gateCol (ab i) h x1 x4 t :=
  funext fun n => gateOf_apply (ab i) h x1 x4 n t

open Classical in
theorem nearRow_apply (n : ℕ) (hn : n < 32) : maskRow (nearMask i (qOf h x1) x4) n (ix4 0 0 0 t)
    = if Chosen (gateCol (ab i) h x1 x4 t) ⟨n, hn⟩ then 0 else ⊥ := by
  have e : maskRow (nearMask i (qOf h x1) x4) n (ix4 0 0 0 t) = nearMask i (qOf h x1) x4 (ix4 0 0 ⟨n, hn⟩ t) := by
    unfold maskRow
    refine congrArg _ ?_
    rw [show (⟨n % 32, Nat.mod_lt _ (by decide)⟩ : Fin 32) = ⟨n, hn⟩ from Fin.ext (Nat.mod_eq_of_lt hn)]
  rw [e]
  unfold nearMask
  rw [maskOf_apply, gate_fun, show (Scalar.ofBits (F := Ideal) .f32 0x00000000#32 : EReal) = 0 from Ideal.ofBits_zero_f32]

open Classical in
theorem farRow_apply (n : ℕ) (hn : n < 32) : maskRow (farMask i h (qOf h x1) x0 x4) n (ix4 0 0 0 t)
    = if Chosen (gateCol (ab i) h x1 x4 t) ⟨n, hn⟩ then farBias i x0 h else ⊥ := by
  have e : maskRow (farMask i h (qOf h x1) x0 x4) n (ix4 0 0 0 t) = farMask i h (qOf h x1) x0 x4 (ix4 0 0 ⟨n, hn⟩ t) := by
    unfold maskRow
    refine congrArg _ ?_
    rw [show (⟨n % 32, Nat.mod_lt _ (by decide)⟩ : Fin 32) = ⟨n, hn⟩ from Fin.ext (Nat.mod_eq_of_lt hn)]
  rw [e]
  unfold farMask
  rw [maskOf_apply, gate_fun]

theorem word_ge : ∀ (a : Fin 32) (o : Fin 4), Scalar.cmpi .sge (BitVec.ofNat 32 a.val) (BitVec.ofNat 32 (o.val + 1)) = BitVec.ofBool (decide (o.val + 1 ≤ a.val)) := by
  decide +kernel

variable (b : Fin 32 → Fin 256 → EReal)

open Classical in
theorem sNear_apply (o : ℕ) (ho : o < 4) (hb : ∀ j, o + 1 ≤ (i 2).val → x5 (ix4 h (Fin.ofNat 5 (o + 1)) j t) = b (Fin.ofNat 32 ((i 2).val - (o + 1))) j) (j : Fin 256) :
    sNear i h (qOf h x1) x2 x4 x5 o (ix2 j t)
      = if o + 1 ≤ (i 2).val ∧ Chosen (gateCol (ab i) h x1 x4 t) (Fin.ofNat 32 ((i 2).val - (o + 1))) then pastC h x1 x2 t b (Fin.ofNat 32 ((i 2).val - (o + 1))) j else ⊥ := by
  have hi : (i 2).val < 32 := (i 2).isLt
  have hlt : (i 2).val - (o + 1) < 32 := by omega
  have hof : (Fin.ofNat 32 ((i 2).val - (o + 1)) : Fin 32) = ⟨(i 2).val - (o + 1), hlt⟩ := Fin.ext (Nat.mod_eq_of_lt hlt)
  unfold sNear
  rw [nearScore_apply _ _ _ (word_ge (ab i) ⟨o, ho⟩), nearRow_apply i h x1 x4 t _ hlt, hof]
  by_cases h1 : o + 1 ≤ (i 2).val
  · rw [if_pos (show (⟨o, ho⟩ : Fin 4).val + 1 ≤ (ab i).val from h1)]
    by_cases h2 : Chosen (gateCol (ab i) h x1 x4 t) ⟨(i 2).val - (o + 1), hlt⟩
    · rw [if_pos h2, if_pos ⟨h1, h2⟩, add_zero]
      unfold pastC
      congr 1
      have := hb j h1
      rw [hof] at this
      exact this
    · rw [if_neg h2, if_neg (fun hh => h2 hh.2), EReal.add_bot]
  · rw [if_neg (show ¬ (⟨o, ho⟩ : Fin 4).val + 1 ≤ (ab i).val from h1), if_neg (fun hh => h1 hh.1), EReal.add_bot]

open Classical in
theorem sFar_apply (k : ℕ) (hk : k < 32) (hb : ∀ j, farBias i x0 h = b ⟨k, hk⟩ j) (j : Fin 256) :
    sFar i h (qOf h x1) x0 x2 x4 k (ix2 j t)
      = if Chosen (gateCol (ab i) h x1 x4 t) ⟨k, hk⟩ then pastC h x1 x2 t b ⟨k, hk⟩ j else ⊥ := by
  unfold sFar
  rw [farScore_apply, farRow_apply i h x0 x1 x4 t k hk]
  by_cases h2 : Chosen (gateCol (ab i) h x1 x4 t) ⟨k, hk⟩
  · rw [if_pos h2, if_pos h2, hb j]; rfl
  · rw [if_neg h2, if_neg h2, EReal.add_bot]

open Classical in
/-- The weights of a past block, if it is chosen. -/
def pW (n : ℕ) : ℝ := if Chosen (gateCol (ab i) h x1 x4 t) (Fin.ofNat 32 n) then ∑ j, wt (pastC h x1 x2 t b (Fin.ofNat 32 n) j) else 0

open Classical in
/-- The weighted values of a past block, if it is chosen. -/
def pA (d : Fin 64) (n : ℕ) : EReal :=
  if Chosen (gateCol (ab i) h x1 x4 t) (Fin.ofNat 32 n) then ∑ j : Fin 256, valTile x3 h n (ix3 0 d j) * (wt (pastC h x1 x2 t b (Fin.ofNat 32 n) j) : EReal) else 0

variable (hown : ∀ j, ownC i h x1 x2 x5 t j ≠ ⊤) (k0 : Fin 256) (hown' : ownC i h x1 x2 x5 t k0 ≠ ⊥)
  (hpast : ∀ n j, pastC h x1 x2 t b n j ≠ ⊤)
  (hnear : ∀ o, o < 4 → ∀ j, o + 1 ≤ (i 2).val → x5 (ix4 h (Fin.ofNat 5 (o + 1)) j t) = b (Fin.ofNat 32 ((i 2).val - (o + 1))) j)
  (hfar : ∀ k (hk : k < 32), k < (i 2).val - 4 → ∀ j, farBias i x0 h = b ⟨k, hk⟩ j)

include hown hown' hpast hnear in
theorem near_inv (n : ℕ) (hn : n ≤ 4) :
    ColInv (nearSt i h (qOf h x1) x2 x3 x4 x5 n) t
      (∑ j, wt (ownC i h x1 x2 x5 t j) + ∑ o ∈ Finset.range n, if o + 1 ≤ (i 2).val then pW i h x1 x2 x4 t b ((i 2).val - (o + 1)) else 0)
      (fun d => ∑ j : Fin 256, valTile x3 h (i 2).val (ix3 0 d j) * (wt (ownC i h x1 x2 x5 t j) : EReal)
        + ∑ o ∈ Finset.range n, if o + 1 ≤ (i 2).val then pA i h x1 x2 x3 x4 t b d ((i 2).val - (o + 1)) else 0) := by
  classical
  induction n with
  | zero =>
    simp only [Finset.range_zero, Finset.sum_empty, add_zero]
    have := own_inv (sOwn i h (qOf h x1) x2 x5) (valTile x3 h (i 2).val) t (fun j => by rw [sOwn_apply]; exact hown j) k0 (by rw [sOwn_apply]; exact hown')
    simp only [sOwn_apply] at this
    exact this
  | succ n ih =>
    have hs := sNear_apply i h x1 x2 x4 x5 t b n (by omega) (hnear n (by omega))
    have := upd_inv _ t _ _ (ih (by omega)) (sNear i h (qOf h x1) x2 x4 x5 n) (valTile x3 h ((i 2).val - (n + 1)))
      (fun j => by rw [hs]; split_ifs; exact hpast _ _; exact bot_ne_top)
    simp only [hs] at this
    simp only [Finset.sum_range_succ, ← add_assoc]
    have e1 : ∑ j : Fin 256, wt (if n + 1 ≤ (i 2).val ∧ Chosen (gateCol (ab i) h x1 x4 t) (Fin.ofNat 32 ((i 2).val - (n + 1))) then pastC h x1 x2 t b (Fin.ofNat 32 ((i 2).val - (n + 1))) j else ⊥)
        = if n + 1 ≤ (i 2).val then pW i h x1 x2 x4 t b ((i 2).val - (n + 1)) else 0 := by
      unfold pW
      by_cases h1 : n + 1 ≤ (i 2).val
      · by_cases h2 : Chosen (gateCol (ab i) h x1 x4 t) (Fin.ofNat 32 ((i 2).val - (n + 1)))
        · simp only [h1, h2, and_self, if_true]
        · simp only [h1, h2, and_false, if_true, if_false, wt_bot, Finset.sum_const_zero]
      · simp only [h1, false_and, if_false, wt_bot, Finset.sum_const_zero]
    have e2 : ∀ d, ∑ j : Fin 256, valTile x3 h ((i 2).val - (n + 1)) (ix3 0 d j) * ((wt (if n + 1 ≤ (i 2).val ∧ Chosen (gateCol (ab i) h x1 x4 t) (Fin.ofNat 32 ((i 2).val - (n + 1))) then pastC h x1 x2 t b (Fin.ofNat 32 ((i 2).val - (n + 1))) j else ⊥) : ℝ) : EReal)
        = if n + 1 ≤ (i 2).val then pA i h x1 x2 x3 x4 t b d ((i 2).val - (n + 1)) else 0 := by
      intro d
      unfold pA
      by_cases h1 : n + 1 ≤ (i 2).val
      · by_cases h2 : Chosen (gateCol (ab i) h x1 x4 t) (Fin.ofNat 32 ((i 2).val - (n + 1)))
        · simp only [h1, h2, and_self, if_true]
        · simp only [h1, h2, and_false, if_true, if_false, wt_bot, EReal.coe_zero, mul_zero, Finset.sum_const_zero]
      · simp only [h1, false_and, if_false, wt_bot, EReal.coe_zero, mul_zero, Finset.sum_const_zero]
    simp only [e1, e2] at this
    exact this

include hown hown' hpast hnear hfar in
theorem far_inv (n : ℕ) (hn : n ≤ (i 2).val - 4) :
    ColInv (farSt i h (qOf h x1) x0 x2 x3 x4 x5 n) t
      (∑ j, wt (ownC i h x1 x2 x5 t j) + (∑ o ∈ Finset.range 4, if o + 1 ≤ (i 2).val then pW i h x1 x2 x4 t b ((i 2).val - (o + 1)) else 0)
        + ∑ k ∈ Finset.range n, pW i h x1 x2 x4 t b k)
      (fun d => ∑ j : Fin 256, valTile x3 h (i 2).val (ix3 0 d j) * (wt (ownC i h x1 x2 x5 t j) : EReal)
        + (∑ o ∈ Finset.range 4, if o + 1 ≤ (i 2).val then pA i h x1 x2 x3 x4 t b d ((i 2).val - (o + 1)) else 0)
        + ∑ k ∈ Finset.range n, pA i h x1 x2 x3 x4 t b d k) := by
  classical
  induction n with
  | zero =>
    have := near_inv i h x1 x2 x3 x4 x5 t b hown k0 hown' hpast hnear 4 le_rfl
    rw [Finset.range_zero]
    simp only [Finset.sum_empty, add_zero]
    exact this
  | succ n ih =>
    have hi : (i 2).val < 32 := (i 2).isLt
    have hlt : n < 32 := by omega
    have hof : (Fin.ofNat 32 n : Fin 32) = ⟨n, hlt⟩ := Fin.ext (Nat.mod_eq_of_lt hlt)
    have hs := sFar_apply i h x0 x1 x2 x4 t b n hlt (hfar n hlt (by omega))
    have := upd_inv _ t _ _ (ih (by omega)) (sFar i h (qOf h x1) x0 x2 x4 n) (valTile x3 h n)
      (fun j => by rw [hs]; split_ifs; exact hpast _ _; exact bot_ne_top)
    simp only [hs] at this
    simp only [Finset.sum_range_succ _ n, ← add_assoc]
    have e1 : ∑ j : Fin 256, wt (if Chosen (gateCol (ab i) h x1 x4 t) ⟨n, hlt⟩ then pastC h x1 x2 t b ⟨n, hlt⟩ j else ⊥) = pW i h x1 x2 x4 t b n := by
      unfold pW
      rw [hof]
      split_ifs
      · rfl
      · simp only [wt_bot, Finset.sum_const_zero]
    have e2 : ∀ d, ∑ j : Fin 256, valTile x3 h n (ix3 0 d j) * ((wt (if Chosen (gateCol (ab i) h x1 x4 t) ⟨n, hlt⟩ then pastC h x1 x2 t b ⟨n, hlt⟩ j else ⊥) : ℝ) : EReal)
        = pA i h x1 x2 x3 x4 t b d n := by
      intro d
      unfold pA
      rw [hof]
      split_ifs
      · rfl
      · simp only [wt_bot, EReal.coe_zero, mul_zero, Finset.sum_const_zero]
    simp only [e1, e2] at this
    exact this

/-- One feature of the values of a block. -/
def valC (d : Fin 64) (n : Fin 32) (j : Fin 256) : EReal := valTile x3 h n.val (ix3 0 d j)

theorem not_chosen (n : Fin 32) (hn : ¬ n < ab i) : ¬ Chosen (gateCol (ab i) h x1 x4 t) n := fun hc => by
  have := hc.pos
  unfold gateCol at this
  rw [if_neg hn] at this
  exact absurd this (lt_irrefl _)

include hown hown' hpast hnear hfar in
/-- The last state of one head. -/
theorem head_inv :
    ColInv (farSt i h (qOf h x1) x0 x2 x3 x4 x5 ((i 2).val - 4)) t
      (denom (gateCol (ab i) h x1 x4 t) (ownC i h x1 x2 x5 t) (pastC h x1 x2 t b))
      (fun d => numer (gateCol (ab i) h x1 x4 t) (ownC i h x1 x2 x5 t) (pastC h x1 x2 t b) (valC h x3 d (ab i)) (valC h x3 d)) := by
  classical
  have hf := far_inv i h x0 x1 x2 x3 x4 x5 t b hown k0 hown' hpast hnear hfar _ le_rfl
  have hof : ∀ n : Fin 32, (Fin.ofNat 32 n.val : Fin 32) = n := fun n => Fin.ext (Nat.mod_eq_of_lt n.isLt)
  have e1 := sum_blocks (ab i) (fun n => if Chosen (gateCol (ab i) h x1 x4 t) n then ∑ j, wt (pastC h x1 x2 t b n j) else 0) (pW i h x1 x2 x4 t b)
    (fun n => by unfold pW; rw [hof]) (fun n hn => if_neg (not_chosen i h x1 x4 t n hn))
  have e2 := fun d => sum_blocks (ab i) (fun n => if Chosen (gateCol (ab i) h x1 x4 t) n then ∑ j, valC h x3 d n j * (wt (pastC h x1 x2 t b n j) : EReal) else 0) (pA i h x1 x2 x3 x4 t b d)
    (fun n => by unfold pA valC; rw [hof]) (fun n hn => if_neg (not_chosen i h x1 x4 t n hn))
  unfold denom numer
  simp only [e1, e2, ← add_assoc]
  exact hf

include hown' in
theorem denom_pos (hown : ∀ j, ownC i h x1 x2 x5 t j ≠ ⊤) : 0 < denom (gateCol (ab i) h x1 x4 t) (ownC i h x1 x2 x5 t) (pastC h x1 x2 t b) := by
  classical
  unfold denom
  have h1 : 0 < ∑ j, wt (ownC i h x1 x2 x5 t j) := by
    refine Finset.sum_pos' (fun j _ => wt_nonneg _) ⟨k0, Finset.mem_univ _, ?_⟩
    have := hown k0
    generalize ownC i h x1 x2 x5 t k0 = s at *
    lift s to ℝ using ⟨this, hown'⟩
    rw [wt_coe]; exact Real.exp_pos _
  have h2 : 0 ≤ ∑ n, if Chosen (gateCol (ab i) h x1 x4 t) n then ∑ j, wt (pastC h x1 x2 t b n j) else 0 := by
    refine Finset.sum_nonneg fun n _ => ?_
    split_ifs
    · exact Finset.sum_nonneg fun j _ => wt_nonneg _
    · exact le_rfl
  linarith

end

end Cert.Val

end
-- ==== Proof.Val.T5.lean ====
/-
  The bucket of a distance: what it is for a distance of a sequence's positions, and that it is the last one for the
  distances of far blocks.
-/
module

public import Idealize.ShloMosaic.PureOps.Ideal
public import Idealize.ShloMosaic.PureOps.Ideal.Laws
public import Idealize.ShloMosaic.Lib.ValueIdxCore
public import Mathlib.Analysis.SpecialFunctions.Log.Basic

@[expose] public section

noncomputable section

namespace Cert.Val

open Idealize.ShloMosaic

/-- The logarithm's divisor. -/
def cLog : EReal := Ideal.ofBits .f32 0x40851592#32

theorem cLog_eq : cLog = ((8721810 / 2097152 : ℝ) : EReal) := by
  unfold cLog
  simp [Ideal.ofBits, Ideal.ieee, -EReal.coe_mul]; norm_num

/-- The bucket of a distance, as both programs compute it. -/
def bkt (d : BitVec 32) : BitVec 32 :=
  Scalar.select (IntOp.cmpi .slt d 16#32) d
    (IntOp.minsi (IntOp.addi 16#32 (Ideal.fptosi 32 (Ideal.div (Ideal.log (Ideal.div (((IntOp.maxsi d 1#32).toInt : ℝ) : EReal)
      (Ideal.ofBits .f32 0x41800000#32))) cLog * Ideal.ofBits .f32 0x41800000#32))) 31#32)

/-- The bucket of a distance, as a number. -/
def bktN (n : ℕ) : ℕ := if n < 16 then n else min (16 + ⌊Real.log (n / 16) / (8721810 / 2097152) * 16⌋.toNat) 31

theorem bktN_lt (n : ℕ) : bktN n < 32 := by
  unfold bktN; split <;> omega

theorem bktN_far (n : ℕ) (h : 1025 ≤ n) : bktN n = 31 := by
  unfold bktN
  rw [if_neg (by omega)]
  have h64 : Real.log 64 ≤ Real.log ((n : ℝ) / 16) := by
    apply Real.log_le_log (by norm_num)
    rw [le_div_iff₀ (by norm_num)]
    have : (1025 : ℝ) ≤ n := by exact_mod_cast h
    linarith
  have h6 : (85 / 21 : ℝ) ≤ Real.log 64 := by
    have h1 : Real.log (((21 / 20 : ℝ)) ^ 85) ≤ Real.log 64 := Real.log_le_log (by positivity) (by norm_num)
    rw [Real.log_pow] at h1
    have h2 := Real.one_sub_inv_le_log_of_pos (show (0 : ℝ) < 21 / 20 by norm_num)
    norm_num at h1 h2 ⊢
    linarith
  have hf : (15 : ℤ) ≤ ⌊Real.log (n / 16) / (8721810 / 2097152) * 16⌋ := by
    rw [Int.le_floor]
    have : (85 / 21 : ℝ) ≤ Real.log (n / 16) := by linarith
    have h3 : (85 / 21 : ℝ) / (8721810 / 2097152) ≤ Real.log (n / 16) / (8721810 / 2097152) := by
      apply div_le_div_of_nonneg_right this; norm_num
    have h4 : (15 : ℝ) ≤ 85 / 21 / (8721810 / 2097152) * 16 := by norm_num
    push_cast
    linarith
  omega

theorem bkt_eq (n : ℕ) (h : n < 8192) : bkt (BitVec.ofNat 32 n) = BitVec.ofNat 32 (bktN n) := by
  have hn : (BitVec.ofNat 32 n).toInt = n := by
    rw [BitVec.toInt_ofNat', Int.bmod_eq_of_le] <;> omega
  have h16 : Ideal.ofBits .f32 0x41800000#32 = ((16 : ℝ) : EReal) := by
    simp [Ideal.ofBits, Ideal.ieee, -EReal.coe_mul]; norm_num
  unfold bkt bktN
  by_cases hlt : n < 16
  · have hc : IntOp.cmpi .slt (BitVec.ofNat 32 n) 16#32 = 1#1 := by
      have : (16#32).toInt = 16 := rfl
      have hs : (BitVec.ofNat 32 n).slt 16#32 = true := by rw [BitVec.slt, hn, this]; exact decide_eq_true (by omega)
      show BitVec.ofBool ((BitVec.ofNat 32 n).slt 16#32) = _
      rw [hs]; rfl
    rw [hc, if_pos hlt]; rfl
  · have hc : IntOp.cmpi .slt (BitVec.ofNat 32 n) 16#32 = 0#1 := by
      have : (16#32).toInt = 16 := rfl
      have hs : (BitVec.ofNat 32 n).slt 16#32 = false := by rw [BitVec.slt, hn, this]; exact decide_eq_false (by omega)
      show BitVec.ofBool ((BitVec.ofNat 32 n).slt 16#32) = _
      rw [hs]; rfl
    have hm : IntOp.maxsi (BitVec.ofNat 32 n) 1#32 = BitVec.ofNat 32 n := by
      unfold IntOp.maxsi
      rw [if_pos]
      simp only [BitVec.slt, hn, decide_eq_true_eq]
      show (1 : ℤ) < n
      omega
    rw [hc, if_neg hlt, hm, hn]
    refine (ValueIdx.select_zero _ _).trans ?_
    have hx : (0 : ℝ) < (n : ℝ) / 16 := by
      have : (0 : ℝ) < n := by exact_mod_cast (show 0 < n by omega)
      positivity
    have h1 : (1 : ℝ) ≤ (n : ℝ) / 16 := by
      rw [le_div_iff₀ (by norm_num)]
      have : (16 : ℝ) ≤ n := by exact_mod_cast (not_lt.mp hlt)
      linarith
    set f : ℝ := Real.log (n / 16) / (8721810 / 2097152) * 16 with hfdef
    have hval : Ideal.div (Ideal.log (Ideal.div ((((n : ℕ) : ℤ) : ℝ) : EReal) (Ideal.ofBits .f32 0x41800000#32))) cLog * Ideal.ofBits .f32 0x41800000#32 = (f : EReal) := by
      rw [h16, cLog_eq]
      have e1 : Ideal.div ((((n : ℕ) : ℤ) : ℝ) : EReal) ((16 : ℝ) : EReal) = (((n : ℝ) / 16 : ℝ) : EReal) := by
        rw [Ideal.div, if_neg (by norm_num), ← EReal.coe_inv, ← EReal.coe_mul]
        rw [Int.cast_natCast, div_eq_mul_inv]
      rw [e1, Ideal.log_coe, if_neg (not_le.mpr hx)]
      have e2 : Ideal.div ((Real.log ((n : ℝ) / 16) : ℝ) : EReal) ((8721810 / 2097152 : ℝ) : EReal) = ((Real.log ((n : ℝ) / 16) / (8721810 / 2097152) : ℝ) : EReal) := by
        rw [Ideal.div, if_neg (by rw [EReal.coe_eq_zero]; norm_num), ← EReal.coe_inv, ← EReal.coe_mul, ← div_eq_mul_inv]
      rw [e2, ← EReal.coe_mul]
    rw [hval]
    have hl0 : 0 ≤ Real.log ((n : ℝ) / 16) := Real.log_nonneg h1
    have hlu : Real.log ((n : ℝ) / 16) ≤ 512 := by
      have := Real.log_le_sub_one_of_pos hx
      have hu : (n : ℝ) / 16 ≤ 512 := by
        rw [div_le_iff₀ (by norm_num)]
        have : (n : ℝ) ≤ 8192 := by exact_mod_cast h.le
        linarith
      linarith
    have hf0 : 0 ≤ f := by rw [hfdef]; positivity
    have hfu : f ≤ 8192 := by
      rw [hfdef]
      have : Real.log ((n : ℝ) / 16) / (8721810 / 2097152) ≤ Real.log ((n : ℝ) / 16) := div_le_self hl0 (by norm_num)
      linarith
    have hi0 : 0 ≤ ⌊f⌋ := Int.floor_nonneg.mpr hf0
    have hiu : ⌊f⌋ ≤ 8192 := by
      have := Int.floor_le f
      have : ((⌊f⌋ : ℤ) : ℝ) ≤ ((8192 : ℤ) : ℝ) := by push_cast; linarith
      exact_mod_cast this
    obtain ⟨k, hk⟩ := Int.eq_ofNat_of_zero_le hi0
    have hfp : Ideal.fptosi 32 (f : EReal) = BitVec.ofNat 32 k := by
      unfold Ideal.fptosi
      have : Ideal.toIntClamped (-(2 ^ (32 - 1) : Nat)) ((2 ^ (32 - 1) : Nat) - 1) (f : EReal) = (k : ℤ) := by
        show max (-(2 ^ (32 - 1) : Nat) : ℤ) (min (((2 ^ (32 - 1) : Nat) : ℤ) - 1) (if 0 ≤ f then ⌊f⌋ else ⌈f⌉)) = _
        rw [if_pos hf0, hk]
        norm_num
        omega
      rw [this]
      exact BitVec.ofInt_natCast 32 k
    rw [hfp, hk]
    have ha : IntOp.addi 16#32 (BitVec.ofNat 32 k) = BitVec.ofNat 32 (16 + k) := by
      show BitVec.ofNat 32 16 + BitVec.ofNat 32 k = _
      rw [← BitVec.ofNat_add]
    rw [ha]
    have hk' : (BitVec.ofNat 32 (16 + k)).toInt = ((16 + k : ℕ) : ℤ) := by
      rw [BitVec.toInt_ofNat', Int.bmod_eq_of_le] <;> omega
    unfold IntOp.minsi
    by_cases hs : (BitVec.ofNat 32 (16 + k)).slt 31#32
    · rw [if_pos hs]
      simp only [BitVec.slt, hk', decide_eq_true_eq] at hs
      have : (31#32).toInt = 31 := rfl
      rw [this] at hs
      congr 1
      show 16 + k = min (16 + ((k : ℤ)).toNat) 31
      omega
    · rw [if_neg hs]
      simp only [BitVec.slt, hk', decide_eq_true_eq] at hs
      have : (31#32).toInt = 31 := rfl
      rw [this] at hs
      show BitVec.ofNat 32 31 = _
      congr 1
      show 31 = min (16 + ((k : ℤ)).toNat) 31
      omega

end Cert.Val

end
-- ==== Proof.Val.Spec.lean ====
/-
  The attention as a function of its arrays: what both programs compute, at one batch, head, query block, query and feature.
-/
module

public import proofs.«01_k».proof.Proof.Val.Head
public import proofs.«01_k».proof.Proof.Val.T5

@[expose] public section

set_option maxRecDepth 16384

noncomputable section

namespace Cert.Val

open Cert.KernelIdeal
open Idealize.ShloMosaic Idealize.ShloMosaic.TcCoe
open Idealize.ShloMosaic.ValueIdx

/-- A real number. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.sum {ι : Type} (u : Finset ι) {f : ι → EReal} (h : ∀ i, Rl (f i)) : Rl (∑ i ∈ u, f i) := by
  classical
  induction u using Finset.induction_on with
  | empty => exact ⟨0, by simp⟩
  | insert a s ha ih => rw [Finset.sum_insert ha]; exact (h a).add ih
theorem Rl.ne_top {x : EReal} (h : Rl x) : x ≠ ⊤ := by obtain ⟨a, rfl⟩ := h; exact EReal.coe_ne_top a
theorem Rl.ne_bot {x : EReal} (h : Rl x) : x ≠ ⊥ := by obtain ⟨a, rfl⟩ := h; exact EReal.coe_ne_bot a
theorem Rl.bot_lt {x : EReal} (h : Rl x) : ⊥ < x := bot_lt_iff_ne_bot.mpr h.ne_bot

/-- Row `j` of block `n` of the sequence. -/
def pos (n : Fin 32) (j : Fin 256) : Fin 8192 := ⟨n.val * 256 + j.val, by omega⟩
/-- Feature `d` of head `H`. -/
def feat (H : Fin 16) (d : Fin 64) : Fin 1024 := ⟨H.val * 64 + d.val, by omega⟩

/-- The arrays the attention reads. -/
structure Args where
  /-- the table of relative position biases -/
  rb : S32x16.Idx → EReal
  /-- the queries -/
  q : S4x8192x1024.Idx → EReal
  /-- the keys -/
  k : S4x8192x1024.Idx → EReal
  /-- the values, features first -/
  v : S4x1024x8192.Idx → EReal
  /-- the mean key of every block -/
  km : S4x32x1024.Idx → EReal

/-- What is asked of the arrays: real entries in the table, the queries, the keys and the means. -/
structure Args.Real (A : Args) : Prop where
  rb : ∀ i, Rl (A.rb i)
  q : ∀ i, Rl (A.q i)
  k : ∀ i, Rl (A.k i)
  km : ∀ i, Rl (A.km i)

section
variable (A : Args) (b : Fin 4) (H : Fin 16) (a : Fin 32) (t : Fin 256)

/-- The product of a query and a key. -/
def qkG (n : Fin 32) (j : Fin 256) : EReal := ∑ d : Fin 64, A.k (ix3 b (pos n j) (feat H d)) * A.q (ix3 b (pos a t) (feat H d))
/-- The position bias of a distance. -/
def rbG (n : ℕ) : EReal := A.rb (ix2 ⟨bktN n, bktN_lt n⟩ H)
/-- The gate of a block. -/
def gateG (n : Fin 32) : EReal := if n < a then ∑ d : Fin 64, A.km (ix3 b n (feat H d)) * A.q (ix3 b (pos a t) (feat H d)) else ⊥
/-- The scores in the query's own block. -/
def ownG (j : Fin 256) : EReal := if j.val ≤ t.val then qkG A b H a t a j + rbG A H (t.val - j.val) else ⊥
/-- The scores in an earlier block. -/
def pastG (n : Fin 32) (j : Fin 256) : EReal := qkG A b H a t n j + rbG A H (a.val * 256 + t.val - (n.val * 256 + j.val))
/-- One feature of the values. -/
def valG (d : Fin 64) (n : Fin 32) (j : Fin 256) : EReal := A.v (ix3 b (feat H d) (pos n j))
/-- The attention. -/
def attnG (d : Fin 64) : EReal :=
  numer (gateG A b H a t) (ownG A b H a t) (pastG A b H a t) (valG A b H d a) (valG A b H d)
    * (((denom (gateG A b H a t) (ownG A b H a t) (pastG A b H a t))⁻¹ : ℝ) : EReal)

variable {A} (hA : A.Real)
include hA

theorem qkG_real (n : Fin 32) (j : Fin 256) : Rl (qkG A b H a t n j) := Rl.sum _ fun d => (hA.k _).mul (hA.q _)
theorem pastG_real (n : Fin 32) (j : Fin 256) : Rl (pastG A b H a t n j) := (qkG_real b H a t hA n j).add (hA.rb _)
theorem ownG_real (j : Fin 256) (h : j.val ≤ t.val) : Rl (ownG A b H a t j) := by
  unfold ownG; rw [if_pos h]; exact (qkG_real b H a t hA a j).add (hA.rb _)
theorem ownG_ne_top (j : Fin 256) : ownG A b H a t j ≠ ⊤ := by
  by_cases h : j.val ≤ t.val
  · exact (ownG_real b H a t hA j h).ne_top
  · unfold ownG; rw [if_neg h]; exact bot_ne_top
theorem gateG_pos (n : Fin 32) : ⊥ < gateG A b H a t n ↔ n < a := by
  unfold gateG
  by_cases h : n < a
  · rw [if_pos h]; exact ⟨fun _ => h, fun _ => (Rl.sum _ fun d => (hA.km _).mul (hA.q _)).bot_lt⟩
  · rw [if_neg h]; exact ⟨fun h' => absurd h' (lt_irrefl _), fun h' => absurd h' h⟩

end

end Cert.Val

end
-- ==== Proof.Val.RefSoft.lean ====
/-
  The softmax over the three selected blocks and the query's own, as one over the chosen blocks.
-/
module

public import proofs.«01_k».proof.Proof.Val.Spec

@[expose] public section

set_option maxRecDepth 16384

noncomputable section

namespace Cert.Val

open Idealize.ShloMosaic

/-- The `r`-th of the three blocks of the greatest gates. -/
def selG (g : Fin 32 → EReal) (r : Fin 3) : Fin 32 := sortedFrom (gtB g) ⟨r.val, by omega⟩

section
variable (g : Fin 32 → EReal) (ok : Fin 32 → Prop) [DecidablePred ok] (hg : ∀ n, ⊥ < g n ↔ ok n)
  (own : Fin 256 → EReal) (past : Fin 32 → Fin 256 → EReal) (hown : ∀ j, own j ≠ ⊤) (hpast : ∀ n j, past n j ≠ ⊤)
  (vown : Fin 256 → EReal) (vpast : Fin 32 → Fin 256 → EReal) (μ : ℝ)

/-- A selected block's score, the blocks that may not be attended masked. -/
def selS (r : Fin 3) (j : Fin 256) : EReal := if ok (selG g r) then past (selG g r) j else ⊥

include hpast in
theorem selS_ne_top (r : Fin 3) (j : Fin 256) : selS g ok past r j ≠ ⊤ := by
  unfold selS; split_ifs
  · exact hpast _ _
  · exact bot_ne_top

include hg in
theorem sum_sel_wt : ∑ r : Fin 3, ∑ j, wt (selS g ok past r j) + ∑ j, wt (own j) = denom g own past := by
  classical
  unfold denom
  rw [add_comm]
  congr 1
  have := sum_chosen g (by decide) (fun n => ∑ j, wt (if ok n then past n j else ⊥)) (fun n hn => by
    rw [hg] at hn; simp only [if_neg hn, wt_bot, Finset.sum_const_zero])
  refine this.trans (Finset.sum_congr rfl fun n _ => ?_)
  by_cases hc : Chosen g n
  · rw [if_pos hc, if_pos hc]
    have := (hg n).mp hc.pos
    simp only [if_pos this]
  · rw [if_neg hc, if_neg hc]

include hg hown hpast in
theorem sum_sel_exp : ∑ r : Fin 3, ∑ j, Ideal.exp (selS g ok past r j - (μ : EReal)) + ∑ j, Ideal.exp (own j - (μ : EReal))
    = ((Real.exp (-μ) * denom g own past : ℝ) : EReal) := by
  rw [← sum_sel_wt g ok hg own past, mul_add, EReal.coe_add, sum_exp own hown μ]
  congr 1
  rw [Finset.mul_sum, coe_sum]
  exact Finset.sum_congr rfl fun r _ => sum_exp _ (selS_ne_top g ok past hpast r) μ

include hg in
theorem sum_sel_val : ∑ r : Fin 3, ∑ j, vpast (selG g r) j * (wt (selS g ok past r j) : EReal) + ∑ j, vown j * (wt (own j) : EReal)
    = numer g own past vown vpast := by
  classical
  unfold numer
  rw [add_comm]
  congr 1
  have := sum_chosen g (by decide) (fun n => ∑ j, vpast n j * (wt (if ok n then past n j else ⊥) : EReal)) (fun n hn => by
    rw [hg] at hn; simp only [if_neg hn, wt_bot, EReal.coe_zero, mul_zero, Finset.sum_const_zero])
  refine this.trans (Finset.sum_congr rfl fun n _ => ?_)
  by_cases hc : Chosen g n
  · rw [if_pos hc, if_pos hc]
    have := (hg n).mp hc.pos
    simp only [if_pos this]
  · rw [if_neg hc, if_neg hc]

include hg hown hpast in
/-- The weights against the values. -/
theorem soft_out (hW : 0 < denom g own past) :
    ∑ j, Ideal.div (Ideal.exp (own j - (μ : EReal))) ((Real.exp (-μ) * denom g own past : ℝ) : EReal) * vown j
      + ∑ r : Fin 3, ∑ j, Ideal.div (Ideal.exp (selS g ok past r j - (μ : EReal))) ((Real.exp (-μ) * denom g own past : ℝ) : EReal) * vpast (selG g r) j
      = numer g own past vown vpast * (((denom g own past)⁻¹ : ℝ) : EReal) := by
  have e1 : ∀ j, Ideal.div (Ideal.exp (own j - (μ : EReal))) ((Real.exp (-μ) * denom g own past : ℝ) : EReal)
      = ((wt (own j) * (denom g own past)⁻¹ : ℝ) : EReal) := fun j => soft_weight _ (hown j) μ _ hW
  have e2 : ∀ r j, Ideal.div (Ideal.exp (selS g ok past r j - (μ : EReal))) ((Real.exp (-μ) * denom g own past : ℝ) : EReal)
      = ((wt (selS g ok past r j) * (denom g own past)⁻¹ : ℝ) : EReal) := fun r j => soft_weight _ (selS_ne_top g ok past hpast r j) μ _ hW
  simp only [e1, e2]
  rw [soft_sum _ _ _ _ hW]
  have e3 : ∀ r : Fin 3, ∑ j, ((wt (selS g ok past r j) * (denom g own past)⁻¹ : ℝ) : EReal) * vpast (selG g r) j
      = (∑ j, vpast (selG g r) j * (wt (selS g ok past r j) : EReal)) * (((denom g own past)⁻¹ : ℝ) : EReal) := fun r => soft_sum _ _ _ _ hW
  simp only [e3]
  rw [← sum_sel_val g ok hg own past vown vpast, mul_comm (_ + _) (((denom g own past)⁻¹ : ℝ) : EReal), coe_mul_add _ (inv_pos.mpr hW).le,
    coe_mul_sum _ _ (inv_pos.mpr hW).le, add_comm]
  congr 1
  · exact Finset.sum_congr rfl fun r _ => mul_comm _ _
  · exact mul_comm _ _

end

/-- A fold of maxima is below the top when its terms are, and above the bottom when one of them is. -/
theorem foldl_max {α : Type} (l : List α) (f : α → EReal) (z : EReal) (hz : z ≠ ⊤) (hf : ∀ a, f a ≠ ⊤) :
    l.foldl (fun r a => max r (f a)) z ≠ ⊤ ∧ z ≤ l.foldl (fun r a => max r (f a)) z ∧ ∀ a ∈ l, f a ≤ l.foldl (fun r a => max r (f a)) z := by
  induction l generalizing z with
  | nil => exact ⟨hz, le_rfl, fun a h => absurd h (List.not_mem_nil)⟩
  | cons b l ih =>
    have hm : max z (f b) ≠ ⊤ := by
      rcases max_choice z (f b) with h | h <;> rw [h]
      · exact hz
      · exact hf b
    obtain ⟨h1, h2, h3⟩ := ih (max z (f b)) hm
    refine ⟨h1, (le_max_left _ _).trans h2, fun a ha => ?_⟩
    rcases List.mem_cons.mp ha with rfl | ha
    · exact (le_max_right _ _).trans h2
    · exact h3 a ha

end Cert.Val

end
-- ==== Proof.Val.RefIn.lean ====
/-
  The reference's arguments by batch, head, block and row; its gate and the blocks it selects.
-/
module

public import proofs.«01_k».proof.Proof.Val.RefTerms
public import proofs.«01_k».proof.Proof.Val.RefSoft
public import Idealize.ShloMosaic.Lib.Pipeline.Value
public import Idealize.ShloMosaic.Lib.MatmulPlain
public import Idealize.ShloMosaic.Lib.TwoAxisContraction
public import Idealize.ShloMosaic.Lib.ValueIdxRank6
public import Idealize.ShloMosaic.Lib.IdealHost

@[expose] public section

set_option maxRecDepth 16384

noncomputable section

namespace Cert.Val

open Cert.ReferenceIdeal Cert.ReferenceIdeal.Gen Cert.ReferenceIdeal.Value
open Idealize.ShloMosaic
open Idealize.ShloMosaic.TcCoe
open Idealize.ShloMosaic.ValueIdx

/-- A host product contracted over one axis, at an index. -/
theorem dot1 {sl sr so : Shape} {φ₁ φ₂ : FTy} (D : DotDims sl sr so) (n : ℕ) (hr : D.contr.rank = 1)
    (hs : D.contr.size ⟨0, by omega⟩ = n) (L : FVec Ideal sl φ₁) (R : FVec Ideal sr φ₂) (j : so.Idx) (l : Fin n → sl.Idx) (r : Fin n → sr.Idx)
    (hl : ∀ i, D.lhsIdx j ((contrEquiv1 D n hr hs).symm i) = l i) (hR : ∀ i, D.rhsIdx j ((contrEquiv1 D n hr hs).symm i) = r i) :
    Host.dotGeneral D none L R j = ∑ i, L (l i) * R (r i) := by
  simp only [Host.dotGeneral]
  rw [Ideal.dotGeneral_apply, ← Equiv.sum_comp (contrEquiv1 D n hr hs).symm]
  exact Finset.sum_congr rfl fun i _ => by rw [hl, hR]

variable (V0 : Valuation τ sig (Elt Ideal))

/-- The reference's arguments. -/
def argsR : Args where
  rb := V0 (Proc.devRef .tc main_arg0)
  q := V0 (Proc.devRef .tc main_arg1)
  k := V0 (Proc.devRef .tc main_arg2)
  v := V0 (Proc.devRef .tc main_arg3)
  km := V0 (Proc.devRef .tc main_arg4)

variable (b : Fin 4) (H : Fin 16) (a : Fin 32) (t : Fin 256)

theorem r_v2 (d : Fin 64) : res_main_v2 V0 (ix5 b H a t d) = (argsR V0).q (ix3 b (pos a t) (feat H d)) := by
  unfold res_main_v2
  refine (transpose_apply _ _ _ _ (ix5 b a t H d) (fun x => by fin_cases x <;> rfl)).trans ?_
  exact shapeCast_apply _ _ _ (ix3 b (pos a t) (feat H d)) (by
    rw [Shape.rowMajor_val_three, Shape.rowMajor_val_five]
    show (b.val * 8192 + (a.val * 256 + t.val)) * 1024 + (H.val * 64 + d.val) = (((b.val * 32 + a.val) * 256 + t.val) * 16 + H.val) * 64 + d.val
    omega)

theorem r_v5 (d : Fin 64) : res_main_v5 V0 (ix5 b H a t d) = (argsR V0).k (ix3 b (pos a t) (feat H d)) := by
  unfold res_main_v5
  refine (transpose_apply _ _ _ _ (ix5 b a t H d) (fun x => by fin_cases x <;> rfl)).trans ?_
  exact shapeCast_apply _ _ _ (ix3 b (pos a t) (feat H d)) (by
    rw [Shape.rowMajor_val_three, Shape.rowMajor_val_five]
    show (b.val * 8192 + (a.val * 256 + t.val)) * 1024 + (H.val * 64 + d.val) = (((b.val * 32 + a.val) * 256 + t.val) * 16 + H.val) * 64 + d.val
    omega)

theorem r_v8 (d : Fin 64) : res_main_v8 V0 (ix5 b H a t d) = (argsR V0).v (ix3 b (feat H d) (pos a t)) := by
  unfold res_main_v8
  refine (transpose_apply _ _ _ _ (ix5 b H d a t) (fun x => by fin_cases x <;> rfl)).trans ?_
  exact shapeCast_apply _ _ _ (ix3 b (feat H d) (pos a t)) (by
    rw [Shape.rowMajor_val_three, Shape.rowMajor_val_five]
    show (b.val * 1024 + (H.val * 64 + d.val)) * 8192 + (a.val * 256 + t.val) = (((b.val * 16 + H.val) * 64 + d.val) * 32 + a.val) * 256 + t.val
    omega)

/-- The block means by head. -/
theorem r_km (x : S4x32x1024.Idx → EReal) (n : Fin 32) (d : Fin 64) :
    transpose S4x16x32x64 [0, 2, 1, 3] (shapeCast S4x32x16x64 x shapeCasts_S4x32x1024_S4x32x16x64) transposes_S4x32x16x64_S4x16x32x64_0_2_1_3 (ix4 b H n d)
      = x (ix3 b n (feat H d)) := by
  refine (transpose_apply _ _ _ _ (ix4 b n H d) (fun x => by fin_cases x <;> rfl)).trans ?_
  exact shapeCast_apply _ _ _ (ix3 b n (feat H d)) (by
    rw [Shape.rowMajor_val_three, Shape.rowMajor_val_four]
    show (b.val * 32 + n.val) * 1024 + (H.val * 64 + d.val) = ((b.val * 32 + n.val) * 16 + H.val) * 64 + d.val
    omega)

theorem slt_word (x y : ℕ) (hx : x < 8192) (hy : y < 8192) :
    IntOp.cmpi .slt (BitVec.ofNat 32 x) (BitVec.ofNat 32 y) = BitVec.ofBool (decide (x < y)) := by
  have h1 : (BitVec.ofNat 32 x).toInt = x := by rw [BitVec.toInt_ofNat', Int.bmod_eq_of_le] <;> omega
  have h2 : (BitVec.ofNat 32 y).toInt = y := by rw [BitVec.toInt_ofNat', Int.bmod_eq_of_le] <;> omega
  show BitVec.ofBool ((BitVec.ofNat 32 x).slt (BitVec.ofNat 32 y)) = _
  rw [BitVec.slt, h1, h2]
  congr 1
  exact decide_eq_decide.mpr (by omega)

theorem select_bool {α : Type} (p : Prop) [Decidable p] (x y : α) : Scalar.select (BitVec.ofBool (decide p)) x y = if p then x else y := by
  by_cases h : p
  · rw [decide_eq_true h, if_pos h]; exact if_pos rfl
  · rw [decide_eq_false h, if_neg h]; exact if_neg (by decide)

theorem r_gate (n : Fin 32) : res_main_v60 V0 (ix5 b H a t n) = gateG (argsR V0) b H a t n := by
  unfold res_main_v60 gateG
  refine (select_apply _ _ _ _).trans ?_
  have hm : (broadcastInDim S4x16x32x256x32 ![2, 3, 4] bcast_S32x1x32_S4x16x32x256x32_2_3_4 (broadcastInDim S32x1x32 ![0, 2] bcast_S32x32_S32x1x32_0_2
      (cmpi .slt (broadcastInDim S32x32 ![0, 1] bcast_S1x32_S32x32_0_1 (broadcastInDim S1x32 ![1] bcast_S32_S1x32_1 (res_main_v11 V0)))
        (broadcastInDim S32x32 ![0, 1] bcast_S32x1_S32x32_0_1 (broadcastInDim S32x1 ![0] bcast_S32_S32x1_0 (res_main_v11 V0)))))) (ix5 b H a t n)
      = BitVec.ofBool (decide (n < a)) := by
    refine (broadcastInDim_apply _ _ _ _ (ix3 a 0 n) (fun x => by fin_cases x <;> rfl)).trans ?_
    refine (broadcastInDim_apply _ _ _ _ (ix2 a n) (fun x => by fin_cases x <;> rfl)).trans ?_
    exact (show _ = IntOp.cmpi .slt (BitVec.ofNat 32 n.val) (BitVec.ofNat 32 a.val) from rfl).trans (slt_word _ _ (by omega) (by omega))
  refine (congrArg (fun w => Scalar.select w _ _) hm).trans ?_
  rw [select_bool]
  refine if_congr Iff.rfl ?_ ofBits_neg_inf
  refine (dot1 _ 64 rfl rfl _ _ _ (fun d => ix5 b H a t d) (fun d => ix4 b H n d) (fun i => ?_) (fun i => ?_)).trans ?_
  · have h0 := contrEquiv1_symm_val dot_S4x16x32x256x64_S4x16x32x64_S4x16x32x256x32_4_3_23_2_01_01 64 rfl rfl i
    funext x; apply Fin.ext
    match x with
    | ⟨0, _⟩ => rfl
    | ⟨1, _⟩ => rfl
    | ⟨2, _⟩ => rfl
    | ⟨3, _⟩ => rfl
    | ⟨4, _⟩ => exact h0
  · have h0 := contrEquiv1_symm_val dot_S4x16x32x256x64_S4x16x32x64_S4x16x32x256x32_4_3_23_2_01_01 64 rfl rfl i
    funext x; apply Fin.ext
    match x with
    | ⟨0, _⟩ => rfl
    | ⟨1, _⟩ => rfl
    | ⟨2, _⟩ => rfl
    | ⟨3, _⟩ => exact h0
  · refine Finset.sum_congr rfl fun d _ => ?_
    rw [r_v2, mul_comm]
    exact congrArg (· * _) (r_km b H _ n d)

/-- The greatest entries' positions, at an index of a cut to the first few. -/
theorem topK_pos {s t : Shape} {α : Type} (d : Fin s.rank) (gt : α → α → BitVec 1) (x : s.Idx → α) (h : s.Slices (fun _ => 0) t) (j : t.Idx)
    (i : s.Idx) (hi : ∀ a, (i a).val = (j (a.cast h.1.symm)).val) :
    (Host.topK t d.val gt x h).2 j = BitVec.ofNat 32 (sortedFrom (fun k k' => gt (x (i.along d k)) (x (i.along d k')) == 1#1) (i d)).val := by
  have e : (Host.topK t d.val gt x h).2 j = (Host.sort2 s d.val (fun l r => gt l.1 r.1) x
      (fun i => if hd : d.val < s.rank then iotaInDim s 32 ⟨d.val, hd⟩ i else 0#32)).2 i := by
    unfold Host.topK extractStridedSlice
    refine congrArg (Host.sort2 s d.val (fun l r => gt l.1 r.1) x _).2 ?_
    funext a
    exact Fin.ext ((Nat.zero_add _).trans (hi a).symm)
  rw [e]
  unfold Host.sort2
  rw [dif_pos d.isLt]
  show (if hd : d.val < s.rank then _ else _) = _
  rw [dif_pos d.isLt]
  show BitVec.ofNat 32 ((i.along d _) d).val = _
  unfold Shape.Idx.along
  rw [Function.update_self]

/-- The selected blocks. -/
theorem r_sel (r : Fin 3) : res_main_indices V0 (ix5 b H a t r) = BitVec.ofNat 32 (selG (gateG (argsR V0) b H a t) r).val := by
  have hg : ∀ n : Fin 32, res_main_v60 V0 ((ix5 b H a t (⟨r.val, by omega⟩ : Fin 32) : S4x16x32x256x32.Idx).along 4 n) = gateG (argsR V0) b H a t n := fun n => by
    rw [← r_gate]
    congr 1
    funext x; fin_cases x <;> rfl
  unfold res_main_indices
  refine (topK_pos (s := S4x16x32x256x32) 4 _ _ _ _ (ix5 b H a t ⟨r.val, by omega⟩) (fun x => by fin_cases x <;> rfl)).trans ?_
  refine congrArg (fun p => BitVec.ofNat 32 (sortedFrom (n := 32) p ⟨r.val, by omega⟩).val) ?_
  funext k k'
  refine (congrArg₂ (fun x y : EReal => Ideal.cmp .ogt x y == 1#1) (hg k) (hg k')).trans ?_
  unfold gtB
  by_cases hlt : gateG (argsR V0) b H a t k' < gateG (argsR V0) b H a t k
  · rw [decide_eq_true hlt]
    exact (congrArg (fun w => BitVec.ofBool w == 1#1) (decide_eq_true hlt)).trans rfl
  · rw [decide_eq_false hlt]
    exact (congrArg (fun w => BitVec.ofBool w == 1#1) (decide_eq_false hlt)).trans rfl

/-- A gather's element, from the operand index it reads. -/
theorem gather_at {s si t : Shape} {α : Type} {w : ℕ} (d : GatherDims s si t) (x : s.Idx → α) (idx : IVec si w) (j : t.Idx) (i : s.Idx)
    (hi : ∀ a, (i a).val = d.start j idx a + d.batchCoord j a + d.offCoord j a) : Host.gather d x idx j = x i :=
  congrArg x (funext fun a => Fin.ext (hi a).symm)

theorem start_at {s si t : Shape} {w : ℕ} (d : GatherDims s si t) (j : t.Idx) (idx : IVec si w) (a : Fin s.rank) (ha : a ∈ d.startIndexMap)
    (k : si.Idx) (hk : d.siIdx j ⟨d.startIndexMap.idxOf a, List.idxOf_lt_length_iff.2 ha⟩ = k) (n : ℕ) (hn : (idx k).toInt.toNat = n)
    (hle : n ≤ s.size a - d.sliceSizes a) : d.start j idx a = n := by
  unfold GatherDims.start
  rw [dif_pos ha, hk, hn]
  exact Nat.min_eq_left hle

theorem toNat_word (x : ℕ) (hx : x < 8192) : (BitVec.ofNat 32 x).toInt.toNat = x := by
  have h1 : (BitVec.ofNat 32 x).toInt = x := by rw [BitVec.toInt_ofNat', Int.bmod_eq_of_le] <;> omega
  rw [h1]; rfl

/-- An index word already in range is left as it is. -/
theorem wrap_word (x : ℕ) (w : BitVec 32) (hx : x < 8192) :
    Scalar.select (IntOp.cmpi .slt (BitVec.ofNat 32 x) 0#32) (IntOp.addi (BitVec.ofNat 32 x) w) (BitVec.ofNat 32 x) = BitVec.ofNat 32 x := by
  rw [show (0#32) = BitVec.ofNat 32 0 from rfl, slt_word _ _ hx (by omega), decide_eq_false (by omega)]
  exact if_neg (by decide)

section
variable {n₀ n₁ n₂ n₃ n₄ n₅ n₆ : ℕ}
/-- An index of a rank-7 shape from its coordinates. -/
abbrev ix7 (i0 : Fin n₀) (i1 : Fin n₁) (i2 : Fin n₂) (i3 : Fin n₃) (i4 : Fin n₄) (i5 : Fin n₅) (i6 : Fin n₆) :
    (⟨7, ![n₀, n₁, n₂, n₃, n₄, n₅, n₆]⟩ : Shape).Idx
  | 0 => i0 | 1 => i1 | 2 => i2 | 3 => i3 | 4 => i4 | 5 => i5 | 6 => i6
end

/-- A past block's rows, read off an array by block. -/
theorem gather_block {α : Type} (x : S4x16x32x256x64.Idx → α) (idx : IVec S4x16x32x256x3x3 32) (r : Fin 3) (j : Fin 256) (d : Fin 64) (n : Fin 32)
    (h0 : idx (ix6 b H a t r (0 : Fin 3)) = BitVec.ofNat 32 b.val) (h1 : idx (ix6 b H a t r (1 : Fin 3)) = BitVec.ofNat 32 H.val)
    (h2 : idx (ix6 b H a t r (2 : Fin 3)) = BitVec.ofNat 32 n.val) :
    Host.gather gather_S4x16x32x256x64_S4x16x32x256x3x3_S4x16x32x256x3x256x64_56_012_n_n_012_5_11125664 x idx (ix7 b H a t r j d) = x (ix5 b H n j d) := by
  refine gather_at _ _ _ _ _ (fun y => ?_)
  match y with
  | ⟨0, _⟩ => rw [start_at _ _ _ _ (.head _) (ix6 b H a t r (0 : Fin 3)) (by funext z; fin_cases z <;> rfl) b.val (by rw [h0, toNat_word _ (by omega)]) (by show b.val ≤ 4 - 1; omega)]; rfl
  | ⟨1, _⟩ => rw [start_at _ _ _ _ (.tail _ (.head _)) (ix6 b H a t r (1 : Fin 3)) (by funext z; fin_cases z <;> rfl) H.val (by rw [h1, toNat_word _ (by omega)]) (by show H.val ≤ 16 - 1; omega)]; rfl
  | ⟨2, _⟩ => rw [start_at _ _ _ _ (.tail _ (.tail _ (.head _))) (ix6 b H a t r (2 : Fin 3)) (by funext z; fin_cases z <;> rfl) n.val (by rw [h2, toNat_word _ (by omega)]) (by show n.val ≤ 32 - 1; omega)]; rfl
  | ⟨3, _⟩ => exact (Nat.zero_add _).symm
  | ⟨4, _⟩ => exact (Nat.zero_add _).symm

/-- One bias entry, read off the table by bucket, for all heads. -/
theorem gather_near {α : Type} (x : S32x16.Idx → α) (idx : IVec S256x256x1 32) (j : Fin 256) (n : Fin 32)
    (h0 : idx (ix3 t j (0 : Fin 1)) = BitVec.ofNat 32 n.val) :
    Host.gather gather_S32x16_S256x256x1_S256x256x16_2_0_n_n_0_2_116 x idx (ix3 t j H) = x (ix2 n H) := by
  refine gather_at _ _ _ _ _ (fun y => ?_)
  match y with
  | ⟨0, _⟩ => rw [start_at _ _ _ _ (.head _) (ix3 t j (0 : Fin 1)) (by funext z; fin_cases z <;> rfl) n.val (by rw [h0, toNat_word _ (by omega)]) (by show n.val ≤ 32 - 1; omega)]; rfl
  | ⟨1, _⟩ => exact (Nat.zero_add _).symm

/-- One bias entry, read off the table by bucket and head. -/
theorem gather_far {α : Type} (x : S32x16.Idx → α) (idx : IVec S4x16x32x256x3x256x2 32) (r : Fin 3) (j : Fin 256) (n : Fin 32)
    (h0 : idx (ix7 b H a t r j (0 : Fin 2)) = BitVec.ofNat 32 n.val) (h1 : idx (ix7 b H a t r j (1 : Fin 2)) = BitVec.ofNat 32 H.val) :
    Host.gather gather_S32x16_S4x16x32x256x3x256x2_S4x16x32x256x3x256_n_01_n_n_01_6_11 x idx (ix6 b H a t r j) = x (ix2 n H) := by
  refine gather_at _ _ _ _ _ (fun y => ?_)
  match y with
  | ⟨0, _⟩ => rw [start_at _ _ _ _ (.head _) (ix7 b H a t r j (0 : Fin 2)) (by funext z; fin_cases z <;> rfl) n.val (by rw [h0, toNat_word _ (by omega)]) (by show n.val ≤ 32 - 1; omega)]; rfl
  | ⟨1, _⟩ => rw [start_at _ _ _ _ (.tail _ (.head _)) (ix7 b H a t r j (1 : Fin 2)) (by funext z; fin_cases z <;> rfl) H.val (by rw [h1, toNat_word _ (by omega)]) (by show H.val ≤ 16 - 1; omega)]; rfl

end Cert.Val

end
-- ==== Proof.Mlp.Ref.lean ====
/-
  The feed-forward reference's result at an index.
-/
module

public import proofs.«01_k».proof.Proof.Mlp.Spec
public import proofs.«01_k».proof.Proof.Val.RefIn
public import proofs.«01_k».proof.Proof.Gen.Reference2Ideal.Run
public import Idealize.ShloMosaic.Lib.ValueIdx
public import Idealize.ShloMosaic.PureOps.Ideal.Laws

@[expose] public section

set_option maxRecDepth 16384

noncomputable section

namespace Cert.Mlp.Ref

open Cert.Reference2Ideal Cert.Reference2Ideal.Gen
open Idealize.ShloMosaic
open Idealize.ShloMosaic.TcCoe
open Idealize.ShloMosaic.ValueIdx

abbrev Big := FVec Ideal S4x8192x1024 .f32

/-- A vector per batch laid over the rows. -/
theorem batch_apply (v : S4x1x1024.Idx → EReal) (b : Fin 4) (s : Fin 8192) (d : Fin 1024) :
    broadcastInDim S4x8192x1024 ![0, 1, 2] bcast_S4x1x1024_S4x8192x1024_0_1_2 v (ix3 b s d) = v (ix3 b 0 d) :=
  broadcastInDim_apply _ _ _ _ (ix3 b (0 : Fin 1) d) fun x => by fin_cases x <;> rfl

theorem mid_apply (v : S4x1024.Idx → EReal) (b : Fin 4) (d : Fin 1024) :
    broadcastInDim S4x1x1024 ![0, 2] bcast_S4x1024_S4x1x1024_0_2 v (ix3 b 0 d) = v (ix2 b d) :=
  broadcastInDim_apply _ _ _ _ (ix2 b d) fun x => by fin_cases x <;> rfl

/-- A vector laid over all rows. -/
def overAll (v : S1024.Idx → EReal) : S4x8192x1024.Idx → EReal :=
  broadcastInDim S4x8192x1024 ![0, 1, 2] bcast_S1x1x1024_S4x8192x1024_0_1_2 (broadcastInDim S1x1x1024 ![2] bcast_S1024_S1x1x1024_2 v)

theorem overAll_apply (v : S1024.Idx → EReal) (b : Fin 4) (s : Fin 8192) (d : Fin 1024) : overAll v (ix3 b s d) = v (ix1 d) :=
  (broadcastInDim_apply _ _ _ _ (ix3 (0 : Fin 1) (0 : Fin 1) d) fun x => by fin_cases x <;> rfl).trans
    (broadcastInDim_apply _ _ _ _ (ix1 d) fun x => by fin_cases x; rfl)

/-- A number per row laid over the row. -/
theorem rowOver_apply (v : S4x8192x1.Idx → EReal) (b : Fin 4) (s : Fin 8192) (d : Fin 1024) :
    broadcastInDim S4x8192x1024 ![0, 1, 2] bcast_S4x8192x1_S4x8192x1024_0_1_2 v (ix3 b s d) = v (ix3 b s 0) :=
  broadcastInDim_apply _ _ _ _ (ix3 b s (0 : Fin 1)) fun x => by fin_cases x <;> rfl

theorem col_apply (v : S4x8192.Idx → EReal) (b : Fin 4) (s : Fin 8192) :
    broadcastInDim S4x8192x1 ![0, 1] bcast_S4x8192_S4x8192x1_0_1 v (ix3 b s 0) = v (ix2 b s) :=
  broadcastInDim_apply _ _ _ _ (ix2 b s) fun x => by fin_cases x <;> rfl

theorem reduces_row : S4x8192x1024.Reduces [2] S4x8192 := by decide

theorem rowSum_apply (z : Big) (b : Fin 4) (s : Fin 8192) :
    Host.reduceAdd z (constant S_ .f32 0x00000000#32) reducesTo_S4x8192x1024_S4x8192_d2 h_S_ (ix2 b s) = ∑ e : Fin 1024, z (ix3 b s e) := by
  refine (Ideal.hostReduceAdd_single reducesTo_S4x8192x1024_S4x8192_d2 reduces_row z (Ideal.ofBits .f32 0x00000000#32) (ix2 b s)).trans ?_
  rw [Ideal.ofBits_zero_f32, zero_add]
  refine Finset.sum_congr rfl fun e _ => congrArg z ?_
  funext x
  fin_cases x <;> rfl

/-- The array normalised row by row. -/
def normed (z : Big) : Big :=
  mulf z (broadcastInDim S4x8192x1024 ![0, 1, 2] bcast_S4x8192x1_S4x8192x1024_0_1_2 (Host.rsqrt (addf (Host.divf (broadcastInDim S4x8192x1 ![0, 1] bcast_S4x8192_S4x8192x1_0_1
    (Host.reduceAdd (mulf z z) (constant S_ .f32 0x00000000#32) reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32)))))

theorem normed_apply (z : Big) (b : Fin 4) (s : Fin 8192) (d : Fin 1024) : normed z (ix3 b s d) = rms (fun e => z (ix3 b s e)) d := by
  unfold normed rms
  rw [mulf_apply, rowOver_apply]
  refine congrArg (fun p : EReal => z (ix3 b s d) * Ideal.rsqrt (Ideal.div p (Ideal.ofBits .f32 0x44800000#32) + Ideal.ofBits .f32 0x358637BD#32)) ?_
  exact (col_apply _ b s).trans (rowSum_apply (mulf z z) b s)

theorem up_apply (h : Big) (w : FVec Ideal S1024x4096 .f32) (b : Fin 4) (s : Fin 8192) (f : Fin 4096) :
    Host.dotGeneral dot_S4x8192x1024_S1024x4096_S4x8192x4096_2_0_01_1_n_n none h w (ix3 b s f) = ∑ e : Fin 1024, h (ix3 b s e) * w (ix2 e f) := by
  refine Cert.Val.dot1 _ 1024 rfl rfl _ _ _ (fun e => ix3 b s e) (fun e => ix2 e f) (fun i => ?_) (fun i => ?_)
  · have h0 := contrEquiv1_symm_val dot_S4x8192x1024_S1024x4096_S4x8192x4096_2_0_01_1_n_n 1024 rfl rfl i
    funext x; apply Fin.ext
    match x with
    | ⟨0, _⟩ => rfl
    | ⟨1, _⟩ => rfl
    | ⟨2, _⟩ => exact h0
  · have h0 := contrEquiv1_symm_val dot_S4x8192x1024_S1024x4096_S4x8192x4096_2_0_01_1_n_n 1024 rfl rfl i
    funext x; apply Fin.ext
    match x with
    | ⟨0, _⟩ => exact h0
    | ⟨1, _⟩ => rfl

theorem dn_apply (h : FVec Ideal S4x8192x4096 .f32) (w : FVec Ideal S4096x1024 .f32) (b : Fin 4) (s : Fin 8192) (d : Fin 1024) :
    Host.dotGeneral dot_S4x8192x4096_S4096x1024_S4x8192x1024_2_0_01_1_n_n none h w (ix3 b s d) = ∑ f : Fin 4096, h (ix3 b s f) * w (ix2 f d) := by
  refine Cert.Val.dot1 _ 4096 rfl rfl _ _ _ (fun e => ix3 b s e) (fun e => ix2 e d) (fun i => ?_) (fun i => ?_)
  · have h0 := contrEquiv1_symm_val dot_S4x8192x4096_S4096x1024_S4x8192x1024_2_0_01_1_n_n 4096 rfl rfl i
    funext x; apply Fin.ext
    match x with
    | ⟨0, _⟩ => rfl
    | ⟨1, _⟩ => rfl
    | ⟨2, _⟩ => exact h0
  · have h0 := contrEquiv1_symm_val dot_S4x8192x4096_S4096x1024_S4x8192x1024_2_0_01_1_n_n 4096 rfl rfl i
    funext x; apply Fin.ext
    match x with
    | ⟨0, _⟩ => exact h0
    | ⟨1, _⟩ => rfl

/-- The modulated rows. -/
def hArr (z : Big) (gain : FVec Ideal S1024 .f32) (shift scale : FVec Ideal S4x1024 .f32) : Big :=
  addf (mulf (mulf (normed z) (overAll gain)) (broadcastInDim S4x8192x1024 ![0, 1, 2] bcast_S4x1x1024_S4x8192x1024_0_1_2
    (addf (broadcastInDim S4x1x1024 ![] bcast_S_S4x1x1024 (constant S_ .f32 0x3F800000#32)) (broadcastInDim S4x1x1024 ![0, 2] bcast_S4x1024_S4x1x1024_0_2 scale))))
    (broadcastInDim S4x8192x1024 ![0, 1, 2] bcast_S4x1x1024_S4x8192x1024_0_1_2 (broadcastInDim S4x1x1024 ![0, 2] bcast_S4x1024_S4x1x1024_0_2 shift))

theorem hArr_apply (z : Big) (gain : FVec Ideal S1024 .f32) (shift scale : FVec Ideal S4x1024 .f32) (b : Fin 4) (s : Fin 8192) (d : Fin 1024) :
    hArr z gain shift scale (ix3 b s d) = hRow (fun e => z (ix3 b s e)) (fun e => gain (ix1 e)) (fun e => shift (ix2 b e)) (fun e => scale (ix2 b e)) d := by
  unfold hArr hRow
  rw [addf_apply, mulf_apply, mulf_apply, normed_apply, overAll_apply, batch_apply, batch_apply, addf_apply, mid_apply, mid_apply]
  rfl

/-- The squared positive parts. -/
def actArr (h : Big) (wu : FVec Ideal S1024x4096 .f32) : FVec Ideal S4x8192x4096 .f32 :=
  mulf (maximumf (Host.dotGeneral dot_S4x8192x1024_S1024x4096_S4x8192x4096_2_0_01_1_n_n none h wu) (broadcastInDim S4x8192x4096 ![] bcast_S_S4x8192x4096 (constant S_ .f32 0x00000000#32)))
    (maximumf (Host.dotGeneral dot_S4x8192x1024_S1024x4096_S4x8192x4096_2_0_01_1_n_n none h wu) (broadcastInDim S4x8192x4096 ![] bcast_S_S4x8192x4096 (constant S_ .f32 0x00000000#32)))

theorem actArr_apply (h : Big) (wu : FVec Ideal S1024x4096 .f32) (b : Fin 4) (s : Fin 8192) (f : Fin 4096) :
    actArr h wu (ix3 b s f) = act (fun e => h (ix3 b s e)) (fun e f => wu (ix2 e f)) f := by
  unfold actArr act
  rw [mulf_apply, maximumf_apply, up_apply]
  exact congrArg (fun q : EReal => max (∑ e, h (ix3 b s e) * wu (ix2 e f)) q * max (∑ e, h (ix3 b s e) * wu (ix2 e f)) q) Ideal.ofBits_zero_f32

/-- The rows with the gated sublayer added. -/
def sumArr (z h : Big) (gate : FVec Ideal S4x1024 .f32) (wu : FVec Ideal S1024x4096 .f32) (wd : FVec Ideal S4096x1024 .f32) : Big :=
  addf z (mulf (broadcastInDim S4x8192x1024 ![0, 1, 2] bcast_S4x1x1024_S4x8192x1024_0_1_2 (broadcastInDim S4x1x1024 ![0, 2] bcast_S4x1024_S4x1x1024_0_2 gate))
    (Host.dotGeneral dot_S4x8192x4096_S4096x1024_S4x8192x1024_2_0_01_1_n_n none (actArr h wu) wd))

theorem sumArr_apply (z h : Big) (gate : FVec Ideal S4x1024 .f32) (wu : FVec Ideal S1024x4096 .f32) (wd : FVec Ideal S4096x1024 .f32) (b : Fin 4) (s : Fin 8192) (d : Fin 1024) :
    sumArr z h gate wu wd (ix3 b s d) = z (ix3 b s d) + gate (ix2 b d) * ffRow (fun e => h (ix3 b s e)) (fun e f => wu (ix2 e f)) (fun f e => wd (ix2 f e)) d := by
  unfold sumArr ffRow
  rw [addf_apply, mulf_apply, batch_apply, mid_apply, dn_apply]
  simp only [actArr_apply]

/-- The whole reference. -/
def outArr (z : Big) (gain : FVec Ideal S1024 .f32) (shift scale gate : FVec Ideal S4x1024 .f32) (wu : FVec Ideal S1024x4096 .f32) (wd : FVec Ideal S4096x1024 .f32)
    (fin : FVec Ideal S1024 .f32) : Big :=
  mulf (normed (sumArr z (hArr z gain shift scale) gate wu wd)) (overAll fin)

theorem outArr_apply (z : Big) (gain : FVec Ideal S1024 .f32) (shift scale gate : FVec Ideal S4x1024 .f32) (wu : FVec Ideal S1024x4096 .f32) (wd : FVec Ideal S4096x1024 .f32)
    (fin : FVec Ideal S1024 .f32) (b : Fin 4) (s : Fin 8192) (d : Fin 1024) :
    outArr z gain shift scale gate wu wd fin (ix3 b s d) = outRow (fun e => z (ix3 b s e)) (fun e => gain (ix1 e)) (fun e => shift (ix2 b e)) (fun e => scale (ix2 b e))
      (fun e => gate (ix2 b e)) (fun e => fin (ix1 e)) (fun e f => wu (ix2 e f)) (fun f e => wd (ix2 f e)) d := by
  unfold outArr outRow
  rw [mulf_apply, normed_apply, overAll_apply]
  simp only [sumArr_apply, hArr_apply]
  rfl

theorem res_eq (m : (ℓ : Loc nD τ sig) → Buf (Elt Ideal) ℓ) (c : Dev nD) : Cert.Reference2Ideal.Value.res_main_v42 m c
    = outArr (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Cert.Reference2Ideal.Value.res_main_v42 outArr sumArr actArr hArr normed overAll
  rfl

end Cert.Mlp.Ref

end
-- ==== Proof.Oproj.Arr.lean ====
/-
  The output projection's result array.
-/
module

public import proofs.«01_k».proof.Proof.Mlp.FirstArr
public import proofs.«01_k».proof.Proof.Gen.Kernel4Ideal.Value

@[expose] public section

set_option maxRecDepth 16384

noncomputable section

namespace Cert.Oproj

open Cert.Kernel4Ideal Cert.Kernel4Ideal.Gen
open Idealize.ShloMosaic hiding ix1 ix2 ix3 ix4
open Idealize.ShloMosaic.TcCoe
open Idealize.ShloMosaic.ValueIdx
open Cert.Mlp (row)

/-- The result from the arguments: the stream, the attention's rows, the weights and the gate. -/
def arrOf (x o : S4x8192x1024.Idx → EReal) (w : S1024x1024.Idx → EReal) (gate : S4x1024.Idx → EReal) : S4x8192x1024.Idx → EReal := fun y =>
  x (ix3 (y 0) (y 1) (y 2)) + gate (ix2 (y 0) (y 2)) * ∑ e : Fin 1024, o (ix3 (y 0) (y 1) e) * w (ix2 e (y 2))

theorem pay_apply (x0 : Vec Ideal S1x512x1024 .f32) (x3 : Vec Ideal S1x1x1024 .f32) (x1 : Vec Ideal S1x512x1024 .bf16) (x2 : Vec Ideal S1024x1024 .bf16) (a : Fin 512) (d : Fin 1024) :
    k0_pay1 x0 x3 x1 x2 (ix3 0 a d) = x0 (ix3 0 a d) + x3 (ix3 0 0 d) * ∑ e : Fin 1024, x1 (ix3 0 a e) * x2 (ix2 e d) := by
  unfold k0_pay1
  simp only [shapeCast_self]
  rw [show shapeCast S1x512x1024 _ shapeCasts_S512x1024_S1x512x1024 (ix3 0 a d) = _ from shapeCast_ab_1ab_apply _ _ 0 a d, addf_apply, mulf_apply]
  refine congrArg₂ (fun p q : EReal => p + q) (shapeCast_1ab_ab_apply _ _ a d) (congrArg₂ (fun p q : EReal => p * q) (Cert.Mlp.vec_apply x3 a d) ?_)
  refine (Ideal.matmul_plain_apply (M := 512) (K := 1024) (N := 1024) none _ x2 (constant S512x1024 .f32 0x00000000#32) a d).trans ?_
  show Ideal.ofBits .f32 0x00000000#32 + _ = _
  rw [Ideal.ofBits_zero_f32, zero_add]
  exact Finset.sum_congr rfl fun e _ => congrArg (fun p : EReal => p * x2 (ix2 e d)) (shapeCast_1ab_ab_apply x1 _ a e)

variable (m : (ℓ : Loc nD τ sig) → Buf (Elt Ideal) ℓ) (c : Dev nD)

theorem V_v0 : V m c main_v0 = m ((c.tc : Thread nD τ).loc main_arg2) := by
  unfold V hostOps0
  after_results_simp
  rfl
theorem V_v1 : V m c main_v1 = shapeCast S4x1x1024 (m ((c.tc : Thread nD τ).loc main_arg3)) shapeCasts_S4x1024_S4x1x1024 := by
  unfold V hostOps0
  after_results_simp
  rfl

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, (grid0.coords t 1).val, 0] := (by decide +kernel : ∀ t : Fin grid0.N, _)

section
variable (t : Fin cfg0.N)

/-- The batch and the row block of a point. -/
abbrev pb : Fin 4 := grid0.coords t 0
abbrev ps : Fin 16 := grid0.coords t 1

theorem blk_0 (a : Fin 512) (e : Fin 1024) : iblk m c 0 t (ix3 0 a e) = m ((c.tc : Thread nD τ).loc main_arg0) (ix3 (pb t) (row (ps t) a) e) := by
  have E : (win0_0.blk t).view.emb (ix3 0 a e) = ix3 (pb t) (row (ps t) a) e := by blk_ext [idx0, row]
  blk_simp [iblk]
  rw [E, V_main_arg0]
theorem blk_1 (a : Fin 512) (e : Fin 1024) : iblk m c 1 t (ix3 0 a e) = m ((c.tc : Thread nD τ).loc main_arg1) (ix3 (pb t) (row (ps t) a) e) := by
  have E : (win0_1.blk t).view.emb (ix3 0 a e) = ix3 (pb t) (row (ps t) a) e := by blk_ext [idx1, row]
  blk_simp [iblk]
  rw [E, V_main_arg1]
theorem blk_2 (e d : Fin 1024) : iblk m c 2 t (ix2 e d) = m ((c.tc : Thread nD τ).loc main_arg2) (ix2 e d) := by
  have E : (win0_2.blk t).view.emb (ix2 e d) = ix2 e d := by blk_ext [idx2]
  blk_simp [iblk]
  rw [E, V_v0]
theorem blk_3 (e : Fin 1024) : iblk m c 3 t (ix3 0 0 e) = m ((c.tc : Thread nD τ).loc main_arg3) (ix2 (pb t) e) := by
  have E : (win0_3.blk t).view.emb (ix3 0 0 e) = ix3 (pb t) 0 e := by blk_ext [idx3]
  blk_simp [iblk]
  rw [E, V_v1]
  exact Cert.Mlp.mid_cast _ _ e

end

/-- The result array from the launch's arguments. -/
def outArr : S4x8192x1024.Idx → EReal :=
  arrOf (m ((c.tc : Thread nD τ).loc main_arg0)) (m ((c.tc : Thread nD τ).loc main_arg1)) (m ((c.tc : Thread nD τ).loc main_arg2)) (m ((c.tc : Thread nD τ).loc main_arg3))

theorem out_arr : (dats m 0 c).arrAt 4 cfg0.N = outArr m c := by
  refine (dats m 0 c).arrAt_eq_of_covers 4 _ (by decide +kernel) fun t hf y => ?_
  have E : (win0_4.blk t).view.emb y = ix3 (pb t) (row (ps t) (y 1)) (y 2) := by blk_ext [idx4, row]
  have hy : y = ix3 (0 : Fin 1) (y 1 : Fin 512) (y 2 : Fin 1024) := by
    funext a
    fin_cases a
    · exact Subsingleton.elim (α := Fin 1) _ _
    · rfl
    · rfl
  have ha : (dats m 0 c).after 4 t = k0_pay1 (iblk m c 0 t) (iblk m c 3 t) (iblk m c 1 t) (iblk m c 2 t) := by
    rw [after0_4]
    unfold out0_4
    rw [View.canon_unit_zero Cert.Mlp.hz3, View.ld_unit_zero (S := S1x512x1024) Cert.Mlp.hz3, View.ld_unit_zero (S := S1x512x1024) Cert.Mlp.hz3,
      View.ld_unit_zero (S := S1x1x1024) Cert.Mlp.hz3, View.ld_unit_zero (S := S1024x1024) Cert.Mlp.hz2]
  blk_simp
  rw [ha, E]
  refine (congrArg _ hy).trans ((pay_apply _ _ _ _ (y 1) (y 2)).trans ?_)
  have h0 : ∀ e : Fin 1024, iblk m c 0 t (ix3 0 (y 1) e) = m ((c.tc : Thread nD τ).loc main_arg0) (ix3 (pb t) (row (ps t) (y 1)) e) := fun e => blk_0 m c t (y 1) e
  have h1 : ∀ e : Fin 1024, iblk m c 1 t (ix3 0 (y 1) e) = m ((c.tc : Thread nD τ).loc main_arg1) (ix3 (pb t) (row (ps t) (y 1)) e) := fun e => blk_1 m c t (y 1) e
  have h2 : ∀ e : Fin 1024, iblk m c 2 t (ix2 e (y 2)) = m ((c.tc : Thread nD τ).loc main_arg2) (ix2 e (y 2)) := fun e => blk_2 m c t e (y 2)
  refine congrArg₂ (fun p q : EReal => p + q) (h0 (y 2)) (congrArg₂ (fun p q : EReal => p * q) (blk_3 m c t (y 2)) ?_)
  exact Finset.sum_congr rfl fun e _ => congrArg₂ (fun p q : EReal => p * q) (h1 e) (h2 e)

end Cert.Oproj

end
-- ==== Proof.Oproj.Ref.lean ====
/-
  The output projection's reference.
-/
module

public import proofs.«01_k».proof.Proof.Oproj.Arr
public import proofs.«01_k».proof.Proof.Mlp.Ref
public import proofs.«01_k».proof.Proof.Gen.Reference4Ideal.Run

@[expose] public section

set_option maxRecDepth 16384

noncomputable section

namespace Cert.Oproj

open Cert.Reference4Ideal Cert.Reference4Ideal.Gen
open Idealize.ShloMosaic hiding ix1 ix2 ix3 ix4
open Idealize.ShloMosaic.ValueIdx

/-- The reference's array. -/
def refArr (x : FVec Ideal S4x8192x1024 .f32) (o : FVec Ideal S4x8192x1024 .bf16) (w : FVec Ideal S1024x1024 .f32) (gate : FVec Ideal S4x1024 .f32) : FVec Ideal S4x8192x1024 .f32 :=
  addf x (mulf (broadcastInDim S4x8192x1024 ![0, 1, 2] bcast_S4x1x1024_S4x8192x1024_0_1_2 (broadcastInDim S4x1x1024 ![0, 2] bcast_S4x1024_S4x1x1024_0_2 gate))
    (Host.dotGeneral dot_S4x8192x1024_S1024x1024_S4x8192x1024_2_0_01_1_n_n none (extf .f32 o bitsLt_bf16_f32) w))

theorem refArr_apply (x : FVec Ideal S4x8192x1024 .f32) (o : FVec Ideal S4x8192x1024 .bf16) (w : FVec Ideal S1024x1024 .f32) (gate : FVec Ideal S4x1024 .f32)
    (b : Fin 4) (s : Fin 8192) (d : Fin 1024) : refArr x o w gate (ix3 b s d) = x (ix3 b s d) + gate (ix2 b d) * ∑ e : Fin 1024, o (ix3 b s e) * w (ix2 e d) := by
  unfold refArr
  rw [addf_apply, mulf_apply]
  refine congrArg (fun q : EReal => x (ix3 b s d) + q) (congrArg₂ (fun p q : EReal => p * q) ?_ ?_)
  · exact (Cert.Mlp.Ref.batch_apply _ b s d).trans (Cert.Mlp.Ref.mid_apply gate b d)
  · refine (Cert.Val.dot1 dot_S4x8192x1024_S1024x1024_S4x8192x1024_2_0_01_1_n_n 1024 rfl rfl (extf .f32 o bitsLt_bf16_f32) w _ (fun e => ix3 b s e) (fun e => ix2 e d) (fun i => ?_) (fun i => ?_)).trans ?_
    · have h0 := contrEquiv1_symm_val dot_S4x8192x1024_S1024x1024_S4x8192x1024_2_0_01_1_n_n 1024 rfl rfl i
      funext x; apply Fin.ext
      match x with
      | ⟨0, _⟩ => rfl
      | ⟨1, _⟩ => rfl
      | ⟨2, _⟩ => exact h0
    · have h0 := contrEquiv1_symm_val dot_S4x8192x1024_S1024x1024_S4x8192x1024_2_0_01_1_n_n 1024 rfl rfl i
      funext x; apply Fin.ext
      match x with
      | ⟨0, _⟩ => exact h0
      | ⟨1, _⟩ => rfl
    · rfl

theorem ref_eq (x : FVec Ideal S4x8192x1024 .f32) (o : FVec Ideal S4x8192x1024 .bf16) (w : FVec Ideal S1024x1024 .f32) (gate : FVec Ideal S4x1024 .f32) :
    refArr x o w gate = arrOf x o w gate := by
  funext y
  refine (congrArg _ ?_).trans (refArr_apply x o w gate (y 0) (y 1) (y 2))
  funext a
  fin_cases a <;> rfl

end Cert.Oproj

end
-- ==== Proof.Val.RefRun.lean ====
/-
  The reference program's run.
-/
module

public import proofs.«01_k».proof.Proof.Val.RefTerms
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The device's buffer contents before @main's first window. -/
def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl

/-- The device's buffer contents after @main's first 1 window. -/
def val1 : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_v9, main_v10, main_v11, main_v12, main_v13, main_v14, main_v15, main_v16, main_v17, main_c, main_v18, main_v19, main_c_0, main_v20, main_v21, main_v22, main_cst, main_v23, main_v24, main_v25, main_cst_1, main_v26, main_v27, main_cst_2, main_v28, main_v29, main_v30, main_c_3, main_v31, main_v32, main_c_4, main_v33, main_v34, main_c_5, main_v35, main_v36, main_v37, main_c_6, main_v38, main_v39, main_c_7, main_v40, main_v41, main_v42, main_v43, main_v44, main_v45, main_v46, main_v47, main_v48, main_v49]
set_option maxRecDepth 8192 in
theorem ops_part0_writes : (ops_part0 : List (HloOp τ sig (Elt F))).Forall fun op => op.writes ⊆ (ops_part0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part0` does not write keeps its contents through it. -/
theorem val1_keep (r : Ref sig .tc) (h : r ∉ ops_part0_W) :
    val1 V0 (Proc.devRef .tc r) = val0 V0 (Proc.devRef .tc r) :=
  after_of_writes_sub ops_part0 _ ops_part0_writes h
theorem val1_main_arg0 : val1 V0 (no_index (Proc.devRef .tc main_arg0)) = V0 (Proc.devRef .tc main_arg0) :=
  (val1_keep V0 main_arg0 (by decide)).trans (val0_main_arg0 V0)
theorem val1_main_arg1 : val1 V0 (no_index (Proc.devRef .tc main_arg1)) = V0 (Proc.devRef .tc main_arg1) :=
  (val1_keep V0 main_arg1 (by decide)).trans (val0_main_arg1 V0)
theorem val1_main_arg2 : val1 V0 (no_index (Proc.devRef .tc main_arg2)) = V0 (Proc.devRef .tc main_arg2) :=
  (val1_keep V0 main_arg2 (by decide)).trans (val0_main_arg2 V0)
theorem val1_main_arg3 : val1 V0 (no_index (Proc.devRef .tc main_arg3)) = V0 (Proc.devRef .tc main_arg3) :=
  (val1_keep V0 main_arg3 (by decide)).trans (val0_main_arg3 V0)
theorem val1_main_arg4 : val1 V0 (no_index (Proc.devRef .tc main_arg4)) = V0 (Proc.devRef .tc main_arg4) :=
  (val1_keep V0 main_arg4 (by decide)).trans (val0_main_arg4 V0)
set_option maxRecDepth 8192 in
set_option maxHeartbeats 2000000 in
theorem val1_main_v2 : val1 V0 (no_index (Proc.devRef .tc main_v2)) = res_main_v2 V0 := by
  unfold val1
  simp only [ops_part0, TRef.ternary, TRef.toBuf, TRef.ofBuf, cast_eq]
  after_results_simp
  simp only [val0_main_arg1] <;> rfl
set_option maxRecDepth 8192 in
set_option maxHeartbeats 2000000 in
theorem val1_main_v5 : val1 V0 (no_index (Proc.devRef .tc main_v5)) = res_main_v5 V0 := by
  unfold val1
  simp only [ops_part0, TRef.ternary, TRef.toBuf, TRef.ofBuf, cast_eq]
  after_results_simp
  simp only [val0_main_arg2] <;> rfl
set_option maxRecDepth 8192 in
set_option maxHeartbeats 2000000 in
theorem val1_main_v8 : val1 V0 (no_index (Proc.devRef .tc main_v8)) = res_main_v8 V0 := by
  unfold val1
  simp only [ops_part0, TRef.ternary, TRef.toBuf, TRef.ofBuf, cast_eq]
  after_results_simp
  simp only [val0_main_arg3] <;> rfl
set_option maxRecDepth 8192 in
set_option maxHeartbeats 2000000 in
theorem val1_main_v10 : val1 V0 (no_index (Proc.devRef .tc main_v10)) = transpose S4x16x32x64 [0, 2, 1, 3] (shapeCast _ (V0 (Proc.devRef .tc main_arg4)) shapeCasts_S4x32x1024_S4x32x16x64) transposes_S4x32x16x64_S4x16x32x64_0_2_1_3 := by
  unfold val1
  simp only [ops_part0, TRef.ternary, TRef.toBuf, TRef.ofBuf, cast_eq]
  after_results_simp
  simp only [val0_main_arg4] <;> rfl
set_option maxRecDepth 8192 in
set_option maxHeartbeats 2000000 in
theorem val1_main_v11 : val1 V0 (no_index (Proc.devRef .tc main_v11)) = res_main_v11 V0 := by
  unfold val1
  simp only [ops_part0, TRef.ternary, TRef.toBuf, TRef.ofBuf, cast_eq]
  after_results_simp
  all_goals rfl
set_option maxRecDepth 8192 in
set_option maxHeartbeats 2000000 in
theorem val1_main_v12 : val1 V0 (no_index (Proc.devRef .tc main_v12)) = res_main_v12 V0 := by
  unfold val1
  simp only [ops_part0, TRef.ternary, TRef.toBuf, TRef.ofBuf, cast_eq]
  after_results_simp
  all_goals rfl
set_option maxRecDepth 8192 in
set_option maxHeartbeats 2000000 in
theorem val1_main_v17 : val1 V0 (no_index (Proc.devRef .tc main_v17)) = res_main_v17 V0 := by
  unfold val1
  simp only [ops_part0, TRef.ternary, TRef.toBuf, TRef.ofBuf, cast_eq]
  after_results_simp
  all_goals rfl
set_option maxRecDepth 8192 in
set_option maxHeartbeats 2000000 in
theorem val1_main_v49 : val1 V0 (no_index (Proc.devRef .tc main_v49)) = addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1))) := by
  unfold val1
  simp only [ops_part0, TRef.ternary, TRef.toBuf, TRef.ofBuf, cast_eq]
  after_results_simp
  simp only [val0_main_arg0, val0_main_arg2, val0_main_arg1] <;> rfl

/-- The device's buffer contents after @main's first 90 operations. -/
def val1_1 : Valuation τ sig (Elt F) := after ops_part1_0 (val1 V0)
/-- The buffers that window `ops_part1_0`'s operations write. -/
abbrev ops_part1_0_W : List (Ref sig .tc) := [main_c_8, main_v50, main_v51, main_cst_9, main_call1_v0, main_call1_v1, main_call1_v2, main_v52, main_v53, main_v54, main_v55, main_v56, main_v57, main_v58, main_v59, main_cst_10, main_call2_v0, main_call2_v1, main_call2_v2, main_v60, main_values, main_indices, main_v61, main_v62, main_v63, main_v64, main_c_11, main_v65, main_v66, main_c_12]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (r : Ref sig .tc) (h : r ∉ ops_part1_0_W) :
    val1_1 V0 (Proc.devRef .tc r) = val1 V0 (Proc.devRef .tc r) :=
  after_of_writes_sub ops_part1_0 _ ops_part1_0_writes h
theorem val1_1_main_arg0 : val1_1 V0 (no_index (Proc.devRef .tc main_arg0)) = V0 (Proc.devRef .tc main_arg0) :=
  (val1_1_keep V0 main_arg0 (by decide)).trans (val1_main_arg0 V0)
theorem val1_1_main_arg1 : val1_1 V0 (no_index (Proc.devRef .tc main_arg1)) = V0 (Proc.devRef .tc main_arg1) :=
  (val1_1_keep V0 main_arg1 (by decide)).trans (val1_main_arg1 V0)
theorem val1_1_main_arg2 : val1_1 V0 (no_index (Proc.devRef .tc main_arg2)) = V0 (Proc.devRef .tc main_arg2) :=
  (val1_1_keep V0 main_arg2 (by decide)).trans (val1_main_arg2 V0)
theorem val1_1_main_arg3 : val1_1 V0 (no_index (Proc.devRef .tc main_arg3)) = V0 (Proc.devRef .tc main_arg3) :=
  (val1_1_keep V0 main_arg3 (by decide)).trans (val1_main_arg3 V0)
theorem val1_1_main_arg4 : val1_1 V0 (no_index (Proc.devRef .tc main_arg4)) = V0 (Proc.devRef .tc main_arg4) :=
  (val1_1_keep V0 main_arg4 (by decide)).trans (val1_main_arg4 V0)
theorem val1_1_main_v2 : val1_1 V0 (no_index (Proc.devRef .tc main_v2)) = res_main_v2 V0 :=
  (val1_1_keep V0 main_v2 (by decide)).trans (val1_main_v2 V0)
theorem val1_1_main_v5 : val1_1 V0 (no_index (Proc.devRef .tc main_v5)) = res_main_v5 V0 :=
  (val1_1_keep V0 main_v5 (by decide)).trans (val1_main_v5 V0)
theorem val1_1_main_v8 : val1_1 V0 (no_index (Proc.devRef .tc main_v8)) = res_main_v8 V0 :=
  (val1_1_keep V0 main_v8 (by decide)).trans (val1_main_v8 V0)
theorem val1_1_main_v11 : val1_1 V0 (no_index (Proc.devRef .tc main_v11)) = res_main_v11 V0 :=
  (val1_1_keep V0 main_v11 (by decide)).trans (val1_main_v11 V0)
theorem val1_1_main_v12 : val1_1 V0 (no_index (Proc.devRef .tc main_v12)) = res_main_v12 V0 :=
  (val1_1_keep V0 main_v12 (by decide)).trans (val1_main_v12 V0)
set_option maxRecDepth 8192 in
set_option maxHeartbeats 2000000 in
theorem val1_1_main_v52 : val1_1 V0 (no_index (Proc.devRef .tc main_v52)) = select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32))) := by
  unfold val1_1
  simp only [ops_part1_0, TRef.ternary, TRef.unary, TRef.toBuf, TRef.ofBuf, cast_eq]
  after_results_simp
  simp only [val1_main_v49, val1_main_v17] <;> rfl
set_option maxRecDepth 8192 in
set_option maxHeartbeats 2000000 in
theorem val1_1_main_indices : val1_1 V0 (no_index (Proc.devRef .tc main_indices)) = res_main_indices V0 := by
  unfold val1_1
  simp only [ops_part1_0, TRef.ternary, TRef.unary, TRef.toBuf, TRef.ofBuf, cast_eq]
  after_results_simp
  simp only [val1_main_v10, val1_main_v2, val1_main_v11] <;> rfl
set_option maxRecDepth 8192 in
set_option maxHeartbeats 2000000 in
theorem val1_1_main_v62 : val1_1 V0 (no_index (Proc.devRef .tc main_v62)) = res_main_v62 V0 := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_v64 : val1_1 V0 (no_index (Proc.devRef .tc main_v64)) = res_main_v64 V0 := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_v66 : val1_1 V0 (no_index (Proc.devRef .tc main_v66)) = cmpi .slt (res_main_v62 V0) (broadcastInDim S4x1x1x1x1 ![] bcast_S_S4x1x1x1x1 (constantI S_ 32 0#32)) := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_c_12 : val1_1 V0 (no_index (Proc.devRef .tc main_c_12)) = constantI S_ 32 4#32 := by
  unfold val1_1
  simp only [ops_part1_0, TRef.ternary, TRef.unary, TRef.toBuf, TRef.ofBuf, cast_eq]
  after_results_simp
  all_goals rfl

/-- The device's buffer contents after @main's first 120 operations. -/
def val1_2 : Valuation τ sig (Elt F) := after ops_part1_1 (val1_1 V0)
/-- The buffers that window `ops_part1_1`'s operations write. -/
abbrev ops_part1_1_W : List (Ref sig .tc) := [main_v67, main_v68, main_v69, main_c_13, main_v70, main_v71, main_c_14, main_v72, main_v73, main_v74, main_c_15, main_v75, main_v76, main_c_16, main_v77, main_v78, main_v79, main_v80, main_v81, main_v82, main_v83, main_v84, main_v85, main_v86, main_c_17, main_v87, main_v88, main_c_18, main_v89, main_v90]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 : val1_2 V0 (no_index (Proc.devRef .tc main_arg0)) = V0 (Proc.devRef .tc main_arg0) :=
  (val1_2_keep V0 main_arg0 (by decide)).trans (val1_1_main_arg0 V0)
theorem val1_2_main_arg1 : val1_2 V0 (no_index (Proc.devRef .tc main_arg1)) = V0 (Proc.devRef .tc main_arg1) :=
  (val1_2_keep V0 main_arg1 (by decide)).trans (val1_1_main_arg1 V0)
theorem val1_2_main_arg2 : val1_2 V0 (no_index (Proc.devRef .tc main_arg2)) = V0 (Proc.devRef .tc main_arg2) :=
  (val1_2_keep V0 main_arg2 (by decide)).trans (val1_1_main_arg2 V0)
theorem val1_2_main_arg3 : val1_2 V0 (no_index (Proc.devRef .tc main_arg3)) = V0 (Proc.devRef .tc main_arg3) :=
  (val1_2_keep V0 main_arg3 (by decide)).trans (val1_1_main_arg3 V0)
theorem val1_2_main_arg4 : val1_2 V0 (no_index (Proc.devRef .tc main_arg4)) = V0 (Proc.devRef .tc main_arg4) :=
  (val1_2_keep V0 main_arg4 (by decide)).trans (val1_1_main_arg4 V0)
theorem val1_2_main_v2 : val1_2 V0 (no_index (Proc.devRef .tc main_v2)) = res_main_v2 V0 :=
  (val1_2_keep V0 main_v2 (by decide)).trans (val1_1_main_v2 V0)
theorem val1_2_main_v8 : val1_2 V0 (no_index (Proc.devRef .tc main_v8)) = res_main_v8 V0 :=
  (val1_2_keep V0 main_v8 (by decide)).trans (val1_1_main_v8 V0)
theorem val1_2_main_v11 : val1_2 V0 (no_index (Proc.devRef .tc main_v11)) = res_main_v11 V0 :=
  (val1_2_keep V0 main_v11 (by decide)).trans (val1_1_main_v11 V0)
theorem val1_2_main_v12 : val1_2 V0 (no_index (Proc.devRef .tc main_v12)) = res_main_v12 V0 :=
  (val1_2_keep V0 main_v12 (by decide)).trans (val1_1_main_v12 V0)
theorem val1_2_main_v52 : val1_2 V0 (no_index (Proc.devRef .tc main_v52)) = select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32))) :=
  (val1_2_keep V0 main_v52 (by decide)).trans (val1_1_main_v52 V0)
theorem val1_2_main_indices : val1_2 V0 (no_index (Proc.devRef .tc main_indices)) = res_main_indices V0 :=
  (val1_2_keep V0 main_indices (by decide)).trans (val1_1_main_indices V0)
theorem val1_2_main_v62 : val1_2 V0 (no_index (Proc.devRef .tc main_v62)) = res_main_v62 V0 :=
  (val1_2_keep V0 main_v62 (by decide)).trans (val1_1_main_v62 V0)
theorem val1_2_main_v64 : val1_2 V0 (no_index (Proc.devRef .tc main_v64)) = res_main_v64 V0 :=
  (val1_2_keep V0 main_v64 (by decide)).trans (val1_1_main_v64 V0)
set_option maxRecDepth 8192 in
set_option maxHeartbeats 2000000 in
theorem val1_2_main_v86 : val1_2 V0 (no_index (Proc.devRef .tc main_v86)) = Host.gather gather_S4x16x32x256x64_S4x16x32x256x3x3_S4x16x32x256x3x256x64_56_012_n_n_012_5_11125664 (res_main_v5 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))) := by
  unfold val1_2
  simp only [ops_part1_1]
  after_results_simp
  try dsimp only [Matrix.cons_val]
  try after_results_simp
  simp only [val1_1_main_indices, val1_1_main_v64, val1_1_main_v62, val1_1_main_c_12, val1_1_main_v66, val1_1_main_v5] <;> rfl
set_option maxRecDepth 8192 in
set_option maxHeartbeats 2000000 in
theorem val1_2_main_v88 : val1_2 V0 (no_index (Proc.devRef .tc main_v88)) = cmpi .slt (res_main_v62 V0) (broadcastInDim S4x1x1x1x1 ![] bcast_S_S4x1x1x1x1 (constantI S_ 32 0#32)) := by
  unfold val1_2
  simp only [ops_part1_1]
  after_results_simp
  try dsimp only [Matrix.cons_val]
  try after_results_simp
  simp only [val1_1_main_v62] <;> rfl
set_option maxRecDepth 8192 in
set_option maxHeartbeats 2000000 in
theorem val1_2_main_v90 : val1_2 V0 (no_index (Proc.devRef .tc main_v90)) = addi (res_main_v62 V0) (broadcastInDim S4x1x1x1x1 ![] bcast_S_S4x1x1x1x1 (constantI S_ 32 4#32)) := by
  unfold val1_2
  simp only [ops_part1_1]
  after_results_simp
  try dsimp only [Matrix.cons_val]
  try after_results_simp
  simp only [val1_1_main_v62] <;> rfl

/-- The device's buffer contents after @main's first 2 windows. -/
def val2 : Valuation τ sig (Elt F) := after ops_part1_2 (val1_2 V0)
/-- The buffers that window `ops_part1_2`'s operations write. -/
abbrev ops_part1_2_W : List (Ref sig .tc) := [main_v91, main_c_19, main_v92, main_v93, main_c_20, main_v94]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (r : Ref sig .tc) (h : r ∉ ops_part1_2_W) :
    val2 V0 (Proc.devRef .tc r) = val1_2 V0 (Proc.devRef .tc r) :=
  after_of_writes_sub ops_part1_2 _ ops_part1_2_writes h
theorem val2_main_arg0 : val2 V0 (no_index (Proc.devRef .tc main_arg0)) = V0 (Proc.devRef .tc main_arg0) :=
  (val2_keep V0 main_arg0 (by decide)).trans (val1_2_main_arg0 V0)
theorem val2_main_arg1 : val2 V0 (no_index (Proc.devRef .tc main_arg1)) = V0 (Proc.devRef .tc main_arg1) :=
  (val2_keep V0 main_arg1 (by decide)).trans (val1_2_main_arg1 V0)
theorem val2_main_arg2 : val2 V0 (no_index (Proc.devRef .tc main_arg2)) = V0 (Proc.devRef .tc main_arg2) :=
  (val2_keep V0 main_arg2 (by decide)).trans (val1_2_main_arg2 V0)
theorem val2_main_arg3 : val2 V0 (no_index (Proc.devRef .tc main_arg3)) = V0 (Proc.devRef .tc main_arg3) :=
  (val2_keep V0 main_arg3 (by decide)).trans (val1_2_main_arg3 V0)
theorem val2_main_arg4 : val2 V0 (no_index (Proc.devRef .tc main_arg4)) = V0 (Proc.devRef .tc main_arg4) :=
  (val2_keep V0 main_arg4 (by decide)).trans (val1_2_main_arg4 V0)
theorem val2_main_v2 : val2 V0 (no_index (Proc.devRef .tc main_v2)) = res_main_v2 V0 :=
  (val2_keep V0 main_v2 (by decide)).trans (val1_2_main_v2 V0)
theorem val2_main_v8 : val2 V0 (no_index (Proc.devRef .tc main_v8)) = res_main_v8 V0 :=
  (val2_keep V0 main_v8 (by decide)).trans (val1_2_main_v8 V0)
theorem val2_main_v11 : val2 V0 (no_index (Proc.devRef .tc main_v11)) = res_main_v11 V0 :=
  (val2_keep V0 main_v11 (by decide)).trans (val1_2_main_v11 V0)
theorem val2_main_v12 : val2 V0 (no_index (Proc.devRef .tc main_v12)) = res_main_v12 V0 :=
  (val2_keep V0 main_v12 (by decide)).trans (val1_2_main_v12 V0)
theorem val2_main_v52 : val2 V0 (no_index (Proc.devRef .tc main_v52)) = select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32))) :=
  (val2_keep V0 main_v52 (by decide)).trans (val1_2_main_v52 V0)
theorem val2_main_indices : val2 V0 (no_index (Proc.devRef .tc main_indices)) = res_main_indices V0 :=
  (val2_keep V0 main_indices (by decide)).trans (val1_2_main_indices V0)
theorem val2_main_v64 : val2 V0 (no_index (Proc.devRef .tc main_v64)) = res_main_v64 V0 :=
  (val2_keep V0 main_v64 (by decide)).trans (val1_2_main_v64 V0)
theorem val2_main_v86 : val2 V0 (no_index (Proc.devRef .tc main_v86)) = Host.gather gather_S4x16x32x256x64_S4x16x32x256x3x3_S4x16x32x256x3x256x64_56_012_n_n_012_5_11125664 (res_main_v5 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))) :=
  (val2_keep V0 main_v86 (by decide)).trans (val1_2_main_v86 V0)
set_option maxRecDepth 8192 in
theorem val2_main_v91 : val2 V0 (no_index (Proc.devRef .tc main_v91)) = select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0) := by
  unfold val2
  simp only [ops_part1_2]
  after_results_simp
  simp only [val1_2_main_v62, val1_2_main_v90, val1_2_main_v88] <;> rfl
set_option maxRecDepth 8192 in
theorem val2_main_v93 : val2 V0 (no_index (Proc.devRef .tc main_v93)) = cmpi .slt (res_main_v64 V0) (broadcastInDim S1x16x1x1x1 ![] bcast_S_S1x16x1x1x1 (constantI S_ 32 0#32)) := by
  unfold val2
  simp only [ops_part1_2]
  after_results_simp
  simp only [val1_2_main_v64] <;> rfl
set_option maxRecDepth 8192 in
theorem val2_main_v94 : val2 V0 (no_index (Proc.devRef .tc main_v94)) = broadcastInDim S1x16x1x1x1 ![] bcast_S_S1x16x1x1x1 (constantI S_ 32 16#32) := by
  unfold val2
  simp only [ops_part1_2]
  after_results_simp
  all_goals rfl

/-- The device's buffer contents after @main's first 3 windows. -/
def val3 : Valuation τ sig (Elt F) := after ops_part2 (val2 V0)
/-- The buffers that window `main_part2`'s operations write. -/
abbrev ops_part2_W : List (Ref sig .tc) := [main_v95, main_v96, main_c_21, main_v97, main_v98, main_c_22, main_v99, main_v100, main_v101, main_v102, main_v103, main_v104, main_v105, main_v106, main_v107, main_v108, main_v109, main_c_23, main_v110, main_v111, main_v112, main_v113, main_v114, main_v115, main_v116, main_c_24, main_v117, main_v118, main_v119, main_v120, main_v121, main_v122, main_v123, main_v124, main_v125, main_v126, main_c_25, main_v127, main_v128, main_c_26, main_v129, main_v130, main_v131, main_cst_27, main_v132, main_v133, main_v134, main_cst_28, main_v135, main_v136, main_cst_29, main_v137, main_v138, main_v139, main_c_30, main_v140, main_v141, main_c_31, main_v142, main_v143]
set_option maxRecDepth 8192 in
theorem ops_part2_writes : (ops_part2 : List (HloOp τ sig (Elt F))).Forall fun op => op.writes ⊆ (ops_part2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (r : Ref sig .tc) (h : r ∉ ops_part2_W) :
    val3 V0 (Proc.devRef .tc r) = val2 V0 (Proc.devRef .tc r) :=
  after_of_writes_sub ops_part2 _ ops_part2_writes h
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_v2 : val3 V0 (no_index (Proc.devRef .tc main_v2)) = res_main_v2 V0 :=
  (val3_keep V0 main_v2 (by decide)).trans (val2_main_v2 V0)
theorem val3_main_v8 : val3 V0 (no_index (Proc.devRef .tc main_v8)) = res_main_v8 V0 :=
  (val3_keep V0 main_v8 (by decide)).trans (val2_main_v8 V0)
theorem val3_main_v11 : val3 V0 (no_index (Proc.devRef .tc main_v11)) = res_main_v11 V0 :=
  (val3_keep V0 main_v11 (by decide)).trans (val2_main_v11 V0)
theorem val3_main_v52 : val3 V0 (no_index (Proc.devRef .tc main_v52)) = select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32))) :=
  (val3_keep V0 main_v52 (by decide)).trans (val2_main_v52 V0)
theorem val3_main_indices : val3 V0 (no_index (Proc.devRef .tc main_indices)) = res_main_indices V0 :=
  (val3_keep V0 main_indices (by decide)).trans (val2_main_indices V0)
theorem val3_main_v64 : val3 V0 (no_index (Proc.devRef .tc main_v64)) = res_main_v64 V0 :=
  (val3_keep V0 main_v64 (by decide)).trans (val2_main_v64 V0)
theorem val3_main_v86 : val3 V0 (no_index (Proc.devRef .tc main_v86)) = Host.gather gather_S4x16x32x256x64_S4x16x32x256x3x3_S4x16x32x256x3x256x64_56_012_n_n_012_5_11125664 (res_main_v5 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))) :=
  (val3_keep V0 main_v86 (by decide)).trans (val2_main_v86 V0)
set_option maxRecDepth 8192 in
set_option maxHeartbeats 2000000 in
theorem val3_main_v108 : val3 V0 (no_index (Proc.devRef .tc main_v108)) = Host.gather gather_S4x16x32x256x64_S4x16x32x256x3x3_S4x16x32x256x3x256x64_56_012_n_n_012_5_11125664 (res_main_v8 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))) := by
  unfold val3
  simp only [ops_part2]
  after_results_simp
  try dsimp only [Matrix.cons_val]
  try after_results_simp
  simp only [val2_main_indices, val2_main_v64, val2_main_v94, val2_main_v93, val2_main_v91, val2_main_v8] <;> rfl
set_option maxRecDepth 8192 in
set_option maxHeartbeats 2000000 in
theorem val3_main_v128 : val3 V0 (no_index (Proc.devRef .tc main_v128)) = res_main_v128 V0 := by
  unfold val3
  simp only [ops_part2]
  after_results_simp
  try dsimp only [Matrix.cons_val]
  try after_results_simp
  simp only [val2_main_v12, val2_main_indices, val2_main_v11] <;> rfl
set_option maxRecDepth 8192 in
set_option maxHeartbeats 2000000 in
theorem val3_main_v143 : val3 V0 (no_index (Proc.devRef .tc main_v143)) = minsi (addi (broadcastInDim S4x16x32x256x3x256 ![] bcast_S_S4x16x32x256x3x256 (constantI S_ 32 16#32)) (fptosi 32 (mulf (Host.divf (Host.log (Host.divf (sitofp .f32 (maxsi (res_main_v128 V0) (broadcastInDim S4x16x32x256x3x256 ![] bcast_S_S4x16x32x256x3x256 (constantI S_ 32 1#32)))) (broadcastInDim S4x16x32x256x3x256 ![] bcast_S_S4x16x32x256x3x256 (constant S_ .f32 0x41800000#32)))) (broadcastInDim S4x16x32x256x3x256 ![] bcast_S_S4x16x32x256x3x256 (constant S_ .f32 0x40851592#32))) (broadcastInDim S4x16x32x256x3x256 ![] bcast_S_S4x16x32x256x3x256 (constant S_ .f32 0x41800000#32)) : (⟨S4x16x32x256x3x256, .f32⟩ : BufTy).Contents (Elt F)))) (broadcastInDim S4x16x32x256x3x256 ![] bcast_S_S4x16x32x256x3x256 (constantI S_ 32 31#32)) := by
  unfold val3
  simp only [ops_part2]
  after_results_simp
  try dsimp only [Matrix.cons_val]
  try after_results_simp
  simp only [val2_main_v12, val2_main_indices, val2_main_v11] <;> rfl

/-- The device's buffer contents after @main's first 216 operations. -/
def val3_1 : Valuation τ sig (Elt F) := after ops_part3_0 (val3 V0)
/-- The buffers that window `ops_part3_0`'s operations write. -/
abbrev ops_part3_0_W : List (Ref sig .tc) := [main_c_32, main_v144, main_v145, main_v146, main_v147, main_c_33, main_v148, main_v149, main_c_34, main_v150, main_v151, main_v152, main_c_35, main_v153, main_v154, main_c_36, main_v155, main_v156, main_v157, main_v158, main_v159, main_v160, main_v161, main_v162, main_v163, main_v164, main_v165, main_v166, main_v167, main_v168]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (r : Ref sig .tc) (h : r ∉ ops_part3_0_W) :
    val3_1 V0 (Proc.devRef .tc r) = val3 V0 (Proc.devRef .tc r) :=
  after_of_writes_sub ops_part3_0 _ ops_part3_0_writes h
theorem val3_1_main_arg0 : val3_1 V0 (no_index (Proc.devRef .tc main_arg0)) = V0 (Proc.devRef .tc main_arg0) :=
  (val3_1_keep V0 main_arg0 (by decide)).trans (val3_main_arg0 V0)
theorem val3_1_main_arg1 : val3_1 V0 (no_index (Proc.devRef .tc main_arg1)) = V0 (Proc.devRef .tc main_arg1) :=
  (val3_1_keep V0 main_arg1 (by decide)).trans (val3_main_arg1 V0)
theorem val3_1_main_arg2 : val3_1 V0 (no_index (Proc.devRef .tc main_arg2)) = V0 (Proc.devRef .tc main_arg2) :=
  (val3_1_keep V0 main_arg2 (by decide)).trans (val3_main_arg2 V0)
theorem val3_1_main_arg3 : val3_1 V0 (no_index (Proc.devRef .tc main_arg3)) = V0 (Proc.devRef .tc main_arg3) :=
  (val3_1_keep V0 main_arg3 (by decide)).trans (val3_main_arg3 V0)
theorem val3_1_main_arg4 : val3_1 V0 (no_index (Proc.devRef .tc main_arg4)) = V0 (Proc.devRef .tc main_arg4) :=
  (val3_1_keep V0 main_arg4 (by decide)).trans (val3_main_arg4 V0)
theorem val3_1_main_v8 : val3_1 V0 (no_index (Proc.devRef .tc main_v8)) = res_main_v8 V0 :=
  (val3_1_keep V0 main_v8 (by decide)).trans (val3_main_v8 V0)
theorem val3_1_main_v52 : val3_1 V0 (no_index (Proc.devRef .tc main_v52)) = select (broadcastInDim S4x16x32x256x256 ![3, 4] bcast_S256x256_S4x16x32x256x256_3_4 (cmpi .sge (res_main_v17 V0) (broadcastInDim S256x256 ![] bcast_S_S256x256 (constantI S_ 32 0#32)))) (addf (Host.dotGeneral dot_S4x16x32x256x64_S4x16x32x256x64_S4x16x32x256x256_4_4_3_3_012_012 none (res_main_v2 V0) (res_main_v5 V0)) (broadcastInDim S4x16x32x256x256 ![0, 1, 2, 3, 4] bcast_S1x16x1x256x256_S4x16x32x256x256_0_1_2_3_4 (broadcastInDim S1x16x1x256x256 ![1, 3, 4] bcast_S16x256x256_S1x16x1x256x256_1_3_4 (transpose S16x256x256 [2, 0, 1] (Host.gather gather_S32x16_S256x256x1_S256x256x16_2_0_n_n_0_2_116 (V0 (Proc.devRef .tc main_arg0)) (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0)))) transposes_S256x256x16_S16x256x256_2_0_1)))) (broadcastInDim S4x16x32x256x256 ![] bcast_S_S4x16x32x256x256 (id (constant S_ .f32 0xFF800000#32))) :=
  (val3_1_keep V0 main_v52 (by decide)).trans (val3_main_v52 V0)
theorem val3_1_main_v108 : val3_1 V0 (no_index (Proc.devRef .tc main_v108)) = Host.gather gather_S4x16x32x256x64_S4x16x32x256x3x3_S4x16x32x256x3x256x64_56_012_n_n_012_5_11125664 (res_main_v8 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))) :=
  (val3_1_keep V0 main_v108 (by decide)).trans (val3_main_v108 V0)
set_option maxRecDepth 8192 in
set_option maxHeartbeats 2000000 in
theorem val3_1_main_v164 : val3_1 V0 (no_index (Proc.devRef .tc main_v164)) = addf (Host.dotGeneral dot_S4x16x32x256x64_S4x16x32x256x3x256x64_S4x16x32x256x3x256_4_6_n_45_0123_0123 none (res_main_v2 V0) (Host.gather gather_S4x16x32x256x64_S4x16x32x256x3x3_S4x16x32x256x3x256x64_56_012_n_n_012_5_11125664 (res_main_v5 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F))))) (Host.gather gather_S32x16_S4x16x32x256x3x256x2_S4x16x32x256x3x256_n_01_n_n_01_6_11 (V0 (Proc.devRef .tc main_arg0)) (concatenate S4x16x32x256x3x256x2 6 [⟨S4x16x32x256x3x256x1, (broadcastInDim S4x16x32x256x3x256x1 ![0, 1, 2, 3, 4, 5] bcast_S4x16x32x256x3x256_S4x16x32x256x3x256x1_0_1_2_3_4_5 (select (cmpi .slt (res_main_v146 V0) (broadcastInDim S4x16x32x256x3x256 ![] bcast_S_S4x16x32x256x3x256 (constantI S_ 32 0#32))) (addi (res_main_v146 V0) (broadcastInDim S4x16x32x256x3x256 ![] bcast_S_S4x16x32x256x3x256 (constantI S_ 32 32#32))) (res_main_v146 V0)))⟩, ⟨S4x16x32x256x3x256x1, (broadcastInDim S4x16x32x256x3x256x1 ![0, 1, 2, 3, 4, 5] bcast_S4x16x32x256x3x256_S4x16x32x256x3x256x1_0_1_2_3_4_5 (broadcastInDim S4x16x32x256x3x256 ![0, 1, 2, 3, 4, 5] bcast_S1x16x1x1x1x1_S4x16x32x256x3x256_0_1_2_3_4_5 (select (cmpi .slt (res_main_v147 V0) (broadcastInDim S1x16x1x1x1x1 ![] bcast_S_S1x16x1x1x1x1 (constantI S_ 32 0#32))) (addi (res_main_v147 V0) (broadcastInDim S1x16x1x1x1x1 ![] bcast_S_S1x16x1x1x1x1 (constantI S_ 32 16#32))) (res_main_v147 V0))))⟩] concatenates_S4x16x32x256x3x256x1_S4x16x32x256x3x256x1_S4x16x32x256x3x256x2_d6)) := by
  unfold val3_1
  simp only [ops_part3_0, TRef.ternary, TRef.toBuf, TRef.ofBuf, cast_eq]
  after_results_simp
  simp only [val3_main_v64, val3_main_v143, val3_main_v128, val3_main_arg0, val3_main_v86, val3_main_v2] <;> rfl
set_option maxRecDepth 8192 in
set_option maxHeartbeats 2000000 in
theorem val3_1_main_v168 : val3_1 V0 (no_index (Proc.devRef .tc main_v168)) = cmpi .slt (res_main_indices V0) (broadcastInDim S4x16x32x256x3 ![0, 1, 2, 3, 4] bcast_S1x1x32x1x1_S4x16x32x256x3_0_1_2_3_4 (broadcastInDim S1x1x32x1x1 ![2, 3, 4] bcast_S32x1x1_S1x1x32x1x1_2_3_4 (broadcastInDim S32x1x1 ![0] bcast_S32_S32x1x1_0 (res_main_v11 V0)))) := by
  unfold val3_1
  simp only [ops_part3_0, TRef.ternary, TRef.toBuf, TRef.ofBuf, cast_eq]
  after_results_simp
  simp only [val3_main_v11, val3_main_indices] <;> rfl

/-- The device's buffer contents after @main's first 246 operations. -/
def val3_2 : Valuation τ sig (Elt F) := after ops_part3_1 (val3_1 V0)
/-- The buffers that window `ops_part3_1`'s operations write. -/
abbrev ops_part3_1_W : List (Ref sig .tc) := [main_v169, main_cst_37, main_call4_v0, main_call4_v1, main_call4_v2, main_v170, main_v171, main_v172, main_cst_38, main_v173, main_cst_39, main_v174, main_v175, main_v176, main_v177, main_v178, main_v179, main_cst_40, main_v180, main_v181, main_v182, main_v183, main_v184, main_v185, main_v186, main_v187, main_v188, main_v189, main_v190, main_v191]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 : val3_2 V0 (no_index (Proc.devRef .tc main_arg0)) = V0 (Proc.devRef .tc main_arg0) :=
  (val3_2_keep V0 main_arg0 (by decide)).trans (val3_1_main_arg0 V0)
theorem val3_2_main_arg1 : val3_2 V0 (no_index (Proc.devRef .tc main_arg1)) = V0 (Proc.devRef .tc main_arg1) :=
  (val3_2_keep V0 main_arg1 (by decide)).trans (val3_1_main_arg1 V0)
theorem val3_2_main_arg2 : val3_2 V0 (no_index (Proc.devRef .tc main_arg2)) = V0 (Proc.devRef .tc main_arg2) :=
  (val3_2_keep V0 main_arg2 (by decide)).trans (val3_1_main_arg2 V0)
theorem val3_2_main_arg3 : val3_2 V0 (no_index (Proc.devRef .tc main_arg3)) = V0 (Proc.devRef .tc main_arg3) :=
  (val3_2_keep V0 main_arg3 (by decide)).trans (val3_1_main_arg3 V0)
theorem val3_2_main_arg4 : val3_2 V0 (no_index (Proc.devRef .tc main_arg4)) = V0 (Proc.devRef .tc main_arg4) :=
  (val3_2_keep V0 main_arg4 (by decide)).trans (val3_1_main_arg4 V0)
set_option maxRecDepth 8192 in
set_option maxHeartbeats 2000000 in
theorem val3_2_main_v191 : val3_2 V0 (no_index (Proc.devRef .tc main_v191)) = shapeCast _ (transpose S4x32x256x16x64 [0, 2, 3, 1, 4] (addf (Host.dotGeneral dot_S4x16x32x256x256_S4x16x32x256x64_S4x16x32x256x64_4_3_3_4_012_012 none (shapeCast _ (extractStridedSlice S4x16x32x256x1x256 ![0, 0, 0, 0, 3, 0] (res_main_v183 V0) slices_S4x16x32x256x4x256_S4x16x32x256x1x256_0_0_0_0_3_0) shapeCasts_S4x16x32x256x1x256_S4x16x32x256x256) (res_main_v8 V0)) (Host.dotGeneral dot_S4x16x32x256x3x256_S4x16x32x256x3x256x64_S4x16x32x256x64_54_54_n_6_0123_0123 none (extractStridedSlice S4x16x32x256x3x256 ![0, 0, 0, 0, 0, 0] (res_main_v183 V0) slices_S4x16x32x256x4x256_S4x16x32x256x3x256_0_0_0_0_0_0) (Host.gather gather_S4x16x32x256x64_S4x16x32x256x3x3_S4x16x32x256x3x256x64_56_012_n_n_012_5_11125664 (res_main_v8 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F)))))) transposes_S4x16x32x256x64_S4x32x256x16x64_0_2_3_1_4) shapeCasts_S4x32x256x16x64_S4x8192x1024 := by
  unfold val3_2
  simp only [ops_part3_1, TRef.ternary, TRef.unary, TRef.toBuf, TRef.ofBuf, cast_eq]
  after_results_simp
  simp only [val3_1_main_v108, val3_1_main_v52, val3_1_main_v164, val3_1_main_v168, val3_1_main_v8] <;> rfl

/-- The device's buffer contents after @main's first 4 windows. -/
def val4 : Valuation τ sig (Elt F) := after ops_part3_2 (val3_2 V0)
/-- The buffers that window `ops_part3_2`'s operations write. -/
abbrev ops_part3_2_W : List (Ref sig .tc) := [main_v192]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val4_keep (r : Ref sig .tc) (h : r ∉ ops_part3_2_W) :
    val4 V0 (Proc.devRef .tc r) = val3_2 V0 (Proc.devRef .tc r) :=
  after_of_writes_sub ops_part3_2 _ ops_part3_2_writes h
theorem val4_main_arg0 : val4 V0 (no_index (Proc.devRef .tc main_arg0)) = V0 (Proc.devRef .tc main_arg0) :=
  (val4_keep V0 main_arg0 (by decide)).trans (val3_2_main_arg0 V0)
theorem val4_main_arg1 : val4 V0 (no_index (Proc.devRef .tc main_arg1)) = V0 (Proc.devRef .tc main_arg1) :=
  (val4_keep V0 main_arg1 (by decide)).trans (val3_2_main_arg1 V0)
theorem val4_main_arg2 : val4 V0 (no_index (Proc.devRef .tc main_arg2)) = V0 (Proc.devRef .tc main_arg2) :=
  (val4_keep V0 main_arg2 (by decide)).trans (val3_2_main_arg2 V0)
theorem val4_main_arg3 : val4 V0 (no_index (Proc.devRef .tc main_arg3)) = V0 (Proc.devRef .tc main_arg3) :=
  (val4_keep V0 main_arg3 (by decide)).trans (val3_2_main_arg3 V0)
theorem val4_main_arg4 : val4 V0 (no_index (Proc.devRef .tc main_arg4)) = V0 (Proc.devRef .tc main_arg4) :=
  (val4_keep V0 main_arg4 (by decide)).trans (val3_2_main_arg4 V0)
set_option maxRecDepth 8192 in
theorem val4_main_v192 : val4 V0 (no_index (Proc.devRef .tc main_v192)) = truncf .bf16 (shapeCast _ (transpose S4x32x256x16x64 [0, 2, 3, 1, 4] (addf (Host.dotGeneral dot_S4x16x32x256x256_S4x16x32x256x64_S4x16x32x256x64_4_3_3_4_012_012 none (shapeCast _ (extractStridedSlice S4x16x32x256x1x256 ![0, 0, 0, 0, 3, 0] (res_main_v183 V0) slices_S4x16x32x256x4x256_S4x16x32x256x1x256_0_0_0_0_3_0) shapeCasts_S4x16x32x256x1x256_S4x16x32x256x256) (res_main_v8 V0)) (Host.dotGeneral dot_S4x16x32x256x3x256_S4x16x32x256x3x256x64_S4x16x32x256x64_54_54_n_6_0123_0123 none (extractStridedSlice S4x16x32x256x3x256 ![0, 0, 0, 0, 0, 0] (res_main_v183 V0) slices_S4x16x32x256x4x256_S4x16x32x256x3x256_0_0_0_0_0_0) (Host.gather gather_S4x16x32x256x64_S4x16x32x256x3x3_S4x16x32x256x3x256x64_56_012_n_n_012_5_11125664 (res_main_v8 V0) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F)))))) transposes_S4x16x32x256x64_S4x32x256x16x64_0_2_3_1_4) shapeCasts_S4x32x256x16x64_S4x8192x1024) bitsLt_bf16_f32 := by
  unfold val4
  simp only [ops_part3_2]
  after_results_simp
  simp only [val3_2_main_v191] <;> rfl

theorem after_ops : after ops V0 = val4 V0 := by
  simp only [ops, ops_part1, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = truncf .bf16 (shapeCast _ (transpose S4x32x256x16x64 [0, 2, 3, 1, 4] (addf (Host.dotGeneral dot_S4x16x32x256x256_S4x16x32x256x64_S4x16x32x256x64_4_3_3_4_012_012 none (shapeCast _ (extractStridedSlice S4x16x32x256x1x256 ![0, 0, 0, 0, 3, 0] (res_main_v183 (launchContents m c)) slices_S4x16x32x256x4x256_S4x16x32x256x1x256_0_0_0_0_3_0) shapeCasts_S4x16x32x256x1x256_S4x16x32x256x256) (res_main_v8 (launchContents m c))) (Host.dotGeneral dot_S4x16x32x256x3x256_S4x16x32x256x3x256x64_S4x16x32x256x64_54_54_n_6_0123_0123 none (extractStridedSlice S4x16x32x256x3x256 ![0, 0, 0, 0, 0, 0] (res_main_v183 (launchContents m c)) slices_S4x16x32x256x4x256_S4x16x32x256x3x256_0_0_0_0_0_0) (Host.gather gather_S4x16x32x256x64_S4x16x32x256x3x3_S4x16x32x256x3x256x64_56_012_n_n_012_5_11125664 (res_main_v8 (launchContents m c)) ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 (launchContents m c)) (broadcastInDim S4x1x1x1x1 ![] bcast_S_S4x1x1x1x1 (constantI S_ 32 0#32))) (addi (res_main_v62 (launchContents m c)) (broadcastInDim S4x1x1x1x1 ![] bcast_S_S4x1x1x1x1 (constantI S_ 32 4#32))) (res_main_v62 (launchContents m c))))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 (launchContents m c)) (broadcastInDim S1x16x1x1x1 ![] bcast_S_S1x16x1x1x1 (constantI S_ 32 0#32))) (addi (res_main_v64 (launchContents m c)) (broadcastInDim S1x16x1x1x1 ![] bcast_S_S1x16x1x1x1 (constantI S_ 32 16#32))) (res_main_v64 (launchContents m c))))) : (⟨S4x16x32x256x3x1, .i32⟩ : BufTy).Contents (Elt F))⟩, ⟨S4x16x32x256x3x1, ((broadcastInDim S4x16x32x256x3x1 ![0, 1, 2, 3, 4] bcast_S4x16x32x256x3_S4x16x32x256x3x1_0_1_2_3_4 (select (cmpi .slt (res_main_indices (launchContents m c)) (broadcastInDim S4x16x32x256x3 ![] bcast_S_S4x16x32x256x3 (constantI S_ 32 0#32))) (addi (res_main_indices (launchContents m c)) (broadcastInDim S4x16x32x256x3 ![] bcast_S_S4x16x32x256x3 (constantI S_ 32 32#32))) (res_main_indices (launchContents m c)))) : (⟨S4x16x32x256x3x1, .i32⟩ : BufTy).Contents (Elt F))⟩] concatenates_S4x16x32x256x3x1_S4x16x32x256x3x1_S4x16x32x256x3x1_S4x16x32x256x3x3_d5 : (⟨S4x16x32x256x3x3, .i32⟩ : BufTy).Contents (Elt F)))))) transposes_S4x16x32x256x64_S4x32x256x16x64_0_2_3_1_4) shapeCasts_S4x32x256x16x64_S4x8192x1024) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v192).trans ((congrFun (after_ops (launchContents m c)) (Proc.devRef .tc main_v192)).trans (val4_main_v192 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.ReferenceIdeal.Value

end
-- ==== Proof.Attn.BiasRun.lean ====
/-
  The bias-tile body at one head, run once at a symbolic point.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.ValueIdx
public import Idealize.ShloMosaic.Lib.ValueLayout
public import Idealize.ShloMosaic.Lib.WholeRead
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A head's entry of the bias table for one bucket. -/
def tbl (i : grid0.Coords) (x0 : Vec F S32x16 .f32) (b : ℕ) : Elt F .f32 := x0 (ValueIdx.ix2 (Fin.ofNat 32 b) (i 0))

/-- Query position less key position, the query block `o` blocks after the key block. -/
def distTile (o : ℕ) : IVec S256x256 32 :=
  subi (addi (broadcast S256x256 (BitVec.ofNat 32 (256 * o))) (iota .tc S256x256 32 [1] iota_S256x256_d1_w32))
    (iota .tc S256x256 32 [0] iota_S256x256_d0_w32)

/-- The bucket of every pair of a tile. -/
def bucketTile (o : ℕ) : IVec S256x256 32 :=
  have v6 : IVec S256x256 32 := maxsi (distTile o) (broadcast S256x256 0#32)
  have v9 : FVec F S256x256 .f32 := sitofp .f32 (maxsi v6 (broadcast S256x256 1#32))
  have cst : F .f32 := Scalar.ofBits .f32 0x41800000#32
  have v10 : FVec F S256x256 .f32 := broadcast S256x256 cst
  have v11 : FVec F S256x256 .f32 := divf v9 v10
  have v12 : FVec F S256x256 .f32 := log v11
  have cst_1 : F .f32 := Scalar.ofBits .f32 0x40851592#32
  have v13 : FVec F S256x256 .f32 := broadcast S256x256 cst_1
  have v14 : FVec F S256x256 .f32 := divf v12 v13
  have cst_2 : F .f32 := Scalar.ofBits .f32 0x41800000#32
  have v15 : FVec F S256x256 .f32 := broadcast S256x256 cst_2
  have v16 : FVec F S256x256 .f32 := mulf v14 v15
  have v17 : IVec S256x256 32 := fptosi 32 v16
  have v18 : IVec S256x256 32 := broadcast S256x256 16#32
  have v19 : IVec S256x256 32 := addi v18 v17
  have v20 : IVec S256x256 32 := broadcast S256x256 31#32
  have v21 : IVec S256x256 32 := minsi v19 v20
  have v22 : IVec S256x256 32 := broadcast S256x256 16#32
  have v23 : IVec S256x256 1 := cmpi .slt v6 v22
  have v24 : IVec S256x256 32 := select v23 v6 v21
  v24

/-- The table's entry for the bucket, looked up one bucket after another: the first `n` buckets done. -/
def pickTile (i : grid0.Coords) (x0 : Vec F S32x16 .f32) (o : ℕ) : ℕ → FVec F S256x256 .f32
  | 0 => broadcast S256x256 (Scalar.ofBits .f32 0x00000000#32)
  | n + 1 => select (cmpi .eq (bucketTile (F := F) o) (broadcast S256x256 (BitVec.ofNat 32 n))) (broadcast S256x256 (tbl i x0 n)) (pickTile i x0 o n)

/-- The look-up written out. -/
theorem pickTile_all (i : grid0.Coords) (x0 : Vec F S32x16 .f32) (o : ℕ) : pickTile i x0 o 32 = select (cmpi .eq (bucketTile (F := F) o) (broadcast S256x256 31#32)) (broadcast S256x256 (tbl i x0 31)) (select (cmpi .eq (bucketTile (F := F) o) (broadcast S256x256 30#32)) (broadcast S256x256 (tbl i x0 30)) (select (cmpi .eq (bucketTile (F := F) o) (broadcast S256x256 29#32)) (broadcast S256x256 (tbl i x0 29)) (select (cmpi .eq (bucketTile (F := F) o) (broadcast S256x256 28#32)) (broadcast S256x256 (tbl i x0 28)) (select (cmpi .eq (bucketTile (F := F) o) (broadcast S256x256 27#32)) (broadcast S256x256 (tbl i x0 27)) (select (cmpi .eq (bucketTile (F := F) o) (broadcast S256x256 26#32)) (broadcast S256x256 (tbl i x0 26)) (select (cmpi .eq (bucketTile (F := F) o) (broadcast S256x256 25#32)) (broadcast S256x256 (tbl i x0 25)) (select (cmpi .eq (bucketTile (F := F) o) (broadcast S256x256 24#32)) (broadcast S256x256 (tbl i x0 24)) (select (cmpi .eq (bucketTile (F := F) o) (broadcast S256x256 23#32)) (broadcast S256x256 (tbl i x0 23)) (select (cmpi .eq (bucketTile (F := F) o) (broadcast S256x256 22#32)) (broadcast S256x256 (tbl i x0 22)) (select (cmpi .eq (bucketTile (F := F) o) (broadcast S256x256 21#32)) (broadcast S256x256 (tbl i x0 21)) (select (cmpi .eq (bucketTile (F := F) o) (broadcast S256x256 20#32)) (broadcast S256x256 (tbl i x0 20)) (select (cmpi .eq (bucketTile (F := F) o) (broadcast S256x256 19#32)) (broadcast S256x256 (tbl i x0 19)) (select (cmpi .eq (bucketTile (F := F) o) (broadcast S256x256 18#32)) (broadcast S256x256 (tbl i x0 18)) (select (cmpi .eq (bucketTile (F := F) o) (broadcast S256x256 17#32)) (broadcast S256x256 (tbl i x0 17)) (select (cmpi .eq (bucketTile (F := F) o) (broadcast S256x256 16#32)) (broadcast S256x256 (tbl i x0 16)) (select (cmpi .eq (bucketTile (F := F) o) (broadcast S256x256 15#32)) (broadcast S256x256 (tbl i x0 15)) (select (cmpi .eq (bucketTile (F := F) o) (broadcast S256x256 14#32)) (broadcast S256x256 (tbl i x0 14)) (select (cmpi .eq (bucketTile (F := F) o) (broadcast S256x256 13#32)) (broadcast S256x256 (tbl i x0 13)) (select (cmpi .eq (bucketTile (F := F) o) (broadcast S256x256 12#32)) (broadcast S256x256 (tbl i x0 12)) (select (cmpi .eq (bucketTile (F := F) o) (broadcast S256x256 11#32)) (broadcast S256x256 (tbl i x0 11)) (select (cmpi .eq (bucketTile (F := F) o) (broadcast S256x256 10#32)) (broadcast S256x256 (tbl i x0 10)) (select (cmpi .eq (bucketTile (F := F) o) (broadcast S256x256 9#32)) (broadcast S256x256 (tbl i x0 9)) (select (cmpi .eq (bucketTile (F := F) o) (broadcast S256x256 8#32)) (broadcast S256x256 (tbl i x0 8)) (select (cmpi .eq (bucketTile (F := F) o) (broadcast S256x256 7#32)) (broadcast S256x256 (tbl i x0 7)) (select (cmpi .eq (bucketTile (F := F) o) (broadcast S256x256 6#32)) (broadcast S256x256 (tbl i x0 6)) (select (cmpi .eq (bucketTile (F := F) o) (broadcast S256x256 5#32)) (broadcast S256x256 (tbl i x0 5)) (select (cmpi .eq (bucketTile (F := F) o) (broadcast S256x256 4#32)) (broadcast S256x256 (tbl i x0 4)) (select (cmpi .eq (bucketTile (F := F) o) (broadcast S256x256 3#32)) (broadcast S256x256 (tbl i x0 3)) (select (cmpi .eq (bucketTile (F := F) o) (broadcast S256x256 2#32)) (broadcast S256x256 (tbl i x0 2)) (select (cmpi .eq (bucketTile (F := F) o) (broadcast S256x256 1#32)) (broadcast S256x256 (tbl i x0 1)) (select (cmpi .eq (bucketTile (F := F) o) (broadcast S256x256 0#32)) (broadcast S256x256 (tbl i x0 0)) (broadcast S256x256 (Scalar.ofBits .f32 0x00000000#32))))))))))))))))))))))))))))))))) := by
  simp only [pickTile]

theorem head_word16 : ∀ n : Fin 16, (Scalar.indexCast (BitVec.ofNat 32 n.val)).toNat = n.val := by decide +kernel

/-- A word of the table as the body loads it. -/
theorem read_tbl (m : Memref sig .tc .smem S32x16 .f32) (hm : m.IsWhole) (x : Vec F S32x16 .f32) (i : grid0.Coords) (b : ℕ) (hb : b < 32) (off : Fin 2 → ℕ)
    (inb : ∀ a, off a + S1x1.size a ≤ S32x16.size a) (hoff : off = ![b, (Scalar.indexCast (BitVec.ofNat 32 (i 0).val)).toNat]) (y : S1x1.Idx) :
    View.readAt (Elt F) m.view (Rect.unit (s := S32x16) off S1x1.size inb).toLoadRect (hm.unread x) y = tbl i x b := by
  rw [head_word16 (i 0)] at hoff
  subst hoff
  rw [Memref.IsWhole.readAt_unread]
  unfold tbl
  congr 1
  have h0 : (y 0).val < 1 := (y 0).isLt
  have h1 : (y 1).val < 1 := (y 1).isLt
  funext a
  match a with
  | ⟨0, _⟩ => refine Fin.ext ?_; show b + 1 * (y 0).val = b % 32; omega
  | ⟨1, _⟩ => refine Fin.ext ?_; show (i 0).val + 1 * (y 1).val = (i 0).val; omega

/-- The value one tile's store writes: the own tile hides the later keys. -/
def biasTileOf (i : grid0.Coords) (x0 : Vec F S32x16 .f32) (o : ℕ) : FVec F S256x256 .f32 :=
  if o = 0 then select (cmpi .sge (distTile 0) (broadcast S256x256 0#32)) (pickTile i x0 0 32) (broadcast S256x256 (Scalar.ofBits .f32 0xFF800000#32))
  else pickTile i x0 o 32

/-- What the body leaves for one head: five tiles. -/
def biasModel (i : grid0.Coords) (x0 : Vec F S32x16 .f32) : Vec F S1x5x256x256 .f32 := fun y =>
  biasTileOf i x0 (y 1).val (ValueIdx.ix2 (y 2) (y 3))

/-- The five stores of a head's tiles leave the model. -/
theorem read_tiles (v : View sig .tc .vmem S1x5x256x256 .f32) (f : v.ty.Contents (Elt F)) (i : grid0.Coords) (x0 : Vec F S32x16 .f32)
    (w : Fin 5 → FVec F S1x1x256x256 .f32) (hw : ∀ o, w o = shapeCast S1x1x256x256 (biasTileOf i x0 o.val) shapeCasts_S256x256_S1x1x256x256) :
    v.read (Elt F) (v.writes (Elt F) f
      [⟨Rect.unit ![0, 4, 0, 0] S1x1x256x256.size inb_S1x5x256x256_S1x1x256x256_0_4_0_0, w 4⟩,
       ⟨Rect.unit ![0, 3, 0, 0] S1x1x256x256.size inb_S1x5x256x256_S1x1x256x256_0_3_0_0, w 3⟩,
       ⟨Rect.unit ![0, 2, 0, 0] S1x1x256x256.size inb_S1x5x256x256_S1x1x256x256_0_2_0_0, w 2⟩,
       ⟨Rect.unit ![0, 1, 0, 0] S1x1x256x256.size inb_S1x5x256x256_S1x1x256x256_0_1_0_0, w 1⟩,
       ⟨Rect.unit ![0, 0, 0, 0] S1x1x256x256.size inb_S1x5x256x256_S1x1x256x256_0_0_0_0, w 0⟩]) = biasModel i x0 := by
  funext y
  have h0 : (y 0).val < 1 := (y 0).isLt
  have h1 : (y 1).val < 5 := (y 1).isLt
  have hval : ∀ (o : Fin 5), (y 1).val = o.val → w o (ValueIdx.ix4 (0 : Fin 1) (0 : Fin 1) (y 2) (y 3)) = biasModel i x0 y := by
    intro o ho
    rw [hw o]
    unfold biasModel
    rw [ho]
    exact congrArg (biasTileOf i x0 o.val) (Shape.reshapeEquiv_eq_of_rowMajor _ (by
      rw [Shape.rowMajor_val_four, Shape.rowMajor_val_two]
      show (y 2).val * 256 + (y 3).val = ((0 * 1 + 0) * 256 + (y 2).val) * 256 + (y 3).val
      omega))
  have hin : ∀ (o : ℕ), (y 1).val = o → ∀ a : Fin 4, (y a).val = (![0, o, 0, 0] : Fin 4 → ℕ) a + ((ValueIdx.ix4 (0 : Fin 1) (0 : Fin 1) (y 2) (y 3) : S1x1x256x256.Idx) a).val := by
    intro o ho a
    match a with
    | ⟨0, _⟩ => show (y 0).val = 0 + 0; omega
    | ⟨1, _⟩ => show (y 1).val = o + 0; omega
    | ⟨2, _⟩ => show (y 2).val = 0 + (y 2).val; omega
    | ⟨3, _⟩ => show (y 3).val = 0 + (y 3).val; omega
  by_cases h4 : (y 1).val = 4
  · exact (View.read_writes_cons_unit_of_mem v f _ _ _ y _ rfl (hin 4 h4)).trans (hval 4 h4)
  rw [View.read_writes_cons_unit_of_not_mem v f _ _ _ y rfl (1 : Fin 4) (by show (y 1).val < 4 ∨ 4 + 1 ≤ (y 1).val; omega)]
  by_cases h3 : (y 1).val = 3
  · exact (View.read_writes_cons_unit_of_mem v f _ _ _ y _ rfl (hin 3 h3)).trans (hval 3 h3)
  rw [View.read_writes_cons_unit_of_not_mem v f _ _ _ y rfl (1 : Fin 4) (by show (y 1).val < 3 ∨ 3 + 1 ≤ (y 1).val; omega)]
  by_cases h2 : (y 1).val = 2
  · exact (View.read_writes_cons_unit_of_mem v f _ _ _ y _ rfl (hin 2 h2)).trans (hval 2 h2)
  rw [View.read_writes_cons_unit_of_not_mem v f _ _ _ y rfl (1 : Fin 4) (by show (y 1).val < 2 ∨ 2 + 1 ≤ (y 1).val; omega)]
  by_cases h1' : (y 1).val = 1
  · exact (View.read_writes_cons_unit_of_mem v f _ _ _ y _ rfl (hin 1 h1')).trans (hval 1 h1')
  rw [View.read_writes_cons_unit_of_not_mem v f _ _ _ y rfl (1 : Fin 4) (by show (y 1).val < 1 ∨ 1 + 1 ≤ (y 1).val; omega)]
  exact (View.read_writes_cons_unit_of_mem v f _ _ _ y _ rfl (hin 0 (by omega))).trans (hval 0 (by show (y 1).val = 0; omega))

set_option maxHeartbeats 1556000 in
/-- The bias body on whole buffers: the table is as it was and the output's buffer holds the model's tiles. -/
theorem biasRun (c : Dev nD) (i : grid0.Coords) (arg1 : Memref sig .tc .smem S32x16 .f32) (harg1 : arg1.IsWhole)
    (arg2 : Memref sig .tc .vmem S1x5x256x256 .f32) (harg2 : arg2.IsWhole)
    (x0 : Vec F S32x16 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (biasModel i x0)) -∗ K ⟨⟩))
      ⊢ wp frame (wpE (defs₀ (F := F)) Variants.none c none) E (cc0_t5_bias_tiles i arg1 harg1 arg2 harg2) K := by
  simp only [cc0_t5_bias_tiles_eq_skeleton]; unfold cc0_t5_bias_tiles_skel
  simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap
  · iexact H1
  ipureintro
  clear hf0 d1
  have t1 := fun inb y => read_tbl arg1 harg1 x0 i 0 (by norm_num) (k0_off1 i) inb rfl y
  have t2 := fun inb y => read_tbl arg1 harg1 x0 i 1 (by norm_num) (k0_off2 i) inb rfl y
  have t3 := fun inb y => read_tbl arg1 harg1 x0 i 2 (by norm_num) (k0_off3 i) inb rfl y
  have t4 := fun inb y => read_tbl arg1 harg1 x0 i 3 (by norm_num) (k0_off4 i) inb rfl y
  have t5 := fun inb y => read_tbl arg1 harg1 x0 i 4 (by norm_num) (k0_off5 i) inb rfl y
  have t6 := fun inb y => read_tbl arg1 harg1 x0 i 5 (by norm_num) (k0_off6 i) inb rfl y
  have t7 := fun inb y => read_tbl arg1 harg1 x0 i 6 (by norm_num) (k0_off7 i) inb rfl y
  have t8 := fun inb y => read_tbl arg1 harg1 x0 i 7 (by norm_num) (k0_off8 i) inb rfl y
  have t9 := fun inb y => read_tbl arg1 harg1 x0 i 8 (by norm_num) (k0_off9 i) inb rfl y
  have t10 := fun inb y => read_tbl arg1 harg1 x0 i 9 (by norm_num) (k0_off10 i) inb rfl y
  have t11 := fun inb y => read_tbl arg1 harg1 x0 i 10 (by norm_num) (k0_off11 i) inb rfl y
  have t12 := fun inb y => read_tbl arg1 harg1 x0 i 11 (by norm_num) (k0_off12 i) inb rfl y
  have t13 := fun inb y => read_tbl arg1 harg1 x0 i 12 (by norm_num) (k0_off13 i) inb rfl y
  have t14 := fun inb y => read_tbl arg1 harg1 x0 i 13 (by norm_num) (k0_off14 i) inb rfl y
  have t15 := fun inb y => read_tbl arg1 harg1 x0 i 14 (by norm_num) (k0_off15 i) inb rfl y
  have t16 := fun inb y => read_tbl arg1 harg1 x0 i 15 (by norm_num) (k0_off16 i) inb rfl y
  have t17 := fun inb y => read_tbl arg1 harg1 x0 i 16 (by norm_num) (k0_off17 i) inb rfl y
  have t18 := fun inb y => read_tbl arg1 harg1 x0 i 17 (by norm_num) (k0_off18 i) inb rfl y
  have t19 := fun inb y => read_tbl arg1 harg1 x0 i 18 (by norm_num) (k0_off19 i) inb rfl y
  have t20 := fun inb y => read_tbl arg1 harg1 x0 i 19 (by norm_num) (k0_off20 i) inb rfl y
  have t21 := fun inb y => read_tbl arg1 harg1 x0 i 20 (by norm_num) (k0_off21 i) inb rfl y
  have t22 := fun inb y => read_tbl arg1 harg1 x0 i 21 (by norm_num) (k0_off22 i) inb rfl y
  have t23 := fun inb y => read_tbl arg1 harg1 x0 i 22 (by norm_num) (k0_off23 i) inb rfl y
  have t24 := fun inb y => read_tbl arg1 harg1 x0 i 23 (by norm_num) (k0_off24 i) inb rfl y
  have t25 := fun inb y => read_tbl arg1 harg1 x0 i 24 (by norm_num) (k0_off25 i) inb rfl y
  have t26 := fun inb y => read_tbl arg1 harg1 x0 i 25 (by norm_num) (k0_off26 i) inb rfl y
  have t27 := fun inb y => read_tbl arg1 harg1 x0 i 26 (by norm_num) (k0_off27 i) inb rfl y
  have t28 := fun inb y => read_tbl arg1 harg1 x0 i 27 (by norm_num) (k0_off28 i) inb rfl y
  have t29 := fun inb y => read_tbl arg1 harg1 x0 i 28 (by norm_num) (k0_off29 i) inb rfl y
  have t30 := fun inb y => read_tbl arg1 harg1 x0 i 29 (by norm_num) (k0_off30 i) inb rfl y
  have t31 := fun inb y => read_tbl arg1 harg1 x0 i 30 (by norm_num) (k0_off31 i) inb rfl y
  have t32 := fun inb y => read_tbl arg1 harg1 x0 i 31 (by norm_num) (k0_off32 i) inb rfl y
  have b0 : (k0_pay3 (F := F)) = bucketTile (F := F) 0 := rfl
  have b1 : k0_pay16 (F := F) (iota .tc S256x256 32 [0] iota_S256x256_d0_w32) (iota .tc S256x256 32 [1] iota_S256x256_d1_w32) = bucketTile (F := F) 1 := rfl
  have b2 : k0_pay29 (F := F) (iota .tc S256x256 32 [0] iota_S256x256_d0_w32) (iota .tc S256x256 32 [1] iota_S256x256_d1_w32) = bucketTile (F := F) 2 := rfl
  have b3 : k0_pay38 (F := F) (iota .tc S256x256 32 [0] iota_S256x256_d0_w32) (iota .tc S256x256 32 [1] iota_S256x256_d1_w32) = bucketTile (F := F) 3 := rfl
  have b4 : k0_pay50 (F := F) (iota .tc S256x256 32 [0] iota_S256x256_d0_w32) (iota .tc S256x256 32 [1] iota_S256x256_d1_w32) = bucketTile (F := F) 4 := rfl
  have e0 : k0_pay15 (biasRun.sl.r_34 c i arg1 harg1 x0) = shapeCast S1x1x256x256 (biasTileOf i x0 0) shapeCasts_S256x256_S1x1x256x256 := by
    delta biasRun.sl.r biasRun.sl.r_1 biasRun.sl.r_10 biasRun.sl.r_11 biasRun.sl.r_12 biasRun.sl.r_13 biasRun.sl.r_14 biasRun.sl.r_15 biasRun.sl.r_16 biasRun.sl.r_17 biasRun.sl.r_18 biasRun.sl.r_19 biasRun.sl.r_2 biasRun.sl.r_20 biasRun.sl.r_21 biasRun.sl.r_22 biasRun.sl.r_23 biasRun.sl.r_24 biasRun.sl.r_25 biasRun.sl.r_26 biasRun.sl.r_27 biasRun.sl.r_28 biasRun.sl.r_29 biasRun.sl.r_3 biasRun.sl.r_30 biasRun.sl.r_31 biasRun.sl.r_32 biasRun.sl.r_33 biasRun.sl.r_34 biasRun.sl.r_4 biasRun.sl.r_5 biasRun.sl.r_6 biasRun.sl.r_7 biasRun.sl.r_8 biasRun.sl.r_9 biasRun.sl.v102 biasRun.sl.v103 biasRun.sl.v104 biasRun.sl.v105 biasRun.sl.v108 biasRun.sl.v109 biasRun.sl.v110 biasRun.sl.v111 biasRun.sl.v114 biasRun.sl.v115 biasRun.sl.v116 biasRun.sl.v117 biasRun.sl.v120 biasRun.sl.v121 biasRun.sl.v122 biasRun.sl.v123 biasRun.sl.v126 biasRun.sl.v127 biasRun.sl.v128 biasRun.sl.v129 biasRun.sl.v132 biasRun.sl.v133 biasRun.sl.v134 biasRun.sl.v135 biasRun.sl.v138 biasRun.sl.v139 biasRun.sl.v140 biasRun.sl.v141 biasRun.sl.v144 biasRun.sl.v145 biasRun.sl.v146 biasRun.sl.v147 biasRun.sl.v150 biasRun.sl.v151 biasRun.sl.v152 biasRun.sl.v153 biasRun.sl.v156 biasRun.sl.v157 biasRun.sl.v158 biasRun.sl.v159 biasRun.sl.v162 biasRun.sl.v163 biasRun.sl.v164 biasRun.sl.v165 biasRun.sl.v168 biasRun.sl.v169 biasRun.sl.v170 biasRun.sl.v171 biasRun.sl.v174 biasRun.sl.v175 biasRun.sl.v176 biasRun.sl.v177 biasRun.sl.v43 biasRun.sl.v44 biasRun.sl.v45 biasRun.sl.v48 biasRun.sl.v49 biasRun.sl.v50 biasRun.sl.v51 biasRun.sl.v54 biasRun.sl.v55 biasRun.sl.v56 biasRun.sl.v57 biasRun.sl.v60 biasRun.sl.v61 biasRun.sl.v62 biasRun.sl.v63 biasRun.sl.v66 biasRun.sl.v67 biasRun.sl.v68 biasRun.sl.v69 biasRun.sl.v72 biasRun.sl.v73 biasRun.sl.v74 biasRun.sl.v75 biasRun.sl.v78 biasRun.sl.v79 biasRun.sl.v80 biasRun.sl.v81 biasRun.sl.v84 biasRun.sl.v85 biasRun.sl.v86 biasRun.sl.v87 biasRun.sl.v90 biasRun.sl.v91 biasRun.sl.v92 biasRun.sl.v93 biasRun.sl.v96 biasRun.sl.v97 biasRun.sl.v98 biasRun.sl.v99
    simp only [t1, t2, t3, t4, t5, t6, t7, t8, t9, t10, t11, t12, t13, t14, t15, t16, t17, t18, t19, t20, t21, t22, t23, t24, t25, t26, t27, t28, t29, t30, t31, t32]
    simp only [b0, k0_pay15, k0_pay14, k0_pay4, k0_pay5, k0_pay6]
    simp only [biasTileOf, if_pos, if_false, one_ne_zero, OfNat.ofNat_ne_zero, pickTile_all]
    rfl
  have e1 : k0_pay28 (biasRun.sl.v440 c i arg1 harg1 x0) = shapeCast S1x1x256x256 (biasTileOf i x0 1) shapeCasts_S256x256_S1x1x256x256 := by
    delta biasRun.sl.r biasRun.sl.r_1 biasRun.sl.r_10 biasRun.sl.r_11 biasRun.sl.r_12 biasRun.sl.r_13 biasRun.sl.r_14 biasRun.sl.r_15 biasRun.sl.r_16 biasRun.sl.r_17 biasRun.sl.r_18 biasRun.sl.r_19 biasRun.sl.r_20 biasRun.sl.r_21 biasRun.sl.r_22 biasRun.sl.r_23 biasRun.sl.r_24 biasRun.sl.r_25 biasRun.sl.r_26 biasRun.sl.r_35 biasRun.sl.r_36 biasRun.sl.r_37 biasRun.sl.r_38 biasRun.sl.r_39 biasRun.sl.r_40 biasRun.sl.r_41 biasRun.sl.r_42 biasRun.sl.r_43 biasRun.sl.r_5 biasRun.sl.r_6 biasRun.sl.r_7 biasRun.sl.r_8 biasRun.sl.r_9 biasRun.sl.v0 biasRun.sl.v1 biasRun.sl.v102 biasRun.sl.v104 biasRun.sl.v108 biasRun.sl.v110 biasRun.sl.v114 biasRun.sl.v116 biasRun.sl.v120 biasRun.sl.v122 biasRun.sl.v126 biasRun.sl.v128 biasRun.sl.v132 biasRun.sl.v134 biasRun.sl.v138 biasRun.sl.v140 biasRun.sl.v144 biasRun.sl.v146 biasRun.sl.v150 biasRun.sl.v152 biasRun.sl.v156 biasRun.sl.v158 biasRun.sl.v162 biasRun.sl.v164 biasRun.sl.v168 biasRun.sl.v170 biasRun.sl.v174 biasRun.sl.v176 biasRun.sl.v265 biasRun.sl.v266 biasRun.sl.v268 biasRun.sl.v272 biasRun.sl.v274 biasRun.sl.v278 biasRun.sl.v280 biasRun.sl.v284 biasRun.sl.v286 biasRun.sl.v290 biasRun.sl.v292 biasRun.sl.v296 biasRun.sl.v298 biasRun.sl.v302 biasRun.sl.v304 biasRun.sl.v308 biasRun.sl.v310 biasRun.sl.v314 biasRun.sl.v316 biasRun.sl.v320 biasRun.sl.v322 biasRun.sl.v326 biasRun.sl.v328 biasRun.sl.v332 biasRun.sl.v334 biasRun.sl.v338 biasRun.sl.v340 biasRun.sl.v344 biasRun.sl.v346 biasRun.sl.v350 biasRun.sl.v352 biasRun.sl.v356 biasRun.sl.v358 biasRun.sl.v362 biasRun.sl.v364 biasRun.sl.v368 biasRun.sl.v370 biasRun.sl.v374 biasRun.sl.v376 biasRun.sl.v380 biasRun.sl.v382 biasRun.sl.v386 biasRun.sl.v388 biasRun.sl.v392 biasRun.sl.v394 biasRun.sl.v398 biasRun.sl.v400 biasRun.sl.v403 biasRun.sl.v404 biasRun.sl.v405 biasRun.sl.v406 biasRun.sl.v409 biasRun.sl.v410 biasRun.sl.v411 biasRun.sl.v412 biasRun.sl.v415 biasRun.sl.v416 biasRun.sl.v417 biasRun.sl.v418 biasRun.sl.v421 biasRun.sl.v422 biasRun.sl.v423 biasRun.sl.v424 biasRun.sl.v427 biasRun.sl.v428 biasRun.sl.v429 biasRun.sl.v430 biasRun.sl.v433 biasRun.sl.v434 biasRun.sl.v435 biasRun.sl.v436 biasRun.sl.v439 biasRun.sl.v44 biasRun.sl.v440 biasRun.sl.v48 biasRun.sl.v50 biasRun.sl.v54 biasRun.sl.v56 biasRun.sl.v60 biasRun.sl.v62 biasRun.sl.v66 biasRun.sl.v68 biasRun.sl.v72 biasRun.sl.v74 biasRun.sl.v78 biasRun.sl.v80 biasRun.sl.v84 biasRun.sl.v86 biasRun.sl.v90 biasRun.sl.v92 biasRun.sl.v96 biasRun.sl.v98
    simp only [t1, t2, t3, t4, t5, t6, t7, t8, t9, t10, t11, t12, t13, t14, t15, t16, t17, t18, t19, t20, t21, t22, t23, t24, t25, t26, t27, t28, t29, t30, t31, t32]
    simp only [b1, k0_pay28, k0_pay17, k0_pay18]
    simp only [biasTileOf, if_pos, if_false, one_ne_zero, OfNat.ofNat_ne_zero, pickTile_all]
  have e2 : k0_pay37 (biasRun.sl.v659 c i arg1 harg1 x0) = shapeCast S1x1x256x256 (biasTileOf i x0 2) shapeCasts_S256x256_S1x1x256x256 := by
    delta biasRun.sl.r biasRun.sl.r_1 biasRun.sl.r_10 biasRun.sl.r_11 biasRun.sl.r_12 biasRun.sl.r_13 biasRun.sl.r_14 biasRun.sl.r_15 biasRun.sl.r_16 biasRun.sl.r_17 biasRun.sl.r_18 biasRun.sl.r_19 biasRun.sl.r_20 biasRun.sl.r_21 biasRun.sl.r_22 biasRun.sl.r_23 biasRun.sl.r_24 biasRun.sl.r_25 biasRun.sl.r_26 biasRun.sl.r_36 biasRun.sl.r_37 biasRun.sl.r_38 biasRun.sl.r_39 biasRun.sl.r_40 biasRun.sl.r_41 biasRun.sl.r_42 biasRun.sl.r_43 biasRun.sl.r_44 biasRun.sl.r_5 biasRun.sl.r_6 biasRun.sl.r_7 biasRun.sl.r_8 biasRun.sl.r_9 biasRun.sl.v0 biasRun.sl.v1 biasRun.sl.v102 biasRun.sl.v104 biasRun.sl.v108 biasRun.sl.v110 biasRun.sl.v114 biasRun.sl.v116 biasRun.sl.v120 biasRun.sl.v122 biasRun.sl.v126 biasRun.sl.v128 biasRun.sl.v132 biasRun.sl.v134 biasRun.sl.v138 biasRun.sl.v140 biasRun.sl.v144 biasRun.sl.v146 biasRun.sl.v150 biasRun.sl.v152 biasRun.sl.v156 biasRun.sl.v158 biasRun.sl.v162 biasRun.sl.v164 biasRun.sl.v168 biasRun.sl.v170 biasRun.sl.v174 biasRun.sl.v176 biasRun.sl.v265 biasRun.sl.v403 biasRun.sl.v405 biasRun.sl.v409 biasRun.sl.v411 biasRun.sl.v415 biasRun.sl.v417 biasRun.sl.v421 biasRun.sl.v423 biasRun.sl.v427 biasRun.sl.v429 biasRun.sl.v433 biasRun.sl.v435 biasRun.sl.v439 biasRun.sl.v44 biasRun.sl.v48 biasRun.sl.v485 biasRun.sl.v487 biasRun.sl.v491 biasRun.sl.v493 biasRun.sl.v497 biasRun.sl.v499 biasRun.sl.v50 biasRun.sl.v503 biasRun.sl.v505 biasRun.sl.v509 biasRun.sl.v511 biasRun.sl.v515 biasRun.sl.v517 biasRun.sl.v521 biasRun.sl.v523 biasRun.sl.v527 biasRun.sl.v529 biasRun.sl.v533 biasRun.sl.v535 biasRun.sl.v539 biasRun.sl.v54 biasRun.sl.v541 biasRun.sl.v545 biasRun.sl.v547 biasRun.sl.v551 biasRun.sl.v553 biasRun.sl.v557 biasRun.sl.v559 biasRun.sl.v56 biasRun.sl.v563 biasRun.sl.v565 biasRun.sl.v569 biasRun.sl.v571 biasRun.sl.v575 biasRun.sl.v577 biasRun.sl.v581 biasRun.sl.v583 biasRun.sl.v587 biasRun.sl.v589 biasRun.sl.v593 biasRun.sl.v595 biasRun.sl.v599 biasRun.sl.v60 biasRun.sl.v601 biasRun.sl.v605 biasRun.sl.v607 biasRun.sl.v611 biasRun.sl.v613 biasRun.sl.v617 biasRun.sl.v619 biasRun.sl.v62 biasRun.sl.v623 biasRun.sl.v625 biasRun.sl.v629 biasRun.sl.v631 biasRun.sl.v635 biasRun.sl.v637 biasRun.sl.v641 biasRun.sl.v643 biasRun.sl.v647 biasRun.sl.v649 biasRun.sl.v653 biasRun.sl.v655 biasRun.sl.v659 biasRun.sl.v66 biasRun.sl.v68 biasRun.sl.v72 biasRun.sl.v74 biasRun.sl.v78 biasRun.sl.v80 biasRun.sl.v84 biasRun.sl.v86 biasRun.sl.v90 biasRun.sl.v92 biasRun.sl.v96 biasRun.sl.v98
    simp only [t1, t2, t3, t4, t5, t6, t7, t8, t9, t10, t11, t12, t13, t14, t15, t16, t17, t18, t19, t20, t21, t22, t23, t24, t25, t26, t27, t28, t29, t30, t31, t32]
    simp only [b2, k0_pay37, k0_pay30, k0_pay31]
    simp only [biasTileOf, if_pos, if_false, one_ne_zero, OfNat.ofNat_ne_zero, pickTile_all]
  have e3 : biasRun.sl.v881 c i arg1 harg1 x0 = shapeCast S1x1x256x256 (biasTileOf i x0 3) shapeCasts_S256x256_S1x1x256x256 := by
    delta biasRun.sl.r biasRun.sl.r_1 biasRun.sl.r_10 biasRun.sl.r_11 biasRun.sl.r_12 biasRun.sl.r_13 biasRun.sl.r_14 biasRun.sl.r_15 biasRun.sl.r_16 biasRun.sl.r_17 biasRun.sl.r_18 biasRun.sl.r_19 biasRun.sl.r_2 biasRun.sl.r_20 biasRun.sl.r_21 biasRun.sl.r_22 biasRun.sl.r_23 biasRun.sl.r_24 biasRun.sl.r_25 biasRun.sl.r_26 biasRun.sl.r_37 biasRun.sl.r_38 biasRun.sl.r_39 biasRun.sl.r_40 biasRun.sl.r_41 biasRun.sl.r_42 biasRun.sl.r_43 biasRun.sl.r_45 biasRun.sl.r_46 biasRun.sl.r_5 biasRun.sl.r_6 biasRun.sl.r_7 biasRun.sl.r_8 biasRun.sl.r_9 biasRun.sl.v0 biasRun.sl.v1 biasRun.sl.v102 biasRun.sl.v104 biasRun.sl.v108 biasRun.sl.v110 biasRun.sl.v114 biasRun.sl.v116 biasRun.sl.v120 biasRun.sl.v122 biasRun.sl.v126 biasRun.sl.v128 biasRun.sl.v132 biasRun.sl.v134 biasRun.sl.v138 biasRun.sl.v140 biasRun.sl.v144 biasRun.sl.v146 biasRun.sl.v150 biasRun.sl.v152 biasRun.sl.v156 biasRun.sl.v158 biasRun.sl.v162 biasRun.sl.v164 biasRun.sl.v168 biasRun.sl.v170 biasRun.sl.v174 biasRun.sl.v176 biasRun.sl.v403 biasRun.sl.v405 biasRun.sl.v409 biasRun.sl.v411 biasRun.sl.v415 biasRun.sl.v417 biasRun.sl.v421 biasRun.sl.v423 biasRun.sl.v427 biasRun.sl.v429 biasRun.sl.v433 biasRun.sl.v435 biasRun.sl.v439 biasRun.sl.v44 biasRun.sl.v48 biasRun.sl.v50 biasRun.sl.v54 biasRun.sl.v56 biasRun.sl.v60 biasRun.sl.v62 biasRun.sl.v66 biasRun.sl.v68 biasRun.sl.v704 biasRun.sl.v706 biasRun.sl.v710 biasRun.sl.v712 biasRun.sl.v716 biasRun.sl.v718 biasRun.sl.v72 biasRun.sl.v722 biasRun.sl.v724 biasRun.sl.v728 biasRun.sl.v730 biasRun.sl.v734 biasRun.sl.v736 biasRun.sl.v74 biasRun.sl.v740 biasRun.sl.v742 biasRun.sl.v746 biasRun.sl.v748 biasRun.sl.v752 biasRun.sl.v754 biasRun.sl.v758 biasRun.sl.v760 biasRun.sl.v764 biasRun.sl.v766 biasRun.sl.v770 biasRun.sl.v772 biasRun.sl.v776 biasRun.sl.v778 biasRun.sl.v78 biasRun.sl.v782 biasRun.sl.v784 biasRun.sl.v788 biasRun.sl.v790 biasRun.sl.v794 biasRun.sl.v796 biasRun.sl.v80 biasRun.sl.v800 biasRun.sl.v802 biasRun.sl.v806 biasRun.sl.v808 biasRun.sl.v812 biasRun.sl.v814 biasRun.sl.v818 biasRun.sl.v820 biasRun.sl.v824 biasRun.sl.v826 biasRun.sl.v830 biasRun.sl.v832 biasRun.sl.v836 biasRun.sl.v838 biasRun.sl.v84 biasRun.sl.v842 biasRun.sl.v844 biasRun.sl.v848 biasRun.sl.v850 biasRun.sl.v854 biasRun.sl.v856 biasRun.sl.v86 biasRun.sl.v860 biasRun.sl.v862 biasRun.sl.v866 biasRun.sl.v868 biasRun.sl.v872 biasRun.sl.v874 biasRun.sl.v878 biasRun.sl.v881 biasRun.sl.v90 biasRun.sl.v92 biasRun.sl.v96 biasRun.sl.v98
    simp only [t1, t2, t3, t4, t5, t6, t7, t8, t9, t10, t11, t12, t13, t14, t15, t16, t17, t18, t19, t20, t21, t22, t23, t24, t25, t26, t27, t28, t29, t30, t31, t32]
    simp only [b3, k0_pay39, k0_pay40, k0_pay41]
    simp only [biasTileOf, if_pos, if_false, one_ne_zero, OfNat.ofNat_ne_zero, pickTile_all]
  have e4 : k0_pay1 (k0_pay50 (F := F) biasRun.sl.v0 biasRun.sl.v1) (biasRun.sl.r_48 c i arg1 harg1 x0) (30#32) (biasRun.sl.r_49 c i arg1 harg1 x0) (biasRun.sl.r_50 c i arg1 harg1 x0) = shapeCast S1x1x256x256 (biasTileOf i x0 4) shapeCasts_S256x256_S1x1x256x256 := by
    delta biasRun.sl.r biasRun.sl.r_1 biasRun.sl.r_10 biasRun.sl.r_11 biasRun.sl.r_12 biasRun.sl.r_13 biasRun.sl.r_14 biasRun.sl.r_15 biasRun.sl.r_16 biasRun.sl.r_17 biasRun.sl.r_18 biasRun.sl.r_19 biasRun.sl.r_2 biasRun.sl.r_20 biasRun.sl.r_21 biasRun.sl.r_22 biasRun.sl.r_23 biasRun.sl.r_24 biasRun.sl.r_25 biasRun.sl.r_26 biasRun.sl.r_27 biasRun.sl.r_28 biasRun.sl.r_29 biasRun.sl.r_30 biasRun.sl.r_31 biasRun.sl.r_47 biasRun.sl.r_48 biasRun.sl.r_49 biasRun.sl.r_5 biasRun.sl.r_50 biasRun.sl.r_6 biasRun.sl.r_7 biasRun.sl.r_8 biasRun.sl.r_9 biasRun.sl.v0 biasRun.sl.v1 biasRun.sl.v1001 biasRun.sl.v1003 biasRun.sl.v1007 biasRun.sl.v1009 biasRun.sl.v1013 biasRun.sl.v1015 biasRun.sl.v1019 biasRun.sl.v102 biasRun.sl.v1021 biasRun.sl.v1025 biasRun.sl.v1027 biasRun.sl.v1031 biasRun.sl.v1033 biasRun.sl.v1037 biasRun.sl.v1039 biasRun.sl.v104 biasRun.sl.v1043 biasRun.sl.v1045 biasRun.sl.v1049 biasRun.sl.v1051 biasRun.sl.v1055 biasRun.sl.v1057 biasRun.sl.v108 biasRun.sl.v110 biasRun.sl.v114 biasRun.sl.v116 biasRun.sl.v120 biasRun.sl.v122 biasRun.sl.v126 biasRun.sl.v128 biasRun.sl.v132 biasRun.sl.v134 biasRun.sl.v138 biasRun.sl.v140 biasRun.sl.v144 biasRun.sl.v146 biasRun.sl.v150 biasRun.sl.v152 biasRun.sl.v156 biasRun.sl.v158 biasRun.sl.v162 biasRun.sl.v164 biasRun.sl.v168 biasRun.sl.v170 biasRun.sl.v174 biasRun.sl.v176 biasRun.sl.v44 biasRun.sl.v48 biasRun.sl.v50 biasRun.sl.v54 biasRun.sl.v56 biasRun.sl.v60 biasRun.sl.v62 biasRun.sl.v66 biasRun.sl.v68 biasRun.sl.v72 biasRun.sl.v74 biasRun.sl.v78 biasRun.sl.v80 biasRun.sl.v84 biasRun.sl.v86 biasRun.sl.v90 biasRun.sl.v92 biasRun.sl.v925 biasRun.sl.v929 biasRun.sl.v931 biasRun.sl.v935 biasRun.sl.v937 biasRun.sl.v941 biasRun.sl.v943 biasRun.sl.v947 biasRun.sl.v949 biasRun.sl.v953 biasRun.sl.v955 biasRun.sl.v959 biasRun.sl.v96 biasRun.sl.v961 biasRun.sl.v965 biasRun.sl.v967 biasRun.sl.v971 biasRun.sl.v973 biasRun.sl.v977 biasRun.sl.v979 biasRun.sl.v98 biasRun.sl.v983 biasRun.sl.v985 biasRun.sl.v989 biasRun.sl.v991 biasRun.sl.v995 biasRun.sl.v997
    simp only [t1, t2, t3, t4, t5, t6, t7, t8, t9, t10, t11, t12, t13, t14, t15, t16, t17, t18, t19, t20, t21, t22, t23, t24, t25, t26, t27, t28, t29, t30, t31, t32]
    simp only [b4, k0_pay1, k0_pay51, k0_pay57]
    simp only [biasTileOf, if_pos, if_false, one_ne_zero, OfNat.ofNat_ne_zero, pickTile_all]
  clear t1 t2 t3 t4 t5 t6 t7 t8 t9 t10 t11 t12 t13 t14 t15 t16 t17 t18 t19 t20 t21 t22 t23 t24 t25 t26 t27 t28 t29 t30 t31 t32 b0 b1 b2 b3 b4
  rw [e0, e1, e2, e3, e4]
  refine read_tiles _ _ i x0 (fun o => shapeCast S1x1x256x256 (biasTileOf i x0 o.val) shapeCasts_S256x256_S1x1x256x256) ?_
  exact fun _ => rfl

end Cert.KernelIdeal.Attn

end
-- ==== Proof.Val.Bias.lean ====
/-
  The bias tiles at an index: the table's entry for the bucket of the distance, and −∞ above the diagonal of the first.
-/
module

public import proofs.«01_k».proof.Proof.Val.Spec
public import proofs.«01_k».proof.Proof.Attn.BiasRun
public import Idealize.ShloMosaic.Lib.Pipeline.Value

@[expose] public section

set_option maxRecDepth 16384

noncomputable section

namespace Cert.Val

open Cert.KernelIdeal Cert.KernelIdeal.Gen Cert.KernelIdeal.Attn
open Idealize.ShloMosaic Idealize.ShloMosaic.TcCoe
open Idealize.ShloMosaic.ValueIdx

theorem distTile_apply (o : ℕ) (j t : Fin 256) :
    distTile o (ix2 j t) = BitVec.ofNat 32 (256 * o) + BitVec.ofNat 32 t.val - BitVec.ofNat 32 j.val := by
  have h1 : iota .tc S256x256 32 [1] iota_S256x256_d1_w32 (ix2 j t) = BitVec.ofNat 32 t.val := iota_single_apply _ _ _ 1 _ _
  have h0 : iota .tc S256x256 32 [0] iota_S256x256_d0_w32 (ix2 j t) = BitVec.ofNat 32 j.val := iota_single_apply _ _ _ 0 _ _
  rw [← h1, ← h0]; rfl

theorem bucketTile_apply (o : ℕ) (j t : Fin 256) :
    bucketTile (F := Ideal) o (ix2 j t) = bkt (IntOp.maxsi (distTile o (ix2 j t)) 0#32) := rfl

theorem dist_pos (o : ℕ) (ho : o < 5) (j t : Fin 256) (h : j.val ≤ o * 256 + t.val) :
    distTile o (ix2 j t) = BitVec.ofNat 32 (o * 256 + t.val - j.val) := by
  rw [distTile_apply]
  apply BitVec.eq_of_toNat_eq
  have := j.isLt
  have := t.isLt
  simp only [BitVec.toNat_sub, BitVec.toNat_add, BitVec.toNat_ofNat]
  omega

theorem toInt_small (n : ℕ) (h : n < 8192) : (BitVec.ofNat 32 n).toInt = n := by
  rw [BitVec.toInt_ofNat', Int.bmod_eq_of_le] <;> omega

theorem maxsi_small (n : ℕ) (h : n < 8192) : IntOp.maxsi (BitVec.ofNat 32 n) 0#32 = BitVec.ofNat 32 n := by
  have h0 : (0#32).toInt = 0 := rfl
  have hn := toInt_small n h
  by_cases hz : n = 0
  · subst hz; rfl
  · have : (0#32).slt (BitVec.ofNat 32 n) = true := by rw [BitVec.slt, h0, hn]; exact decide_eq_true (by omega)
    have : (BitVec.ofNat 32 n).slt 0#32 = false := by rw [BitVec.slt, h0, hn]; exact decide_eq_false (by omega)
    simp [IntOp.maxsi, *]

theorem bucket_pos (o : ℕ) (ho : o < 5) (j t : Fin 256) (h : j.val ≤ o * 256 + t.val) :
    bucketTile (F := Ideal) o (ix2 j t) = BitVec.ofNat 32 (bktN (o * 256 + t.val - j.val)) := by
  have := t.isLt
  rw [bucketTile_apply, dist_pos o ho j t h, maxsi_small _ (by omega), bkt_eq _ (by omega)]

theorem pick_apply (i : grid0.Coords) (x0 : Vec Ideal S32x16 .f32) (o : ℕ) (j t : Fin 256) (k : ℕ) (hk : k < 32)
    (h : bucketTile (F := Ideal) o (ix2 j t) = BitVec.ofNat 32 k) (n : ℕ) (hn : n ≤ 32) (hkn : k < n) :
    pickTile i x0 o n (ix2 j t) = tbl i x0 k := by
  induction n with
  | zero => omega
  | succ n ih =>
    show Scalar.select (IntOp.cmpi .eq (bucketTile (F := Ideal) o (ix2 j t)) (BitVec.ofNat 32 n)) (tbl i x0 n) (pickTile i x0 o n (ix2 j t)) = _
    rw [h]
    by_cases e : k = n
    · subst e
      simp [IntOp.cmpi, Scalar.select]
    · rw [ih (by omega) (by omega)]
      have : BitVec.ofNat 32 k ≠ BitVec.ofNat 32 n := fun he => e (by
        have := congrArg BitVec.toNat he
        simp only [BitVec.toNat_ofNat] at this
        omega)
      have hb : (BitVec.ofNat 32 k == BitVec.ofNat 32 n) = false := beq_eq_false_iff_ne.mpr this
      simp only [IntOp.cmpi, Scalar.select, hb]
      rfl

theorem bias_apply (i : grid0.Coords) (x0 : Vec Ideal S32x16 .f32) (o : Fin 5) (j t : Fin 256) :
    biasTileOf i x0 o.val (ix2 j t)
      = if o.val = 0 ∧ t.val < j.val then ⊥ else x0 (ix2 ⟨bktN (o.val * 256 + t.val - j.val), bktN_lt _⟩ (i 0)) := by
  have hj := j.isLt
  have ht := t.isLt
  have hpick : j.val ≤ o.val * 256 + t.val →
      pickTile i x0 o.val 32 (ix2 j t) = x0 (ix2 ⟨bktN (o.val * 256 + t.val - j.val), bktN_lt _⟩ (i 0)) := fun h => by
    rw [pick_apply i x0 o.val j t _ (bktN_lt _) (bucket_pos o.val o.isLt j t h) 32 le_rfl (bktN_lt _)]
    unfold tbl
    congr 2
    exact Fin.ext (Nat.mod_eq_of_lt (bktN_lt _))
  unfold biasTileOf
  by_cases ho : o.val = 0
  · rw [if_pos ho]
    show Scalar.select (IntOp.cmpi .sge (distTile 0 (ix2 j t)) 0#32) (pickTile i x0 0 32 (ix2 j t)) (Ideal.ofBits .f32 0xFF800000#32) = _
    by_cases hjt : j.val ≤ t.val
    · rw [if_neg (by omega), ← hpick (by omega), ho, dist_pos 0 (by decide) j t (by omega)]
      have := toInt_small (0 * 256 + t.val - j.val) (by omega)
      have h0 : (0#32).toInt = 0 := rfl
      simp only [IntOp.cmpi, Scalar.select, BitVec.sle, this, h0]
      rw [decide_eq_true (by omega)]
      exact if_pos rfl
    · rw [if_pos ⟨ho, by omega⟩, ofBits_neg_inf, distTile_apply]
      have hneg : (BitVec.ofNat 32 (256 * 0) + BitVec.ofNat 32 t.val - BitVec.ofNat 32 j.val).toInt < 0 := by
        rw [BitVec.toInt_eq_toNat_cond]
        simp only [BitVec.toNat_sub, BitVec.toNat_add, BitVec.toNat_ofNat]
        split <;> omega
      have h0 : (0#32).toInt = 0 := rfl
      simp only [IntOp.cmpi, Scalar.select, BitVec.sle, h0]
      rw [decide_eq_false (by omega)]
      exact if_neg (by decide)
  · rw [if_neg ho, if_neg (by omega)]
    exact hpick (by omega)

theorem biasModel_apply (i : grid0.Coords) (x0 : Vec Ideal S32x16 .f32) (o : Fin 5) (j t : Fin 256) :
    biasModel i x0 (ix4 0 o j t)
      = if o.val = 0 ∧ t.val < j.val then ⊥ else x0 (ix2 ⟨bktN (o.val * 256 + t.val - j.val), bktN_lt _⟩ (i 0)) :=
  bias_apply i x0 o j t

end Cert.Val

end
-- ==== Proof.Val.RefScore.lean ====
/-
  The reference's scores: the query–key products, the biases and the masks.
-/
module

public import proofs.«01_k».proof.Proof.Val.RefIn
public import proofs.«01_k».proof.Proof.Val.Bias

@[expose] public section

set_option maxRecDepth 16384

noncomputable section

namespace Cert.Val

open Cert.ReferenceIdeal Cert.ReferenceIdeal.Gen Cert.ReferenceIdeal.Value
open Idealize.ShloMosaic
open Idealize.ShloMosaic.TcCoe
open Idealize.ShloMosaic.ValueIdx

variable (V0 : Valuation τ sig (Elt Ideal))

/-- Where every selected block starts: its batch, its head and its number. -/
def startIdx : IVec S4x16x32x256x3x3 32 :=
  ((concatenate S4x16x32x256x3x3 5 [⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S4x1x1x1x1_S4x16x32x256x3_0_1_2_3_4 (select (cmpi .slt (res_main_v62 V0) (broadcastInDim S4x1x1x1x1 ![] bcast_S_S4x1x1x1x1 (constantI S_ 32 0#32))) (addi (res_main_v62 V0) (broadcastInDim S4x1x1x1x1 ![] bcast_S_S4x1x1x1x1 (constantI S_ 32 4#32))) (res_main_v62 V0)))) : (⟨S4x16x32x256x3x1, .i32⟩ : BufTy).Contents (Elt Ideal))⟩, ⟨S4x16x32x256x3x1, ((broadcastInDim S4x16x32x256x3x1 ![0, 1, 2, 3, 4] bcast_S4x16x32x256x3_S4x16x32x256x3x1_0_1_2_3_4 (broadcastInDim S4x16x32x256x3 ![0, 1, 2, 3, 4] bcast_S1x16x1x1x1_S4x16x32x256x3_0_1_2_3_4 (select (cmpi .slt (res_main_v64 V0) (broadcastInDim S1x16x1x1x1 ![] bcast_S_S1x16x1x1x1 (constantI S_ 32 0#32))) (addi (res_main_v64 V0) (broadcastInDim S1x16x1x1x1 ![] bcast_S_S1x16x1x1x1 (constantI S_ 32 16#32))) (res_main_v64 V0)))) : (⟨S4x16x32x256x3x1, .i32⟩ : BufTy).Contents (Elt Ideal))⟩, ⟨S4x16x32x256x3x1, ((broadcastInDim S4x16x32x256x3x1 ![0, 1, 2, 3, 4] bcast_S4x16x32x256x3_S4x16x32x256x3x1_0_1_2_3_4 (select (cmpi .slt (res_main_indices V0) (broadcastInDim S4x16x32x256x3 ![] bcast_S_S4x16x32x256x3 (constantI S_ 32 0#32))) (addi (res_main_indices V0) (broadcastInDim S4x16x32x256x3 ![] bcast_S_S4x16x32x256x3 (constantI S_ 32 32#32))) (res_main_indices V0))) : (⟨S4x16x32x256x3x1, .i32⟩ : BufTy).Contents (Elt Ideal))⟩] concatenates_S4x16x32x256x3x1_S4x16x32x256x3x1_S4x16x32x256x3x1_S4x16x32x256x3x3_d5 : (⟨S4x16x32x256x3x3, .i32⟩ : BufTy).Contents (Elt Ideal)))

/-- The biases of the selected blocks. -/
def farBias : S4x16x32x256x3x256.Idx → EReal :=
  (Host.gather gather_S32x16_S4x16x32x256x3x256x2_S4x16x32x256x3x256_n_01_n_n_01_6_11 (V0 (Proc.devRef .tc main_arg0)) (concatenate S4x16x32x256x3x256x2 6 [⟨S4x16x32x256x3x256x1, (broadcastInDim S4x16x32x256x3x256x1 ![0, 1, 2, 3, 4, 5] bcast_S4x16x32x256x3x256_S4x16x32x256x3x256x1_0_1_2_3_4_5 (select (cmpi .slt (res_main_v146 V0) (broadcastInDim S4x16x32x256x3x256 ![] bcast_S_S4x16x32x256x3x256 (constantI S_ 32 0#32))) (addi (res_main_v146 V0) (broadcastInDim S4x16x32x256x3x256 ![] bcast_S_S4x16x32x256x3x256 (constantI S_ 32 32#32))) (res_main_v146 V0)))⟩, ⟨S4x16x32x256x3x256x1, (broadcastInDim S4x16x32x256x3x256x1 ![0, 1, 2, 3, 4, 5] bcast_S4x16x32x256x3x256_S4x16x32x256x3x256x1_0_1_2_3_4_5 (broadcastInDim S4x16x32x256x3x256 ![0, 1, 2, 3, 4, 5] bcast_S1x16x1x1x1x1_S4x16x32x256x3x256_0_1_2_3_4_5 (select (cmpi .slt (res_main_v147 V0) (broadcastInDim S1x16x1x1x1x1 ![] bcast_S_S1x16x1x1x1x1 (constantI S_ 32 0#32))) (addi (res_main_v147 V0) (broadcastInDim S1x16x1x1x1x1 ![] bcast_S_S1x16x1x1x1x1 (constantI S_ 32 16#32))) (res_main_v147 V0))))⟩] concatenates_S4x16x32x256x3x256x1_S4x16x32x256x3x256x1_S4x16x32x256x3x256x2_d6))

variable (b : Fin 4) (H : Fin 16) (a : Fin 32) (t : Fin 256)

section
variable {α : Type} (x0 x1 x2 : S4x16x32x256x3x1.Idx → α) (r : Fin 3)
  (h : Shape.Concatenates [S4x16x32x256x3x1, S4x16x32x256x3x1, S4x16x32x256x3x1] S4x16x32x256x3x3 5)

theorem cat3_0 : concatenate S4x16x32x256x3x3 5 [⟨S4x16x32x256x3x1, x0⟩, ⟨S4x16x32x256x3x1, x1⟩, ⟨S4x16x32x256x3x1, x2⟩] h
    (ix6 b H a t r (0 : Fin 3)) = x0 (ix6 b H a t r (0 : Fin 1)) := by
  unfold concatenate
  exact congrArg x0 (funext fun y => by fin_cases y <;> rfl)
theorem cat3_1 : concatenate S4x16x32x256x3x3 5 [⟨S4x16x32x256x3x1, x0⟩, ⟨S4x16x32x256x3x1, x1⟩, ⟨S4x16x32x256x3x1, x2⟩] h
    (ix6 b H a t r (1 : Fin 3)) = x1 (ix6 b H a t r (0 : Fin 1)) := by
  unfold concatenate
  exact congrArg x1 (funext fun y => by fin_cases y <;> rfl)
theorem cat3_2 : concatenate S4x16x32x256x3x3 5 [⟨S4x16x32x256x3x1, x0⟩, ⟨S4x16x32x256x3x1, x1⟩, ⟨S4x16x32x256x3x1, x2⟩] h
    (ix6 b H a t r (2 : Fin 3)) = x2 (ix6 b H a t r (0 : Fin 1)) := by
  unfold concatenate
  exact congrArg x2 (funext fun y => by fin_cases y <;> rfl)
end

theorem startIdx_0 (r : Fin 3) : startIdx V0 (ix6 b H a t r (0 : Fin 3)) = BitVec.ofNat 32 b.val := by
  unfold startIdx
  refine (cat3_0 b H a t _ _ _ r _).trans ?_
  refine (broadcastInDim_apply _ _ _ _ (ix5 b H a t r) (fun x => by fin_cases x <;> rfl)).trans ?_
  refine (broadcastInDim_apply _ _ _ _ (ix5 b 0 0 0 0) (fun x => by fin_cases x <;> rfl)).trans ?_
  exact wrap_word b.val 4#32 (by omega)
theorem startIdx_1 (r : Fin 3) : startIdx V0 (ix6 b H a t r (1 : Fin 3)) = BitVec.ofNat 32 H.val := by
  unfold startIdx
  refine (cat3_1 b H a t _ _ _ r _).trans ?_
  refine (broadcastInDim_apply _ _ _ _ (ix5 b H a t r) (fun x => by fin_cases x <;> rfl)).trans ?_
  refine (broadcastInDim_apply _ _ _ _ (ix5 0 H 0 0 0) (fun x => by fin_cases x <;> rfl)).trans ?_
  exact wrap_word H.val 16#32 (by omega)
theorem startIdx_2 (r : Fin 3) : startIdx V0 (ix6 b H a t r (2 : Fin 3)) = BitVec.ofNat 32 (selG (gateG (argsR V0) b H a t) r).val := by
  unfold startIdx
  refine (cat3_2 b H a t _ _ _ r _).trans ?_
  refine (broadcastInDim_apply _ _ _ _ (ix5 b H a t r) (fun x => by fin_cases x <;> rfl)).trans ?_
  refine Eq.trans ?_ (wrap_word (selG (gateG (argsR V0) b H a t) r).val 32#32 (by omega))
  rw [← r_sel]
  rfl

/-- The selected blocks' rows, read off an array by block. -/
theorem r_block (x : S4x16x32x256x64.Idx → EReal) (r : Fin 3) (j : Fin 256) (d : Fin 64) :
    Host.gather gather_S4x16x32x256x64_S4x16x32x256x3x3_S4x16x32x256x3x256x64_56_012_n_n_012_5_11125664 x (startIdx V0) (ix7 b H a t r j d)
      = x (ix5 b H (selG (gateG (argsR V0) b H a t) r) j d) :=
  gather_block b H a t x _ r j d _ (startIdx_0 V0 b H a t r) (startIdx_1 V0 b H a t r) (startIdx_2 V0 b H a t r)

theorem r_v17 (j : Fin 256) : res_main_v17 V0 (ix2 t j) = BitVec.ofNat 32 t.val - BitVec.ofNat 32 j.val := rfl

theorem r_v37 (j : Fin 256) (h : j.val ≤ t.val) : res_main_v37 V0 (ix2 t j) = BitVec.ofNat 32 (bktN (t.val - j.val)) := by
  have e : res_main_v37 V0 (ix2 t j) = bkt (IntOp.maxsi (res_main_v17 V0 (ix2 t j)) 0#32) := by
    unfold res_main_v37 res_main_v19; rfl
  have e2 : res_main_v17 V0 (ix2 t j) = BitVec.ofNat 32 (t.val - j.val) := by
    rw [r_v17]
    apply BitVec.eq_of_toNat_eq
    simp only [BitVec.toNat_sub, BitVec.toNat_ofNat]
    omega
  rw [e, e2, maxsi_small _ (by omega), bkt_eq _ (by omega)]

theorem r_near (j : Fin 256) (h : j.val ≤ t.val) (x : S32x16.Idx → EReal) :
    Host.gather gather_S32x16_S256x256x1_S256x256x16_2_0_n_n_0_2_116 x (broadcastInDim S256x256x1 ![0, 1] bcast_S256x256_S256x256x1_0_1 (select (cmpi .slt (res_main_v37 V0) (broadcastInDim S256x256 ![] bcast_S_S256x256 (constantI S_ 32 0#32))) (addi (res_main_v37 V0) (broadcastInDim S256x256 ![] bcast_S_S256x256 (constantI S_ 32 32#32))) (res_main_v37 V0))) (ix3 t j H)
      = x (ix2 ⟨bktN (t.val - j.val), bktN_lt _⟩ H) := by
  refine gather_near H t x _ j ⟨bktN (t.val - j.val), bktN_lt _⟩ ?_
  refine (broadcastInDim_apply _ _ _ _ (ix2 t j) (fun x => by fin_cases x <;> rfl)).trans ?_
  refine Eq.trans ?_ (wrap_word (bktN (t.val - j.val)) 32#32 (by have := bktN_lt (t.val - j.val); omega))
  rw [← r_v37 V0 t j h]
  rfl

theorem dist_at {s : Shape} (x y z w : IVec s 32) (i : s.Idx) (u v k l : BitVec 32) (hx : x i = u) (hy : y i = v) (hz : z i = k) (hw : w i = l) :
    maxsi (subi x (addi y z)) w i = IntOp.maxsi (u - (v + k)) l := by
  subst hx hy hz hw; rfl

theorem mul_at {s : Shape} (x y : IVec s 32) (i : s.Idx) (u v : BitVec 32) (hx : x i = u) (hy : y i = v) : muli x y i = u * v := by
  subst hx hy; rfl

theorem r_v146 (r : Fin 3) (j : Fin 256) (n : Fin 32) (hn : selG (gateG (argsR V0) b H a t) r = n) (h : n < a) :
    res_main_v146 V0 (ix6 b H a t r j) = BitVec.ofNat 32 (bktN (a.val * 256 + t.val - (n.val * 256 + j.val))) := by
  have e : res_main_v146 V0 (ix6 b H a t r j) = bkt (res_main_v128 V0 (ix6 b H a t r j)) := by
    unfold res_main_v146; rfl
  have hs := r_sel V0 b H a t r
  rw [hn] at hs
  have e1 : res_main_v128 V0 (ix6 b H a t r j) = IntOp.maxsi ((BitVec.ofNat 32 a.val * 256#32 + BitVec.ofNat 32 t.val) - (res_main_indices V0 (ix5 b H a t r) * 256#32 + BitVec.ofNat 32 j.val)) 0#32 := by
    unfold res_main_v128
    refine dist_at (s := S4x16x32x256x3x256) _ _ _ _ (ix6 b H a t r j) (BitVec.ofNat 32 a.val * 256#32 + BitVec.ofNat 32 t.val)
      (res_main_indices V0 (ix5 b H a t r) * 256#32) (BitVec.ofNat 32 j.val) 0#32 ?_ ?_ ?_ ?_
    rotate_left 3
    · exact broadcastInDim_scalar_apply _ _ _
    rotate_left 0
    · refine (broadcastInDim_apply _ _ _ _ (ix6 0 0 a t 0 0) (fun x => by fin_cases x <;> rfl)).trans ?_
      refine (broadcastInDim_apply _ _ _ _ (ix4 a t 0 0) (fun x => by fin_cases x <;> rfl)).trans ?_
      refine (broadcastInDim_apply _ _ _ _ (ix2 a t) (fun x => by fin_cases x <;> rfl)).trans ?_
      rfl
    · refine (broadcastInDim_apply _ _ _ _ (ix6 b H a t r 0) (fun x => by fin_cases x <;> rfl)).trans ?_
      refine mul_at _ _ _ _ _ ?_ rfl
      exact broadcastInDim_apply _ _ _ _ (ix5 b H a t r) (fun x => by fin_cases x <;> rfl)
    · refine (broadcastInDim_apply _ _ _ _ (ix6 0 0 0 0 0 j) (fun x => by fin_cases x <;> rfl)).trans ?_
      exact broadcastInDim_apply _ _ _ _ (ix1 j) (fun x => by fin_cases x <;> rfl)
  have e2 : (BitVec.ofNat 32 a.val * 256#32 + BitVec.ofNat 32 t.val) - (BitVec.ofNat 32 n.val * 256#32 + BitVec.ofNat 32 j.val)
      = BitVec.ofNat 32 (a.val * 256 + t.val - (n.val * 256 + j.val)) := by
    apply BitVec.eq_of_toNat_eq
    simp only [BitVec.toNat_sub, BitVec.toNat_add, BitVec.toNat_mul, BitVec.toNat_ofNat]
    have : n.val < a.val := h
    omega
  rw [e, e1, hs, e2, maxsi_small _ (by omega), bkt_eq _ (by omega)]

theorem cat2_0 {α : Type} (x0 x1 : S4x16x32x256x3x256x1.Idx → α) (r : Fin 3) (j : Fin 256)
    (h : Shape.Concatenates [S4x16x32x256x3x256x1, S4x16x32x256x3x256x1] S4x16x32x256x3x256x2 6) :
    concatenate S4x16x32x256x3x256x2 6 [⟨S4x16x32x256x3x256x1, x0⟩, ⟨S4x16x32x256x3x256x1, x1⟩] h (ix7 b H a t r j (0 : Fin 2)) = x0 (ix7 b H a t r j (0 : Fin 1)) := by
  unfold concatenate
  exact congrArg x0 (funext fun y => by fin_cases y <;> rfl)

theorem cat2_1 {α : Type} (x0 x1 : S4x16x32x256x3x256x1.Idx → α) (r : Fin 3) (j : Fin 256)
    (h : Shape.Concatenates [S4x16x32x256x3x256x1, S4x16x32x256x3x256x1] S4x16x32x256x3x256x2 6) :
    concatenate S4x16x32x256x3x256x2 6 [⟨S4x16x32x256x3x256x1, x0⟩, ⟨S4x16x32x256x3x256x1, x1⟩] h (ix7 b H a t r j (1 : Fin 2)) = x1 (ix7 b H a t r j (0 : Fin 1)) := by
  unfold concatenate
  exact congrArg x1 (funext fun y => by fin_cases y <;> rfl)

theorem last1 {α : Type} (x : S4x16x32x256x3x256.Idx → α) (r : Fin 3) (j : Fin 256) :
    broadcastInDim S4x16x32x256x3x256x1 ![0, 1, 2, 3, 4, 5] bcast_S4x16x32x256x3x256_S4x16x32x256x3x256x1_0_1_2_3_4_5 x (ix7 b H a t r j (0 : Fin 1)) = x (ix6 b H a t r j) :=
  broadcastInDim_apply _ _ _ _ (ix6 b H a t r j) (fun x => by fin_cases x <;> rfl)

theorem r_far (r : Fin 3) (j : Fin 256) (n : Fin 32) (hn : selG (gateG (argsR V0) b H a t) r = n) (h : n < a) :
    farBias V0 (ix6 b H a t r j) = rbG (argsR V0) H (a.val * 256 + t.val - (n.val * 256 + j.val)) := by
  unfold farBias rbG
  refine gather_far b H a t _ _ r j ⟨bktN (a.val * 256 + t.val - (n.val * 256 + j.val)), bktN_lt _⟩ ?_ ?_
  · refine (cat2_0 b H a t _ _ r j _).trans ?_
    refine (last1 b H a t _ r j).trans ?_
    refine Eq.trans ?_ (wrap_word (bktN (a.val * 256 + t.val - (n.val * 256 + j.val))) 32#32 (by have := bktN_lt (a.val * 256 + t.val - (n.val * 256 + j.val)); omega))
    rw [← r_v146 V0 b H a t r j n hn h]
    rfl
  · refine (cat2_1 b H a t _ _ r j _).trans ?_
    refine (last1 b H a t _ r j).trans ?_
    refine (broadcastInDim_apply _ _ _ _ (ix6 0 H 0 0 0 0) (fun x => by fin_cases x <;> rfl)).trans ?_
    exact wrap_word H.val 16#32 (by omega)

end Cert.Val

end
-- ==== Proof.Val.RefMax.lean ====
/-
  The reference's softmax: its scores at an index, the greatest of them, and their sum.
-/
module

public import proofs.«01_k».proof.Proof.Val.RefScore

@[expose] public section

set_option maxRecDepth 16384

noncomputable section

namespace Cert.Val

open Cert.ReferenceIdeal Cert.ReferenceIdeal.Gen Cert.ReferenceIdeal.Value
open Idealize.ShloMosaic
open Idealize.ShloMosaic.TcCoe
open Idealize.ShloMosaic.ValueIdx

variable (V0 : Valuation τ sig (Elt Ideal))
variable (b : Fin 4) (H : Fin 16) (a : Fin 32) (t : Fin 256)

section
variable {α : Type} (x0 : S4x16x32x256x3x256.Idx → α) (x1 : S4x16x32x256x1x256.Idx → α) (j : Fin 256)
  (h : Shape.Concatenates [S4x16x32x256x3x256, S4x16x32x256x1x256] S4x16x32x256x4x256 4)

theorem cat31_past (r : Fin 3) : concatenate S4x16x32x256x4x256 4 [⟨S4x16x32x256x3x256, x0⟩, ⟨S4x16x32x256x1x256, x1⟩] h
    (ix6 b H a t r.castSucc j) = x0 (ix6 b H a t r j) := by
  unfold concatenate
  match r with
  | 0 => exact congrArg x0 (funext fun y => by fin_cases y <;> rfl)
  | 1 => exact congrArg x0 (funext fun y => by fin_cases y <;> rfl)
  | 2 => exact congrArg x0 (funext fun y => by fin_cases y <;> rfl)

theorem cat31_own : concatenate S4x16x32x256x4x256 4 [⟨S4x16x32x256x3x256, x0⟩, ⟨S4x16x32x256x1x256, x1⟩] h
    (ix6 b H a t (Fin.last 3) j) = x1 (ix6 b H a t (0 : Fin 1) j) := by
  unfold concatenate
  exact congrArg x1 (funext fun y => by fin_cases y <;> rfl)
end

theorem select_at {s : Shape} {α : Type} (c : IVec s 1) (x y : s.Idx → α) (i : s.Idx) (p : Prop) [Decidable p] (u v : α)
    (hc : c i = BitVec.ofBool (decide p)) (hx : p → x i = u) (hy : y i = v) : select c x y i = if p then u else v := by
  refine (select_apply c x y i).trans ?_
  rw [hc, select_bool]
  by_cases hp : p
  · rw [if_pos hp, if_pos hp, hx hp]
  · rw [if_neg hp, if_neg hp, hy]

theorem add_at {s : Shape} (x y : FVec Ideal s .f32) (i : s.Idx) (u v : EReal) (hx : x i = u) (hy : y i = v) : addf x y i = u + v := by
  subst hx hy; rfl

theorem r_past (r : Fin 3) (j : Fin 256) : res_main_v172 V0 (ix6 b H a t r.castSucc j)
    = selS (gateG (argsR V0) b H a t) (· < a) (pastG (argsR V0) b H a t) r j := by
  unfold res_main_v172 selS
  refine (cat31_past b H a t _ _ j _ r).trans ?_
  refine select_at _ _ _ _ _ _ _ ?_ (fun hlt => ?_) ofBits_neg_inf
  · refine (broadcastInDim_apply _ _ _ _ (ix6 b H a t r (0 : Fin 1)) (fun x => by fin_cases x <;> rfl)).trans ?_
    refine (broadcastInDim_apply _ _ _ _ (ix5 b H a t r) (fun x => by fin_cases x <;> rfl)).trans ?_
    refine Eq.trans ?_ (slt_word (selG (gateG (argsR V0) b H a t) r).val a.val (by omega) (by omega))
    rw [← r_sel]
    rfl
  · refine add_at _ _ _ _ _ ?_ (r_far V0 b H a t r j _ rfl hlt)
    refine (dot1 _ 64 rfl rfl _ _ _ (fun d => ix5 b H a t d) (fun d => ix7 b H a t r j d) (fun i => ?_) (fun i => ?_)).trans ?_
    · have h0 := contrEquiv1_symm_val dot_S4x16x32x256x64_S4x16x32x256x3x256x64_S4x16x32x256x3x256_4_6_n_45_0123_0123 64 rfl rfl i
      funext x; apply Fin.ext
      match x with
      | ⟨0, _⟩ => rfl
      | ⟨1, _⟩ => rfl
      | ⟨2, _⟩ => rfl
      | ⟨3, _⟩ => rfl
      | ⟨4, _⟩ => exact h0
    · have h0 := contrEquiv1_symm_val dot_S4x16x32x256x64_S4x16x32x256x3x256x64_S4x16x32x256x3x256_4_6_n_45_0123_0123 64 rfl rfl i
      funext x; apply Fin.ext
      match x with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact h0
    · refine Finset.sum_congr rfl fun d _ => ?_
      have e := (r_block V0 b H a t (res_main_v5 V0) r j d).trans (r_v5 V0 b H _ j d)
      exact (congrArg₂ (fun x y : EReal => x * y) (r_v2 V0 b H a t d) e).trans (mul_comm _ _)

theorem r_own (j : Fin 256) : res_main_v172 V0 (ix6 b H a t (Fin.last 3) j) = ownG (argsR V0) b H a t j := by
  unfold res_main_v172 ownG
  refine (cat31_own b H a t _ _ j _).trans ?_
  refine (broadcastInDim_apply _ _ _ _ (ix5 b H a t j) (fun x => by fin_cases x <;> rfl)).trans ?_
  refine select_at _ _ _ _ _ _ _ ?_ (fun hle => ?_) ofBits_neg_inf
  · refine (broadcastInDim_apply _ _ _ _ (ix2 t j) (fun x => by fin_cases x <;> rfl)).trans ?_
    show IntOp.cmpi .sge (BitVec.ofNat 32 t.val - BitVec.ofNat 32 j.val) 0#32 = _
    have h0 : (0#32).toInt = 0 := rfl
    show BitVec.ofBool ((0#32).sle (BitVec.ofNat 32 t.val - BitVec.ofNat 32 j.val)) = _
    rw [BitVec.sle, h0]
    congr 1
    refine decide_eq_decide.mpr ?_
    rw [BitVec.toInt_eq_toNat_cond]
    simp only [BitVec.toNat_sub, BitVec.toNat_ofNat]
    split <;> omega
  · refine add_at _ _ _ _ _ ?_ ?_
    · refine (dot1 _ 64 rfl rfl _ _ _ (fun d => ix5 b H a t d) (fun d => ix5 b H a j d) (fun i => ?_) (fun i => ?_)).trans ?_
      · have h0 := contrEquiv1_symm_val dot_S4x16x32x256x64_S4x16x32x256x64_S4x16x32x256x256_4_4_3_3_012_012 64 rfl rfl i
        funext x; apply Fin.ext
        match x with
        | ⟨0, _⟩ => rfl
        | ⟨1, _⟩ => rfl
        | ⟨2, _⟩ => rfl
        | ⟨3, _⟩ => rfl
        | ⟨4, _⟩ => exact h0
      · have h0 := contrEquiv1_symm_val dot_S4x16x32x256x64_S4x16x32x256x64_S4x16x32x256x256_4_4_3_3_012_012 64 rfl rfl i
        funext x; apply Fin.ext
        match x with
        | ⟨0, _⟩ => rfl
        | ⟨1, _⟩ => rfl
        | ⟨2, _⟩ => rfl
        | ⟨3, _⟩ => rfl
        | ⟨4, _⟩ => exact h0
      · refine Finset.sum_congr rfl fun d _ => ?_
        exact (congrArg₂ (fun x y : EReal => x * y) (r_v2 V0 b H a t d) (r_v5 V0 b H a j d)).trans (mul_comm _ _)
    · refine (broadcastInDim_apply _ _ _ _ (ix5 0 H 0 t j) (fun x => by fin_cases x <;> rfl)).trans ?_
      refine (broadcastInDim_apply _ _ _ _ (ix3 H t j) (fun x => by fin_cases x <;> rfl)).trans ?_
      refine (transpose_apply _ _ _ _ (ix3 t j H) (fun x => by fin_cases x <;> rfl)).trans ?_
      exact r_near V0 H t j hle _

/-- A sum over the last two axes. -/
theorem reduce_sum (x : FVec Ideal S4x16x32x256x4x256 .f32) (init : FVec Ideal S_ .f32) :
    Host.reduceAdd x init reducesTo_S4x16x32x256x4x256_S4x16x32x256_d4_5 h_S_ (ix4 b H a t)
      = init (Shape.Idx.first h_S_) + ∑ c : Fin 4, ∑ j : Fin 256, x (ix6 b H a t c j) := by
  rw [hostReduceAdd_apply]
  unfold Ideal.hostReduceAdd
  refine congrArg (fun y : EReal => init (Shape.Idx.first h_S_) + y) ?_
  rw [← Fintype.sum_prod_type' (f := fun (c : Fin 4) (j : Fin 256) => x (ix6 b H a t c j))]
  refine Finset.sum_nbij' (i := fun i => ((i 4 : Fin 4), (i 5 : Fin 256))) (j := fun p => ix6 b H a t p.1 p.2) (fun i _ => Finset.mem_univ _) (fun p _ => ?_) (fun i hi => ?_) (fun p _ => rfl) (fun i hi => ?_)
  · refine Finset.mem_filter.mpr ⟨Finset.mem_univ _, ?_⟩
    funext y; fin_cases y <;> rfl
  · have h := (Finset.mem_filter.mp hi).2
    funext y
    match y with
    | ⟨0, _⟩ => exact (congrFun h 0).symm
    | ⟨1, _⟩ => exact (congrFun h 1).symm
    | ⟨2, _⟩ => exact (congrFun h 2).symm
    | ⟨3, _⟩ => exact (congrFun h 3).symm
    | ⟨4, _⟩ => rfl
    | ⟨5, _⟩ => rfl
  · have h := (Finset.mem_filter.mp hi).2
    congr 1
    funext y
    match y with
    | ⟨0, _⟩ => exact congrFun h 0
    | ⟨1, _⟩ => exact congrFun h 1
    | ⟨2, _⟩ => exact congrFun h 2
    | ⟨3, _⟩ => exact congrFun h 3
    | ⟨4, _⟩ => rfl
    | ⟨5, _⟩ => rfl

end Cert.Val

end
-- ==== Proof.Val.RefOut.lean ====
/-
  The reference's result at an index: the attention of its arrays.
-/
module

public import proofs.«01_k».proof.Proof.Val.RefMax

@[expose] public section

set_option maxRecDepth 16384

noncomputable section

namespace Cert.Val

open Cert.ReferenceIdeal Cert.ReferenceIdeal.Gen Cert.ReferenceIdeal.Value
open Idealize.ShloMosaic
open Idealize.ShloMosaic.TcCoe
open Idealize.ShloMosaic.ValueIdx

variable (V0 : Valuation τ sig (Elt Ideal))

/-- The reference's result. -/
def refOut : S4x8192x1024.Idx → EReal :=
  truncf .bf16 (shapeCast _ (transpose S4x32x256x16x64 [0, 2, 3, 1, 4] (addf (Host.dotGeneral (φ₁ := .f32) (φ₂ := .f32) dot_S4x16x32x256x256_S4x16x32x256x64_S4x16x32x256x64_4_3_3_4_012_012 none (shapeCast _ (extractStridedSlice S4x16x32x256x1x256 ![0, 0, 0, 0, 3, 0] (res_main_v183 V0) slices_S4x16x32x256x4x256_S4x16x32x256x1x256_0_0_0_0_3_0) shapeCasts_S4x16x32x256x1x256_S4x16x32x256x256) (res_main_v8 V0)) (Host.dotGeneral (φ₁ := .f32) (φ₂ := .f32) dot_S4x16x32x256x3x256_S4x16x32x256x3x256x64_S4x16x32x256x64_54_54_n_6_0123_0123 none (extractStridedSlice S4x16x32x256x3x256 ![0, 0, 0, 0, 0, 0] (res_main_v183 V0) slices_S4x16x32x256x4x256_S4x16x32x256x3x256_0_0_0_0_0_0) (Host.gather gather_S4x16x32x256x64_S4x16x32x256x3x3_S4x16x32x256x3x256x64_56_012_n_n_012_5_11125664 (res_main_v8 V0) (startIdx V0)))) transposes_S4x16x32x256x64_S4x32x256x16x64_0_2_3_1_4) shapeCasts_S4x32x256x16x64_S4x8192x1024) bitsLt_bf16_f32

theorem dot2 {sl sr so : Shape} {φ₁ φ₂ : FTy} (D : DotDims sl sr so) (p q : ℕ) (hr : D.contr.rank = 2) (c0 : D.contr.size ⟨0, by omega⟩ = p)
    (c1 : D.contr.size ⟨1, by omega⟩ = q) (L : FVec Ideal sl φ₁) (R : FVec Ideal sr φ₂) (j : so.Idx) (l : Fin p → Fin q → sl.Idx) (r : Fin p → Fin q → sr.Idx)
    (hl : ∀ i k, D.lhsIdx j ((contrEquiv2 D p q hr c0 c1).symm (i, k)) = l i k) (hR : ∀ i k, D.rhsIdx j ((contrEquiv2 D p q hr c0 c1).symm (i, k)) = r i k) :
    Host.dotGeneral D none L R j = ∑ i, ∑ k, L (l i k) * R (r i k) := by
  simp only [Host.dotGeneral]
  rw [Ideal.dotGeneral_apply, ← Equiv.sum_comp (contrEquiv2 D p q hr c0 c1).symm, Fintype.sum_prod_type]
  exact Finset.sum_congr rfl fun i _ => Finset.sum_congr rfl fun k _ => by rw [hl, hR]

/-- The greatest of scores of which none is +∞ and one is real. -/
theorem reduce_max_real {s t u : Shape} {axes : List (Fin s.rank)} (x : FVec Ideal s .f32) (init : FVec Ideal u .f32) (h : s.ReducesTo axes t)
    (hu : 0 < u.numel) (j : t.Idx) (hinit : init (Shape.Idx.first hu) = (⊥ : EReal)) (hx : ∀ i, x i ≠ (⊤ : EReal)) (i0 : s.Idx) (hi0 : h.drop i0 = j)
    (h0 : x i0 ≠ (⊥ : EReal)) : ∃ μ : ℝ, Host.reduce (FloatOps.maximumf (F := Ideal) (φ := .f32)) x init h hu j = (μ : EReal) := by
  have hm := foldl_max ((List.finRange s.numel).filter fun n => h.drop (s.rowMajor.symm n) = j) (fun n => (x (s.rowMajor.symm n) : EReal)) ⊥ bot_ne_top
    (fun n => hx _)
  obtain ⟨h1, -, h3⟩ := hm
  have hmem := h3 (s.rowMajor i0) (List.mem_filter.mpr ⟨List.mem_finRange _, decide_eq_true (by rw [Equiv.symm_apply_apply]; exact hi0)⟩)
  have e : Host.reduce (FloatOps.maximumf (F := Ideal) (φ := .f32)) x init h hu j
      = ((List.finRange s.numel).filter fun n => h.drop (s.rowMajor.symm n) = j).foldl (fun r n => max r (x (s.rowMajor.symm n) : EReal)) ⊥ := by
    rw [← hinit]; rfl
  rw [e]
  have h2 : x (s.rowMajor.symm (s.rowMajor i0)) = x i0 := by rw [Equiv.symm_apply_apply]
  refine ⟨_, (EReal.coe_toReal h1 fun hb => h0 ?_).symm⟩
  rw [hb] at hmem
  exact h2.symm.trans (le_bot_iff.mp hmem)

variable (b : Fin 4) (H : Fin 16) (a : Fin 32) (t : Fin 256)

theorem trunc_at {s : Shape} (x : FVec Ideal s .f32) (h : FTy.bf16.bits < FTy.f32.bits) (i : s.Idx) (v : EReal) (hx : x i = v) : truncf .bf16 x h i = v := hx

theorem exp_at (x : FVec Ideal S4x16x32x256x4x256 .f32) (mx : FVec Ideal S4x16x32x256 .f32) (M : EReal) (hM : mx (ix4 b H a t) = M) (c : Fin 4) (j : Fin 256) :
    Host.exp (subf x (broadcastInDim S4x16x32x256x4x256 ![0, 1, 2, 3, 4, 5] bcast_S4x16x32x256x1x1_S4x16x32x256x4x256_0_1_2_3_4_5 (broadcastInDim S4x16x32x256x1x1 ![0, 1, 2, 3] bcast_S4x16x32x256_S4x16x32x256x1x1_0_1_2_3 (maximumf (broadcastInDim S4x16x32x256 ![] bcast_S_S4x16x32x256 (constant S_ .f32 0xFF800000#32)) mx)))) (ix6 b H a t c j)
      = Ideal.exp (x (ix6 b H a t c j) - M) := by
  refine congrArg (fun y : EReal => Ideal.exp (x (ix6 b H a t c j) - y)) ?_
  refine (broadcastInDim_apply _ _ _ _ (ix6 b H a t (0 : Fin 1) (0 : Fin 1)) (fun x => by fin_cases x <;> rfl)).trans ?_
  refine (broadcastInDim_apply _ _ _ _ (ix4 b H a t) (fun x => by fin_cases x <;> rfl)).trans ?_
  refine (congrArg₂ (fun x y : EReal => max x y) ofBits_neg_inf hM).trans ?_
  exact max_eq_right bot_le

theorem div_at (x : FVec Ideal S4x16x32x256x4x256 .f32) (sm : FVec Ideal S4x16x32x256 .f32) (X M : EReal) (c : Fin 4) (j : Fin 256)
    (hX : x (ix6 b H a t c j) = X) (hM : sm (ix4 b H a t) = M) :
    Host.divf x (broadcastInDim S4x16x32x256x4x256 ![0, 1, 2, 3, 4, 5] bcast_S4x16x32x256x1x1_S4x16x32x256x4x256_0_1_2_3_4_5 (broadcastInDim S4x16x32x256x1x1 ![0, 1, 2, 3] bcast_S4x16x32x256_S4x16x32x256x1x1_0_1_2_3 sm)) (ix6 b H a t c j)
      = Ideal.div X M := by
  refine congrArg₂ Ideal.div hX ?_
  refine (broadcastInDim_apply _ _ _ _ (ix6 b H a t (0 : Fin 1) (0 : Fin 1)) (fun x => by fin_cases x <;> rfl)).trans ?_
  exact (broadcastInDim_apply _ _ _ _ (ix4 b H a t) (fun x => by fin_cases x <;> rfl)).trans hM

section
variable {A : Args} (hA : A.Real)
include hA

theorem denomG_pos : 0 < denom (gateG A b H a t) (ownG A b H a t) (pastG A b H a t) := by
  classical
  unfold denom
  have h1 : 0 < ∑ j, wt (ownG A b H a t j) := by
    refine Finset.sum_pos' (fun j _ => wt_nonneg _) ⟨t, Finset.mem_univ _, ?_⟩
    obtain ⟨s, hs⟩ := ownG_real b H a t hA t le_rfl
    rw [hs, wt_coe]; exact Real.exp_pos _
  have h2 : 0 ≤ ∑ n, if Chosen (gateG A b H a t) n then ∑ j, wt (pastG A b H a t n j) else 0 := by
    refine Finset.sum_nonneg fun n _ => ?_
    split_ifs
    · exact Finset.sum_nonneg fun j _ => wt_nonneg _
    · exact le_rfl
  linarith

end

variable {V0} (hA : (argsR V0).Real)
include hA

theorem score_ne_top (i : S4x16x32x256x4x256.Idx) : res_main_v172 V0 i ≠ ⊤ := by
  obtain ⟨b, H, a, t, c, j, rfl⟩ : ∃ (b : Fin 4) (H : Fin 16) (a : Fin 32) (t : Fin 256) (c : Fin 4) (j : Fin 256), i = ix6 b H a t c j := ⟨i 0, i 1, i 2, i 3, i 4, i 5, eq_ix6 i⟩
  refine Fin.lastCases ?_ (fun r => ?_) c
  · rw [r_own]; exact ownG_ne_top b H a t hA j
  · rw [r_past]; exact selS_ne_top _ _ _ (fun n j => (pastG_real b H a t hA n j).ne_top) r j

theorem max_real : ∃ μ : ℝ, ∀ (c : Fin 4) (j : Fin 256), res_main_v179 V0 (ix6 b H a t c j) = Ideal.exp (res_main_v172 V0 (ix6 b H a t c j) - (μ : EReal)) := by
  obtain ⟨M, e⟩ := reduce_max_real (res_main_v172 V0) (constant S_ .f32 0xFF800000#32) reducesTo_S4x16x32x256x4x256_S4x16x32x256_d4_5 h_S_ (ix4 b H a t)
    ofBits_neg_inf (score_ne_top hA) (ix6 b H a t (Fin.last 3) t) (by funext y; fin_cases y <;> rfl) (by rw [r_own]; exact (ownG_real b H a t hA t le_rfl).ne_bot)
  refine ⟨M, fun c j => ?_⟩
  unfold res_main_v179
  exact exp_at b H a t _ _ M e c j

theorem refOut_at (d : Fin 64) : refOut V0 (ix3 b (pos a t) (feat H d)) = attnG (argsR V0) b H a t d := by
  obtain ⟨μ, hμ⟩ := max_real b H a t hA
  have hg := gateG_pos b H a t hA
  have hown := ownG_ne_top b H a t hA
  have hpast : ∀ n j, pastG (argsR V0) b H a t n j ≠ ⊤ := fun n j => (pastG_real b H a t hA n j).ne_top
  have hW := denomG_pos b H a t hA
  have hsum : ∑ c : Fin 4, ∑ j : Fin 256, res_main_v179 V0 (ix6 b H a t c j)
      = ((Real.exp (-μ) * denom (gateG (argsR V0) b H a t) (ownG (argsR V0) b H a t) (pastG (argsR V0) b H a t) : ℝ) : EReal) := by
    rw [← sum_sel_exp (gateG (argsR V0) b H a t) (· < a) hg (ownG (argsR V0) b H a t) (pastG (argsR V0) b H a t) hown hpast μ, Fin.sum_univ_castSucc]
    refine congrArg₂ (fun x y : EReal => x + y) (Finset.sum_congr rfl fun r _ => Finset.sum_congr rfl fun j _ => ?_) (Finset.sum_congr rfl fun j _ => ?_)
    · rw [hμ, r_past]
    · rw [hμ, r_own]
  have hw : ∀ (c : Fin 4) (j : Fin 256), res_main_v183 V0 (ix6 b H a t c j) = Ideal.div (Ideal.exp (res_main_v172 V0 (ix6 b H a t c j) - (μ : EReal)))
      ((Real.exp (-μ) * denom (gateG (argsR V0) b H a t) (ownG (argsR V0) b H a t) (pastG (argsR V0) b H a t) : ℝ) : EReal) := fun c j => by
    unfold res_main_v183
    refine div_at b H a t _ _ _ _ c j (hμ c j) ?_
    refine (reduce_sum b H a t _ _).trans ?_
    rw [hsum]
    exact (congrArg (fun y : EReal => y + _) Ideal.ofBits_zero_f32).trans (zero_add _)
  unfold refOut attnG
  rw [← soft_out (gateG (argsR V0) b H a t) (· < a) hg (ownG (argsR V0) b H a t) (pastG (argsR V0) b H a t) hown hpast (valG (argsR V0) b H d a) (valG (argsR V0) b H d) μ hW]
  refine trunc_at _ _ _ _ ?_
  refine (shapeCast_apply _ _ _ (ix5 b a t H d) (by
    rw [Shape.rowMajor_val_three, Shape.rowMajor_val_five]
    show (((b.val * 32 + a.val) * 256 + t.val) * 16 + H.val) * 64 + d.val = (b.val * 8192 + (a.val * 256 + t.val)) * 1024 + (H.val * 64 + d.val)
    omega)).trans ?_
  refine (transpose_apply _ _ _ _ (ix5 b H a t d) (fun x => by fin_cases x <;> rfl)).trans ?_
  refine add_at _ _ _ _ _ ?_ ?_
  · refine (dot1 _ 256 rfl rfl _ _ _ (fun j => ix5 b H a t j) (fun j => ix5 b H a j d) (fun i => ?_) (fun i => ?_)).trans ?_
    · have h0 := contrEquiv1_symm_val dot_S4x16x32x256x256_S4x16x32x256x64_S4x16x32x256x64_4_3_3_4_012_012 256 rfl rfl i
      funext x; apply Fin.ext
      match x with
      | ⟨0, _⟩ => rfl
      | ⟨1, _⟩ => rfl
      | ⟨2, _⟩ => rfl
      | ⟨3, _⟩ => rfl
      | ⟨4, _⟩ => exact h0
    · have h0 := contrEquiv1_symm_val dot_S4x16x32x256x256_S4x16x32x256x64_S4x16x32x256x64_4_3_3_4_012_012 256 rfl rfl i
      funext x; apply Fin.ext
      match x with
      | ⟨0, _⟩ => rfl
      | ⟨1, _⟩ => rfl
      | ⟨2, _⟩ => rfl
      | ⟨3, _⟩ => exact h0
      | ⟨4, _⟩ => rfl
    · refine Finset.sum_congr rfl fun j _ => ?_
      refine congrArg₂ (fun x y : EReal => x * y) ?_ (r_v8 V0 b H a j d)
      refine (shapeCast_apply _ _ _ (ix6 b H a t (0 : Fin 1) j) (by
        rw [Shape.rowMajor_val_five, Shape.rowMajor_val_six]
        show ((((b.val * 16 + H.val) * 32 + a.val) * 256 + t.val) * 1 + 0) * 256 + j.val = (((b.val * 16 + H.val) * 32 + a.val) * 256 + t.val) * 256 + j.val
        omega)).trans ?_
      have e : extractStridedSlice S4x16x32x256x1x256 ![0, 0, 0, 0, 3, 0] (res_main_v183 V0) slices_S4x16x32x256x4x256_S4x16x32x256x1x256_0_0_0_0_3_0 (ix6 b H a t (0 : Fin 1) j)
          = res_main_v183 V0 (ix6 b H a t (Fin.last 3) j) := by
        unfold extractStridedSlice
        refine congrArg (res_main_v183 V0) (funext fun y => ?_)
        fin_cases y <;> first | rfl | exact Fin.ext (Nat.zero_add _)
      rw [e, hw, r_own]
  · rw [Finset.sum_comm]
    refine (dot2 _ 256 3 rfl rfl rfl _ _ _ (fun j r => ix6 b H a t r j) (fun j r => ix7 b H a t r j d) (fun i k => ?_) (fun i k => ?_)).trans ?_
    · have h0 := contrEquiv2_symm_val0 dot_S4x16x32x256x3x256_S4x16x32x256x3x256x64_S4x16x32x256x64_54_54_n_6_0123_0123 256 3 rfl rfl rfl (i, k)
      have h1 := contrEquiv2_symm_val1 dot_S4x16x32x256x3x256_S4x16x32x256x3x256x64_S4x16x32x256x64_54_54_n_6_0123_0123 256 3 rfl rfl rfl (i, k)
      funext x; apply Fin.ext
      match x with
      | ⟨0, _⟩ => rfl
      | ⟨1, _⟩ => rfl
      | ⟨2, _⟩ => rfl
      | ⟨3, _⟩ => rfl
      | ⟨4, _⟩ => exact h1
      | ⟨5, _⟩ => exact h0
    · have h0 := contrEquiv2_symm_val0 dot_S4x16x32x256x3x256_S4x16x32x256x3x256x64_S4x16x32x256x64_54_54_n_6_0123_0123 256 3 rfl rfl rfl (i, k)
      have h1 := contrEquiv2_symm_val1 dot_S4x16x32x256x3x256_S4x16x32x256x3x256x64_S4x16x32x256x64_54_54_n_6_0123_0123 256 3 rfl rfl rfl (i, k)
      funext x; apply Fin.ext
      match x with
      | ⟨0, _⟩ => rfl
      | ⟨1, _⟩ => rfl
      | ⟨2, _⟩ => rfl
      | ⟨3, _⟩ => rfl
      | ⟨4, _⟩ => exact h1
      | ⟨5, _⟩ => exact h0
      | ⟨6, _⟩ => rfl
    · refine Finset.sum_congr rfl fun j _ => Finset.sum_congr rfl fun r _ => ?_
      refine congrArg₂ (fun x y : EReal => x * y) ?_ ((r_block V0 b H a t _ r j d).trans (r_v8 V0 b H _ j d))
      have e : extractStridedSlice S4x16x32x256x3x256 ![0, 0, 0, 0, 0, 0] (res_main_v183 V0) slices_S4x16x32x256x4x256_S4x16x32x256x3x256_0_0_0_0_0_0 (ix6 b H a t r j)
          = res_main_v183 V0 (ix6 b H a t r.castSucc j) := by
        unfold extractStridedSlice
        refine congrArg (res_main_v183 V0) (funext fun y => ?_)
        fin_cases y <;> exact Fin.ext (Nat.zero_add _)
      rw [e, hw, r_past]

/-- The attention as an array. -/
def outG (A : Args) : S4x8192x1024.Idx → EReal := fun y =>
  attnG A (y 0) ⟨(y 2).val / 64, by have : (y 2).val < 1024 := (y 2).isLt; omega⟩
    ⟨(y 1).val / 256, by have : (y 1).val < 8192 := (y 1).isLt; omega⟩ ⟨(y 1).val % 256, by omega⟩ ⟨(y 2).val % 64, by omega⟩

theorem refOut_eq : refOut V0 = outG (argsR V0) := by
  funext y
  obtain ⟨b, u, v, rfl⟩ : ∃ (b : Fin 4) (u : Fin 8192) (v : Fin 1024), y = ix3 b u v := ⟨y 0, y 1, y 2, eq_ix3 y⟩
  have hu : u = pos ⟨u.val / 256, by omega⟩ ⟨u.val % 256, by omega⟩ := Fin.ext (by show u.val = u.val / 256 * 256 + u.val % 256; omega)
  have hv : v = feat ⟨v.val / 64, by omega⟩ ⟨v.val % 64, by omega⟩ := Fin.ext (by show v.val = v.val / 64 * 64 + v.val % 64; omega)
  have := refOut_at b ⟨v.val / 64, by omega⟩ ⟨u.val / 256, by omega⟩ ⟨u.val % 256, by omega⟩ hA ⟨v.val % 64, by omega⟩
  rw [← hu, ← hv] at this
  exact this

end Cert.Val

end
-- ==== Proof.Val.Out.lean ====
/-
  The attention body's block of results at an index.
-/
module

public import proofs.«01_k».proof.Proof.Val.Spec
public import Idealize.ShloMosaic.Lib.Pipeline.Value

@[expose] public section

set_option maxRecDepth 16384

noncomputable section

namespace Cert.Val

open Cert.KernelIdeal Cert.KernelIdeal.Gen Cert.KernelIdeal.Attn
open Idealize.ShloMosaic Idealize.ShloMosaic.TcCoe
open Idealize.ShloMosaic.ValueIdx

theorem scaled_apply (l : FVec Ideal S1x256 .f32) (a : FVec Ideal S64x256 .f32) (d : Fin 64) (t : Fin 256) :
    mulf a (broadcastTo S64x256 (divf (broadcast S1x256 (Scalar.ofBits .f32 0x3F800000#32)) l) broadcasts_S1x256_S64x256) (ix2 d t)
      = a (ix2 d t) * Ideal.div 1 (l (ix2 0 t)) := by
  rw [mulf_apply, show broadcastTo S64x256 _ broadcasts_S1x256_S64x256 (ix2 d t) = _ from broadcastTo_1b_ab_apply _ _ d t, divf_apply,
    show broadcast S1x256 (Scalar.ofBits (F := Ideal) .f32 0x3F800000#32) (ix2 0 t) = 1 from ofBits_one]

theorem outOf_apply (l : Fin 2 → FVec Ideal S1x256 .f32) (a : Fin 2 → FVec Ideal S64x256 .f32) (h : Fin 2) (d : Fin 64) (t : Fin 256) :
    outOf (l 0) (a 0) (l 1) (a 1) (ix3 0 t (col h d)) = a h (ix2 d t) * Ideal.div 1 (l h (ix2 0 t)) := by
  unfold outOf
  rw [show shapeCast S1x256x128 _ shapeCasts_S256x128_S1x256x128 (ix3 0 t (col h d)) = _ from shapeCast_ab_1ab_apply _ _ 0 t (col h d), truncf_apply,
    show transpose S256x128 [1, 0] _ transposes_S128x256_p1_0_S256x128 (ix2 t (col h d)) = _ from transpose_ix2_apply _ _ t (col h d)]
  have hd := d.isLt
  rw [← scaled_apply]
  fin_cases h
  · refine concatenate_pair_apply_left (t := S128x256) (s₁ := S64x256) (s₂ := S64x256) _ _ _ _ _ rfl (ix2 d t) fun b => ?_
    fin_cases b
    · show d.val = 0 * 64 + d.val
      omega
    · rfl
  · refine concatenate_pair_apply_right (t := S128x256) (s₁ := S64x256) (s₂ := S64x256) _ _ _ _ _ rfl rfl (ix2 d t) (fun b hb => ?_) ?_
    · fin_cases b
      · exact absurd rfl hb
      · rfl
    · show d.val + 64 = 1 * 64 + d.val
      omega

theorem attnModel_apply (i : grid1.Coords) (x0 : Vec Ideal S16 .f32) (x1 : Vec Ideal S1x256x128 .bf16) (x2 : Vec Ideal S1x8192x128 .bf16)
    (x3 : Vec Ideal S1x128x8192 .bf16) (x4 : Vec Ideal S1x32x128 .f32) (x5 : Vec Ideal S2x5x256x256 .f32) (h : Fin 2) (d : Fin 64) (t : Fin 256) :
    attnModel i x0 x1 x2 x3 x4 x5 (ix3 0 t (col h d))
      = (farSt i h (qOf h x1) x0 x2 x3 x4 x5 ((i 2).val - 4)).2.2 (ix2 d t)
        * Ideal.div 1 ((farSt i h (qOf h x1) x0 x2 x3 x4 x5 ((i 2).val - 4)).2.1 (ix2 0 t)) :=
  outOf_apply (fun h => (farSt i h (qOf h x1) x0 x2 x3 x4 x5 ((i 2).val - 4)).2.1)
    (fun h => (farSt i h (qOf h x1) x0 x2 x3 x4 x5 ((i 2).val - 4)).2.2) h d t

/-- Head `h` of pair `p`. -/
def headOf (p : Fin 8) (h : Fin 2) : Fin 16 := ⟨p.val * 2 + h.val, by omega⟩
/-- Feature `c` of pair `p`. -/
def pairCol (p : Fin 8) (c : Fin 128) : Fin 1024 := ⟨p.val * 128 + c.val, by omega⟩

theorem pairCol_col (p : Fin 8) (h : Fin 2) (d : Fin 64) : pairCol p (col h d) = feat (headOf p h) d :=
  Fin.ext (by show p.val * 128 + (h.val * 64 + d.val) = (p.val * 2 + h.val) * 64 + d.val; omega)

section
variable (A : Args) (b : Fin 4) (p : Fin 8) (a : Fin 32) (i : grid1.Coords) (hi : (i 1).val = p.val) (hi2 : (i 2).val = a.val)
  (x0 : Vec Ideal S16 .f32) (x1 : Vec Ideal S1x256x128 .bf16) (x2 : Vec Ideal S1x8192x128 .bf16)
  (x3 : Vec Ideal S1x128x8192 .bf16) (x4 : Vec Ideal S1x32x128 .f32) (x5 : Vec Ideal S2x5x256x256 .f32)
  (h0 : ∀ H, x0 (ix1 H) = A.rb (ix2 31 H))
  (h1 : ∀ t c, x1 (ix3 0 t c) = A.q (ix3 b (pos a t) (pairCol p c)))
  (h2 : ∀ j c, x2 (ix3 0 j c) = A.k (ix3 b j (pairCol p c)))
  (h3 : ∀ c j, x3 (ix3 0 c j) = A.v (ix3 b (pairCol p c) j))
  (h4 : ∀ n c, x4 (ix3 0 n c) = A.km (ix3 b n (pairCol p c)))
  (h5 : ∀ (h : Fin 2) (o : Fin 5) (j t : Fin 256), x5 (ix4 h o j t)
    = if o.val = 0 ∧ t.val < j.val then ⊥ else rbG A (headOf p h) (o.val * 256 + t.val - j.val))
  (h : Fin 2) (t : Fin 256)

include hi2 in
theorem ab_eq : ab i = a := Fin.ext hi2

include h1 h2 in
theorem rawCol_eq (n : Fin 32) (j : Fin 256) : rawCol h x1 (keyTile x2 n.val) t j = qkG A b (headOf p h) a t n j := by
  unfold rawCol qkG
  refine Finset.sum_congr rfl fun d _ => ?_
  rw [h1, pairCol_col]
  congr 1
  refine (h2 _ _).trans ?_
  show A.k (ix3 b _ (pairCol p (col h d))) = _
  rw [pairCol_col]
  have : ((⟨(n.val % 32) * 256 + j.val, by omega⟩ : Fin 8192)) = pos n j := Fin.ext (by show n.val % 32 * 256 + j.val = n.val * 256 + j.val; omega)
  rw [← this]

include h1 h4 hi2 in
theorem gateCol_eq : gateCol (ab i) h x1 x4 t = gateG A b (headOf p h) a t := by
  funext n
  unfold gateCol gateG
  rw [ab_eq a i hi2]
  simp only [h1, h4, pairCol_col]

include h3 in
theorem valC_eq (d : Fin 64) : valC h x3 d = valG A b (headOf p h) d := by
  funext n j
  unfold valC valG
  refine (h3 _ _).trans ?_
  have e1 : (⟨(n.val % 32) * 256 + j.val, by omega⟩ : Fin 8192) = pos n j := Fin.ext (by show n.val % 32 * 256 + j.val = n.val * 256 + j.val; omega)
  rw [← e1, ← pairCol_col]; rfl

include h1 h2 h5 hi2 in
theorem ownC_eq : ownC i h x1 x2 x5 t = ownG A b (headOf p h) a t := by
  funext j
  unfold ownC ownG
  rw [hi2, rawCol_eq A b p a x1 x2 h1 h2, h5]
  by_cases hj : j.val ≤ t.val
  · rw [if_pos hj, if_neg (by omega)]
    congr 2
    show 0 * 256 + t.val - j.val = t.val - j.val
    omega
  · rw [if_neg hj, if_pos ⟨rfl, by omega⟩, EReal.add_bot]

/-- The bias of an earlier block, as the body finds it. -/
def bOf (n : Fin 32) (j : Fin 256) : EReal := rbG A (headOf p h) (a.val * 256 + t.val - (n.val * 256 + j.val))

include h1 h2 in
theorem pastC_eq : pastC h x1 x2 t (bOf A p a h t) = pastG A b (headOf p h) a t := by
  funext n j
  unfold pastC pastG bOf
  rw [rawCol_eq A b p a x1 x2 h1 h2]

include hi hi2 h0 h1 h2 h3 h4 h5 in
/-- The body's result at one query and feature. -/
theorem attn_point (hA : A.Real) (d : Fin 64) :
    attnModel i x0 x1 x2 x3 x4 x5 (ix3 0 t (col h d)) = attnG A b (headOf p h) a t d := by
  have hraw := rawCol_eq A b p a x1 x2 h1 h2
  have hown := ownC_eq A b p a i hi2 x1 x2 x5 h1 h2 h5 h t
  have hpast := pastC_eq A b p a x1 x2 h1 h2 h t
  have hnear : ∀ o < 4, ∀ j, o + 1 ≤ (i 2).val → x5 (ix4 h (Fin.ofNat 5 (o + 1)) j t) = bOf A p a h t (Fin.ofNat 32 ((i 2).val - (o + 1))) j := by
    intro o ho j hoi
    have ha := a.isLt
    have e5 : (Fin.ofNat 5 (o + 1)).val = o + 1 := Nat.mod_eq_of_lt (by omega)
    have e32 : (Fin.ofNat 32 ((i 2).val - (o + 1))).val = (i 2).val - (o + 1) := Nat.mod_eq_of_lt (by omega)
    rw [h5, if_neg (by omega)]
    unfold bOf
    rw [e5, e32]
    congr 1
    have := j.isLt
    omega
  have hfar : ∀ k (hk : k < 32), k < (i 2).val - 4 → ∀ j, farBias i x0 h = bOf A p a h t ⟨k, hk⟩ j := by
    intro k hk hki j
    have hj := j.isLt
    unfold farBias bOf rbG
    rw [show (⟨bktN (a.val * 256 + t.val - (k * 256 + j.val)), bktN_lt _⟩ : Fin 32) = 31 from Fin.ext (bktN_far _ (by omega))]
    refine (h0 _).trans ?_
    congr 2
    exact Fin.ext (by show (i 1).val * 2 + h.val = p.val * 2 + h.val; rw [hi])
  have hne : ∀ j, ownC i h x1 x2 x5 t j ≠ ⊤ := fun j => by rw [hown]; exact ownG_ne_top b _ a t hA j
  have hk0 : ownC i h x1 x2 x5 t t ≠ ⊥ := by rw [hown]; exact (ownG_real b _ a t hA t le_rfl).ne_bot
  have hp : ∀ n j, pastC h x1 x2 t (bOf A p a h t) n j ≠ ⊤ := fun n j => by rw [hpast]; exact (pastG_real b _ a t hA n j).ne_top
  have hI := head_inv i h x0 x1 x2 x3 x4 x5 t (bOf A p a h t) hne t hk0 hp hnear hfar
  have hW := denom_pos i h x1 x2 x4 x5 t (bOf A p a h t) t hk0 hne
  rw [attnModel_apply]
  have := Inv.out hI hW d
  rw [this]
  unfold attnG
  rw [hown, hpast, gateCol_eq A b p a i hi2 x1 x4 h1 h4, valC_eq A b p x3 h3, ab_eq a i hi2]

end

end Cert.Val

end
-- ==== Proof.Attn.Offsets.lean ====
/-
  The places the attention body reads at, in closed form: block `i` for the query's own block,
  block `i - off` (cut off at zero) for the near blocks, block `k` in trip `k` of the far loop.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Attn

open Cert.KernelIdeal Cert.KernelIdeal.Gen
open Idealize.ShloMosaic

/-- A near block's number, as the words compute it. -/
theorem near_word : ∀ (n : Fin 32) (c : Fin 4),
    (Scalar.indexCast (Scalar.maxsi (Scalar.subi (BitVec.ofNat 32 n.val) (BitVec.ofNat 32 (1 + c.val))) 0#32)).toNat = n.val - (1 + c.val) := by
  decide +kernel

/-- A near block's first key. -/
theorem near_word_mul : ∀ (n : Fin 32) (c : Fin 4),
    (Scalar.indexCast (Scalar.muli (Scalar.maxsi (Scalar.subi (BitVec.ofNat 32 n.val) (BitVec.ofNat 32 (1 + c.val))) 0#32) 256#32)).toNat
      = (n.val - (1 + c.val)) * 256 := by
  decide +kernel

/-- The own block's first key. -/
theorem own_word_mul : ∀ (n : Fin 32), (Scalar.indexCast (Scalar.muli (BitVec.ofNat 32 n.val) 256#32)).toNat = n.val * 256 := by
  decide +kernel

/-- A far block's number and its first key. -/
theorem far_word : ∀ (n : Fin 32), (Scalar.indexCast (Scf.iv 0#32 1#32 n.val)).toNat = n.val := by
  decide +kernel
theorem far_word_mul : ∀ (n : Fin 32), (Scalar.indexCast (Scalar.muli (Scf.iv 0#32 1#32 n.val) 256#32)).toNat = n.val * 256 := by
  decide +kernel

/-- The head's number in the far bias row. -/
theorem head_word : ∀ (n : Fin 8) (c : Fin 2),
    (Scalar.indexCast (Scalar.addi (Scalar.muli (BitVec.ofNat 32 n.val) 2#32) (BitVec.ofNat 32 c.val))).toNat = n.val * 2 + c.val := by
  decide +kernel

/-- The far loop runs over the blocks more than four back. -/
theorem far_trips (i : grid1.Coords) : (k1_t1_loop i).trips = (i 2).val - 4 :=
  (by decide +kernel : ∀ n : Fin 32, (Scf.trips 0#32 (Scalar.addi 0#32 (Scalar.muli (Scalar.divsi (Scalar.subi (Scalar.maxsi (Scalar.subi (BitVec.ofNat 32 n.val) 4#32) 0#32) 0#32) 1#32) 1#32)) 1#32) = n.val - 4) (i 2)

/-- The loop's remainder is empty. -/
theorem rest_trips (i : grid1.Coords) : (k1_t2_loop i).trips = 0 := Nat.le_zero.mp (k1_t2_abs i).2.1

theorem off1_eq (i : grid1.Coords) (c : Fin 2) : k1_off1 i (BitVec.ofNat 32 c.val) = ![(i 1).val * 2 + c.val] := by
  unfold k1_off1; dsimp only; rw [head_word (i 1) c]
theorem off2_eq (i : grid1.Coords) : k1_off2 i = ![0, (i 2).val * 256, 0] := by
  unfold k1_off2; dsimp only; rw [own_word_mul (i 2)]
theorem off3_eq (i : grid1.Coords) : k1_off3 i = ![0, 0, (i 2).val * 256] := by
  unfold k1_off3; dsimp only; rw [own_word_mul (i 2)]
theorem off7_eq (i : grid1.Coords) : k1_off7 i = ![0, 64, (i 2).val * 256] := by
  unfold k1_off7; dsimp only; rw [own_word_mul (i 2)]
theorem off4_eq (i : grid1.Coords) (c : Fin 4) : k1_off4 i (BitVec.ofNat 32 (1 + c.val)) = ![0, 1, (i 2).val - (1 + c.val), 0] := by
  unfold k1_off4; dsimp only; rw [near_word (i 2) c]
theorem off8_eq (i : grid1.Coords) (c : Fin 4) : k1_off8 i (BitVec.ofNat 32 (1 + c.val)) = ![1, 1, (i 2).val - (1 + c.val), 0] := by
  unfold k1_off8; dsimp only; rw [near_word (i 2) c]
theorem off5_eq (i : grid1.Coords) (c : Fin 4) : k1_off5 i (BitVec.ofNat 32 (1 + c.val)) = ![0, ((i 2).val - (1 + c.val)) * 256, 0] := by
  unfold k1_off5; dsimp only; rw [near_word_mul (i 2) c]
theorem off6_eq (i : grid1.Coords) (c : Fin 4) : k1_off6 i (BitVec.ofNat 32 (1 + c.val)) = ![0, 0, ((i 2).val - (1 + c.val)) * 256] := by
  unfold k1_off6; dsimp only; rw [near_word_mul (i 2) c]
theorem off9_eq (i : grid1.Coords) (c : Fin 4) : k1_off9 i (BitVec.ofNat 32 (1 + c.val)) = ![0, 64, ((i 2).val - (1 + c.val)) * 256] := by
  unfold k1_off9; dsimp only; rw [near_word_mul (i 2) c]

/-- A trip's number is below 32. -/
theorem trip_lt (i : grid1.Coords) (k : Fin (k1_t1_loop i).trips) : k.val < 32 :=
  lt_of_lt_of_le k.isLt ((k1_t1_abs i).2.1.trans (by decide))

theorem off10_eq (i : grid1.Coords) (k : Fin (k1_t1_loop i).trips) : k1_off10 i k = ![0, k.val * 256, 0] := by
  unfold k1_off10; dsimp only; rw [far_word_mul ⟨k.val, trip_lt i k⟩]
theorem off11_eq (i : grid1.Coords) (k : Fin (k1_t1_loop i).trips) : k1_off11 i k = ![0, 0, k.val, 0] := by
  unfold k1_off11; dsimp only; rw [far_word ⟨k.val, trip_lt i k⟩]
theorem off12_eq (i : grid1.Coords) (k : Fin (k1_t1_loop i).trips) : k1_off12 i k = ![0, 0, k.val * 256] := by
  unfold k1_off12; dsimp only; rw [far_word_mul ⟨k.val, trip_lt i k⟩]
theorem off13_eq (i : grid1.Coords) (k : Fin (k1_t1_loop i).trips) : k1_off13 i k = ![1, 0, k.val, 0] := by
  unfold k1_off13; dsimp only; rw [far_word ⟨k.val, trip_lt i k⟩]
theorem off14_eq (i : grid1.Coords) (k : Fin (k1_t1_loop i).trips) : k1_off14 i k = ![0, 64, k.val * 256] := by
  unfold k1_off14; dsimp only; rw [far_word_mul ⟨k.val, trip_lt i k⟩]

/-! The mask rows' places, where the body's run looks for them. -/

instance (i : grid1.Coords) : ClosedOff (k1_off4 i 1#32) := ⟨![0, 1, (i 2).val - 1, 0], off4_eq i 0⟩
instance (i : grid1.Coords) : ClosedOff (k1_off4 i 2#32) := ⟨![0, 1, (i 2).val - 2, 0], off4_eq i 1⟩
instance (i : grid1.Coords) : ClosedOff (k1_off4 i 3#32) := ⟨![0, 1, (i 2).val - 3, 0], off4_eq i 2⟩
instance (i : grid1.Coords) : ClosedOff (k1_off4 i 4#32) := ⟨![0, 1, (i 2).val - 4, 0], off4_eq i 3⟩
instance (i : grid1.Coords) : ClosedOff (k1_off8 i 1#32) := ⟨![1, 1, (i 2).val - 1, 0], off8_eq i 0⟩
instance (i : grid1.Coords) : ClosedOff (k1_off8 i 2#32) := ⟨![1, 1, (i 2).val - 2, 0], off8_eq i 1⟩
instance (i : grid1.Coords) : ClosedOff (k1_off8 i 3#32) := ⟨![1, 1, (i 2).val - 3, 0], off8_eq i 2⟩
instance (i : grid1.Coords) : ClosedOff (k1_off8 i 4#32) := ⟨![1, 1, (i 2).val - 4, 0], off8_eq i 3⟩

end Cert.KernelIdeal.Attn

end
-- ==== Proof.Attn.Tiles.lean ====
/-
  The loads of the attention body are the tiles of its model, and its named values are the model's functions.
-/
module

public import proofs.«01_k».proof.Proof.Attn.Model
public import proofs.«01_k».proof.Proof.Attn.Offsets
public import proofs.«01_k».proof.Proof.Gen.KernelIdeal.Loops
public import Idealize.ShloMosaic.Lib.WholeRead
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx (ix1 ix2 ix3 ix4)

variable {F : FTy → Type} [FloatOps F]

/-! ### Loads -/

theorem read_key (m : Memref sig .tc .vmem S1x8192x128 .bf16) (hm : m.IsWhole) (x : Vec F S1x8192x128 .bf16) (off : Fin 3 → ℕ)
    (inb : ∀ a, off a + S1x256x128.size a ≤ S1x8192x128.size a) (n : ℕ) (hn : n < 32) (hoff : off = ![0, n * 256, 0]) :
    View.readAt (Elt F) m.view (Rect.unit (s := S1x8192x128) off S1x256x128.size inb).toLoadRect (hm.unread x) = keyTile x n := by
  subst hoff
  funext y
  rw [hm.readAt_unread]
  unfold keyTile
  congr 1
  have h0 : (y 0).val < 1 := (y 0).isLt
  funext a
  match a with
  | ⟨0, _⟩ => refine Fin.ext ?_; show 0 + 1 * (y 0).val = 0; omega
  | ⟨1, _⟩ => refine Fin.ext ?_; show n * 256 + 1 * (y 1).val = n % 32 * 256 + (y 1).val; rw [Nat.mod_eq_of_lt hn]; omega
  | ⟨2, _⟩ => refine Fin.ext ?_; show 0 + 1 * (y 2).val = (y 2).val; omega

theorem read_val (m : Memref sig .tc .vmem S1x128x8192 .bf16) (hm : m.IsWhole) (x : Vec F S1x128x8192 .bf16) (off : Fin 3 → ℕ)
    (inb : ∀ a, off a + S1x64x256.size a ≤ S1x128x8192.size a) (h : Fin 2) (n : ℕ) (hn : n < 32) (hoff : off = ![0, h.val * 64, n * 256]) :
    View.readAt (Elt F) m.view (Rect.unit (s := S1x128x8192) off S1x64x256.size inb).toLoadRect (hm.unread x) = valTile x h n := by
  subst hoff
  funext y
  rw [hm.readAt_unread]
  unfold valTile
  congr 1
  have h0 : (y 0).val < 1 := (y 0).isLt
  funext a
  match a with
  | ⟨0, _⟩ => refine Fin.ext ?_; show 0 + 1 * (y 0).val = 0; omega
  | ⟨1, _⟩ => refine Fin.ext ?_; show h.val * 64 + 1 * (y 1).val = h.val * 64 + (y 1).val; omega
  | ⟨2, _⟩ => refine Fin.ext ?_; show n * 256 + 1 * (y 2).val = n % 32 * 256 + (y 2).val; rw [Nat.mod_eq_of_lt hn]; omega

theorem read_bias (m : Memref sig .tc .vmem S2x5x256x256 .f32) (hm : m.IsWhole) (x : Vec F S2x5x256x256 .f32) (off : Fin 4 → ℕ)
    (inb : ∀ a, off a + S1x1x256x256.size a ≤ S2x5x256x256.size a) (h : Fin 2) (o : Fin 5) (hoff : off = ![h.val, o.val, 0, 0]) :
    View.readAt (Elt F) m.view (Rect.unit (s := S2x5x256x256) off S1x1x256x256.size inb).toLoadRect (hm.unread x) = biasTile x h o := by
  subst hoff
  funext y
  rw [hm.readAt_unread]
  unfold biasTile
  congr 1
  have h0 : (y 0).val < 1 := (y 0).isLt
  have h1 : (y 1).val < 1 := (y 1).isLt
  funext a
  match a with
  | ⟨0, _⟩ => refine Fin.ext ?_; show h.val + 1 * (y 0).val = h.val; omega
  | ⟨1, _⟩ => refine Fin.ext ?_; show o.val + 1 * (y 1).val = o.val; omega
  | ⟨2, _⟩ => refine Fin.ext ?_; show 0 + 1 * (y 2).val = (y 2).val; omega
  | ⟨3, _⟩ => refine Fin.ext ?_; show 0 + 1 * (y 3).val = (y 3).val; omega

theorem read_far (m : Memref sig .tc .smem S16 .f32) (hm : m.IsWhole) (x : Vec F S16 .f32) (i : grid1.Coords) (off : Fin 1 → ℕ)
    (inb : ∀ a, off a + S1.size a ≤ S16.size a) (h : Fin 2) (hoff : off = ![(i 1).val * 2 + h.val]) (y : S1.Idx) :
    View.readAt (Elt F) m.view (Rect.unit (s := S16) off S1.size inb).toLoadRect (hm.unread x) y = farBias i x h := by
  subst hoff
  rw [hm.readAt_unread]
  unfold farBias
  congr 1
  have h0 : (y 0).val < 1 := (y 0).isLt
  funext a
  match a with
  | ⟨0, _⟩ => refine Fin.ext ?_; show (i 1).val * 2 + h.val + 1 * (y 0).val = (i 1).val * 2 + h.val; omega

/-- A load of a whole buffer reads its contents. -/
theorem read_all3 {sp : Space} {d : Fin 3 → ℕ} {e : EltTy} (m : Memref sig .tc sp ⟨3, d⟩ e) (hm : m.IsWhole) (x : Vec F ⟨3, d⟩ e) (off : Fin 3 → ℕ)
    (inb : ∀ a, off a + d a ≤ d a) :
    View.readAt (Elt F) m.view (Rect.unit (s := ⟨3, d⟩) off d inb).toLoadRect (hm.unread x) = x := by
  funext y
  rw [hm.readAt_unread]
  congr 1
  funext a
  refine Fin.ext ?_
  show off a + 1 * (y a).val = (y a).val
  have := inb a
  omega

theorem read_row (v : View sig .tc .vmem S2x2x32x256 .f32) (f : v.ty.Contents (Elt F)) (off offp : Fin 4 → ℕ)
    (inb : ∀ a, off a + S1x1x1x256.size a ≤ S2x2x32x256.size a) (inbp : ∀ a, offp a + S1x1x32x256.size a ≤ S2x2x32x256.size a)
    (w : Vec F S1x1x32x256 .f32) (L : List (View.Piece (Elt F) S2x2x32x256 .f32)) (h t n : ℕ) (hn : n < 32)
    (hoff : off = ![h, t, n, 0]) (hoffp : offp = ![h, t, 0, 0]) :
    View.readAt (Elt F) v (Rect.unit (s := S2x2x32x256) off S1x1x1x256.size inb).toLoadRect
      (v.writes (Elt F) f ((⟨Rect.unit (s := S2x2x32x256) offp S1x1x32x256.size inbp, w⟩ : View.Piece (Elt F) S2x2x32x256 .f32) :: L)) = maskRow w n := by
  funext y
  have h0 : (y 0).val < 1 := (y 0).isLt
  have h1 : (y 1).val < 1 := (y 1).isLt
  have h2 : (y 2).val < 1 := (y 2).isLt
  subst hoff
  refine View.read_writes_cons_unit_of_mem v f inbp w L _ (ix4 (0 : Fin 1) (0 : Fin 1) (⟨n % 32, Nat.mod_lt _ (by decide)⟩ : Fin 32) (y 3)) hoffp ?_
  intro a
  match a with
  | ⟨0, _⟩ => show h + 1 * (y 0).val = h + 0; omega
  | ⟨1, _⟩ => show t + 1 * (y 1).val = t + 0; omega
  | ⟨2, _⟩ => show n + 1 * (y 2).val = 0 + n % 32; rw [Nat.mod_eq_of_lt hn]; omega
  | ⟨3, _⟩ => show 0 + 1 * (y 3).val = 0 + (y 3).val; omega

theorem read_row_skip (v : View sig .tc .vmem S2x2x32x256 .f32) (f : v.ty.Contents (Elt F)) (off offp : Fin 4 → ℕ)
    (inb : ∀ a, off a + S1x1x1x256.size a ≤ S2x2x32x256.size a) (inbp : ∀ a, offp a + S1x1x32x256.size a ≤ S2x2x32x256.size a)
    (w : Vec F S1x1x32x256 .f32) (L : List (View.Piece (Elt F) S2x2x32x256 .f32)) (h t h' t' n : ℕ)
    (hoff : off = ![h, t, n, 0]) (hoffp : offp = ![h', t', 0, 0]) (hne : h ≠ h' ∨ t ≠ t') :
    View.readAt (Elt F) v (Rect.unit (s := S2x2x32x256) off S1x1x1x256.size inb).toLoadRect
      (v.writes (Elt F) f ((⟨Rect.unit (s := S2x2x32x256) offp S1x1x32x256.size inbp, w⟩ : View.Piece (Elt F) S2x2x32x256 .f32) :: L))
      = View.readAt (Elt F) v (Rect.unit (s := S2x2x32x256) off S1x1x1x256.size inb).toLoadRect (v.writes (Elt F) f L) := by
  funext y
  have h0 : (y 0).val < 1 := (y 0).isLt
  have h1 : (y 1).val < 1 := (y 1).isLt
  subst hoff
  rcases hne with hne | hne
  · refine View.read_writes_cons_unit_of_not_mem v f inbp w L _ hoffp (0 : Fin 4) ?_
    show h + 1 * (y 0).val < h' ∨ h' + 1 ≤ h + 1 * (y 0).val
    omega
  · refine View.read_writes_cons_unit_of_not_mem v f inbp w L _ hoffp (1 : Fin 4) ?_
    show t + 1 * (y 1).val < t' ∨ t' + 1 ≤ t + 1 * (y 1).val
    omega

/-! ### Named values -/

section Values

variable (i : grid1.Coords) (a : BitVec 32) (x1 : Vec F S1x256x128 .bf16) (x4 : Vec F S1x32x128 .f32) (b : Elt F .f32)
  (q : FVec F S128x256 .bf16) (k k' : Vec F S1x256x128 .bf16) (t t' : Vec F S1x1x256x256 .f32) (r : Vec F S1x1x1x256 .f32)
  (v v' : Vec F S1x64x256 .bf16) (m l : FVec F S1x256 .f32) (acc : FVec F S64x256 .f32) (s : FVec F S256x256 .f32)

theorem q0_eq : k1_pay32 x1 = qHead 0#32 64#32 x1 := rfl
theorem q1_eq : k1_pay80 (k1_pay29 x1) (iota .tc S128x256 32 [0] iota_S128x256_d0_w32) = qHead 64#32 128#32 x1 := rfl

theorem chosen0_eq : k1_pay37 k1_pay30 (k1_pay33 i x1 x4) (k1_pay35 i x1 x4) (k1_pay36 i x1 x4)
    = chosenOf (gateOf (BitVec.ofNat 32 (i 2).val) (qHead 0#32 64#32 x1) x4) := rfl
theorem mask0_far : k1_pay41 (k1_pay38 k1_pay30 (k1_pay33 i x1 x4) (k1_pay35 i x1 x4) (k1_pay36 i x1 x4)) (k1_pay39 b) k1_pay40
    = maskOf (chosenOf (gateOf (BitVec.ofNat 32 (i 2).val) (qHead 0#32 64#32 x1) x4)) b := rfl
theorem mask0_near (c : FVec F S32x256 .f32) : k1_pay42 c = maskOf c (Scalar.ofBits .f32 0x00000000#32) := rfl

theorem chosen1_eq : k1_pay88 k1_pay30 (k1_pay84 a (k1_pay29 x1) (iota .tc S128x256 32 [0] iota_S128x256_d0_w32) (iota .tc S32x256 32 [0] iota_S32x256_d0_w32) k1_pay30 (k1_pay31 x4)) (k1_pay85 a (k1_pay29 x1) (iota .tc S128x256 32 [0] iota_S128x256_d0_w32) (iota .tc S32x256 32 [0] iota_S32x256_d0_w32) k1_pay30 (k1_pay31 x4))
      (k1_pay86 a (k1_pay29 x1) (iota .tc S128x256 32 [0] iota_S128x256_d0_w32) (iota .tc S32x256 32 [0] iota_S32x256_d0_w32) k1_pay30 (k1_pay31 x4)) (k1_pay87 a (k1_pay29 x1) (iota .tc S128x256 32 [0] iota_S128x256_d0_w32) (iota .tc S32x256 32 [0] iota_S32x256_d0_w32) k1_pay30 (k1_pay31 x4)) (FloatOps.ofBits .f32 0x42000000#32)
    = chosenOf (gateOf a (qHead 64#32 128#32 x1) x4) := rfl
theorem mask1_far : k1_pay89 k1_pay30 (k1_pay84 a (k1_pay29 x1) (iota .tc S128x256 32 [0] iota_S128x256_d0_w32) (iota .tc S32x256 32 [0] iota_S32x256_d0_w32) k1_pay30 (k1_pay31 x4)) (k1_pay85 a (k1_pay29 x1) (iota .tc S128x256 32 [0] iota_S128x256_d0_w32) (iota .tc S32x256 32 [0] iota_S32x256_d0_w32) k1_pay30 (k1_pay31 x4))
      (k1_pay86 a (k1_pay29 x1) (iota .tc S128x256 32 [0] iota_S128x256_d0_w32) (iota .tc S32x256 32 [0] iota_S32x256_d0_w32) k1_pay30 (k1_pay31 x4)) (k1_pay87 a (k1_pay29 x1) (iota .tc S128x256 32 [0] iota_S128x256_d0_w32) (iota .tc S32x256 32 [0] iota_S32x256_d0_w32) k1_pay30 (k1_pay31 x4)) (FloatOps.ofBits .f32 0x42000000#32) b
    = maskOf (chosenOf (gateOf a (qHead 64#32 128#32 x1) x4)) b := rfl
theorem mask1_near (c : FVec F S32x256 .f32) : k1_pay90 c = maskOf c (Scalar.ofBits .f32 0x00000000#32) := rfl

theorem own0_m : k1_pay44 q k t = colMax (ownScore q k t) := rfl
theorem own0_l : k1_pay46 q k t = colSum (expScore (colMax (ownScore q k t)) (ownScore q k t)) := rfl
theorem own1_m : k1_pay92 q k t = colMax (ownScore q k t) := rfl
theorem own1_l : k1_pay94 q k t = colSum (expScore (colMax (ownScore q k t)) (ownScore q k t)) := rfl
theorem own1_a : k1_pay95 q k t v = valSum v (expScore (colMax (ownScore q k t)) (ownScore q k t)) := rfl

theorem n01_m : k1_pay51 a q m r k t = mNew m (nearScore a 1#32 q r k t) := rfl
theorem n01_l : k1_pay54 a q m l r k t = lNew m l (nearScore a 1#32 q r k t) := rfl
theorem n01_a : k1_pay56 (k1_pay50 v) (k1_pay53 a q m r k t) (k1_pay55 a q m (k1_pay47 v') (k1_pay48 q k' t') r k t)
    = aNew m (valSum v' (expScore (colMax (ownScore q k' t')) (ownScore q k' t'))) (nearScore a 1#32 q r k t) v := rfl
theorem n02_m : k1_pay59 a q m r k t = mNew m (nearScore a 2#32 q r k t) := rfl
theorem n02_l : k1_pay62 a q m l r k t = lNew m l (nearScore a 2#32 q r k t) := rfl
theorem n02_a : k1_pay63 acc (k1_pay58 v) (k1_pay60 a q m r k t) (k1_pay61 a q m r k t) = aNew m acc (nearScore a 2#32 q r k t) v := rfl
theorem n03_m : k1_pay66 a q m r k t = mNew m (nearScore a 3#32 q r k t) := rfl
theorem n03_a : k1_pay71 acc (k1_pay65 v) (k1_pay67 a q m r k t) (k1_pay68 a q m r k t) = aNew m acc (nearScore a 3#32 q r k t) v := rfl
theorem n04_m : k1_pay74 a q m r k t = mNew m (nearScore a 4#32 q r k t) := rfl
theorem n04_l (m' l' : FVec F S1x256 .f32) (r' : Vec F S1x1x1x256 .f32) :
    k1_pay78 (k1_pay76 a q m r k t) (k1_pay77 a q m (k1_pay69 a q m' l' r' k' t') (k1_pay70 a q m' r' k' t') r k t)
      = lNew m (lNew m' l' (nearScore a 3#32 q r' k' t')) (nearScore a 4#32 q r k t) := rfl
theorem n04_a : k1_pay79 acc (k1_pay73 v) (k1_pay75 a q m r k t) (k1_pay76 a q m r k t) = aNew m acc (nearScore a 4#32 q r k t) v := rfl

theorem n11_m : k1_pay97 q m (Scalar.cmpi .sge a 1#32) r k t = mNew m (nearScore a 1#32 q r k t) := rfl
theorem n11_l : k1_pay100 q m l (Scalar.cmpi .sge a 1#32) r k t = lNew m l (nearScore a 1#32 q r k t) := rfl
theorem n11_a : k1_pay101 q m acc (Scalar.cmpi .sge a 1#32) r k t v = aNew m acc (nearScore a 1#32 q r k t) v := rfl
theorem n12_m : k1_pay103 a q m 2#32 r k t = mNew m (nearScore a 2#32 q r k t) := rfl
theorem n12_l : k1_pay106 a q m l 2#32 r k t = lNew m l (nearScore a 2#32 q r k t) := rfl
theorem n12_a : k1_pay107 a q m acc 2#32 r k t v = aNew m acc (nearScore a 2#32 q r k t) v := rfl
theorem n13_m : k1_pay109 a q m r k t = mNew m (nearScore a 3#32 q r k t) := rfl
theorem n13_l : k1_pay112 a q m l r k t = lNew m l (nearScore a 3#32 q r k t) := rfl
theorem n13_a : k1_pay113 a q m acc r k t v = aNew m acc (nearScore a 3#32 q r k t) v := rfl
theorem n14_m : k1_pay115 a q m r k t = mNew m (nearScore a 4#32 q r k t) := rfl
theorem n14_l : k1_pay118 a q m l r k t = lNew m l (nearScore a 4#32 q r k t) := rfl
theorem n14_a : k1_pay1 (k1_pay119 a q m acc r k t) (k1_pay120 a q m r k t v) = aNew m acc (nearScore a 4#32 q r k t) v := rfl

theorem out_eq (l1 : FVec F S1x256 .f32) (a1 : FVec F S64x256 .f32) : k1_pay12 l acc l1 a1 = outOf l acc l1 a1 := rfl

/-! One trip of the far loop. -/

theorem f0_m : k1_pay15 q m k r = mNew m (farScore q r k) := rfl
theorem f0_l : k1_pay18 q m l k r = lNew m l (farScore q r k) := rfl
theorem f0_a : k1_pay19 q m acc k r v = aNew m acc (farScore q r k) v := rfl
theorem f1_s : k1_pay20 q k r = farScore q r k := rfl
theorem f1_m : k1_pay2 m s = mNew m s := rfl
theorem f1_l : k1_pay5 m l s = lNew m l s := rfl
theorem f1_a : k1_pay6 m acc s v = aNew m acc s v := rfl

end Values

/-! ### The state after the near blocks, spelt out -/

section Near

variable (i : grid1.Coords) (h : Fin 2) (q : FVec F S128x256 .bf16) (x2 : Vec F S1x8192x128 .bf16)
  (x3 : Vec F S1x128x8192 .bf16) (x4 : Vec F S1x32x128 .f32) (x5 : Vec F S2x5x256x256 .f32)

theorem near_m : (nearSt i h q x2 x3 x4 x5 4).1 = (mNew (mNew (mNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (nearScore (BitVec.ofNat 32 (i 2).val) 3#32 q (maskRow (nearMask i q x4) ((i 2).val - 3)) (keyTile x2 ((i 2).val - 3)) (biasTile x5 h 3))) (nearScore (BitVec.ofNat 32 (i 2).val) 4#32 q (maskRow (nearMask i q x4) ((i 2).val - 4)) (keyTile x2 ((i 2).val - 4)) (biasTile x5 h 4))) := by
  simp only [nearSt, upd, ownSt, sNear, sOwn]
  rfl

theorem near_l : (nearSt i h q x2 x3 x4 x5 4).2.1 = (lNew (mNew (mNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (nearScore (BitVec.ofNat 32 (i 2).val) 3#32 q (maskRow (nearMask i q x4) ((i 2).val - 3)) (keyTile x2 ((i 2).val - 3)) (biasTile x5 h 3))) (lNew (mNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (lNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (lNew (colMax (ownScore q (keyTile x2 (i 2).val) (biasTile x5 h 0))) (colSum (expScore (colMax (ownScore q (keyTile x2 (i 2).val) (biasTile x5 h 0))) (ownScore q (keyTile x2 (i 2).val) (biasTile x5 h 0)))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (nearScore (BitVec.ofNat 32 (i 2).val) 3#32 q (maskRow (nearMask i q x4) ((i 2).val - 3)) (keyTile x2 ((i 2).val - 3)) (biasTile x5 h 3))) (nearScore (BitVec.ofNat 32 (i 2).val) 4#32 q (maskRow (nearMask i q x4) ((i 2).val - 4)) (keyTile x2 ((i 2).val - 4)) (biasTile x5 h 4))) := by
  simp only [nearSt, upd, ownSt, sNear, sOwn]
  rfl

theorem near_a : (nearSt i h q x2 x3 x4 x5 4).2.2 = (aNew (mNew (mNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (nearScore (BitVec.ofNat 32 (i 2).val) 3#32 q (maskRow (nearMask i q x4) ((i 2).val - 3)) (keyTile x2 ((i 2).val - 3)) (biasTile x5 h 3))) (aNew (mNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (nearScore (BitVec.ofNat 32 (i 2).val) 2#32 q (maskRow (nearMask i q x4) ((i 2).val - 2)) (keyTile x2 ((i 2).val - 2)) (biasTile x5 h 2))) (aNew (mNew (colMax (ownScore q (keyTile x2 (i 2).val) (biasTile x5 h 0))) (nearScore (BitVec.ofNat 32 (i 2).val) 1#32 q (maskRow (nearMask i q x4) ((i 2).val - 1)) (keyTile x2 ((i 2).val - 1)) (biasTile x5 h 1))) (aNew (colMax (ownScore q (keyTile x2 (i 2).val) (biasTile x5 h 0))) (valSum (valTile x3 h (i 2).val) (expScore (colMax (ownScore q (keyTile x2 (i 2).val) (biasTile x5 h 0))) (ownScore q (keyTile x2 (i 2).val) (biasTile x5 h 0)))) (nearScore (BitVec.ofNat 32 (i 2).val) 1#32 q (maskRow (nearMask i q x4) ((i 2).val - 1)) (keyTile x2 ((i 2).val - 1)) (biasTile x5 h 1)) (valTile x3 h ((i 2).val - 1))) (nearScore (BitVec.ofNat 32 (i 2).val) 2#32 q (maskRow (nearMask i q x4) ((i 2).val - 2)) (keyTile x2 ((i 2).val - 2)) (biasTile x5 h 2)) (valTile x3 h ((i 2).val - 2))) (nearScore (BitVec.ofNat 32 (i 2).val) 3#32 q (maskRow (nearMask i q x4) ((i 2).val - 3)) (keyTile x2 ((i 2).val - 3)) (biasTile x5 h 3)) (valTile x3 h ((i 2).val - 3))) (nearScore (BitVec.ofNat 32 (i 2).val) 4#32 q (maskRow (nearMask i q x4) ((i 2).val - 4)) (keyTile x2 ((i 2).val - 4)) (biasTile x5 h 4)) (valTile x3 h ((i 2).val - 4))) := by
  simp only [nearSt, upd, ownSt, sNear, sOwn]
  rfl

end Near

end Cert.KernelIdeal.Attn

end
-- ==== Proof.Attn.Far.lean ====
/-
  The loop over the far blocks: the state before trip `k` is the model's.
-/
module

public import proofs.«01_k».proof.Proof.Attn.Tiles
public import proofs.«01_k».proof.Proof.Attn.Offsets
public import proofs.«01_k».proof.Proof.Gen.KernelIdeal.Loops
public import Idealize.ShloMosaic.Lib.WholeRead
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx (ix1 ix2 ix3 ix4)

variable {F : FTy → Type} [FloatOps F]

/-- The two heads' states, as the loop carries them. -/
def pack (a b : St F) : FVec F S1x256 .f32 × FVec F S1x256 .f32 × FVec F S64x256 .f32 × FVec F S1x256 .f32 × FVec F S1x256 .f32 × FVec F S64x256 .f32 :=
  (a.1, a.2.1, a.2.2, b.1, b.2.1, b.2.2)

set_option maxHeartbeats 1000000 in
theorem trip_eq (𝒱 : Variants) (c : Dev nD) (bd : Option 𝒱.V) (i : grid1.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x32x128 .f32) (harg7 : arg7.IsWhole) (arg8 : Memref sig .tc .vmem S2x5x256x256 .f32) (harg8 : arg8.IsWhole) (arg9 : Memref sig .tc .vmem S1x256x128 .bf16) (harg9 : arg9.IsWhole) (arg10 : Memref sig .tc .vmem S2x2x32x256 .f32) (harg10 : arg10.IsWhole) (q0 q1 : FVec F S128x256 .bf16) (x2 : Vec F S1x8192x128 .bf16) (x3 : Vec F S1x128x8192 .bf16) (f : arg10.view.ty.Contents (Elt F))
    (w11 w10 w01 w00 : Vec F S1x1x32x256 .f32) (k : Fin (k1_t1_loop i).trips) (a b : St F) :
    tripR_k1_t1 (F := F) 𝒱 c bd i arg3 harg3 arg4 harg4 arg5 harg5 arg6 harg6 arg7 harg7 arg8 harg8 arg9 harg9 arg10 harg10 q0 q1 (harg5.unread x2) (harg6.unread x3)
      (arg10.view.writes (Elt F) f [⟨Rect.unit ![1, 1, 0, 0] S1x1x32x256.size inb_S2x2x32x256_S1x1x32x256_1_1_0_0, w11⟩,
        ⟨Rect.unit ![1, 0, 0, 0] S1x1x32x256.size inb_S2x2x32x256_S1x1x32x256_1_0_0_0, w10⟩,
        ⟨Rect.unit ![0, 1, 0, 0] S1x1x32x256.size inb_S2x2x32x256_S1x1x32x256_0_1_0_0, w01⟩,
        ⟨Rect.unit ![0, 0, 0, 0] S1x1x32x256.size inb_S2x2x32x256_S1x1x32x256_0_0_0_0, w00⟩]) k (pack a b)
      = pack (upd a (farScore q0 (maskRow w00 k.val) (keyTile x2 k.val)) (valTile x3 0 k.val))
          (upd b (farScore q1 (maskRow w10 k.val) (keyTile x2 k.val)) (valTile x3 1 k.val)) := by
  have hk := trip_lt i k
  unfold tripR_k1_t1 trip_k1_t1
  dsimp only [pack]
  simp only [trip_k1_t1.sl.r, trip_k1_t1.sl.r_1, trip_k1_t1.sl.r_2, trip_k1_t1.sl.r_3]
  simp only [f0_m, f0_l, f0_a, f1_s, f1_m, f1_l, f1_a]
  rw [read_key _ _ _ _ _ k.val hk (off10_eq i k), read_val _ _ _ _ _ 0 k.val hk (off12_eq i k),
    read_val _ _ _ _ _ 1 k.val hk (off14_eq i k)]
  rw [read_row_skip _ _ _ _ _ _ _ _ 1 0 1 1 k.val (off13_eq i k) rfl (by decide), read_row _ _ _ _ _ _ _ _ 1 0 k.val hk (off13_eq i k) rfl,
    read_row_skip _ _ _ _ _ _ _ _ 0 0 1 1 k.val (off11_eq i k) rfl (by decide), read_row_skip _ _ _ _ _ _ _ _ 0 0 1 0 k.val (off11_eq i k) rfl (by decide),
    read_row_skip _ _ _ _ _ _ _ _ 0 0 0 1 k.val (off11_eq i k) rfl (by decide), read_row _ _ _ _ _ _ _ _ 0 0 k.val hk (off11_eq i k) rfl]
  rfl

/-- The state before trip `k`, from the two heads' states before the loop. -/
def farIter (q0 q1 : FVec F S128x256 .bf16) (x2 : Vec F S1x8192x128 .bf16) (x3 : Vec F S1x128x8192 .bf16) (w10 w00 : Vec F S1x1x32x256 .f32)
    (a b : St F) : ℕ → St F × St F
  | 0 => (a, b)
  | k + 1 => (upd (farIter q0 q1 x2 x3 w10 w00 a b k).1 (farScore q0 (maskRow w00 k) (keyTile x2 k)) (valTile x3 0 k),
      upd (farIter q0 q1 x2 x3 w10 w00 a b k).2 (farScore q1 (maskRow w10 k) (keyTile x2 k)) (valTile x3 1 k))

theorem st_eq (𝒱 : Variants) (c : Dev nD) (bd : Option 𝒱.V) (i : grid1.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x32x128 .f32) (harg7 : arg7.IsWhole) (arg8 : Memref sig .tc .vmem S2x5x256x256 .f32) (harg8 : arg8.IsWhole) (arg9 : Memref sig .tc .vmem S1x256x128 .bf16) (harg9 : arg9.IsWhole) (arg10 : Memref sig .tc .vmem S2x2x32x256 .f32) (harg10 : arg10.IsWhole) (q0 q1 : FVec F S128x256 .bf16) (x2 : Vec F S1x8192x128 .bf16) (x3 : Vec F S1x128x8192 .bf16) (f : arg10.view.ty.Contents (Elt F))
    (w11 w10 w01 w00 : Vec F S1x1x32x256 .f32) (a b : St F) (k : ℕ) (hk : k ≤ (k1_t1_loop i).trips) :
    st_k1_t1 (F := F) 𝒱 c bd i arg3 harg3 arg4 harg4 arg5 harg5 arg6 harg6 arg7 harg7 arg8 harg8 arg9 harg9 arg10 harg10 q0 q1 (harg5.unread x2) (harg6.unread x3)
      (arg10.view.writes (Elt F) f [⟨Rect.unit ![1, 1, 0, 0] S1x1x32x256.size inb_S2x2x32x256_S1x1x32x256_1_1_0_0, w11⟩,
        ⟨Rect.unit ![1, 0, 0, 0] S1x1x32x256.size inb_S2x2x32x256_S1x1x32x256_1_0_0_0, w10⟩,
        ⟨Rect.unit ![0, 1, 0, 0] S1x1x32x256.size inb_S2x2x32x256_S1x1x32x256_0_1_0_0, w01⟩,
        ⟨Rect.unit ![0, 0, 0, 0] S1x1x32x256.size inb_S2x2x32x256_S1x1x32x256_0_0_0_0, w00⟩]) (pack a b) k
      = pack (farIter q0 q1 x2 x3 w10 w00 a b k).1 (farIter q0 q1 x2 x3 w10 w00 a b k).2 := by
  induction k with
  | zero => rfl
  | succ k ih => exact (st_k1_t1_succ (F := F) 𝒱 c bd i arg3 harg3 arg4 harg4 arg5 harg5 arg6 harg6 arg7 harg7 arg8 harg8 arg9 harg9 arg10 harg10 q0 q1 _ _ _ _ ⟨k, hk⟩).trans ((congrArg _ (ih (Nat.le_of_succ_le hk))).trans (trip_eq 𝒱 c bd i arg3 harg3 arg4 harg4 arg5 harg5 arg6 harg6 arg7 harg7 arg8 harg8 arg9 harg9 arg10 harg10 q0 q1 x2 x3 f w11 w10 w01 w00 ⟨k, hk⟩ _ _))

/-- The loop's two states are the model's. -/
theorem farIter_eq (i : grid1.Coords) (q0 q1 : FVec F S128x256 .bf16) (x0 : Vec F S16 .f32) (x2 : Vec F S1x8192x128 .bf16)
    (x3 : Vec F S1x128x8192 .bf16) (x4 : Vec F S1x32x128 .f32) (x5 : Vec F S2x5x256x256 .f32) (k : ℕ) :
    farIter q0 q1 x2 x3 (farMask i 1 q1 x0 x4) (farMask i 0 q0 x0 x4) (nearSt i 0 q0 x2 x3 x4 x5 4) (nearSt i 1 q1 x2 x3 x4 x5 4) k
      = (farSt i 0 q0 x0 x2 x3 x4 x5 k, farSt i 1 q1 x0 x2 x3 x4 x5 k) := by
  induction k with
  | zero => rfl
  | succ k ih => rw [farIter, ih]; rfl

end Cert.KernelIdeal.Attn

end
-- ==== Proof.Attn.Run.lean ====
/-
  The attention body at one grid point, run once at a symbolic point.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Attn.Far
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The attention body on whole buffers: its inputs are as they were, its output's buffer holds the model's
block, and the scratch buffer holds something. -/
theorem bodyRun (c : Dev nD) (i : grid1.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x32x128 .f32) (harg7 : arg7.IsWhole) (arg8 : Memref sig .tc .vmem S2x5x256x256 .f32) (harg8 : arg8.IsWhole) (arg9 : Memref sig .tc .vmem S1x256x128 .bf16) (harg9 : arg9.IsWhole) (arg10 : Memref sig .tc .vmem S2x2x32x256 .f32) (harg10 : arg10.IsWhole)
    (x0 : Vec F S16 .f32) (x1 : Vec F S1x256x128 .bf16) (x2 : Vec F S1x8192x128 .bf16) (x3 : Vec F S1x128x8192 .bf16) (x4 : Vec F S1x32x128 .f32) (x5 : Vec F S2x5x256x256 .f32)
      (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (attnModel i x0 x1 x2 x3 x4 x5) ∗ (∃ d, owns (c : Thread nD τ) arg10 fullShare d)) -∗ K ⟨⟩))
          ⊢ wp frame (wpE (defs₀ (F := F)) Variants.none c none) E (cc1_moba_attention i arg3 harg3 arg4 harg4 arg5 harg5 arg6 harg6 arg7 harg7 arg8 harg8 arg9 harg9 arg10 harg10) K := by
    simp only [cc1_moba_attention_eq_skeleton]; unfold cc1_moba_attention_skel
    simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexact H6
      ipureintro
      refine (View.read_writes_full arg9.view f6 _ _ []).trans ?_
      have hi : (i 2).val < 32 := (i 2).isLt
      have rq := fun inb => read_all3 arg4 harg4 x1 ![0, 0, 0] inb
      have rm := fun inb => read_all3 arg7 harg7 x4 ![0, 0, 0] inb
      have rf0 := fun inb y => read_far arg3 harg3 x0 i (k1_off1 i 0#32) inb 0 (off1_eq i 0) y
      have rf1 := fun inb y => read_far arg3 harg3 x0 i (k1_off1 i 1#32) inb 1 (off1_eq i 1) y
      have rk := fun inb => read_key arg5 harg5 x2 (k1_off2 i) inb _ hi (off2_eq i)
      have rv0 := fun inb => read_val arg6 harg6 x3 (k1_off3 i) inb 0 _ hi (off3_eq i)
      have rv1 := fun inb => read_val arg6 harg6 x3 (k1_off7 i) inb 1 _ hi (off7_eq i)
      have rb00 := fun inb => read_bias arg8 harg8 x5 ![0, 0, 0, 0] inb 0 0 rfl
      have rb01 := fun inb => read_bias arg8 harg8 x5 ![0, 1, 0, 0] inb 0 1 rfl
      have rb02 := fun inb => read_bias arg8 harg8 x5 ![0, 2, 0, 0] inb 0 2 rfl
      have rb03 := fun inb => read_bias arg8 harg8 x5 ![0, 3, 0, 0] inb 0 3 rfl
      have rb04 := fun inb => read_bias arg8 harg8 x5 ![0, 4, 0, 0] inb 0 4 rfl
      have rb10 := fun inb => read_bias arg8 harg8 x5 ![1, 0, 0, 0] inb 1 0 rfl
      have rb11 := fun inb => read_bias arg8 harg8 x5 ![1, 1, 0, 0] inb 1 1 rfl
      have rb12 := fun inb => read_bias arg8 harg8 x5 ![1, 2, 0, 0] inb 1 2 rfl
      have rb13 := fun inb => read_bias arg8 harg8 x5 ![1, 3, 0, 0] inb 1 3 rfl
      have rb14 := fun inb => read_bias arg8 harg8 x5 ![1, 4, 0, 0] inb 1 4 rfl
      have rk1 := fun inb => read_key arg5 harg5 x2 (k1_off5 i 1#32) inb ((i 2).val - 1) (by omega) (off5_eq i 0)
      have rv01 := fun inb => read_val arg6 harg6 x3 (k1_off6 i 1#32) inb 0 ((i 2).val - 1) (by omega) (off6_eq i 0)
      have rv11 := fun inb => read_val arg6 harg6 x3 (k1_off9 i 1#32) inb 1 ((i 2).val - 1) (by omega) (off9_eq i 0)
      have rr01 := fun inb inbp w L => read_row (F := F) arg10.view fs0 (k1_off4 i 1#32) ![0, 1, 0, 0] inb inbp w L 0 1 ((i 2).val - 1) (by omega) (off4_eq i 0) rfl
      have rr11 := fun inb inbp w L => read_row (F := F) arg10.view arg10.view.junk (k1_off8 i 1#32) ![1, 1, 0, 0] inb inbp w L 1 1 ((i 2).val - 1) (by omega) (off8_eq i 0) rfl
      have rk2 := fun inb => read_key arg5 harg5 x2 (k1_off5 i 2#32) inb ((i 2).val - 2) (by omega) (off5_eq i 1)
      have rv02 := fun inb => read_val arg6 harg6 x3 (k1_off6 i 2#32) inb 0 ((i 2).val - 2) (by omega) (off6_eq i 1)
      have rv12 := fun inb => read_val arg6 harg6 x3 (k1_off9 i 2#32) inb 1 ((i 2).val - 2) (by omega) (off9_eq i 1)
      have rr02 := fun inb inbp w L => read_row (F := F) arg10.view fs0 (k1_off4 i 2#32) ![0, 1, 0, 0] inb inbp w L 0 1 ((i 2).val - 2) (by omega) (off4_eq i 1) rfl
      have rr12 := fun inb inbp w L => read_row (F := F) arg10.view arg10.view.junk (k1_off8 i 2#32) ![1, 1, 0, 0] inb inbp w L 1 1 ((i 2).val - 2) (by omega) (off8_eq i 1) rfl
      have rk3 := fun inb => read_key arg5 harg5 x2 (k1_off5 i 3#32) inb ((i 2).val - 3) (by omega) (off5_eq i 2)
      have rv03 := fun inb => read_val arg6 harg6 x3 (k1_off6 i 3#32) inb 0 ((i 2).val - 3) (by omega) (off6_eq i 2)
      have rv13 := fun inb => read_val arg6 harg6 x3 (k1_off9 i 3#32) inb 1 ((i 2).val - 3) (by omega) (off9_eq i 2)
      have rr03 := fun inb inbp w L => read_row (F := F) arg10.view fs0 (k1_off4 i 3#32) ![0, 1, 0, 0] inb inbp w L 0 1 ((i 2).val - 3) (by omega) (off4_eq i 2) rfl
      have rr13 := fun inb inbp w L => read_row (F := F) arg10.view arg10.view.junk (k1_off8 i 3#32) ![1, 1, 0, 0] inb inbp w L 1 1 ((i 2).val - 3) (by omega) (off8_eq i 2) rfl
      have rk4 := fun inb => read_key arg5 harg5 x2 (k1_off5 i 4#32) inb ((i 2).val - 4) (by omega) (off5_eq i 3)
      have rv04 := fun inb => read_val arg6 harg6 x3 (k1_off6 i 4#32) inb 0 ((i 2).val - 4) (by omega) (off6_eq i 3)
      have rv14 := fun inb => read_val arg6 harg6 x3 (k1_off9 i 4#32) inb 1 ((i 2).val - 4) (by omega) (off9_eq i 3)
      have rr04 := fun inb inbp w L => read_row (F := F) arg10.view fs0 (k1_off4 i 4#32) ![0, 1, 0, 0] inb inbp w L 0 1 ((i 2).val - 4) (by omega) (off4_eq i 3) rfl
      have rr14 := fun inb inbp w L => read_row (F := F) arg10.view arg10.view.junk (k1_off8 i 4#32) ![1, 1, 0, 0] inb inbp w L 1 1 ((i 2).val - 4) (by omega) (off8_eq i 3) rfl
      have z0 : Scf.trips (k1_t2_loop i).lb (k1_t2_loop i).ub (k1_t2_loop i).st = 0 := rest_trips i
      have z1 : Scf.trips (k1_t1_loop i).lb (k1_t1_loop i).ub (k1_t1_loop i).st = (i 2).val - 4 := far_trips i
      have q0 : bodyRun.sl.r_2 c arg4 harg4 x1 = (qHead 0#32 64#32 x1) := by
        delta bodyRun.sl.r_2; simp only [rq, q0_eq]
      have q1 : bodyRun.sl.r_40 c arg4 harg4 x1 = (qHead 64#32 128#32 x1) := by
        delta bodyRun.sl.r bodyRun.sl.r_1 bodyRun.sl.r_40 bodyRun.sl.r_41 bodyRun.sl.r_42 bodyRun.sl.r_43 bodyRun.sl.r_44 bodyRun.sl.r_45 bodyRun.sl.r_46 bodyRun.sl.v4 bodyRun.sl.v5 bodyRun.sl.cst_141; simp only [rq]; exact q1_eq x1
      have f0 : k1_pay41 (bodyRun.sl.r_8 c i arg4 harg4 arg7 harg7 x1 x4) (bodyRun.sl.r_9 c i arg3 harg3 x0) k1_pay40 = (farMask i 0 (qHead 0#32 64#32 x1) x0 x4) := by
        delta bodyRun.sl.r bodyRun.sl.r_1 bodyRun.sl.r_2 bodyRun.sl.r_3 bodyRun.sl.r_4 bodyRun.sl.r_5 bodyRun.sl.r_6 bodyRun.sl.r_7 bodyRun.sl.r_8 bodyRun.sl.r_9; simp only [rq, rm, rf0, mask0_far]; rfl
      have g0 : k1_pay42 (bodyRun.sl.r_7 c i arg4 harg4 arg7 harg7 x1 x4) = (nearMask i (qHead 0#32 64#32 x1) x4) := by
        delta bodyRun.sl.r bodyRun.sl.r_1 bodyRun.sl.r_2 bodyRun.sl.r_3 bodyRun.sl.r_4 bodyRun.sl.r_5 bodyRun.sl.r_6 bodyRun.sl.r_7 bodyRun.sl.r_8 bodyRun.sl.r_9; simp only [rq, rm, chosen0_eq, mask0_near]; rfl
      have H2 : bodyRun.sl.HS0_2 c i arg3 harg3 arg4 harg4 arg7 harg7 x0 x1 x4 = [⟨Rect.unit ![0, 1, 0, 0] S1x1x32x256.size inb_S2x2x32x256_S1x1x32x256_0_1_0_0, (nearMask i (qHead 0#32 64#32 x1) x4)⟩, ⟨Rect.unit ![0, 0, 0, 0] S1x1x32x256.size inb_S2x2x32x256_S1x1x32x256_0_0_0_0, (farMask i 0 (qHead 0#32 64#32 x1) x0 x4)⟩] := by
        delta bodyRun.sl.HS0_2; rw [f0, g0]
      have H4 : bodyRun.sl.HS0_4 c i arg3 harg3 arg4 harg4 arg7 harg7 x0 x1 x4 = [⟨Rect.unit ![1, 1, 0, 0] S1x1x32x256.size inb_S2x2x32x256_S1x1x32x256_1_1_0_0, (nearMask i (qHead 64#32 128#32 x1) x4)⟩, ⟨Rect.unit ![1, 0, 0, 0] S1x1x32x256.size inb_S2x2x32x256_S1x1x32x256_1_0_0_0, (farMask i 1 (qHead 64#32 128#32 x1) x0 x4)⟩, ⟨Rect.unit ![0, 1, 0, 0] S1x1x32x256.size inb_S2x2x32x256_S1x1x32x256_0_1_0_0, (nearMask i (qHead 0#32 64#32 x1) x4)⟩, ⟨Rect.unit ![0, 0, 0, 0] S1x1x32x256.size inb_S2x2x32x256_S1x1x32x256_0_0_0_0, (farMask i 0 (qHead 0#32 64#32 x1) x0 x4)⟩] := by
        delta bodyRun.sl.HS0_4 bodyRun.sl.r bodyRun.sl.r_1 bodyRun.sl.r_40 bodyRun.sl.r_41 bodyRun.sl.r_42 bodyRun.sl.r_43 bodyRun.sl.r_44 bodyRun.sl.r_45 bodyRun.sl.r_46 bodyRun.sl.v4 bodyRun.sl.v5 bodyRun.sl.cst_141; simp only [H2, rq, rm, rf1, chosen1_eq, mask1_far, mask1_near]; rfl
      have a0 : bodyRun.sl.r_34 c i arg3 harg3 arg4 harg4 arg5 harg5 arg7 harg7 arg8 harg8 arg10 x0 x1 x2 x4 x5 fs0 = (nearSt i 0 (qHead 0#32 64#32 x1) x2 x3 x4 x5 4).1 := by
        delta bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28 bodyRun.sl.r_29 bodyRun.sl.r_30 bodyRun.sl.r_31 bodyRun.sl.r_32 bodyRun.sl.r_33 bodyRun.sl.r_34 bodyRun.sl.r_35 bodyRun.sl.r_36 bodyRun.sl.r_37 bodyRun.sl.r_38 bodyRun.sl.r_39; simp only [H2, q0, rb00, rb01, rb02, rb03, rb04, rk1, rk2, rk3, rk4, rk, rv0, rv01, rv02, rv03, rv04, rr01, rr02, rr03, rr04, q0_eq, chosen0_eq, mask0_far, mask0_near, own0_m, own0_l, n01_m, n01_l, n01_a, n02_m, n02_l, n02_a, n03_m, n03_a, n04_m, n04_l, n04_a]; exact (near_m i 0 (qHead 0#32 64#32 x1) x2 x3 x4 x5).symm
      have a1 : bodyRun.sl.r_38 c i arg3 harg3 arg4 harg4 arg5 harg5 arg7 harg7 arg8 harg8 arg10 x0 x1 x2 x4 x5 fs0 = (nearSt i 0 (qHead 0#32 64#32 x1) x2 x3 x4 x5 4).2.1 := by
        delta bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28 bodyRun.sl.r_29 bodyRun.sl.r_30 bodyRun.sl.r_31 bodyRun.sl.r_32 bodyRun.sl.r_33 bodyRun.sl.r_34 bodyRun.sl.r_35 bodyRun.sl.r_36 bodyRun.sl.r_37 bodyRun.sl.r_38 bodyRun.sl.r_39; simp only [H2, q0, rb00, rb01, rb02, rb03, rb04, rk1, rk2, rk3, rk4, rk, rv0, rv01, rv02, rv03, rv04, rr01, rr02, rr03, rr04, q0_eq, chosen0_eq, mask0_far, mask0_near, own0_m, own0_l, n01_m, n01_l, n01_a, n02_m, n02_l, n02_a, n03_m, n03_a, n04_m, n04_l, n04_a]; exact (near_l i 0 (qHead 0#32 64#32 x1) x2 x3 x4 x5).symm
      have a2 : bodyRun.sl.r_39 c i arg3 harg3 arg4 harg4 arg5 harg5 arg6 harg6 arg7 harg7 arg8 harg8 arg10 x0 x1 x2 x3 x4 x5 fs0 = (nearSt i 0 (qHead 0#32 64#32 x1) x2 x3 x4 x5 4).2.2 := by
        delta bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28 bodyRun.sl.r_29 bodyRun.sl.r_30 bodyRun.sl.r_31 bodyRun.sl.r_32 bodyRun.sl.r_33 bodyRun.sl.r_34 bodyRun.sl.r_35 bodyRun.sl.r_36 bodyRun.sl.r_37 bodyRun.sl.r_38 bodyRun.sl.r_39; simp only [H2, q0, rb00, rb01, rb02, rb03, rb04, rk1, rk2, rk3, rk4, rk, rv0, rv01, rv02, rv03, rv04, rr01, rr02, rr03, rr04, q0_eq, chosen0_eq, mask0_far, mask0_near, own0_m, own0_l, n01_m, n01_l, n01_a, n02_m, n02_l, n02_a, n03_m, n03_a, n04_m, n04_l, n04_a]; exact (near_a i 0 (qHead 0#32 64#32 x1) x2 x3 x4 x5).symm
      have b0 : bodyRun.sl.r_59 c i arg3 harg3 arg4 harg4 arg5 harg5 arg7 harg7 arg8 harg8 arg10 x0 x1 x2 x4 x5 = (nearSt i 1 (qHead 64#32 128#32 x1) x2 x3 x4 x5 4).1 := by
        delta bodyRun.sl.r_47 bodyRun.sl.r_48 bodyRun.sl.r_49 bodyRun.sl.r_50 bodyRun.sl.r_51 bodyRun.sl.r_52 bodyRun.sl.r_53 bodyRun.sl.r_54 bodyRun.sl.r_55 bodyRun.sl.r_56 bodyRun.sl.r_57 bodyRun.sl.r_58 bodyRun.sl.r_59 bodyRun.sl.r_60 bodyRun.sl.r_61 bodyRun.sl.r_62 bodyRun.sl.v392 bodyRun.sl.v393 bodyRun.sl.v394 bodyRun.sl.v396 bodyRun.sl.v433 bodyRun.sl.v434 bodyRun.sl.v437 bodyRun.sl.v474 bodyRun.sl.v478 bodyRun.sl.v519; simp only [H4, q1, rb10, rb11, rb12, rb13, rb14, rk1, rk2, rk3, rk4, rk, rv1, rv11, rv12, rv13, rv14, rr11, rr12, rr13, rr14, q1_eq, chosen1_eq, mask1_far, mask1_near, own1_m, own1_l, own1_a, n11_m, n11_l, n11_a, n12_m, n12_l, n12_a, n13_m, n13_l, n13_a, n14_m, n14_l, n14_a]; exact (near_m i 1 (qHead 64#32 128#32 x1) x2 x3 x4 x5).symm
      have b1 : bodyRun.sl.r_60 c i arg3 harg3 arg4 harg4 arg5 harg5 arg7 harg7 arg8 harg8 arg10 x0 x1 x2 x4 x5 = (nearSt i 1 (qHead 64#32 128#32 x1) x2 x3 x4 x5 4).2.1 := by
        delta bodyRun.sl.r_47 bodyRun.sl.r_48 bodyRun.sl.r_49 bodyRun.sl.r_50 bodyRun.sl.r_51 bodyRun.sl.r_52 bodyRun.sl.r_53 bodyRun.sl.r_54 bodyRun.sl.r_55 bodyRun.sl.r_56 bodyRun.sl.r_57 bodyRun.sl.r_58 bodyRun.sl.r_59 bodyRun.sl.r_60 bodyRun.sl.r_61 bodyRun.sl.r_62 bodyRun.sl.v392 bodyRun.sl.v393 bodyRun.sl.v394 bodyRun.sl.v396 bodyRun.sl.v433 bodyRun.sl.v434 bodyRun.sl.v437 bodyRun.sl.v474 bodyRun.sl.v478 bodyRun.sl.v519; simp only [H4, q1, rb10, rb11, rb12, rb13, rb14, rk1, rk2, rk3, rk4, rk, rv1, rv11, rv12, rv13, rv14, rr11, rr12, rr13, rr14, q1_eq, chosen1_eq, mask1_far, mask1_near, own1_m, own1_l, own1_a, n11_m, n11_l, n11_a, n12_m, n12_l, n12_a, n13_m, n13_l, n13_a, n14_m, n14_l, n14_a]; exact (near_l i 1 (qHead 64#32 128#32 x1) x2 x3 x4 x5).symm
      have b2 : k1_pay1 (bodyRun.sl.r_61 c i arg3 harg3 arg4 harg4 arg5 harg5 arg6 harg6 arg7 harg7 arg8 harg8 arg10 x0 x1 x2 x3 x4 x5) (bodyRun.sl.r_62 c i arg3 harg3 arg4 harg4 arg5 harg5 arg6 harg6 arg7 harg7 arg8 harg8 arg10 x0 x1 x2 x3 x4 x5) = (nearSt i 1 (qHead 64#32 128#32 x1) x2 x3 x4 x5 4).2.2 := by
        delta bodyRun.sl.r_47 bodyRun.sl.r_48 bodyRun.sl.r_49 bodyRun.sl.r_50 bodyRun.sl.r_51 bodyRun.sl.r_52 bodyRun.sl.r_53 bodyRun.sl.r_54 bodyRun.sl.r_55 bodyRun.sl.r_56 bodyRun.sl.r_57 bodyRun.sl.r_58 bodyRun.sl.r_59 bodyRun.sl.r_60 bodyRun.sl.r_61 bodyRun.sl.r_62 bodyRun.sl.v392 bodyRun.sl.v393 bodyRun.sl.v394 bodyRun.sl.v396 bodyRun.sl.v433 bodyRun.sl.v434 bodyRun.sl.v437 bodyRun.sl.v474 bodyRun.sl.v478 bodyRun.sl.v519; simp only [H4, q1, rb10, rb11, rb12, rb13, rb14, rk1, rk2, rk3, rk4, rk, rv1, rv11, rv12, rv13, rv14, rr11, rr12, rr13, rr14, q1_eq, chosen1_eq, mask1_far, mask1_near, own1_m, own1_l, own1_a, n11_m, n11_l, n11_a, n12_m, n12_l, n12_a, n13_m, n13_l, n13_a, n14_m, n14_l, n14_a]; exact (near_a i 1 (qHead 64#32 128#32 x1) x2 x3 x4 x5).symm
      rw [z0, z1, a0, a1, a2, b0, b1, b2, H4, q0, q1]
      have hst := st_eq (F := F) Variants.none c none i arg3 harg3 arg4 harg4 arg5 harg5 arg6 harg6 arg7 harg7 arg8 harg8 arg9 harg9 arg10 harg10
        (qHead 0#32 64#32 x1) (qHead 64#32 128#32 x1) x2 x3 arg10.view.junk (nearMask i (qHead 64#32 128#32 x1) x4) (farMask i 1 (qHead 64#32 128#32 x1) x0 x4) (nearMask i (qHead 0#32 64#32 x1) x4) (farMask i 0 (qHead 0#32 64#32 x1) x0 x4) (nearSt i 0 (qHead 0#32 64#32 x1) x2 x3 x4 x5 4) (nearSt i 1 (qHead 64#32 128#32 x1) x2 x3 x4 x5 4) ((i 2).val - 4) (far_trips i).ge
      unfold pack at hst
      rw [hst]
      rw [farIter_eq]
      rfl
    iexists _, _; isplitr; swap
    · iexact HS0
    ipureintro; exact rfl

end Cert.KernelIdeal.Attn

end
-- ==== Proof.Attn.Launch.lean ====
/-
  The two regions of @main launched: every run ends, and what each unscoped buffer then holds.
-/
module

public import proofs.«01_k».proof.Proof.Attn.BiasRun
public import proofs.«01_k».proof.Proof.Attn.Run
public import proofs.«01_k».proof.Proof.Gen.KernelIdeal.Launch
public import proofs.«01_k».proof.Proof.Gen.KernelIdeal.Regions
public import Idealize.ShloMosaic.Lib.Pipeline.FrameTail
public import Idealize.ShloMosaic.Lib.Pipeline.RegionsLoop
public import Idealize.ShloMosaic.Lib.Pipeline.RegionArraysS
public import proofs.«01_k».proof.Proof.Gen.KernelIdeal.Skeleton
public import proofs.«01_k».proof.Proof.Gen.KernelIdeal.Loops
public import proofs.«01_k».proof.Proof.Gen.KernelIdeal.Points
public import Idealize.ShloMosaic.Lib.ValueIdx
public import Idealize.ShloMosaic.Lib.ValueLayout
public import Idealize.ShloMosaic.Lib.WholeRead
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region: the bias tiles -/

/-- The buffers at launch. -/
abbrev W0 (c : Dev nD) : Valuation τ sig (Elt F) := StableHlo.launchContents m c

/-- Window `w`'s block at point `t` of the first region. -/
abbrev blk0 (c : Dev nD) (w : Fin cfg0.W) (t : Fin cfg0.N) :=
  ((cfg0.win w).blk t).view.read (Elt F) (W0 m c (Proc.devRef .tc (Pipeline.arrRef spec0 w)))

/-- What each point of the first region leaves: the table as fetched, and the head's five tiles. -/
def dat0 (c : Dev nD) : Dat τ (Elt F) Unit ℕ (UR sig nD τ) ℕ cfg0 c where
  A w := W0 m c (Proc.devRef .tc (Pipeline.arrRef spec0 w))
  after w t := match w with
    | ⟨0, _⟩ => blk0 m c 0 t
    | ⟨1, _⟩ => biasModel (grid0.coords t) (blk0 m c 0 t)
  Φ _ := Pipeline.ΦA spec0 c
  q _ := fullShare
  owed _ := 0

theorem dat0_A (c : Dev nD) (w : Fin cfg0.W) : (dat0 m c).A w = W0 m c (Proc.devRef .tc (Pipeline.arrRef spec0 w)) := by
  dsimp only [dat0]
theorem dat0_after0 (c : Dev nD) (t : Fin cfg0.N) : (dat0 m c).after 0 t = blk0 m c 0 t := by dsimp only [dat0]
theorem dat0_after1 (c : Dev nD) (t : Fin cfg0.N) : (dat0 m c).after 1 t = biasModel (grid0.coords t) (blk0 m c 0 t) := by
  dsimp only [dat0]
theorem dat0_before0 (c : Dev nD) (t : Fin cfg0.N) (d) : (dat0 m c).before 0 t d = blk0 m c 0 t :=
  ((dat0 m c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

def pre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d)))
def post0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t))

theorem body0 (c : Dev nD) (t : Fin cfg0.N) :
    pre0 m c t ⊢ wp frame (wpE (defs₀ (F := F)) Variants.none c none) Set.univ (bodyAt0 t) (fun _ => post0 m c t) := by
  unfold pre0 post0 bodyAt0
  simp only [dat0_before0]
  rw [show (dat0 m c).Φ t.succ = (dat0 m c).Φ t.castSucc from rfl,
    show (dat0 m c).owesAt () t.succ = (dat0 m c).owesAt () t.castSucc from rfl, dat0_after0, dat0_after1]
  iintro ⟨HΦ, Ho, ⟨%d0, H0⟩, ⟨%d1, H1⟩⟩
  iapply (biasRun c (grid0.coords t) _ _ _ _ (blk0 m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) m c) (defs₀ (F := F)) Variants.none () Set.univ := fun t => by
  rw [bigSep_W0, bigSep_W0, row0]
  exact triple_restated (body0 m c t) rfl .rfl fun _ => .rfl

/-! ## Between the regions -/

/-- The buffers after the first region, and after the host operations that follow it. -/
def W1 (c : Dev nD) : Valuation τ sig (Elt F) := Pipeline.afterRegion (dat0 m c) (W0 m c)
def W2 (c : Dev nD) : Valuation τ sig (Elt F) := StableHlo.after hostOps1 (W1 m c)

/-! ## The second region: the attention -/

/-- Window `w`'s block at point `t` of the second region. -/
abbrev blk1 (c : Dev nD) (w : Fin cfg1.W) (t : Fin cfg1.N) :=
  ((cfg1.win w).blk t).view.read (Elt F) (W2 m c (Proc.devRef .tc (Pipeline.arrRef spec1 w)))

/-- What each point of the second region leaves: its inputs as fetched, and the model's block. -/
def dat1 (c : Dev nD) : Dat τ (Elt F) Unit ℕ (UR sig nD τ) ℕ cfg1 c where
  A w := W2 m c (Proc.devRef .tc (Pipeline.arrRef spec1 w))
  after w t := match w with
    | ⟨0, _⟩ => blk1 m c 0 t
    | ⟨1, _⟩ => blk1 m c 1 t
    | ⟨2, _⟩ => blk1 m c 2 t
    | ⟨3, _⟩ => blk1 m c 3 t
    | ⟨4, _⟩ => blk1 m c 4 t
    | ⟨5, _⟩ => blk1 m c 5 t
    | ⟨6, _⟩ => attnModel (grid1.coords t) (blk1 m c 0 t) (blk1 m c 1 t) (blk1 m c 2 t) (blk1 m c 3 t) (blk1 m c 4 t) (blk1 m c 5 t)
  Φ _ := Pipeline.ΦA spec1 c
  q _ := fullShare
  owed _ := 0

theorem dat1_A (c : Dev nD) (w : Fin cfg1.W) : (dat1 m c).A w = W2 m c (Proc.devRef .tc (Pipeline.arrRef spec1 w)) := by
  dsimp only [dat1]
theorem dat1_after0 (c : Dev nD) (t : Fin cfg1.N) : (dat1 m c).after 0 t = blk1 m c 0 t := by dsimp only [dat1]
theorem dat1_after1 (c : Dev nD) (t : Fin cfg1.N) : (dat1 m c).after 1 t = blk1 m c 1 t := by dsimp only [dat1]
theorem dat1_after2 (c : Dev nD) (t : Fin cfg1.N) : (dat1 m c).after 2 t = blk1 m c 2 t := by dsimp only [dat1]
theorem dat1_after3 (c : Dev nD) (t : Fin cfg1.N) : (dat1 m c).after 3 t = blk1 m c 3 t := by dsimp only [dat1]
theorem dat1_after4 (c : Dev nD) (t : Fin cfg1.N) : (dat1 m c).after 4 t = blk1 m c 4 t := by dsimp only [dat1]
theorem dat1_after5 (c : Dev nD) (t : Fin cfg1.N) : (dat1 m c).after 5 t = blk1 m c 5 t := by dsimp only [dat1]
theorem dat1_after6 (c : Dev nD) (t : Fin cfg1.N) : (dat1 m c).after 6 t = attnModel (grid1.coords t) (blk1 m c 0 t) (blk1 m c 1 t) (blk1 m c 2 t) (blk1 m c 3 t) (blk1 m c 4 t) (blk1 m c 5 t) := by
  dsimp only [dat1]
theorem dat1_before0 (c : Dev nD) (t : Fin cfg1.N) (d) : (dat1 m c).before 0 t d = blk1 m c 0 t :=
  ((dat1 m c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 m c).before 1 t d = blk1 m c 1 t :=
  ((dat1 m c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 m c).before 2 t d = blk1 m c 2 t :=
  ((dat1 m c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 m c).before 3 t d = blk1 m c 3 t :=
  ((dat1 m c).before_in_eq_fetched 3 rfl (fun _ => rfl) (fun _ _ _ => rfl)
      (fun t => by rw [dat1_after3]; unfold Dat.blockOf blk1; rw [dat1_A]; try rfl) t d).trans
    (by unfold Dat.fetched Dat.blockOf blk1; rw [dat1_A]; try rfl)
theorem dat1_before4 (c : Dev nD) (t : Fin cfg1.N) (d) : (dat1 m c).before 4 t d = blk1 m c 4 t :=
  ((dat1 m c).before_in_eq_fetched 4 rfl (fun _ => rfl) (fun _ _ _ => rfl)
      (fun t => by rw [dat1_after4]; unfold Dat.blockOf blk1; rw [dat1_A]; try rfl) t d).trans
    (by unfold Dat.fetched Dat.blockOf blk1; rw [dat1_A]; try rfl)
theorem dat1_before5 (c : Dev nD) (t : Fin cfg1.N) (d) : (dat1 m c).before 5 t d = blk1 m c 5 t :=
  ((dat1 m c).before_in_eq_fetched 5 rfl (fun _ => rfl) (fun _ _ _ => rfl)
      (fun t => by rw [dat1_after5]; unfold Dat.blockOf blk1; rw [dat1_A]; try rfl) t d).trans
    (by unfold Dat.fetched Dat.blockOf blk1; rw [dat1_A]; try rfl)

def pre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d)))
def post1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t)
    ∗ owns (c : Thread nD τ) (st1_6 t) fullShare ((dat1 m c).after 6 t))

/-- The invariant of the second region with the body's scratch buffer apart from the other scoped buffers. -/
theorem phi1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
        ∗ (∃ d, owns (c : Thread nD τ) (Memref.whole cc1_scratch0) fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [owns_whole]; try rfl

set_option maxHeartbeats 800000 in
theorem body1 (c : Dev nD) (t : Fin cfg1.N) :
    pre1 m c t ⊢ wp frame (wpE (defs₀ (F := F)) Variants.none c none) Set.univ (bodyAt1 t) (fun _ => post1 m c t) := by
  unfold pre1 post1 bodyAt1
  simp only [dat1_before0, dat1_before1, dat1_before2, dat1_before3, dat1_before4, dat1_before5]
  rw [show (dat1 m c).Φ t.succ = (dat1 m c).Φ t.castSucc from rfl,
    show (dat1 m c).owesAt () t.succ = (dat1 m c).owesAt () t.castSucc from rfl,
    dat1_after0, dat1_after1, dat1_after2, dat1_after3, dat1_after4, dat1_after5, dat1_after6]
  rw [show (dat1 m c).Φ t.castSucc = Pipeline.ΦA spec1 c from rfl, phi1_eq]
  iintro ⟨⟨⟨Ha, Hb, HS, Hd⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid1.coords t) _ _ _ _ _ _ _ _ _ _ _ _ _ _ _ _ (blk1 m c 0 t) (blk1 m c 1 t) (blk1 m c 2 t) (blk1 m c 3 t) (blk1 m c 4 t) (blk1 m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [Ha Hb HS Hd Hg]
  · isplitl [Ha Hb HS Hd]
    · isplitl [Ha]; · iexact Ha
      isplitl [Hb]; · iexact Hb
      isplitl [HS]; · iexact HS
      iexact Hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) m c) (defs₀ (F := F)) Variants.none () Set.univ := fun t => by
  rw [bigSep_W1, bigSep_W1, row1]
  exact triple_restated (body1 m c t) rfl .rfl fun _ => .rfl

/-- The buffers after the second region. -/
def W3 (c : Dev nD) : Valuation τ sig (Elt F) := Pipeline.afterRegion (dat1 m c) (W2 m c)

/-! ## The launch -/

/-- Both regions' proof data. -/
def pdats (p : Fin 2) (c : Dev nD) : Dat τ (Elt F) Unit ℕ (UR sig nD τ) ℕ (cfgs p) c :=
  match p with
  | 0 => dat0 m c
  | 1 => dat1 m c

/-- No tally has a level. -/
abbrev noLev : GSem nD τ sig → Finset Unit := fun _ => ∅
abbrev lev0 : GSem nD τ sig → Unit → ℕ := fun _ _ => 0

/-- What rides beside the buffers: the generator register, and the core owing nothing. -/
abbrev beside (c : Dev nD) : sProp 𝕄 :=
  iprop((∃ r, prngReg c r) ∗ ∃ W, owes (c.tc : Thread nD τ) (0 : CellTallies nD τ sig Unit) W)

-- unifying with the library's statements over the pinned configurations takes unfolding plain definitions
set_option backward.isDefEq.respectTransparency.types false in
/-- One region between two states of all the unscoped buffers: entered at `V`, left with its arrays written back. -/
def regionOf (p : Fin 2) (kit : Pipeline.LaunchFacts (nD := nD) (τ := τ) cfgs p)
    (kitP : Pipeline.PLaunchFacts (nD := nD) (τ := τ) (pcfgs (F := F)) p) (V : Dev nD → Valuation τ sig (Elt F))
    (hbody : ∀ c, Pipeline.BodyObligationLoose (pdats m p c) (defs₀ (F := F)) Variants.none () Set.univ)
    (hshare : ∀ c w, (pdats m p c).share w = fullShare) (howed : ∀ c t, (pdats m p c).owed t = 0)
    (hA : ∀ c w, (pdats m p c).A w = V c (Proc.devRef .tc (Pipeline.arrRef (cfgs p).spec w)))
    (hΦ : ∀ c t, (pdats m p c).Φ t = Pipeline.ΦA (cfgs p).spec c) (hrec : ∀ c, (pdats m p c).recorded 0 = Set.univ) :
    RegionSeg (pcfgs (F := F)) adm (pdats m) () defs₀ Variants.none noLev lev0 p :=
  { win := kitP.win.to₀
    block_pos := kitP.block_pos
    stage_whole := kitP.stage_whole
    K := PEmpty
    osem := fun k => k.elim
    ho := Pipeline.OwnSemFacts.none _
    hbody := hbody
    hwaits := Pipeline.hwaits_of_owed_zero (pcfgs (F := F)) adm (pdats m) () noLev lev0 p howed
    pre := fun c => iprop(StableHlo.held (c.tc : Thread nD τ) (Pipeline.ucRefs τ sig) (V c) ∗ beside c)
    post := fun c => iprop(StableHlo.held (c.tc : Thread nD τ) (Pipeline.ucRefs τ sig) (Pipeline.afterRegion (pdats m p c) (V c)) ∗ beside c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c.tc : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs (p := p) (pcfgs (F := F)) adm (pdats m) kitP.win kitP.arr_whole c (hshare c)
        (fun b => V c (Proc.devRef .tc b)) (fun w => hA c w)
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        icases HO with ⟨%W, HO⟩
        iexists W; isplitr; · ipureintro; unfold Dat.bound; rw [hrec c, Set.univ_union]; exact Set.subset_univ _
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (by rw [hΦ])
    hout := fun c => (show _ ⊢ Pipeline.ΦA (cfgs p).spec c from by rw [hΦ]).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := p) (pcfgs (F := F)) adm (Ix := Unit) (Name := ℕ) (U := UR sig nD τ) (Lvl := ℕ)
        kitP.win kitP.arr_whole c (pdats m) (hshare c)
        (fun b => V c (Proc.devRef .tc b)) (fun b => Pipeline.afterRegion (pdats m p c) (V c) (Proc.devRef .tc b)) ((pdats m p c).arrAt · (cfgs p).N)
        (fun w => (Pipeline.afterRegion_arr (pdats m p c) (V c) kit.win.arr_inj w).symm)
        (fun b hb => Pipeline.afterRegion_of_not_arr (pdats m p c) (V c)
          fun w h => hb (h ▸ Finset.mem_image.mpr ⟨w, Finset.mem_univ _, rfl⟩))
      rw [show StableHlo.held (c.tc : Thread nD τ) (Pipeline.ucRefs τ sig) (Pipeline.afterRegion (pdats m p c) (V c))
            = unscopedBufs c (fun b => Pipeline.afterRegion (pdats m p c) (V c) (Proc.devRef .tc b))
          from (Pipeline.unscopedBufs_held (Ix := Unit) (Name := ℕ) (U := UR sig nD τ) (Lvl := ℕ) c _).symm]
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%W, -, HO⟩; iexists W; iexact HO }

/-- The host operations between the regions. -/
def mid : HostSeg (Ix := Unit) (Name := ℕ) (U := UR sig nD τ) (Lvl := ℕ) (pcfgs (F := F)) defs₀ Variants.none noLev lev0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) beside

def reg0 : RegionSeg (pcfgs (F := F)) adm (pdats m) () defs₀ Variants.none noLev lev0 0 :=
  regionOf m 0 launch0 launch0.toP (W0 m) (fun c => (obligation0 m c).loose) (fun c => (dat0 m c).share_full fun _ => rfl) (fun _ _ => rfl)
    (fun c w => dat0_A m c w) (fun _ _ => rfl) (fun _ => rfl)
def reg1 : RegionSeg (pcfgs (F := F)) adm (pdats m) () defs₀ Variants.none noLev lev0 1 :=
  regionOf m 1 launch1 launch1.toP (W2 m) (fun c => (obligation1 m c).loose) (fun c => (dat1 m c).share_full fun _ => rfl) (fun _ _ => rfl)
    (fun c w => dat1_A m c w) (fun _ _ => rfl) (fun _ => rfl)

-- unifying with the library's statements over the pinned configurations takes unfolding plain definitions
set_option backward.isDefEq.respectTransparency.types false in
/-- THE LAUNCH: every run of @main ends, with each unscoped buffer as the second region leaves it and every counter
at zero. -/
theorem launch :
    θ_run defs (onTc (τ := τ) (main (F := F))) ⟨m, fun _ => 0, ρ⟩ (fun r => (∀ (c : Dev nD) (b : Ref sig .tc), b.isScoped = false →
      r.2.mem ((c.tc : Thread nD τ).loc b) = W3 m c (Proc.devRef .tc b)) ∧ r.2.sem = fun _ => 0) := by
  refine Pipeline.θ_run_regions_kit_dev_sems (pcfgs (F := F)) adm (pdats m) () cellOf_inj emb₁ defs₀ Variants.none noLev lev0 m ρ main
    (fun _ => [.region (reg0 m), .host (mid m), .region (reg1 m)])
    (fun c Q => by
      rewrite [main_chain c, Seg.run_eq_chain,
        show ([.region (reg0 m), .host (mid m), .region (reg1 m)] : List (Seg (pcfgs (F := F)) adm (pdats m) () defs₀ Variants.none noLev lev0)).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ beside c))
    (Tₙ := fun c => StableHlo.held (c.tc : Thread nD τ) (Pipeline.ucRefs τ sig) (W3 m c))
    (hch := fun c => ⟨.rfl, .rfl, .rfl,
      (show iprop(StableHlo.held (c.tc : Thread nD τ) (Pipeline.ucRefs τ sig) (W3 m c) ∗ beside c) ⊢ (_ : sProp 𝕄) from by
        iintro ⟨Hh, -, HO⟩
        isplitl [Hh] <;> iassumption)⟩)
    (hinit := by
      refine Pipeline.initEach (T₀ := fun c => iprop(StableHlo.held (c.tc : Thread nD τ) (Pipeline.ucRefs τ sig) (W0 m c) ∗ beside c)) noLev lev0 fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W3 m c b)
    (hfin := fun c s' => by
      unfold StableHlo.held
      iintro ⟨Hh, HSI⟩
      ihave Hr := (pointsTo_read_all (Pipeline.ucRefs τ sig) (fun b => ((c.tc : Thread nD τ).1, b)) (W3 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-! ## What the last buffers hold -/

theorem W3_main_v3 (c : Dev nD) : W3 m c (Proc.devRef .tc main_v3) = (dat1 m c).arrAt 6 cfg1.N :=
  Pipeline.afterRegion_arr (dat1 m c) (W2 m c) launch1.win.arr_inj 6
theorem W1_main_v0 (c : Dev nD) : W1 m c (Proc.devRef .tc main_v0) = (dat0 m c).arrAt 1 cfg0.N :=
  Pipeline.afterRegion_arr (dat0 m c) (W0 m c) launch0.win.arr_inj 1

theorem W1_arg (c : Dev nD) (r : Ref sig .tc) (h : ∀ w, Pipeline.arrRef cfg0.spec w = r → (cfg0.win w).isOut = false) :
    W1 m c (Proc.devRef .tc r) = m ((c.tc : Thread nD τ).loc r) :=
  Pipeline.afterRegion_keeps (dat0 m c) (W0 m c) launch0.win.arr_inj (dat0_A m c) r h
theorem W2_keep (c : Dev nD) (r : Ref sig .tc) (h : r ∉ hostOps1_W) : W2 m c (Proc.devRef .tc r) = W1 m c (Proc.devRef .tc r) :=
  StableHlo.after_of_writes_sub hostOps1 _ hostOps1_writes h
theorem W3_keep (c : Dev nD) (r : Ref sig .tc) (h : ∀ w, Pipeline.arrRef cfg1.spec w = r → (cfg1.win w).isOut = false) :
    W3 m c (Proc.devRef .tc r) = W2 m c (Proc.devRef .tc r) :=
  Pipeline.afterRegion_keeps (dat1 m c) (W2 m c) launch1.win.arr_inj (dat1_A m c) r h

theorem W2_main_arg0 (c : Dev nD) : W2 m c (Proc.devRef .tc main_arg0) = m ((c.tc : Thread nD τ).loc main_arg0) :=
  (W2_keep m c main_arg0 (by decide)).trans (W1_arg m c main_arg0 (by decide))
theorem W3_main_arg0 (c : Dev nD) : W3 m c (Proc.devRef .tc main_arg0) = m ((c.tc : Thread nD τ).loc main_arg0) :=
  (W3_keep m c main_arg0 (by decide)).trans (W2_main_arg0 m c)
theorem W2_main_arg1 (c : Dev nD) : W2 m c (Proc.devRef .tc main_arg1) = m ((c.tc : Thread nD τ).loc main_arg1) :=
  (W2_keep m c main_arg1 (by decide)).trans (W1_arg m c main_arg1 (by decide))
theorem W3_main_arg1 (c : Dev nD) : W3 m c (Proc.devRef .tc main_arg1) = m ((c.tc : Thread nD τ).loc main_arg1) :=
  (W3_keep m c main_arg1 (by decide)).trans (W2_main_arg1 m c)
theorem W2_main_arg2 (c : Dev nD) : W2 m c (Proc.devRef .tc main_arg2) = m ((c.tc : Thread nD τ).loc main_arg2) :=
  (W2_keep m c main_arg2 (by decide)).trans (W1_arg m c main_arg2 (by decide))
theorem W3_main_arg2 (c : Dev nD) : W3 m c (Proc.devRef .tc main_arg2) = m ((c.tc : Thread nD τ).loc main_arg2) :=
  (W3_keep m c main_arg2 (by decide)).trans (W2_main_arg2 m c)
theorem W2_main_arg3 (c : Dev nD) : W2 m c (Proc.devRef .tc main_arg3) = m ((c.tc : Thread nD τ).loc main_arg3) :=
  (W2_keep m c main_arg3 (by decide)).trans (W1_arg m c main_arg3 (by decide))
theorem W3_main_arg3 (c : Dev nD) : W3 m c (Proc.devRef .tc main_arg3) = m ((c.tc : Thread nD τ).loc main_arg3) :=
  (W3_keep m c main_arg3 (by decide)).trans (W2_main_arg3 m c)
theorem W2_main_arg4 (c : Dev nD) : W2 m c (Proc.devRef .tc main_arg4) = m ((c.tc : Thread nD τ).loc main_arg4) :=
  (W2_keep m c main_arg4 (by decide)).trans (W1_arg m c main_arg4 (by decide))
theorem W3_main_arg4 (c : Dev nD) : W3 m c (Proc.devRef .tc main_arg4) = m ((c.tc : Thread nD τ).loc main_arg4) :=
  (W3_keep m c main_arg4 (by decide)).trans (W2_main_arg4 m c)

/-- The launch as the frame states it: the arguments as they were, every counter at zero; and the result. -/
theorem run : θ_run defs (onTc (τ := τ) (main (F := F))) ⟨m, fun _ => 0, ρ⟩ (fun r => (∀ c : Dev nD,
      r.2.mem ((c.tc : Thread nD τ).loc main_v3) = (dat1 m c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c main_v3 rfl).trans (W3_main_v3 m c), (h.1 c main_arg0 rfl).trans (W3_main_arg0 m c), (h.1 c main_arg1 rfl).trans (W3_main_arg1 m c), (h.1 c main_arg2 rfl).trans (W3_main_arg2 m c), (h.1 c main_arg3 rfl).trans (W3_main_arg3 m c), (h.1 c main_arg4 rfl).trans (W3_main_arg4 m c)⟩, h.2⟩) (launch m ρ)

end Cert.KernelIdeal.Attn

end
-- ==== Proof.Val.Arrays.lean ====
/-
  The result array from the blocks the grid points leave.
-/
module

public import proofs.«01_k».proof.Proof.Val.Out
public import proofs.«01_k».proof.Proof.Val.Bias
public import proofs.«01_k».proof.Proof.Attn.Launch
public import Idealize.ShloMosaic.Lib.Pipeline.ValueKit
public import Idealize.ShloMosaic.Lib.StableHlo.Run

@[expose] public section

set_option maxRecDepth 16384

noncomputable section

namespace Cert.Val

open Cert.KernelIdeal Cert.KernelIdeal.Gen Cert.KernelIdeal.Attn
open Idealize.ShloMosaic hiding ix1 ix2 ix3 ix4
open Idealize.ShloMosaic.TcCoe
open Idealize.ShloMosaic.ValueIdx
open Idealize.ShloMosaic.Pipeline (Dat Window)

variable (m : (ℓ : Loc nD τ sig) → Buf (Elt Ideal) ℓ) (c : Dev nD)

/-- The arrays as device `c` holds them at the launch. -/
def argsOf : Args where
  rb := m ((c.tc : Thread nD τ).loc main_arg0)
  q := m ((c.tc : Thread nD τ).loc main_arg1)
  k := m ((c.tc : Thread nD τ).loc main_arg2)
  v := m ((c.tc : Thread nD τ).loc main_arg3)
  km := m ((c.tc : Thread nD τ).loc main_arg4)

/-- The bias tiles of all heads. -/
def biasArr : S16x5x256x256.Idx → EReal := fun y =>
  if (y 1).val = 0 ∧ (y 3).val < (y 2).val then ⊥
  else (argsOf m c).rb (ix2 ⟨bktN ((y 1).val * 256 + (y 3).val - (y 2).val), bktN_lt _⟩ (y 0))

theorem idx0_0 : ∀ t : Fin cfg0.N, win0_0.index t = ![0, 0] := (by decide +kernel : ∀ t : Fin grid0.N, _)
theorem idx0_1 : ∀ t : Fin cfg0.N, win0_1.index t = ![(grid0.coords t 0).val, 0, 0, 0] := (by decide +kernel : ∀ t : Fin grid0.N, _)

theorem tbl_blk (t : Fin cfg0.N) (r : Fin 32) (H : Fin 16) : blk0 m c 0 t (ix2 r H) = (argsOf m c).rb (ix2 r H) := by
  have E : (win0_0.blk t).view.emb (ix2 r H) = ix2 r H := by blk_ext [idx0_0]
  blk_simp [blk0]
  rw [E]
  rfl

theorem bias_arr : (dat0 m c).arrAt 1 cfg0.N = biasArr m c := by
  refine (dat0 m c).arrAt_eq_of_covers 1 _ (by decide +kernel) fun t hf y => ?_
  blk_simp
  rw [dat0_after1]
  have E : (win0_1.blk t).view.emb y = ix4 (grid0.coords t 0) (y 1) (y 2) (y 3) := by blk_ext [idx0_1]
  rw [E]
  refine (bias_apply (grid0.coords t) (blk0 m c 0 t) (y 1) (y 2) (y 3)).trans ?_
  unfold biasArr
  exact if_congr Iff.rfl rfl (tbl_blk m c t _ _)

/-! ### The attention's blocks -/

theorem idx1_0 : ∀ t : Fin cfg1.N, win1_0.index t = ![0] := (by decide +kernel : ∀ t : Fin grid1.N, _)
theorem idx1_1 : ∀ t : Fin cfg1.N, win1_1.index t = ![(grid1.coords t 0).val, (grid1.coords t 2).val, (grid1.coords t 1).val] :=
  (by decide +kernel : ∀ t : Fin grid1.N, _)
theorem idx1_2 : ∀ t : Fin cfg1.N, win1_2.index t = ![(grid1.coords t 0).val, 0, (grid1.coords t 1).val] :=
  (by decide +kernel : ∀ t : Fin grid1.N, _)
theorem idx1_3 : ∀ t : Fin cfg1.N, win1_3.index t = ![(grid1.coords t 0).val, (grid1.coords t 1).val, 0] :=
  (by decide +kernel : ∀ t : Fin grid1.N, _)
theorem idx1_4 : ∀ t : Fin cfg1.N, win1_4.index t = ![(grid1.coords t 0).val, 0, (grid1.coords t 1).val] :=
  (by decide +kernel : ∀ t : Fin grid1.N, _)
theorem idx1_5 : ∀ t : Fin cfg1.N, win1_5.index t = ![(grid1.coords t 1).val, 0, 0, 0] := (by decide +kernel : ∀ t : Fin grid1.N, _)
theorem idx1_6 : ∀ t : Fin cfg1.N, win1_6.index t = ![(grid1.coords t 0).val, (grid1.coords t 2).val, (grid1.coords t 1).val] :=
  (by decide +kernel : ∀ t : Fin grid1.N, _)

section
variable (t : Fin cfg1.N)

/-- The batch, the head pair and the query block of a point. -/
abbrev cb : Fin 4 := grid1.coords t 0
abbrev cp : Fin 8 := grid1.coords t 1
abbrev ca : Fin 32 := grid1.coords t 2

theorem q_blk (y : Fin 256) (x : Fin 128) : blk1 m c 1 t (ix3 0 y x) = (argsOf m c).q (ix3 (cb t) (pos (ca t) y) (pairCol (cp t) x)) := by
  have E : (win1_1.blk t).view.emb (ix3 0 y x) = ix3 (cb t) (pos (ca t) y) (pairCol (cp t) x) := by blk_ext [idx1_1, pos, pairCol]
  blk_simp [blk1]
  rw [E, W2_main_arg1]
  rfl
theorem k_blk (y : Fin 8192) (x : Fin 128) : blk1 m c 2 t (ix3 0 y x) = (argsOf m c).k (ix3 (cb t) y (pairCol (cp t) x)) := by
  have E : (win1_2.blk t).view.emb (ix3 0 y x) = ix3 (cb t) y (pairCol (cp t) x) := by blk_ext [idx1_2, pairCol]
  blk_simp [blk1]
  rw [E, W2_main_arg2]
  rfl
theorem v_blk (x : Fin 128) (y : Fin 8192) : blk1 m c 3 t (ix3 0 x y) = (argsOf m c).v (ix3 (cb t) (pairCol (cp t) x) y) := by
  have E : (win1_3.blk t).view.emb (ix3 0 x y) = ix3 (cb t) (pairCol (cp t) x) y := by blk_ext [idx1_3, pairCol]
  blk_simp [blk1]
  rw [E, W2_main_arg3]
  rfl
theorem km_blk (y : Fin 32) (x : Fin 128) : blk1 m c 4 t (ix3 0 y x) = (argsOf m c).km (ix3 (cb t) y (pairCol (cp t) x)) := by
  have E : (win1_4.blk t).view.emb (ix3 0 y x) = ix3 (cb t) y (pairCol (cp t) x) := by blk_ext [idx1_4, pairCol]
  blk_simp [blk1]
  rw [E, W2_main_arg4]
  rfl
theorem bias_blk (h : Fin 2) (o : Fin 5) (j y : Fin 256) : blk1 m c 5 t (ix4 h o j y)
    = if o.val = 0 ∧ y.val < j.val then ⊥ else rbG (argsOf m c) (headOf (cp t) h) (o.val * 256 + y.val - j.val) := by
  have E : (win1_5.blk t).view.emb (ix4 h o j y) = ix4 (headOf (cp t) h) o j y := by blk_ext [idx1_5, headOf]
  blk_simp [blk1]
  rw [E, W2_keep m c main_v0 (by decide), W1_main_v0, bias_arr]
  rfl
theorem W2_main_v2 : W2 m c (Proc.devRef .tc main_v2)
    = shapeCast S16 (extractStridedSlice S1x16 ![31, 0] (W1 m c (Proc.devRef .tc main_arg0)) slices_S32x16_S1x16_31_0) shapeCasts_S1x16_S16 := by
  unfold W2 hostOps1
  after_results_simp
  rfl
theorem far_blk (H : Fin 16) : blk1 m c 0 t (ix1 H) = (argsOf m c).rb (ix2 31 H) := by
  have E : (win1_0.blk t).view.emb (ix1 H) = ix1 H := by blk_ext [idx1_0]
  blk_simp [blk1]
  rw [E]
  refine (congrFun (W2_main_v2 m c) (ix1 H)).trans ?_
  rw [show shapeCast S16 _ shapeCasts_S1x16_S16 (ix1 H) = _ from shapeCast_1a_a_apply _ _ H]
  rw [W1_arg m c main_arg0 (by decide)]
  unfold extractStridedSlice
  refine congrArg (m ((c.tc : Thread nD τ).loc main_arg0)) ?_
  funext a
  fin_cases a
  · rfl
  · exact Fin.ext (Nat.zero_add _)

end

/-- The whole result. -/
def outArr : S4x8192x1024.Idx → EReal := fun y =>
  attnG (argsOf m c) (y 0) ⟨(y 2).val / 64, by have : (y 2).val < 1024 := (y 2).isLt; omega⟩
    ⟨(y 1).val / 256, by have : (y 1).val < 8192 := (y 1).isLt; omega⟩ ⟨(y 1).val % 256, by omega⟩ ⟨(y 2).val % 64, by omega⟩

theorem out_arr (hA : (argsOf m c).Real) : (dat1 m c).arrAt 6 cfg1.N = outArr m c := by
  refine (dat1 m c).arrAt_eq_of_covers 6 _ (by decide +kernel) fun t hf y => ?_
  blk_simp
  rw [dat1_after6]
  obtain ⟨h, d, hhd⟩ : ∃ (h : Fin 2) (d : Fin 64), (y 2 : Fin 128) = col h d := by
    have : (y 2).val < 128 := (y 2).isLt
    exact ⟨⟨(y 2).val / 64, by omega⟩, ⟨(y 2).val % 64, by omega⟩, Fin.ext (by show (y 2).val = (y 2).val / 64 * 64 + (y 2).val % 64; omega)⟩
  have hy : y = ix3 (0 : Fin 1) (y 1 : Fin 256) (col h d) := by
    rw [← hhd]
    funext a
    fin_cases a
    · exact Subsingleton.elim (α := Fin 1) _ _
    · rfl
    · rfl
  have E : (win1_6.blk t).view.emb y = ix3 (cb t) (pos (ca t) (y 1)) (pairCol (cp t) (y 2)) := by blk_ext [idx1_6, pos, pairCol]
  rw [E, hhd]
  refine (congrArg _ hy).trans ((attn_point (argsOf m c) (cb t) (cp t) (ca t) (grid1.coords t) rfl rfl _ _ _ _ _ _ (far_blk m c t) (q_blk m c t) (k_blk m c t)
    (v_blk m c t) (km_blk m c t) (bias_blk m c t) h (y 1) hA d).trans ?_)
  have hlt : (y 1).val < 256 := (y 1).isLt
  have hd := d.isLt
  have hh := h.isLt
  unfold outArr
  congr 1
  · exact Fin.ext (by show (cp t).val * 2 + h.val = ((cp t).val * 128 + (h.val * 64 + d.val)) / 64; omega)
  · exact Fin.ext (by show (ca t).val = ((ca t).val * 256 + (y 1).val) / 256; omega)
  · exact Fin.ext (by show (y 1).val = ((ca t).val * 256 + (y 1).val) % 256; omega)
  · exact Fin.ext (by show d.val = ((cp t).val * 128 + (h.val * 64 + d.val)) % 64; omega)

end Cert.Val

end
-- ==== Proof.Val.Pre.lean ====
/-
  What the precondition gives: the table, the queries, the keys and the block means hold real numbers.
-/
module

public import proofs.«01_k».proof.Defs
public import proofs.«01_k».proof.Proof.Val.Arrays
public import Idealize.ShloMosaic.Lib.ReduceAll

@[expose] public section

set_option maxRecDepth 16384

noncomputable section

namespace Cert.Val

open Idealize.ShloMosaic Idealize.ShloMosaic.TcCoe
open Idealize.ShloMosaic.ValueIdx

/-- The predicate's side conditions. -/
theorem preFacts : Cert.Pre_finite.Facts where
  bcast_S_S32x16 := by decide
  reducesTo_S32x16_S_d0_1 := by decide
  h_S_ := by decide
  bitsLt_bf16_f32 := by decide
  bcast_S_S4x8192x1024 := by decide
  reducesTo_S4x8192x1024_S_d0_1_2 := by decide
  bcast_S_S4x32x1024 := by decide
  reducesTo_S4x32x1024_S_d0_1_2 := by decide

theorem inf_word : Ideal.ofBits .f32 0x7F800000#32 = ⊤ := by simp [Ideal.ofBits, Ideal.ieee]

/-- A number whose absolute value is below +∞ is real. -/
theorem real_of_lt (x : EReal) (h : Ideal.cmp .olt (max x (-x)) (Ideal.ofBits .f32 0x7F800000#32) = 1#1) : Rl x := by
  rw [inf_word] at h
  have hlt : max x (-x) < ⊤ := by
    by_contra hn
    have : Ideal.cmp .olt (max x (-x)) ⊤ = BitVec.ofBool (decide (max x (-x) < ⊤)) := rfl
    rw [this, decide_eq_false hn] at h
    exact absurd h (by decide)
  have h1 : x ≠ ⊤ := fun e => absurd (lt_of_le_of_lt (le_max_left x (-x)) hlt) (by rw [e]; exact lt_irrefl _)
  have h2 : x ≠ ⊥ := fun e => absurd (lt_of_le_of_lt (le_max_right x (-x)) hlt) (by rw [e, EReal.neg_bot]; exact lt_irrefl _)
  exact ⟨x.toReal, (EReal.coe_toReal h1 h2).symm⟩

theorem and_one (x y : BitVec 1) (h : IntOp.andi x y = 1#1) : x = 1#1 ∧ y = 1#1 := by
  revert x y; decide

instance : Subsingleton Cert.Pre_finite.S_.Idx := ⟨fun x y => funext fun a => a.elim0⟩

attribute [local instance] preFacts

theorem pre_real (rb : FVec Ideal Cert.Pre_finite.S32x16 .f32) (q k : FVec Ideal Cert.Pre_finite.S4x8192x1024 .bf16) (v : FVec Ideal Cert.Pre_finite.S4x1024x8192 .bf16)
    (km : FVec Ideal Cert.Pre_finite.S4x32x1024 .f32) (h : Cert.Pre_finite.fn (F := Ideal) rb q k v km = fun _ => 1#1) :
    (∀ i, Rl (rb i)) ∧ (∀ i, Rl (q i)) ∧ (∀ i, Rl (k i)) ∧ (∀ i, Rl (km i)) := by
  have h0 := congrFun h ValueIdx.ix0
  obtain ⟨h0, hkm⟩ := and_one _ _ h0
  obtain ⟨h0, hk⟩ := and_one _ _ h0
  obtain ⟨hrb, hq⟩ := and_one _ _ h0
  exact ⟨fun i => real_of_lt _ (Host.reduce_andi_all _ _ _ _ _ hrb i), fun i => real_of_lt _ (Host.reduce_andi_all _ _ _ _ _ hq i),
    fun i => real_of_lt _ (Host.reduce_andi_all _ _ _ _ _ hk i), fun i => real_of_lt _ (Host.reduce_andi_all _ _ _ _ _ hkm i)⟩

theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) : (argsOf m c).Real := by
  have := pre_real _ _ _ _ _ (h c)
  exact ⟨this.1, this.2.1, this.2.2.1, this.2.2.2⟩

end Cert.Val

end
-- ==== Proof.lean ====
module

public import proofs.«01_k».proof.Defs
public import proofs.«01_k».proof.Proof.Gen.Kernel
public import proofs.«01_k».proof.Proof.Gen.KernelIdeal
public import proofs.«01_k».proof.Proof.Gen.Kernel2Ideal.Value
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Mlp.Arr
public import proofs.«01_k».proof.Proof.Mlp.FirstArr
public import proofs.«01_k».proof.Proof.Mlp.Ref
public import proofs.«01_k».proof.Proof.Oproj.Arr
public import proofs.«01_k».proof.Proof.Oproj.Ref
public import proofs.«01_k».proof.Proof.Gen.ReferenceIdeal
public import proofs.«01_k».proof.Proof.Val.RefRun
public import proofs.«01_k».proof.Proof.Val.RefOut
public import proofs.«01_k».proof.Proof.Val.Pre
public import proofs.«01_k».proof.Proof.Attn.Launch
public import proofs.«01_k».proof.Proof.Bits.Launch
public import Idealize.ShloMosaic.Adequacy
public import Idealize.ShloMosaic.Init

@[expose] public section

set_option maxRecDepth 16384

noncomputable section

namespace Cert.Proof

open Idealize.ShloMosaic Idealize.SL.Sem

theorem frame_p : Cert.quiescent_Kernel := fun m ρ _ =>
  (θ_run Cert.Kernel.defs _ _).mono (fun _ h => ⟨fun c => (h.1 c).2, h.2⟩) (Cert.Kernel.Attn.run (F := Bits) m ρ)

theorem frame_pi : Cert.quiescent_KernelIdeal := fun m ρ _ =>
  (θ_run Cert.KernelIdeal.defs _ _).mono (fun _ h => ⟨fun c => (h.1 c).2, h.2⟩) (Cert.KernelIdeal.Attn.run (F := Ideal) m ρ)

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_pi_pre : Cert.quiescent_KernelIdeal_pre_finite (hPre_finite := Cert.Val.preFacts) := fun m ρ _ => frame_pi m ρ trivial

theorem frame_ri_pre : Cert.quiescent_ReferenceIdeal_pre_finite (hPre_finite := Cert.Val.preFacts) := fun m ρ _ => frame_ri m ρ trivial

/-- The reference's result is the kernel's, from the same arguments. -/
theorem out_eq (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (hA : (Cert.Val.argsOf m c).Real) (he : Cert.Val.argsR V0 = Cert.Val.argsOf m c) : Cert.Val.refOut V0 = Cert.Val.outArr m c := by
  rw [Cert.Val.refOut_eq (he ▸ hA), he]
  rfl

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.Val.argsR (StableHlo.launchContents m' c) = Cert.Val.argsOf m c := by
  unfold Cert.Val.argsR Cert.Val.argsOf
  congr 1

theorem values : Cert.algebraic_KernelIdeal_ReferenceIdeal_pre_finite (hPre_finite := Cert.Val.preFacts) := fun m ρ m' ρ' hpre heq => by
  refine ⟨fun c => Cert.Val.outArr m c, ?_, ?_⟩
  · exact (θ_run Cert.KernelIdeal.defs _ _).mono (fun _ h c => ⟨(h.1 c).1.trans (Cert.Val.out_arr m c (Cert.Val.args_real m hpre c)), (h.1 c).2⟩)
      (Cert.KernelIdeal.Attn.run (F := Ideal) m ρ)
  · refine (θ_run Cert.ReferenceIdeal.defs _ _).mono (fun r h c => ⟨?_, (h c).2⟩) (Cert.ReferenceIdeal.Value.run (F := Ideal) m' ρ')
    have ha := args_eq m m' c (heq c).1 (heq c).2.1 (heq c).2.2.1 (heq c).2.2.2.1 (heq c).2.2.2.2
    have ho := out_eq (StableHlo.launchContents m' c) m c (Cert.Val.args_real m hpre c) ha
    unfold Cert.Val.refOut Cert.Val.startIdx at ho
    exact (h c).1.trans ho

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The feed-forward reference's result is the kernel's, from the same arguments. -/
theorem mlp_eq (x : Cert.Mlp.Ref.Big) (gain : FVec Ideal Cert.Reference2Ideal.S1024 .f32) (shift scale gate : FVec Ideal Cert.Reference2Ideal.S4x1024 .f32)
    (wu : FVec Ideal Cert.Reference2Ideal.S1024x4096 .f32) (wd : FVec Ideal Cert.Reference2Ideal.S4096x1024 .f32) (fin : FVec Ideal Cert.Reference2Ideal.S1024 .f32) :
    Cert.Mlp.Ref.outArr x gain shift scale gate wu wd fin = Cert.Mlp.arrOf x gain shift scale gate wu wd fin := by
  funext y
  refine (congrArg _ ?_).trans (Cert.Mlp.Ref.outArr_apply x gain shift scale gate wu wd fin (y 0) (y 1) (y 2))
  funext a
  fin_cases a <;> rfl

theorem values2 : Cert.algebraic_Kernel2Ideal_Reference2Ideal := fun m ρ m' ρ' _ heq => by
  refine ⟨fun c => Cert.Mlp.mlpArr m c, ?_, ?_⟩
  · exact (θ_run Cert.Kernel2Ideal.defs _ _).mono (fun _ h c => ⟨(h c).1.trans (Cert.Mlp.mlp_arr m c), (h c).2⟩)
      (Cert.Kernel2Ideal.Value.run_blocks (F := Ideal) m ρ)
  · refine (θ_run Cert.Reference2Ideal.defs _ _).mono (fun r h c => ⟨?_, (h c).2⟩) (Cert.Reference2Ideal.Value.run (F := Ideal) m' ρ')
    obtain ⟨e0, e1, e2, e3, e4, e5, e6, e7⟩ := heq c
    refine (h c).1.trans ((Cert.Mlp.Ref.res_eq m' c).trans ?_)
    rw [e0, e1, e2, e3, e4, e5, e6, e7]
    exact mlp_eq _ _ _ _ _ _ _ _

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The first layer's feed-forward reference's result is the kernel's, from the same arguments. -/
theorem first_eq (x : Cert.Mlp.Ref.Big) (gain : FVec Ideal Cert.Reference2Ideal.S1024 .f32) (shift scale gate : FVec Ideal Cert.Reference2Ideal.S4x1024 .f32)
    (wu : FVec Ideal Cert.Reference2Ideal.S1024x4096 .f32) (wd : FVec Ideal Cert.Reference2Ideal.S4096x1024 .f32) :
    Cert.Mlp.Ref.sumArr x (Cert.Mlp.Ref.hArr x gain shift scale) gate wu wd = Cert.Mlp3.arrOf x gain shift scale gate wu wd := by
  funext y
  refine (congrArg _ ?_).trans ((Cert.Mlp.Ref.sumArr_apply x _ gate wu wd (y 0) (y 1) (y 2)).trans ?_)
  · funext a
    fin_cases a <;> rfl
  · refine (congrArg (fun h => x _ + gate _ * Cert.Mlp.ffRow h _ _ (y 2)) (funext fun e => Cert.Mlp.Ref.hArr_apply x gain shift scale (y 0) (y 1) e)).trans ?_
    refine congrArg (fun z : EReal => z + _) (congrArg x ?_)
    funext a
    fin_cases a <;> rfl

theorem values3 : Cert.algebraic_Kernel3Ideal_Reference3Ideal := fun m ρ m' ρ' _ heq => by
  refine ⟨fun c => Cert.Mlp3.mlpArr m c, ?_, ?_⟩
  · exact (θ_run Cert.Kernel3Ideal.defs _ _).mono (fun _ h c => ⟨(h c).1.trans (Cert.Mlp3.mlp_arr m c), (h c).2⟩)
      (Cert.Kernel3Ideal.Value.run_blocks (F := Ideal) m ρ)
  · refine (θ_run Cert.Reference3Ideal.defs _ _).mono (fun r h c => ⟨?_, (h c).2⟩) (Cert.Reference3Ideal.Value.run (F := Ideal) m' ρ')
    obtain ⟨e0, e1, e2, e3, e4, e5, e6, e7⟩ := heq c
    refine (h c).1.trans ?_
    rw [e0, e1, e2, e3, e4, e5, e6]
    exact first_eq _ _ _ _ _ _ _

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem values4 : Cert.algebraic_Kernel4Ideal_Reference4Ideal := fun m ρ m' ρ' _ heq => by
  refine ⟨fun c => Cert.Oproj.outArr m c, ?_, ?_⟩
  · exact (θ_run Cert.Kernel4Ideal.defs _ _).mono (fun _ h c => ⟨(h c).1.trans (Cert.Oproj.out_arr m c), (h c).2⟩)
      (Cert.Kernel4Ideal.Value.run_blocks (F := Ideal) m ρ)
  · refine (θ_run Cert.Reference4Ideal.defs _ _).mono (fun r h c => ⟨?_, (h c).2⟩) (Cert.Reference4Ideal.Value.run (F := Ideal) m' ρ')
    obtain ⟨e0, e1, e2, e3⟩ := heq c
    refine (h c).1.trans ?_
    rw [e0, e1, e2, e3]
    exact Cert.Oproj.ref_eq _ _ _ _

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Val.preFacts,
  frame_p, frame_pi, frame_pi_pre, frame_ri, frame_ri_pre, frame_p2, frame_pi2, frame_ri2, frame_p3, frame_pi3, frame_ri3, frame_p4, frame_pi4, frame_ri4,
  trivial, values, trivial, values2, trivial, values3, trivial, values4⟩

end Cert.Proof

end
